-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_picks_are_shortlisted [hPre_picks_are_shortlisted : Cert.Pre_picks_are_shortlisted.Facts] (m : (ℓ : Loc Cert.KernelIdeal.nD Cert.KernelIdeal.τ Cert.KernelIdeal.sig) → Buf (Elt Ideal) ℓ) : Prop :=
  ∀ c : Dev Cert.KernelIdeal.nD,
    (Cert.Pre_picks_are_shortlisted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_picks_are_shortlisted [hPre_picks_are_shortlisted : Cert.Pre_picks_are_shortlisted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_picks_are_shortlisted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_picks_are_shortlisted [hKernelIdeal : Cert.KernelIdeal.Facts] [hPre_picks_are_shortlisted : Cert.Pre_picks_are_shortlisted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_picks_are_shortlisted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_picks_are_shortlisted [hReferenceIdeal : Cert.ReferenceIdeal.Facts] [hPre_picks_are_shortlisted : Cert.Pre_picks_are_shortlisted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_picks_are_shortlisted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "min_ratio" .f32 0xC0845349#32 ((Real.log (8589935 / 536870912) : ℝ) : EReal)
  ∧ IdealRules.named_const.Statement Cert.KernelIdeal.κ "max_ratio" .f32 0x40845349#32 ((-(Real.log (8589935 / 536870912)) : ℝ) : EReal)

def algebraic_KernelIdeal_ReferenceIdeal_pre_picks_are_shortlisted [hKernelIdeal : Cert.KernelIdeal.Facts] [hReferenceIdeal : Cert.ReferenceIdeal.Facts] [hPre_picks_are_shortlisted : Cert.Pre_picks_are_shortlisted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_picks_are_shortlisted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_picks_are_shortlisted : Cert.Pre_picks_are_shortlisted.Facts),
    quiescent_Kernel (hKernel := hKernel)
    ∧ quiescent_KernelIdeal (hKernelIdeal := hKernelIdeal)
    ∧ quiescent_KernelIdeal_pre_picks_are_shortlisted (hKernelIdeal := hKernelIdeal) (hPre_picks_are_shortlisted := hPre_picks_are_shortlisted)
    ∧ quiescent_ReferenceIdeal (hReferenceIdeal := hReferenceIdeal)
    ∧ quiescent_ReferenceIdeal_pre_picks_are_shortlisted (hReferenceIdeal := hReferenceIdeal) (hPre_picks_are_shortlisted := hPre_picks_are_shortlisted)
    ∧ preserves_Kernel_KernelIdeal
    ∧ algebraic_KernelIdeal_ReferenceIdeal_pre_picks_are_shortlisted (hKernelIdeal := hKernelIdeal) (hReferenceIdeal := hReferenceIdeal) (hPre_picks_are_shortlisted := hPre_picks_are_shortlisted)
-- ==== Pre_picks_are_shortlisted.lean ====
abbrev S1x20000x1 : Shape := ⟨3, ![1, 20000, 1]⟩
abbrev S1x20000x20 : Shape := ⟨3, ![1, 20000, 20]⟩
abbrev S1x20000x4 : Shape := ⟨3, ![1, 20000, 4]⟩
abbrev S20000x4 : Shape := ⟨2, ![20000, 4]⟩
abbrev S_ : Shape := ⟨0, ![]⟩
abbrev S20000x1 : Shape := ⟨2, ![20000, 1]⟩
abbrev S20000 : Shape := ⟨1, ![20000]⟩
abbrev S20000x20 : Shape := ⟨2, ![20000, 20]⟩
abbrev S20x20000 : Shape := ⟨2, ![20, 20000]⟩
abbrev S20x1 : Shape := ⟨2, ![20, 1]⟩
abbrev S20 : Shape := ⟨1, ![20]⟩
abbrev S1x20000 : Shape := ⟨2, ![1, 20000]⟩

class Facts : Prop where
  shapeCasts_S1x20000x4_S20000x4 : S1x20000x4.ShapeCasts S20000x4
  slices_S20000x4_S20000x1_0_0 : S20000x4.Slices ![0, 0] S20000x1
  shapeCasts_S20000x1_S20000 : S20000x1.ShapeCasts S20000
  slices_S20000x4_S20000x1_0_1 : S20000x4.Slices ![0, 1] S20000x1
  slices_S20000x4_S20000x1_0_2 : S20000x4.Slices ![0, 2] S20000x1
  bcast_S_S20000 : S_.BroadcastsInDim S20000 (![] : Fin 0 → Fin S20000.rank)
  slices_S20000x4_S20000x1_0_3 : S20000x4.Slices ![0, 3] S20000x1
  bcast_S20000_S20000x1_0 : S20000.BroadcastsInDim S20000x1 (![0] : Fin 1 → Fin S20000x1.rank)
  concatenates_S20000x1_S20000x1_S20000x1_S20000x1_S20000x4_d1 : Shape.Concatenates [S20000x1, S20000x1, S20000x1, S20000x1] S20000x4 1
  shapeCasts_S1x20000x20_S20000x20 : S1x20000x20.ShapeCasts S20000x20
  shapeCasts_S1x20000x1_S20000x1 : S1x20000x1.ShapeCasts S20000x1
  bcast_S20000x1_S20000x20_0_1 : S20000x1.BroadcastsInDim S20000x20 (![0, 1] : Fin 2 → Fin S20000x20.rank)
  transposes_S20000x20_S20x20000_1_0 : S20000x20.Transposes [1, 0] S20x20000
  bcast_S_S20x20000 : S_.BroadcastsInDim S20x20000 (![] : Fin 0 → Fin S20x20000.rank)
  bcast_S_S20x1 : S_.BroadcastsInDim S20x1 (![] : Fin 0 → Fin S20x1.rank)
  reducesTo_S20x20000_S20_d1 : S20x20000.ReducesTo [1] S20
  h_S_ : 0 < S_.numel
  bcast_S20_S20x1_0 : S20.BroadcastsInDim S20x1 (![0] : Fin 1 → Fin S20x1.rank)
  bcast_S20x1_S20x20000_0_1 : S20x1.BroadcastsInDim S20x20000 (![0, 1] : Fin 2 → Fin S20x20000.rank)
  bcast_S20000_S1x20000_1 : S20000.BroadcastsInDim S1x20000 (![1] : Fin 1 → Fin S1x20000.rank)
  bcast_S1x20000_S20x20000_0_1 : S1x20000.BroadcastsInDim S20x20000 (![0, 1] : Fin 2 → Fin S20x20000.rank)

variable [Facts]

def fn_clip {F : FTy → Type} [FloatOps F] (arg0 : FVec F S20000 .f32) (arg1 : FVec F S_ .f32) (arg2 : FVec F S_ .f32) : FVec F S20000 .f32 :=
  let v0 : FVec F S20000 .f32 := broadcastInDim S20000 ![] bcast_S_S20000 arg1
  let v1 : FVec F S20000 .f32 := maximumf v0 arg0
  let v2 : FVec F S20000 .f32 := broadcastInDim S20000 ![] bcast_S_S20000 arg2
  let v3 : FVec F S20000 .f32 := minimumf v2 v1
  v3

def fn_clip_0 {F : FTy → Type} [FloatOps F] (arg0 : FVec F S20000 .f32) (arg1 : FVec F S_ .f32) (arg2 : FVec F S_ .f32) : FVec F S20000 .f32 :=
  let v0 : FVec F S_ .f32 := id arg1
  let v1 : FVec F S20000 .f32 := broadcastInDim S20000 ![] bcast_S_S20000 v0
  let v2 : FVec F S20000 .f32 := maximumf v1 arg0
  let v3 : FVec F S_ .f32 := id arg2
  let v4 : FVec F S20000 .f32 := broadcastInDim S20000 ![] bcast_S_S20000 v3
  let v5 : FVec F S20000 .f32 := minimumf v4 v2
  v5

def fn_where {F : FTy → Type} [FloatOps F] (arg0 : IVec S20x20000 1) (arg1 : FVec F S20x20000 .f32) (arg2 : FVec F S_ .f32) : FVec F S20x20000 .f32 :=
  let v0 : FVec F S_ .f32 := id arg2
  let v1 : FVec F S20x20000 .f32 := broadcastInDim S20x20000 ![] bcast_S_S20x20000 v0
  let v2 : FVec F S20x20000 .f32 := select arg0 arg1 v1
  v2

def fn_where_1 {F : FTy → Type} [FloatOps F] (arg0 : IVec S20x20000 1) (arg1 : IVec S20x20000 32) (arg2 : IVec S_ 32) : IVec S20x20000 32 :=
  let v0 : IVec S_ 32 := id arg2
  let v1 : IVec S20x20000 32 := broadcastInDim S20x20000 ![] bcast_S_S20x20000 v0
  let v2 : IVec S20x20000 32 := select arg0 arg1 v1
  v2

def fn_where_2 {F : FTy → Type} [FloatOps F] (arg0 : IVec S20x20000 1) (arg1 : FVec F S1x20000 .f32) (arg2 : FVec F S_ .f32) : FVec F S20x20000 .f32 :=
  let v0 : FVec F S_ .f32 := id arg2
  let v1 : FVec F S20x20000 .f32 := broadcastInDim S20x20000 ![0, 1] bcast_S1x20000_S20x20000_0_1 arg1
  let v2 : FVec F S20x20000 .f32 := broadcastInDim S20x20000 ![] bcast_S_S20x20000 v0
  let v3 : FVec F S20x20000 .f32 := select arg0 v1 v2
  v3

def fn_where_3 {F : FTy → Type} [FloatOps F] (arg0 : IVec S20x20000 1) (arg1 : FVec F S_ .f32) (arg2 : FVec F S20x20000 .f32) : FVec F S20x20000 .f32 :=
  let v0 : FVec F S_ .f32 := id arg1
  let v1 : FVec F S20x20000 .f32 := broadcastInDim S20x20000 ![] bcast_S_S20x20000 v0
  let v2 : FVec F S20x20000 .f32 := select arg0 v1 arg2
  v2

def fn_where_4 {F : FTy → Type} [FloatOps F] (arg0 : IVec S20x20000 1) (arg1 : FVec F S_ .f32) (arg2 : FVec F S_ .f32) : FVec F S20x20000 .f32 :=
  let v0 : FVec F S20x20000 .f32 := broadcastInDim S20x20000 ![] bcast_S_S20x20000 arg1
  let v1 : FVec F S20x20000 .f32 := broadcastInDim S20x20000 ![] bcast_S_S20x20000 arg2
  let v2 : FVec F S20x20000 .f32 := select arg0 v0 v1
  v2

def fn_picks1_part6 {F : FTy → Type} [FloatOps F] (arg1 : IVec S20x1 1) (v2 : FVec F S20x1 .f32) (v74 : FVec F S20x20000 .f32) (v97 : FVec F S20x1 .f32) (v104 : FVec F S20x1 .f32) (v109 : IVec S20x1 1) : FVec F S20x20000 .f32 × IVec S20x1 1 :=
  let cst_32 : FVec F S_ .f32 := constant S_ .f32 0x41800000#32
  let v110 : FVec F S20x1 .f32 := broadcastInDim S20x1 ![] bcast_S_S20x1 cst_32
  let v111 : IVec S20x1 1 := cmpf .olt v97 v110
  let v112 : IVec S20x1 1 := andi v109 v111
  let cst_33 : FVec F S_ .f32 := constant S_ .f32 0x41700000#32
  let v113 : FVec F S20x1 .f32 := broadcastInDim S20x1 ![] bcast_S_S20x1 cst_33
  let v114 : IVec S20x1 1 := cmpf .ogt v104 v113
  let v115 : IVec S20x1 1 := andi v112 v114
  let cst_34 : FVec F S_ .f32 := constant S_ .f32 0xFF800000#32
  let v116 : FVec F S20x1 .f32 := broadcastInDim S20x1 ![] bcast_S_S20x1 cst_34
  let v117 : IVec S20x1 1 := cmpf .oeq v2 v116
  let v118 : IVec S20x1 1 := ori v117 v115
  let v119 : IVec S20x1 1 := andi arg1 v118
  (v74, v119)

def fn_picks1_part5 {F : FTy → Type} [FloatOps F] (arg1 : IVec S20x1 1) (arg2 : FVec F S20x20000 .f32) (v2 : FVec F S20x1 .f32) (v74 : FVec F S20x20000 .f32) (v88 : IVec S20x20000 1) (v92 : FVec F S20x1 .f32) (v93 : IVec S20x20000 1) (cst_23 : FVec F S_ .f32) : FVec F S20x20000 .f32 × IVec S20x1 1 :=
  let cst_24 : FVec F S_ .f32 := constant S_ .f32 0x00000000#32
  let v94 : FVec F S20x20000 .f32 := fn_where_4 (F := F) v93 cst_23 cst_24
  let v95 : FVec F S20x20000 .f32 := id v94
  let cst_25 : FVec F S_ .f32 := constant S_ .f32 0x00000000#32
  let v96 : FVec F S20 .f32 := (fun x v => Host.reduceAdd x v reducesTo_S20x20000_S20_d1 h_S_) v95 cst_25
  let v97 : FVec F S20x1 .f32 := broadcastInDim S20x1 ![0] bcast_S20_S20x1_0 v96
  let cst_26 : FVec F S_ .f32 := constant S_ .f32 0xFF800000#32
  let v98 : FVec F S20x20000 .f32 := broadcastInDim S20x20000 ![] bcast_S_S20x20000 cst_26
  let v99 : IVec S20x20000 1 := cmpf .ogt arg2 v98
  let v100 : IVec S20x20000 1 := andi v99 v88
  let cst_27 : FVec F S_ .f32 := constant S_ .f32 0x3F800000#32
  let cst_28 : FVec F S_ .f32 := constant S_ .f32 0x00000000#32
  let v101 : FVec F S20x20000 .f32 := fn_where_4 (F := F) v100 cst_27 cst_28
  let v102 : FVec F S20x20000 .f32 := id v101
  let cst_29 : FVec F S_ .f32 := constant S_ .f32 0x00000000#32
  let v103 : FVec F S20 .f32 := (fun x v => Host.reduceAdd x v reducesTo_S20x20000_S20_d1 h_S_) v102 cst_29
  let v104 : FVec F S20x1 .f32 := broadcastInDim S20x1 ![0] bcast_S20_S20x1_0 v103
  let cst_30 : FVec F S_ .f32 := constant S_ .f32 0x7F800000#32
  let v105 : FVec F S20x1 .f32 := broadcastInDim S20x1 ![] bcast_S_S20x1 cst_30
  let v106 : IVec S20x1 1 := cmpf .olt v2 v105
  let cst_31 : FVec F S_ .f32 := constant S_ .f32 0x459C4000#32
  let v107 : FVec F S20x1 .f32 := broadcastInDim S20x1 ![] bcast_S_S20x1 cst_31
  let v108 : IVec S20x1 1 := cmpf .olt v92 v107
  let v109 : IVec S20x1 1 := andi v106 v108
  fn_picks1_part6 (F := F) arg1 v2 v74 v97 v104 v109

def fn_picks1_part4 {F : FTy → Type} [FloatOps F] (arg1 : IVec S20x1 1) (arg2 : FVec F S20x20000 .f32) (v0 : IVec S20x20000 32) (v2 : FVec F S20x1 .f32) (v7 : IVec S20x1 32) (v74 : FVec F S20x20000 .f32) (v75 : FVec F S20x20000 .f32) : FVec F S20x20000 .f32 × IVec S20x1 1 :=
  let v76 : IVec S20x20000 1 := cmpf .ogt arg2 v75
  let v77 : FVec F S20x20000 .f32 := broadcastInDim S20x20000 ![0, 1] bcast_S20x1_S20x20000_0_1 v2
  let v78 : IVec S20x20000 1 := cmpf .oeq arg2 v77
  let v79 : IVec S20x20000 32 := broadcastInDim S20x20000 ![0, 1] bcast_S20x1_S20x20000_0_1 v7
  let v80 : IVec S20x20000 1 := cmpi .slt v0 v79
  let v81 : IVec S20x20000 1 := andi v78 v80
  let v82 : IVec S20x20000 1 := ori v76 v81
  let c_18 : IVec S_ 32 := constantI S_ 32 128#32
  let v83 : IVec S20x20000 32 := broadcastInDim S20x20000 ![] bcast_S_S20x20000 c_18
  let v84 : IVec S20x20000 32 := Host.remsi v0 v83
  let c_19 : IVec S_ 32 := constantI S_ 32 128#32
  let v85 : IVec S20x1 32 := broadcastInDim S20x1 ![] bcast_S_S20x1 c_19
  let v86 : IVec S20x1 32 := Host.remsi v7 v85
  let v87 : IVec S20x20000 32 := broadcastInDim S20x20000 ![0, 1] bcast_S20x1_S20x20000_0_1 v86
  let v88 : IVec S20x20000 1 := cmpi .eq v84 v87
  let cst_20 : FVec F S_ .f32 := constant S_ .f32 0x3F800000#32
  let cst_21 : FVec F S_ .f32 := constant S_ .f32 0x00000000#32
  let v89 : FVec F S20x20000 .f32 := fn_where_4 (F := F) v82 cst_20 cst_21
  let v90 : FVec F S20x20000 .f32 := id v89
  let cst_22 : FVec F S_ .f32 := constant S_ .f32 0x00000000#32
  let v91 : FVec F S20 .f32 := (fun x v => Host.reduceAdd x v reducesTo_S20x20000_S20_d1 h_S_) v90 cst_22
  let v92 : FVec F S20x1 .f32 := broadcastInDim S20x1 ![0] bcast_S20_S20x1_0 v91
  let v93 : IVec S20x20000 1 := andi v82 v88
  let cst_23 : FVec F S_ .f32 := constant S_ .f32 0x3F800000#32
  fn_picks1_part5 (F := F) arg1 arg2 v2 v74 v88 v92 v93 cst_23

def fn_picks1_part3 {F : FTy → Type} [FloatOps F] (arg0 : FVec F S20x20000 .f32) (arg1 : IVec S20x1 1) (arg2 : FVec F S20x20000 .f32) (arg4 : FVec F S20000 .f32) (arg6 : FVec F S20000 .f32) (v0 : IVec S20x20000 32) (v2 : FVec F S20x1 .f32) (v7 : IVec S20x1 32) (v9 : IVec S20x20000 1) (v48 : FVec F S20x20000 .f32) (v55 : FVec F S20x1 .f32) (v56 : FVec F S20000 .f32) : FVec F S20x20000 .f32 × IVec S20x1 1 :=
  let cst_13 : FVec F S_ .f32 := constant S_ .f32 0x00000000#32
  let v57 : FVec F S20000 .f32 := broadcastInDim S20000 ![] bcast_S_S20000 cst_13
  let v58 : FVec F S20000 .f32 := maximumf v56 v57
  let v59 : FVec F S20000 .f32 := subf arg6 arg4
  let cst_14 : FVec F S_ .f32 := constant S_ .f32 0x00000000#32
  let v60 : FVec F S20000 .f32 := broadcastInDim S20000 ![] bcast_S_S20000 cst_14
  let v61 : FVec F S20000 .f32 := maximumf v59 v60
  let v62 : FVec F S20000 .f32 := mulf v58 v61
  let v63 : FVec F S1x20000 .f32 := broadcastInDim S1x20000 ![1] bcast_S20000_S1x20000_1 v62
  let v64 : FVec F S20x20000 .f32 := broadcastInDim S20x20000 ![0, 1] bcast_S20x1_S20x20000_0_1 v55
  let v65 : FVec F S20x20000 .f32 := broadcastInDim S20x20000 ![0, 1] bcast_S1x20000_S20x20000_0_1 v63
  let v66 : FVec F S20x20000 .f32 := addf v64 v65
  let v67 : FVec F S20x20000 .f32 := subf v66 v48
  let cst_15 : FVec F S_ .f32 := constant S_ .f32 0x322BCC77#32
  let v68 : FVec F S20x20000 .f32 := broadcastInDim S20x20000 ![] bcast_S_S20x20000 cst_15
  let v69 : FVec F S20x20000 .f32 := maximumf v67 v68
  let v70 : FVec F S20x20000 .f32 := Host.divf v48 v69
  let cst_16 : FVec F S_ .f32 := constant S_ .f32 0x3F000000#32
  let v71 : FVec F S20x20000 .f32 := broadcastInDim S20x20000 ![] bcast_S_S20x20000 cst_16
  let v72 : IVec S20x20000 1 := cmpf .ogt v70 v71
  let v73 : IVec S20x20000 1 := ori v72 v9
  let cst_17 : FVec F S_ .f32 := constant S_ .f32 0xFF800000#32
  let v74 : FVec F S20x20000 .f32 := fn_where_3 (F := F) v73 cst_17 arg0
  let v75 : FVec F S20x20000 .f32 := broadcastInDim S20x20000 ![0, 1] bcast_S20x1_S20x20000_0_1 v2
  fn_picks1_part4 (F := F) arg1 arg2 v0 v2 v7 v74 v75

def fn_picks1_part2 {F : FTy → Type} [FloatOps F] (arg0 : FVec F S20x20000 .f32) (arg1 : IVec S20x1 1) (arg2 : FVec F S20x20000 .f32) (arg3 : FVec F S20000 .f32) (arg4 : FVec F S20000 .f32) (arg5 : FVec F S20000 .f32) (arg6 : FVec F S20000 .f32) (v0 : IVec S20x20000 32) (v2 : FVec F S20x1 .f32) (v7 : IVec S20x1 32) (v9 : IVec S20x20000 1) (v13 : FVec F S20x1 .f32) (v17 : FVec F S20x1 .f32) (v21 : FVec F S20x1 .f32) (v25 : FVec F S20x1 .f32) (v34 : FVec F S20x20000 .f32) (v35 : FVec F S20x20000 .f32) : FVec F S20x20000 .f32 × IVec S20x1 1 :=
  let v36 : FVec F S20x20000 .f32 := maximumf v34 v35
  let v37 : FVec F S1x20000 .f32 := broadcastInDim S1x20000 ![1] bcast_S20000_S1x20000_1 arg6
  let v38 : FVec F S20x20000 .f32 := broadcastInDim S20x20000 ![0, 1] bcast_S20x1_S20x20000_0_1 v25
  let v39 : FVec F S20x20000 .f32 := broadcastInDim S20x20000 ![0, 1] bcast_S1x20000_S20x20000_0_1 v37
  let v40 : FVec F S20x20000 .f32 := minimumf v38 v39
  let v41 : FVec F S1x20000 .f32 := broadcastInDim S1x20000 ![1] bcast_S20000_S1x20000_1 arg4
  let v42 : FVec F S20x20000 .f32 := broadcastInDim S20x20000 ![0, 1] bcast_S20x1_S20x20000_0_1 v17
  let v43 : FVec F S20x20000 .f32 := broadcastInDim S20x20000 ![0, 1] bcast_S1x20000_S20x20000_0_1 v41
  let v44 : FVec F S20x20000 .f32 := maximumf v42 v43
  let v45 : FVec F S20x20000 .f32 := subf v40 v44
  let cst_10 : FVec F S_ .f32 := constant S_ .f32 0x00000000#32
  let v46 : FVec F S20x20000 .f32 := broadcastInDim S20x20000 ![] bcast_S_S20x20000 cst_10
  let v47 : FVec F S20x20000 .f32 := maximumf v45 v46
  let v48 : FVec F S20x20000 .f32 := mulf v36 v47
  let v49 : FVec F S20x1 .f32 := subf v21 v13
  let cst_11 : FVec F S_ .f32 := constant S_ .f32 0x00000000#32
  let v50 : FVec F S20x1 .f32 := broadcastInDim S20x1 ![] bcast_S_S20x1 cst_11
  let v51 : FVec F S20x1 .f32 := maximumf v49 v50
  let v52 : FVec F S20x1 .f32 := subf v25 v17
  let cst_12 : FVec F S_ .f32 := constant S_ .f32 0x00000000#32
  let v53 : FVec F S20x1 .f32 := broadcastInDim S20x1 ![] bcast_S_S20x1 cst_12
  let v54 : FVec F S20x1 .f32 := maximumf v52 v53
  let v55 : FVec F S20x1 .f32 := mulf v51 v54
  let v56 : FVec F S20000 .f32 := subf arg5 arg3
  fn_picks1_part3 (F := F) arg0 arg1 arg2 arg4 arg6 v0 v2 v7 v9 v48 v55 v56

def fn_picks1_part1 {F : FTy → Type} [FloatOps F] (arg0 : FVec F S20x20000 .f32) (arg1 : IVec S20x1 1) (arg2 : FVec F S20x20000 .f32) (arg3 : FVec F S20000 .f32) (arg4 : FVec F S20000 .f32) (arg5 : FVec F S20000 .f32) (arg6 : FVec F S20000 .f32) (v0 : IVec S20x20000 32) (v2 : FVec F S20x1 .f32) (v7 : IVec S20x1 32) (v9 : IVec S20x20000 1) (v13 : FVec F S20x1 .f32) (v16 : FVec F S20 .f32) : FVec F S20x20000 .f32 × IVec S20x1 1 :=
  let v17 : FVec F S20x1 .f32 := broadcastInDim S20x1 ![0] bcast_S20_S20x1_0 v16
  let v18 : FVec F S1x20000 .f32 := broadcastInDim S1x20000 ![1] bcast_S20000_S1x20000_1 arg5
  let cst_5 : FVec F S_ .f32 := constant S_ .f32 0x00000000#32
  let v19 : FVec F S20x20000 .f32 := fn_where_2 (F := F) v9 v18 cst_5
  let cst_6 : FVec F S_ .f32 := constant S_ .f32 0xFF800000#32
  let v20 : FVec F S20 .f32 := (fun x v => Host.reduce FloatOps.maximumf x v reducesTo_S20x20000_S20_d1 h_S_) v19 cst_6
  let v21 : FVec F S20x1 .f32 := broadcastInDim S20x1 ![0] bcast_S20_S20x1_0 v20
  let v22 : FVec F S1x20000 .f32 := broadcastInDim S1x20000 ![1] bcast_S20000_S1x20000_1 arg6
  let cst_7 : FVec F S_ .f32 := constant S_ .f32 0x00000000#32
  let v23 : FVec F S20x20000 .f32 := fn_where_2 (F := F) v9 v22 cst_7
  let cst_8 : FVec F S_ .f32 := constant S_ .f32 0xFF800000#32
  let v24 : FVec F S20 .f32 := (fun x v => Host.reduce FloatOps.maximumf x v reducesTo_S20x20000_S20_d1 h_S_) v23 cst_8
  let v25 : FVec F S20x1 .f32 := broadcastInDim S20x1 ![0] bcast_S20_S20x1_0 v24
  let v26 : FVec F S1x20000 .f32 := broadcastInDim S1x20000 ![1] bcast_S20000_S1x20000_1 arg5
  let v27 : FVec F S20x20000 .f32 := broadcastInDim S20x20000 ![0, 1] bcast_S20x1_S20x20000_0_1 v21
  let v28 : FVec F S20x20000 .f32 := broadcastInDim S20x20000 ![0, 1] bcast_S1x20000_S20x20000_0_1 v26
  let v29 : FVec F S20x20000 .f32 := minimumf v27 v28
  let v30 : FVec F S1x20000 .f32 := broadcastInDim S1x20000 ![1] bcast_S20000_S1x20000_1 arg3
  let v31 : FVec F S20x20000 .f32 := broadcastInDim S20x20000 ![0, 1] bcast_S20x1_S20x20000_0_1 v13
  let v32 : FVec F S20x20000 .f32 := broadcastInDim S20x20000 ![0, 1] bcast_S1x20000_S20x20000_0_1 v30
  let v33 : FVec F S20x20000 .f32 := maximumf v31 v32
  let v34 : FVec F S20x20000 .f32 := subf v29 v33
  let cst_9 : FVec F S_ .f32 := constant S_ .f32 0x00000000#32
  let v35 : FVec F S20x20000 .f32 := broadcastInDim S20x20000 ![] bcast_S_S20x20000 cst_9
  fn_picks1_part2 (F := F) arg0 arg1 arg2 arg3 arg4 arg5 arg6 v0 v2 v7 v9 v13 v17 v21 v25 v34 v35

def fn_picks1 {F : FTy → Type} [FloatOps F] (arg0 : FVec F S20x20000 .f32) (arg1 : IVec S20x1 1) (arg2 : FVec F S20x20000 .f32) (arg3 : FVec F S20000 .f32) (arg4 : FVec F S20000 .f32) (arg5 : FVec F S20000 .f32) (arg6 : FVec F S20000 .f32) : FVec F S20x20000 .f32 × IVec S20x1 1 :=
  let v0 : IVec S20x20000 32 := iotaInDim S20x20000 32 1
  let cst : FVec F S_ .f32 := constant S_ .f32 0xFF800000#32
  let v1 : FVec F S20 .f32 := (fun x v => Host.reduce FloatOps.maximumf x v reducesTo_S20x20000_S20_d1 h_S_) arg0 cst
  let v2 : FVec F S20x1 .f32 := broadcastInDim S20x1 ![0] bcast_S20_S20x1_0 v1
  let v3 : FVec F S20x20000 .f32 := broadcastInDim S20x20000 ![0, 1] bcast_S20x1_S20x20000_0_1 v2
  let v4 : IVec S20x20000 1 := cmpf .oeq arg0 v3
  let c : IVec S_ 32 := constantI S_ 32 20000#32
  let v5 : IVec S20x20000 32 := fn_where_1 (F := F) v4 v0 c
  let c_0 : IVec S_ 32 := constantI S_ 32 2147483647#32
  let v6 : IVec S20 32 := (fun x v => Host.reduce IntOp.minsi x v reducesTo_S20x20000_S20_d1 h_S_) v5 c_0
  let v7 : IVec S20x1 32 := broadcastInDim S20x1 ![0] bcast_S20_S20x1_0 v6
  let v8 : IVec S20x20000 32 := broadcastInDim S20x20000 ![0, 1] bcast_S20x1_S20x20000_0_1 v7
  let v9 : IVec S20x20000 1 := cmpi .eq v0 v8
  let v10 : FVec F S1x20000 .f32 := broadcastInDim S1x20000 ![1] bcast_S20000_S1x20000_1 arg3
  let cst_1 : FVec F S_ .f32 := constant S_ .f32 0x00000000#32
  let v11 : FVec F S20x20000 .f32 := fn_where_2 (F := F) v9 v10 cst_1
  let cst_2 : FVec F S_ .f32 := constant S_ .f32 0xFF800000#32
  let v12 : FVec F S20 .f32 := (fun x v => Host.reduce FloatOps.maximumf x v reducesTo_S20x20000_S20_d1 h_S_) v11 cst_2
  let v13 : FVec F S20x1 .f32 := broadcastInDim S20x1 ![0] bcast_S20_S20x1_0 v12
  let v14 : FVec F S1x20000 .f32 := broadcastInDim S1x20000 ![1] bcast_S20000_S1x20000_1 arg4
  let cst_3 : FVec F S_ .f32 := constant S_ .f32 0x00000000#32
  let v15 : FVec F S20x20000 .f32 := fn_where_2 (F := F) v9 v14 cst_3
  let cst_4 : FVec F S_ .f32 := constant S_ .f32 0xFF800000#32
  let v16 : FVec F S20 .f32 := (fun x v => Host.reduce FloatOps.maximumf x v reducesTo_S20x20000_S20_d1 h_S_) v15 cst_4
  fn_picks1_part1 (F := F) arg0 arg1 arg2 arg3 arg4 arg5 arg6 v0 v2 v7 v9 v13 v16

def fn_picks2 {F : FTy → Type} [FloatOps F] (arg0 : FVec F S20x20000 .f32) (arg1 : IVec S20x1 1) (arg2 : FVec F S20x20000 .f32) (arg3 : FVec F S20000 .f32) (arg4 : FVec F S20000 .f32) (arg5 : FVec F S20000 .f32) (arg6 : FVec F S20000 .f32) : FVec F S20x20000 .f32 × IVec S20x1 1 :=
  let v0_0 : FVec F S20x20000 .f32 := (fn_picks1 (F := F) arg0 arg1 arg2 arg3 arg4 arg5 arg6).1
  let v0_1 : IVec S20x1 1 := (fn_picks1 (F := F) arg0 arg1 arg2 arg3 arg4 arg5 arg6).2
  let v1_0 : FVec F S20x20000 .f32 := (fn_picks1 (F := F) v0_0 v0_1 arg2 arg3 arg4 arg5 arg6).1
  let v1_1 : IVec S20x1 1 := (fn_picks1 (F := F) v0_0 v0_1 arg2 arg3 arg4 arg5 arg6).2
  (v1_0, v1_1)

def fn_picks4 {F : FTy → Type} [FloatOps F] (arg0 : FVec F S20x20000 .f32) (arg1 : IVec S20x1 1) (arg2 : FVec F S20x20000 .f32) (arg3 : FVec F S20000 .f32) (arg4 : FVec F S20000 .f32) (arg5 : FVec F S20000 .f32) (arg6 : FVec F S20000 .f32) : FVec F S20x20000 .f32 × IVec S20x1 1 :=
  let v0_0 : FVec F S20x20000 .f32 := (fn_picks2 (F := F) arg0 arg1 arg2 arg3 arg4 arg5 arg6).1
  let v0_1 : IVec S20x1 1 := (fn_picks2 (F := F) arg0 arg1 arg2 arg3 arg4 arg5 arg6).2
  let v1_0 : FVec F S20x20000 .f32 := (fn_picks2 (F := F) v0_0 v0_1 arg2 arg3 arg4 arg5 arg6).1
  let v1_1 : IVec S20x1 1 := (fn_picks2 (F := F) v0_0 v0_1 arg2 arg3 arg4 arg5 arg6).2
  (v1_0, v1_1)

def fn_picks8 {F : FTy → Type} [FloatOps F] (arg0 : FVec F S20x20000 .f32) (arg1 : IVec S20x1 1) (arg2 : FVec F S20x20000 .f32) (arg3 : FVec F S20000 .f32) (arg4 : FVec F S20000 .f32) (arg5 : FVec F S20000 .f32) (arg6 : FVec F S20000 .f32) : FVec F S20x20000 .f32 × IVec S20x1 1 :=
  let v0_0 : FVec F S20x20000 .f32 := (fn_picks4 (F := F) arg0 arg1 arg2 arg3 arg4 arg5 arg6).1
  let v0_1 : IVec S20x1 1 := (fn_picks4 (F := F) arg0 arg1 arg2 arg3 arg4 arg5 arg6).2
  let v1_0 : FVec F S20x20000 .f32 := (fn_picks4 (F := F) v0_0 v0_1 arg2 arg3 arg4 arg5 arg6).1
  let v1_1 : IVec S20x1 1 := (fn_picks4 (F := F) v0_0 v0_1 arg2 arg3 arg4 arg5 arg6).2
  (v1_0, v1_1)

def fn_picks16 {F : FTy → Type} [FloatOps F] (arg0 : FVec F S20x20000 .f32) (arg1 : IVec S20x1 1) (arg2 : FVec F S20x20000 .f32) (arg3 : FVec F S20000 .f32) (arg4 : FVec F S20000 .f32) (arg5 : FVec F S20000 .f32) (arg6 : FVec F S20000 .f32) : FVec F S20x20000 .f32 × IVec S20x1 1 :=
  let v0_0 : FVec F S20x20000 .f32 := (fn_picks8 (F := F) arg0 arg1 arg2 arg3 arg4 arg5 arg6).1
  let v0_1 : IVec S20x1 1 := (fn_picks8 (F := F) arg0 arg1 arg2 arg3 arg4 arg5 arg6).2
  let v1_0 : FVec F S20x20000 .f32 := (fn_picks8 (F := F) v0_0 v0_1 arg2 arg3 arg4 arg5 arg6).1
  let v1_1 : IVec S20x1 1 := (fn_picks8 (F := F) v0_0 v0_1 arg2 arg3 arg4 arg5 arg6).2
  (v1_0, v1_1)

def fn_picks32 {F : FTy → Type} [FloatOps F] (arg0 : FVec F S20x20000 .f32) (arg1 : IVec S20x1 1) (arg2 : FVec F S20x20000 .f32) (arg3 : FVec F S20000 .f32) (arg4 : FVec F S20000 .f32) (arg5 : FVec F S20000 .f32) (arg6 : FVec F S20000 .f32) : FVec F S20x20000 .f32 × IVec S20x1 1 :=
  let v0_0 : FVec F S20x20000 .f32 := (fn_picks16 (F := F) arg0 arg1 arg2 arg3 arg4 arg5 arg6).1
  let v0_1 : IVec S20x1 1 := (fn_picks16 (F := F) arg0 arg1 arg2 arg3 arg4 arg5 arg6).2
  let v1_0 : FVec F S20x20000 .f32 := (fn_picks16 (F := F) v0_0 v0_1 arg2 arg3 arg4 arg5 arg6).1
  let v1_1 : IVec S20x1 1 := (fn_picks16 (F := F) v0_0 v0_1 arg2 arg3 arg4 arg5 arg6).2
  (v1_0, v1_1)

def fn_picks64 {F : FTy → Type} [FloatOps F] (arg0 : FVec F S20x20000 .f32) (arg1 : IVec S20x1 1) (arg2 : FVec F S20x20000 .f32) (arg3 : FVec F S20000 .f32) (arg4 : FVec F S20000 .f32) (arg5 : FVec F S20000 .f32) (arg6 : FVec F S20000 .f32) : FVec F S20x20000 .f32 × IVec S20x1 1 :=
  let v0_0 : FVec F S20x20000 .f32 := (fn_picks32 (F := F) arg0 arg1 arg2 arg3 arg4 arg5 arg6).1
  let v0_1 : IVec S20x1 1 := (fn_picks32 (F := F) arg0 arg1 arg2 arg3 arg4 arg5 arg6).2
  let v1_0 : FVec F S20x20000 .f32 := (fn_picks32 (F := F) v0_0 v0_1 arg2 arg3 arg4 arg5 arg6).1
  let v1_1 : IVec S20x1 1 := (fn_picks32 (F := F) v0_0 v0_1 arg2 arg3 arg4 arg5 arg6).2
  (v1_0, v1_1)

def fn_part3 {F : FTy → Type} [FloatOps F] (main_v55 : FVec F S20000x4 .f32) (main_v56 : FVec F S20000x20 .f32) (main_v58 : FVec F S20000x20 .f32) : IVec S20x1 1 :=
  let main_v59 : FVec F S20000x20 .f32 := mulf main_v56 main_v58
  let main_v60 : FVec F S20x20000 .f32 := (transpose S20x20000 [1, 0] · transposes_S20000x20_S20x20000_1_0) main_v59
  let main_cst_12 : FVec F S_ .f32 := constant S_ .f32 0x3D4CCCCD#32
  let main_v61 : FVec F S20x20000 .f32 := broadcastInDim S20x20000 ![] bcast_S_S20x20000 main_cst_12
  let main_v62 : IVec S20x20000 1 := cmpf .ogt main_v60 main_v61
  let main_cst_13 : FVec F S_ .f32 := constant S_ .f32 0xFF800000#32
  let main_v63 : FVec F S20x20000 .f32 := fn_where (F := F) main_v62 main_v60 main_cst_13
  let main_v64 : FVec F S20000x1 .f32 := (extractStridedSlice S20000x1 ![0, 0] · slices_S20000x4_S20000x1_0_0) main_v55
  let main_v65 : FVec F S20000 .f32 := shapeCast S20000 main_v64 shapeCasts_S20000x1_S20000
  let main_v66 : FVec F S20000x1 .f32 := (extractStridedSlice S20000x1 ![0, 1] · slices_S20000x4_S20000x1_0_1) main_v55
  let main_v67 : FVec F S20000 .f32 := shapeCast S20000 main_v66 shapeCasts_S20000x1_S20000
  let main_v68 : FVec F S20000x1 .f32 := (extractStridedSlice S20000x1 ![0, 2] · slices_S20000x4_S20000x1_0_2) main_v55
  let main_v69 : FVec F S20000 .f32 := shapeCast S20000 main_v68 shapeCasts_S20000x1_S20000
  let main_v70 : FVec F S20000x1 .f32 := (extractStridedSlice S20000x1 ![0, 3] · slices_S20000x4_S20000x1_0_3) main_v55
  let main_v71 : FVec F S20000 .f32 := shapeCast S20000 main_v70 shapeCasts_S20000x1_S20000
  let main_c : IVec S_ 1 := constantI S_ 1 1#1
  let main_v72 : IVec S20x1 1 := broadcastInDim S20x1 ![] bcast_S_S20x1 main_c
  let main_v73_0 : FVec F S20x20000 .f32 := (fn_picks64 (F := F) main_v63 main_v72 main_v63 main_v65 main_v67 main_v69 main_v71).1
  let main_v73_1 : IVec S20x1 1 := (fn_picks64 (F := F) main_v63 main_v72 main_v63 main_v65 main_v67 main_v69 main_v71).2
  let main_v74_0 : FVec F S20x20000 .f32 := (fn_picks32 (F := F) main_v73_0 main_v73_1 main_v63 main_v65 main_v67 main_v69 main_v71).1
  let main_v74_1 : IVec S20x1 1 := (fn_picks32 (F := F) main_v73_0 main_v73_1 main_v63 main_v65 main_v67 main_v69 main_v71).2
  let main_v75_0 : FVec F S20x20000 .f32 := (fn_picks4 (F := F) main_v74_0 main_v74_1 main_v63 main_v65 main_v67 main_v69 main_v71).1
  let main_v75_1 : IVec S20x1 1 := (fn_picks4 (F := F) main_v74_0 main_v74_1 main_v63 main_v65 main_v67 main_v69 main_v71).2
  main_v75_1

def fn_part2 {F : FTy → Type} [FloatOps F] (main_arg0 : FVec F S1x20000x1 .f32) (main_arg1 : FVec F S1x20000x20 .f32) (main_v20 : FVec F S20000 .f32) (main_v26 : FVec F S20000 .f32) (main_v30 : FVec F S20000 .f32) (main_v34 : FVec F S20000 .f32) (main_v38 : FVec F S20000 .f32) (main_v41 : FVec F S20000 .f32) (main_cst_4 : FVec F S_ .f32) : IVec S20x1 1 :=
  let main_cst_5 : FVec F S_ .f32 := constant S_ .f32 0x3F800000#32
  let main_v42 : FVec F S20000 .f32 := fn_clip_0 (F := F) main_v41 main_cst_4 main_cst_5
  let main_cst_6 : FVec F S_ .f32 := constant S_ .f32 0x3F000000#32
  let main_v43 : FVec F S20000 .f32 := broadcastInDim S20000 ![] bcast_S_S20000 main_cst_6
  let main_v44 : FVec F S20000 .f32 := mulf main_v30 main_v43
  let main_v45 : FVec F S20000 .f32 := addf main_v20 main_v44
  let main_cst_7 : FVec F S_ .f32 := constant S_ .f32 0x00000000#32
  let main_cst_8 : FVec F S_ .f32 := constant S_ .f32 0x3F800000#32
  let main_v46 : FVec F S20000 .f32 := fn_clip_0 (F := F) main_v45 main_cst_7 main_cst_8
  let main_cst_9 : FVec F S_ .f32 := constant S_ .f32 0x3F000000#32
  let main_v47 : FVec F S20000 .f32 := broadcastInDim S20000 ![] bcast_S_S20000 main_cst_9
  let main_v48 : FVec F S20000 .f32 := mulf main_v34 main_v47
  let main_v49 : FVec F S20000 .f32 := addf main_v26 main_v48
  let main_cst_10 : FVec F S_ .f32 := constant S_ .f32 0x00000000#32
  let main_cst_11 : FVec F S_ .f32 := constant S_ .f32 0x3F800000#32
  let main_v50 : FVec F S20000 .f32 := fn_clip_0 (F := F) main_v49 main_cst_10 main_cst_11
  let main_v51 : FVec F S20000x1 .f32 := broadcastInDim S20000x1 ![0] bcast_S20000_S20000x1_0 main_v38
  let main_v52 : FVec F S20000x1 .f32 := broadcastInDim S20000x1 ![0] bcast_S20000_S20000x1_0 main_v42
  let main_v53 : FVec F S20000x1 .f32 := broadcastInDim S20000x1 ![0] bcast_S20000_S20000x1_0 main_v46
  let main_v54 : FVec F S20000x1 .f32 := broadcastInDim S20000x1 ![0] bcast_S20000_S20000x1_0 main_v50
  let main_v55 : FVec F S20000x4 .f32 := concatenate S20000x4 1 [⟨S20000x1, main_v51⟩, ⟨S20000x1, main_v52⟩, ⟨S20000x1, main_v53⟩, ⟨S20000x1, main_v54⟩] concatenates_S20000x1_S20000x1_S20000x1_S20000x1_S20000x4_d1
  let main_v56 : FVec F S20000x20 .f32 := shapeCast S20000x20 main_arg1 shapeCasts_S1x20000x20_S20000x20
  let main_v57 : FVec F S20000x1 .f32 := shapeCast S20000x1 main_arg0 shapeCasts_S1x20000x1_S20000x1
  let main_v58 : FVec F S20000x20 .f32 := broadcastInDim S20000x20 ![0, 1] bcast_S20000x1_S20000x20_0_1 main_v57
  fn_part3 (F := F) main_v55 main_v56 main_v58

def fn_part1 {F : FTy → Type} [FloatOps F] (main_arg0 : FVec F S1x20000x1 .f32) (main_arg1 : FVec F S1x20000x20 .f32) (main_arg3 : FVec F S20000x4 .f32) (main_v6 : FVec F S20000 .f32) (main_v10 : FVec F S20000 .f32) (main_v14 : FVec F S20000 .f32) (main_v20 : FVec F S20000 .f32) (main_v22 : FVec F S20000 .f32) : IVec S20x1 1 :=
  let main_v23 : FVec F S20000x1 .f32 := (extractStridedSlice S20000x1 ![0, 3] · slices_S20000x4_S20000x1_0_3) main_arg3
  let main_v24 : FVec F S20000 .f32 := shapeCast S20000 main_v23 shapeCasts_S20000x1_S20000
  let main_v25 : FVec F S20000 .f32 := mulf main_v6 main_v24
  let main_v26 : FVec F S20000 .f32 := addf main_v22 main_v25
  let main_v27 : FVec F S20000x1 .f32 := (extractStridedSlice S20000x1 ![0, 2] · slices_S20000x4_S20000x1_0_2) main_arg3
  let main_v28 : FVec F S20000 .f32 := shapeCast S20000 main_v27 shapeCasts_S20000x1_S20000
  let main_v29 : FVec F S20000 .f32 := Host.exp main_v10
  let main_v30 : FVec F S20000 .f32 := mulf main_v28 main_v29
  let main_v31 : FVec F S20000x1 .f32 := (extractStridedSlice S20000x1 ![0, 3] · slices_S20000x4_S20000x1_0_3) main_arg3
  let main_v32 : FVec F S20000 .f32 := shapeCast S20000 main_v31 shapeCasts_S20000x1_S20000
  let main_v33 : FVec F S20000 .f32 := Host.exp main_v14
  let main_v34 : FVec F S20000 .f32 := mulf main_v32 main_v33
  let main_cst_0 : FVec F S_ .f32 := constant S_ .f32 0x3F000000#32
  let main_v35 : FVec F S20000 .f32 := broadcastInDim S20000 ![] bcast_S_S20000 main_cst_0
  let main_v36 : FVec F S20000 .f32 := mulf main_v30 main_v35
  let main_v37 : FVec F S20000 .f32 := subf main_v20 main_v36
  let main_cst_1 : FVec F S_ .f32 := constant S_ .f32 0x00000000#32
  let main_cst_2 : FVec F S_ .f32 := constant S_ .f32 0x3F800000#32
  let main_v38 : FVec F S20000 .f32 := fn_clip_0 (F := F) main_v37 main_cst_1 main_cst_2
  let main_cst_3 : FVec F S_ .f32 := constant S_ .f32 0x3F000000#32
  let main_v39 : FVec F S20000 .f32 := broadcastInDim S20000 ![] bcast_S_S20000 main_cst_3
  let main_v40 : FVec F S20000 .f32 := mulf main_v34 main_v39
  let main_v41 : FVec F S20000 .f32 := subf main_v26 main_v40
  let main_cst_4 : FVec F S_ .f32 := constant S_ .f32 0x00000000#32
  fn_part2 (F := F) main_arg0 main_arg1 main_v20 main_v26 main_v30 main_v34 main_v38 main_v41 main_cst_4

def fn {F : FTy → Type} [FloatOps F] (main_arg0 : FVec F S1x20000x1 .f32) (main_arg1 : FVec F S1x20000x20 .f32) (main_arg2 : FVec F S1x20000x4 .f32) (main_arg3 : FVec F S20000x4 .f32) : IVec S20x1 1 :=
  let main_v0 : FVec F S20000x4 .f32 := shapeCast S20000x4 main_arg2 shapeCasts_S1x20000x4_S20000x4
  let main_cst : FVec F S_ .f32 := constant S_ .f32 0x3C83126F#32
  let main_v1 : FVec F S_ .f32 := Host.log main_cst
  let main_v2 : FVec F S_ .f32 := Host.absf main_v1
  let main_v3 : FVec F S20000x1 .f32 := (extractStridedSlice S20000x1 ![0, 0] · slices_S20000x4_S20000x1_0_0) main_v0
  let main_v4 : FVec F S20000 .f32 := shapeCast S20000 main_v3 shapeCasts_S20000x1_S20000
  let main_v5 : FVec F S20000x1 .f32 := (extractStridedSlice S20000x1 ![0, 1] · slices_S20000x4_S20000x1_0_1) main_v0
  let main_v6 : FVec F S20000 .f32 := shapeCast S20000 main_v5 shapeCasts_S20000x1_S20000
  let main_v7 : FVec F S20000x1 .f32 := (extractStridedSlice S20000x1 ![0, 2] · slices_S20000x4_S20000x1_0_2) main_v0
  let main_v8 : FVec F S20000 .f32 := shapeCast S20000 main_v7 shapeCasts_S20000x1_S20000
  let main_v9 : FVec F S_ .f32 := Host.negf main_v2
  let main_v10 : FVec F S20000 .f32 := fn_clip (F := F) main_v8 main_v9 main_v2
  let main_v11 : FVec F S20000x1 .f32 := (extractStridedSlice S20000x1 ![0, 3] · slices_S20000x4_S20000x1_0_3) main_v0
  let main_v12 : FVec F S20000 .f32 := shapeCast S20000 main_v11 shapeCasts_S20000x1_S20000
  let main_v13 : FVec F S_ .f32 := Host.negf main_v2
  let main_v14 : FVec F S20000 .f32 := fn_clip (F := F) main_v12 main_v13 main_v2
  let main_v15 : FVec F S20000x1 .f32 := (extractStridedSlice S20000x1 ![0, 0] · slices_S20000x4_S20000x1_0_0) main_arg3
  let main_v16 : FVec F S20000 .f32 := shapeCast S20000 main_v15 shapeCasts_S20000x1_S20000
  let main_v17 : FVec F S20000x1 .f32 := (extractStridedSlice S20000x1 ![0, 2] · slices_S20000x4_S20000x1_0_2) main_arg3
  let main_v18 : FVec F S20000 .f32 := shapeCast S20000 main_v17 shapeCasts_S20000x1_S20000
  let main_v19 : FVec F S20000 .f32 := mulf main_v4 main_v18
  let main_v20 : FVec F S20000 .f32 := addf main_v16 main_v19
  let main_v21 : FVec F S20000x1 .f32 := (extractStridedSlice S20000x1 ![0, 1] · slices_S20000x4_S20000x1_0_1) main_arg3
  let main_v22 : FVec F S20000 .f32 := shapeCast S20000 main_v21 shapeCasts_S20000x1_S20000
  fn_part1 (F := F) main_arg0 main_arg1 main_arg3 main_v6 main_v10 main_v14 main_v20 main_v22
-- ==== Kernel.lean ====
abbrev S1x20000x1 : Shape := ⟨3, ![1, 20000, 1]⟩
abbrev S1x20000x20 : Shape := ⟨3, ![1, 20000, 20]⟩
abbrev S1x20000x4 : Shape := ⟨3, ![1, 20000, 4]⟩
abbrev S20000x4 : Shape := ⟨2, ![20000, 4]⟩
abbrev S20000x20 : Shape := ⟨2, ![20000, 20]⟩
abbrev S20x20000 : Shape := ⟨2, ![20, 20000]⟩
abbrev S_ : Shape := ⟨0, ![]⟩
abbrev S20x20480 : Shape := ⟨2, ![20, 20480]⟩
abbrev S20x160x128 : Shape := ⟨3, ![20, 160, 128]⟩
abbrev S20000x1 : Shape := ⟨2, ![20000, 1]⟩
abbrev S1x20000 : Shape := ⟨2, ![1, 20000]⟩
abbrev S1x20480 : Shape := ⟨2, ![1, 20480]⟩
abbrev S1x160x128 : Shape := ⟨3, ![1, 160, 128]⟩
abbrev S4x20000 : Shape := ⟨2, ![4, 20000]⟩
abbrev S8x20000 : Shape := ⟨2, ![8, 20000]⟩
abbrev S8x20480 : Shape := ⟨2, ![8, 20480]⟩
abbrev S8x160x128 : Shape := ⟨3, ![8, 160, 128]⟩
abbrev S1x128 : Shape := ⟨2, ![1, 128]⟩
abbrev S1x100 : Shape := ⟨2, ![1, 100]⟩
abbrev S100 : Shape := ⟨1, ![100]⟩
abbrev S100x1 : Shape := ⟨2, ![100, 1]⟩
abbrev S100x6 : Shape := ⟨2, ![100, 6]⟩
abbrev S1x100x6 : Shape := ⟨3, ![1, 100, 6]⟩
abbrev S20x2048 : Shape := ⟨2, ![20, 2048]⟩
abbrev S20x128 : Shape := ⟨2, ![20, 128]⟩
abbrev S20x1x128 : Shape := ⟨3, ![20, 1, 128]⟩
abbrev S20 : Shape := ⟨1, ![20]⟩
abbrev S20x1 : Shape := ⟨2, ![20, 1]⟩
abbrev S1x20x128 : Shape := ⟨3, ![1, 20, 128]⟩
abbrev S1 : Shape := ⟨1, ![1]⟩
abbrev S1x1x1 : Shape := ⟨3, ![1, 1, 1]⟩
abbrev S1x1 : Shape := ⟨2, ![1, 1]⟩

abbrev nBuf : Space → Nat
  | .hbm => 50
  | .vmem => 17
  | .smem => 0
  | _ => 0

abbrev bufTy : (tb : Table) → Fin (tcTables nBuf tb) → BufTy
  | .hbm, ⟨0, _⟩ => ⟨S1x20000x1, .f32⟩
  | .hbm, ⟨1, _⟩ => ⟨S1x20000x20, .f32⟩
  | .hbm, ⟨2, _⟩ => ⟨S1x20000x4, .f32⟩
  | .hbm, ⟨3, _⟩ => ⟨S20000x4, .f32⟩
  | .hbm, ⟨4, _⟩ => ⟨S20000x20, .f32⟩
  | .hbm, ⟨5, _⟩ => ⟨S20x20000, .f32⟩
  | .hbm, ⟨6, _⟩ => ⟨S_, .i32⟩
  | .hbm, ⟨7, _⟩ => ⟨S_, .f32⟩
  | .hbm, ⟨8, _⟩ => ⟨S20x20480, .f32⟩
  | .hbm, ⟨9, _⟩ => ⟨S20x160x128, .f32⟩
  | .hbm, ⟨10, _⟩ => ⟨S20000x1, .f32⟩
  | .hbm, ⟨11, _⟩ => ⟨S1x20000, .f32⟩
  | .hbm, ⟨12, _⟩ => ⟨S_, .i32⟩
  | .hbm, ⟨13, _⟩ => ⟨S_, .f32⟩
  | .hbm, ⟨14, _⟩ => ⟨S1x20480, .f32⟩
  | .hbm, ⟨15, _⟩ => ⟨S1x160x128, .f32⟩
  | .hbm, ⟨16, _⟩ => ⟨S20000x4, .f32⟩
  | .hbm, ⟨17, _⟩ => ⟨S4x20000, .f32⟩
  | .hbm, ⟨18, _⟩ => ⟨S4x20000, .f32⟩
  | .hbm, ⟨19, _⟩ => ⟨S8x20000, .f32⟩
  | .hbm, ⟨20, _⟩ => ⟨S_, .i32⟩
  | .hbm, ⟨21, _⟩ => ⟨S_, .f32⟩
  | .hbm, ⟨22, _⟩ => ⟨S8x20480, .f32⟩
  | .hbm, ⟨23, _⟩ => ⟨S8x160x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x100, .f32⟩
  | .hbm, ⟨31, _⟩ => ⟨S100, .f32⟩
  | .hbm, ⟨32, _⟩ => ⟨S1x100, .f32⟩
  | .hbm, ⟨33, _⟩ => ⟨S100, .f32⟩
  | .hbm, ⟨34, _⟩ => ⟨S1x100, .f32⟩
  | .hbm, ⟨35, _⟩ => ⟨S100, .f32⟩
  | .hbm, ⟨36, _⟩ => ⟨S1x100, .f32⟩
  | .hbm, ⟨37, _⟩ => ⟨S100, .f32⟩
  | .hbm, ⟨38, _⟩ => ⟨S1x100, .f32⟩
  | .hbm, ⟨39, _⟩ => ⟨S100, .f32⟩
  | .hbm, ⟨40, _⟩ => ⟨S1x100, .f32⟩
  | .hbm, ⟨41, _⟩ => ⟨S100, .f32⟩
  | .hbm, ⟨42, _⟩ => ⟨S100x1, .f32⟩
  | .hbm, ⟨43, _⟩ => ⟨S100x1, .f32⟩
  | .hbm, ⟨44, _⟩ => ⟨S100x1, .f32⟩
  | .hbm, ⟨45, _⟩ => ⟨S100x1, .f32⟩
  | .hbm, ⟨46, _⟩ => ⟨S100x1, .f32⟩
  | .hbm, ⟨47, _⟩ => ⟨S100x1, .f32⟩
  | .hbm, ⟨48, _⟩ => ⟨S100x6, .f32⟩
  | .hbm, ⟨49, _⟩ => ⟨S1x100x6, .f32⟩
  | .local _ .vmem, ⟨0, _⟩ => ⟨S20x160x128, .f32⟩
  | .local _ .vmem, ⟨1, _⟩ => ⟨S1x160x128, .f32⟩
  | .local _ .vmem, ⟨2, _⟩ => ⟨S8x160x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S20x160x128, .f32⟩
  | .local _ .vmem, ⟨10, _⟩ => ⟨S20x2048, .f32⟩
  | .local _ .vmem, ⟨11, _⟩ => ⟨S20x2048, .i32⟩
  | .local _ .vmem, ⟨12, _⟩ => ⟨S20x2048, .f32⟩
  | .local _ .vmem, ⟨13, _⟩ => ⟨S20x2048, .f32⟩
  | .local _ .vmem, ⟨14, _⟩ => ⟨S20x2048, .f32⟩
  | .local _ .vmem, ⟨15, _⟩ => ⟨S20x2048, .f32⟩
  | .local _ .vmem, ⟨16, _⟩ => ⟨S20x2048, .f32⟩
  | _, _ => ⟨S1x20000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_c : Ref sig .tc := ⟨.hbm, 6, rfl⟩
abbrev main_call0_call0_v0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_0 : Ref sig .tc := ⟨.hbm, 12, rfl⟩
abbrev main_call0_call1_v0 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_1 : Ref sig .tc := ⟨.hbm, 20, rfl⟩
abbrev main_call0_call2_v0 : Ref sig .tc := ⟨.hbm, 21, rfl⟩
abbrev main_call0_v12 : Ref sig .tc := ⟨.hbm, 22, rfl⟩
abbrev main_call0_v13 : Ref sig .tc := ⟨.hbm, 23, rfl⟩
abbrev main_call0_v14_0 : Ref sig .tc := ⟨.hbm, 24, rfl⟩
abbrev main_call0_v14_1 : Ref sig .tc := ⟨.hbm, 25, rfl⟩
abbrev main_call0_v14_2 : Ref sig .tc := ⟨.hbm, 26, rfl⟩
abbrev main_call0_v14_3 : Ref sig .tc := ⟨.hbm, 27, rfl⟩
abbrev main_call0_v14_4 : Ref sig .tc := ⟨.hbm, 28, rfl⟩
abbrev main_call0_v14_5 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_v32 : Ref sig .tc := ⟨.hbm, 47, rfl⟩
abbrev main_call0_v33 : Ref sig .tc := ⟨.hbm, 48, rfl⟩
abbrev main_v0 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v1192 : BitVec 32 := Scalar.addi c0_i32 c100_i32
  let c1_i32 : BitVec 32 := 1#32
  ⟨c0_i32, v1192, c1_i32⟩
@[reducible] def k0_t2_loop : Scf.Loop 32 :=
  let c0_i32_515 : BitVec 32 := 0#32
  let c100_i32_516 : BitVec 32 := 100#32
  let v1202 : BitVec 32 := Scalar.addi c0_i32_515 c100_i32_516
  let c1_i32_517 : BitVec 32 := 1#32
  ⟨c0_i32_515, v1202, c1_i32_517⟩
abbrev stage0_0 : Fin 1 → Memref sig .tc .vmem S20x160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "max_ratio" => some ((-(Real.log (8589935 / 536870912)) : ℝ) : EReal)
  | "min_ratio" => some ((Real.log (8589935 / 536870912) : ℝ) : EReal)
  | _ => none
-- ==== ReferenceIdeal.lean ====
abbrev S1x20000x1 : Shape := ⟨3, ![1, 20000, 1]⟩
abbrev S1x20000x20 : Shape := ⟨3, ![1, 20000, 20]⟩
abbrev S1x20000x4 : Shape := ⟨3, ![1, 20000, 4]⟩
abbrev S20000x4 : Shape := ⟨2, ![20000, 4]⟩
abbrev S_ : Shape := ⟨0, ![]⟩
abbrev S20000x1 : Shape := ⟨2, ![20000, 1]⟩
abbrev S20000 : Shape := ⟨1, ![20000]⟩
abbrev S20000x20 : Shape := ⟨2, ![20000, 20]⟩
abbrev S20x20000 : Shape := ⟨2, ![20, 20000]⟩
abbrev S20x5000 : Shape := ⟨2, ![20, 5000]⟩
abbrev S20x5000x1 : Shape := ⟨3, ![20, 5000, 1]⟩
abbrev S20x5000x4 : Shape := ⟨3, ![20, 5000, 4]⟩
abbrev S100x20x4 : Shape := ⟨3, ![100, 20, 4]⟩
abbrev S100x20 : Shape := ⟨2, ![100, 20]⟩
abbrev S20 : Shape := ⟨1, ![20]⟩
abbrev S20x1 : Shape := ⟨2, ![20, 1]⟩
abbrev S20x2 : Shape := ⟨2, ![20, 2]⟩
abbrev S20x4 : Shape := ⟨2, ![20, 4]⟩
abbrev S20x1x4 : Shape := ⟨3, ![20, 1, 4]⟩
abbrev S20x1x1 : Shape := ⟨3, ![20, 1, 1]⟩
abbrev S5000 : Shape := ⟨1, ![5000]⟩
abbrev S1x5000 : Shape := ⟨2, ![1, 5000]⟩
abbrev S1x20x4 : Shape := ⟨3, ![1, 20, 4]⟩
abbrev S1x20 : Shape := ⟨2, ![1, 20]⟩
abbrev S20x100x4 : Shape := ⟨3, ![20, 100, 4]⟩
abbrev S2000x4 : Shape := ⟨2, ![2000, 4]⟩
abbrev S20x100 : Shape := ⟨2, ![20, 100]⟩
abbrev S2000 : Shape := ⟨1, ![2000]⟩
abbrev S100 : Shape := ⟨1, ![100]⟩
abbrev S100x1 : Shape := ⟨2, ![100, 1]⟩
abbrev S100x4 : Shape := ⟨2, ![100, 4]⟩
abbrev S100x6 : Shape := ⟨2, ![100, 6]⟩
abbrev S1x100x6 : Shape := ⟨3, ![1, 100, 6]⟩

abbrev nBuf : Space → Nat
  | .hbm => 314
  | .vmem => 0
  | .smem => 0
  | _ => 0

abbrev hbmTy0_0 (i : Nat) : BufTy := match i % 128 with
  | 0 => ⟨S1x20000x1, .f32⟩
  | 1 => ⟨S1x20000x20, .f32⟩
  | 2 => ⟨S1x20000x4, .f32⟩
  | 3 => ⟨S20000x4, .f32⟩
  | 4 => ⟨S20000x4, .f32⟩
  | 5 => ⟨S_, .f32⟩
  | 6 => ⟨S_, .f32⟩
  | 7 => ⟨S_, .f32⟩
  | 8 => ⟨S20000x1, .f32⟩
  | 9 => ⟨S20000, .f32⟩
  | 10 => ⟨S20000x1, .f32⟩
  | 11 => ⟨S20000, .f32⟩
  | 12 => ⟨S20000x1, .f32⟩
  | 13 => ⟨S20000, .f32⟩
  | 14 => ⟨S_, .f32⟩
  | 15 => ⟨S20000, .f32⟩
  | 16 => ⟨S20000, .f32⟩
  | 17 => ⟨S20000, .f32⟩
  | 18 => ⟨S20000, .f32⟩
  | 19 => ⟨S20000x1, .f32⟩
  | 20 => ⟨S20000, .f32⟩
  | 21 => ⟨S_, .f32⟩
  | 22 => ⟨S20000, .f32⟩
  | 23 => ⟨S20000, .f32⟩
  | 24 => ⟨S20000, .f32⟩
  | 25 => ⟨S20000, .f32⟩
  | 26 => ⟨S20000x1, .f32⟩
  | 27 => ⟨S20000, .f32⟩
  | 28 => ⟨S20000x1, .f32⟩
  | 29 => ⟨S20000, .f32⟩
  | 30 => ⟨S20000, .f32⟩
  | 31 => ⟨S20000, .f32⟩
  | 32 => ⟨S20000x1, .f32⟩
  | 33 => ⟨S20000, .f32⟩
  | 34 => ⟨S20000x1, .f32⟩
  | 35 => ⟨S20000, .f32⟩
  | 36 => ⟨S20000, .f32⟩
  | 37 => ⟨S20000, .f32⟩
  | 38 => ⟨S20000x1, .f32⟩
  | 39 => ⟨S20000, .f32⟩
  | 40 => ⟨S20000, .f32⟩
  | 41 => ⟨S20000, .f32⟩
  | 42 => ⟨S20000x1, .f32⟩
  | 43 => ⟨S20000, .f32⟩
  | 44 => ⟨S20000, .f32⟩
  | 45 => ⟨S20000, .f32⟩
  | 46 => ⟨S_, .f32⟩
  | 47 => ⟨S20000, .f32⟩
  | 48 => ⟨S20000, .f32⟩
  | 49 => ⟨S20000, .f32⟩
  | 50 => ⟨S_, .f32⟩
  | 51 => ⟨S_, .f32⟩
  | 52 => ⟨S_, .f32⟩
  | 53 => ⟨S20000, .f32⟩
  | 54 => ⟨S20000, .f32⟩
  | 55 => ⟨S_, .f32⟩
  | 56 => ⟨S20000, .f32⟩
  | 57 => ⟨S20000, .f32⟩
  | 58 => ⟨S_, .f32⟩
  | 59 => ⟨S20000, .f32⟩
  | 60 => ⟨S20000, .f32⟩
  | 61 => ⟨S20000, .f32⟩
  | 62 => ⟨S_, .f32⟩
  | 63 => ⟨S_, .f32⟩
  | 64 => ⟨S_, .f32⟩
  | 65 => ⟨S20000, .f32⟩
  | 66 => ⟨S20000, .f32⟩
  | 67 => ⟨S_, .f32⟩
  | 68 => ⟨S20000, .f32⟩
  | 69 => ⟨S20000, .f32⟩
  | 70 => ⟨S_, .f32⟩
  | 71 => ⟨S20000, .f32⟩
  | 72 => ⟨S20000, .f32⟩
  | 73 => ⟨S20000, .f32⟩
  | 74 => ⟨S_, .f32⟩
  | 75 => ⟨S_, .f32⟩
  | 76 => ⟨S_, .f32⟩
  | 77 => ⟨S20000, .f32⟩
  | 78 => ⟨S20000, .f32⟩
  | 79 => ⟨S_, .f32⟩
  | 80 => ⟨S20000, .f32⟩
  | 81 => ⟨S20000, .f32⟩
  | 82 => ⟨S_, .f32⟩
  | 83 => ⟨S20000, .f32⟩
  | 84 => ⟨S20000, .f32⟩
  | 85 => ⟨S20000, .f32⟩
  | 86 => ⟨S_, .f32⟩
  | 87 => ⟨S_, .f32⟩
  | 88 => ⟨S_, .f32⟩
  | 89 => ⟨S20000, .f32⟩
  | 90 => ⟨S20000, .f32⟩
  | 91 => ⟨S_, .f32⟩
  | 92 => ⟨S20000, .f32⟩
  | 93 => ⟨S20000, .f32⟩
  | 94 => ⟨S20000x1, .f32⟩
  | 95 => ⟨S20000x1, .f32⟩
  | 96 => ⟨S20000x1, .f32⟩
  | 97 => ⟨S20000x1, .f32⟩
  | 98 => ⟨S20000x4, .f32⟩
  | 99 => ⟨S20000x20, .f32⟩
  | 100 => ⟨S20000x1, .f32⟩
  | 101 => ⟨S20000x20, .f32⟩
  | 102 => ⟨S20000x20, .f32⟩
  | 103 => ⟨S20x20000, .f32⟩
  | 104 => ⟨S_, .f32⟩
  | 105 => ⟨S20x20000, .f32⟩
  | 106 => ⟨S20x20000, .i1⟩
  | 107 => ⟨S_, .f32⟩
  | 108 => ⟨S_, .f32⟩
  | 109 => ⟨S20x20000, .f32⟩
  | 110 => ⟨S20x20000, .f32⟩
  | 111 => ⟨S20x5000, .f32⟩
  | 112 => ⟨S20x5000, .i32⟩
  | 113 => ⟨S_, .i32⟩
  | 114 => ⟨S20x5000, .i32⟩
  | 115 => ⟨S20x5000, .i1⟩
  | 116 => ⟨S_, .i32⟩
  | 117 => ⟨S20x5000, .i32⟩
  | 118 => ⟨S20x5000, .i32⟩
  | 119 => ⟨S20x5000, .i32⟩
  | 120 => ⟨S20x5000x1, .i32⟩
  | 121 => ⟨S20x5000x4, .f32⟩
  | 122 => ⟨S_, .f32⟩
  | 123 => ⟨S100x20x4, .f32⟩
  | 124 => ⟨S_, .f32⟩
  | 125 => ⟨S100x20, .f32⟩
  | 126 => ⟨S_, .i32⟩
  | 127 => ⟨S20x5000x4, .f32⟩
  | _ => ⟨S1x20000x1, .f32⟩

abbrev hbmTy0_1 (i : Nat) : BufTy := match i % 128 with
  | 0 => ⟨S_, .i32⟩
  | 1 => ⟨S20x5000, .f32⟩
  | 2 => ⟨S100x20x4, .f32⟩
  | 3 => ⟨S100x20, .f32⟩
  | 4 => ⟨S_, .i32⟩
  | 5 => ⟨S_, .i1⟩
  | 6 => ⟨S20x5000, .i32⟩
  | 7 => ⟨S_, .f32⟩
  | 8 => ⟨S_, .i32⟩
  | 9 => ⟨S20, .f32⟩
  | 10 => ⟨S20, .i32⟩
  | 11 => ⟨S_, .f32⟩
  | 12 => ⟨S20, .f32⟩
  | 13 => ⟨S20, .i32⟩
  | 14 => ⟨S_, .i32⟩
  | 15 => ⟨S20, .i32⟩
  | 16 => ⟨S20, .i1⟩
  | 17 => ⟨S_, .i32⟩
  | 18 => ⟨S20, .i32⟩
  | 19 => ⟨S20, .i32⟩
  | 20 => ⟨S20, .i32⟩
  | 21 => ⟨S_, .i32⟩
  | 22 => ⟨S20, .i32⟩
  | 23 => ⟨S20, .i1⟩
  | 24 => ⟨S_, .i32⟩
  | 25 => ⟨S20, .i32⟩
  | 26 => ⟨S20, .i32⟩
  | 27 => ⟨S20, .i32⟩
  | 28 => ⟨S20x1, .i32⟩
  | 29 => ⟨S20x1, .i32⟩
  | 30 => ⟨S20x2, .i32⟩
  | 31 => ⟨S20x4, .f32⟩
  | 32 => ⟨S20, .f32⟩
  | 33 => ⟨S_, .f32⟩
  | 34 => ⟨S20, .f32⟩
  | 35 => ⟨S20, .i1⟩
  | 36 => ⟨S20x1x4, .f32⟩
  | 37 => ⟨S20x1x1, .f32⟩
  | 38 => ⟨S20x1, .f32⟩
  | 39 => ⟨S20x5000x1, .f32⟩
  | 40 => ⟨S20x5000, .f32⟩
  | 41 => ⟨S20x5000, .f32⟩
  | 42 => ⟨S20x5000, .f32⟩
  | 43 => ⟨S20x1x1, .f32⟩
  | 44 => ⟨S20x1, .f32⟩
  | 45 => ⟨S20x5000x1, .f32⟩
  | 46 => ⟨S20x5000, .f32⟩
  | 47 => ⟨S20x5000, .f32⟩
  | 48 => ⟨S20x5000, .f32⟩
  | 49 => ⟨S20x1x1, .f32⟩
  | 50 => ⟨S20x1, .f32⟩
  | 51 => ⟨S20x5000x1, .f32⟩
  | 52 => ⟨S20x5000, .f32⟩
  | 53 => ⟨S20x5000, .f32⟩
  | 54 => ⟨S20x5000, .f32⟩
  | 55 => ⟨S20x1x1, .f32⟩
  | 56 => ⟨S20x1, .f32⟩
  | 57 => ⟨S20x5000x1, .f32⟩
  | 58 => ⟨S20x5000, .f32⟩
  | 59 => ⟨S20x5000, .f32⟩
  | 60 => ⟨S20x5000, .f32⟩
  | 61 => ⟨S20x5000, .f32⟩
  | 62 => ⟨S_, .f32⟩
  | 63 => ⟨S20x5000, .f32⟩
  | 64 => ⟨S20x5000, .f32⟩
  | 65 => ⟨S20x5000, .f32⟩
  | 66 => ⟨S_, .f32⟩
  | 67 => ⟨S20x5000, .f32⟩
  | 68 => ⟨S20x5000, .f32⟩
  | 69 => ⟨S20x5000, .f32⟩
  | 70 => ⟨S20x1x1, .f32⟩
  | 71 => ⟨S20x1, .f32⟩
  | 72 => ⟨S20x1x1, .f32⟩
  | 73 => ⟨S20x1, .f32⟩
  | 74 => ⟨S20x1, .f32⟩
  | 75 => ⟨S_, .f32⟩
  | 76 => ⟨S20x1, .f32⟩
  | 77 => ⟨S20x1, .f32⟩
  | 78 => ⟨S20x1x1, .f32⟩
  | 79 => ⟨S20x1, .f32⟩
  | 80 => ⟨S20x1x1, .f32⟩
  | 81 => ⟨S20x1, .f32⟩
  | 82 => ⟨S20x1, .f32⟩
  | 83 => ⟨S_, .f32⟩
  | 84 => ⟨S20x1, .f32⟩
  | 85 => ⟨S20x1, .f32⟩
  | 86 => ⟨S20x1, .f32⟩
  | 87 => ⟨S20x5000x1, .f32⟩
  | 88 => ⟨S20x5000, .f32⟩
  | 89 => ⟨S20x5000x1, .f32⟩
  | 90 => ⟨S20x5000, .f32⟩
  | 91 => ⟨S20x5000, .f32⟩
  | 92 => ⟨S_, .f32⟩
  | 93 => ⟨S20x5000, .f32⟩
  | 94 => ⟨S20x5000, .f32⟩
  | 95 => ⟨S20x5000x1, .f32⟩
  | 96 => ⟨S20x5000, .f32⟩
  | 97 => ⟨S20x5000x1, .f32⟩
  | 98 => ⟨S20x5000, .f32⟩
  | 99 => ⟨S20x5000, .f32⟩
  | 100 => ⟨S_, .f32⟩
  | 101 => ⟨S20x5000, .f32⟩
  | 102 => ⟨S20x5000, .f32⟩
  | 103 => ⟨S20x5000, .f32⟩
  | 104 => ⟨S20x5000, .f32⟩
  | 105 => ⟨S20x5000, .f32⟩
  | 106 => ⟨S20x5000, .f32⟩
  | 107 => ⟨S_, .f32⟩
  | 108 => ⟨S20x5000, .f32⟩
  | 109 => ⟨S20x5000, .f32⟩
  | 110 => ⟨S20x5000, .f32⟩
  | 111 => ⟨S_, .f32⟩
  | 112 => ⟨S20x5000, .f32⟩
  | 113 => ⟨S20x5000, .i1⟩
  | 114 => ⟨S_, .f32⟩
  | 115 => ⟨S_, .f32⟩
  | 116 => ⟨S20x5000, .f32⟩
  | 117 => ⟨S20x5000, .f32⟩
  | 118 => ⟨S5000, .i32⟩
  | 119 => ⟨S1x5000, .i32⟩
  | 120 => ⟨S20x1, .i32⟩
  | 121 => ⟨S20x5000, .i32⟩
  | 122 => ⟨S20x5000, .i32⟩
  | 123 => ⟨S20x5000, .i1⟩
  | 124 => ⟨S_, .f32⟩
  | 125 => ⟨S_, .f32⟩
  | 126 => ⟨S20x5000, .f32⟩
  | 127 => ⟨S20x5000, .f32⟩
  | _ => ⟨S1x20000x1, .f32⟩

abbrev hbmTy0_2 (i : Nat) : BufTy := match i % 128 with
  | 0 => ⟨S20x1, .i1⟩
  | 1 => ⟨S_, .f32⟩
  | 2 => ⟨S_, .f32⟩
  | 3 => ⟨S20x4, .i1⟩
  | 4 => ⟨S20x4, .f32⟩
  | 5 => ⟨S20x4, .f32⟩
  | 6 => ⟨S_, .f32⟩
  | 7 => ⟨S_, .f32⟩
  | 8 => ⟨S20, .f32⟩
  | 9 => ⟨S20, .f32⟩
  | 10 => ⟨S1x20x4, .f32⟩
  | 11 => ⟨S_, .i32⟩
  | 12 => ⟨S_, .i32⟩
  | 13 => ⟨S100x20x4, .f32⟩
  | 14 => ⟨S1x20, .f32⟩
  | 15 => ⟨S_, .i32⟩
  | 16 => ⟨S100x20, .f32⟩
  | 17 => ⟨S_, .i32⟩
  | 18 => ⟨S_, .i32⟩
  | 19 => ⟨S20x100x4, .f32⟩
  | 20 => ⟨S2000x4, .f32⟩
  | 21 => ⟨S20x100, .f32⟩
  | 22 => ⟨S2000, .f32⟩
  | 23 => ⟨S20, .f32⟩
  | 24 => ⟨S20x100, .f32⟩
  | 25 => ⟨S2000, .f32⟩
  | 26 => ⟨S100, .f32⟩
  | 27 => ⟨S100, .i32⟩
  | 28 => ⟨S_, .i32⟩
  | 29 => ⟨S100, .i32⟩
  | 30 => ⟨S100, .i1⟩
  | 31 => ⟨S_, .i32⟩
  | 32 => ⟨S100, .i32⟩
  | 33 => ⟨S100, .i32⟩
  | 34 => ⟨S100, .i32⟩
  | 35 => ⟨S100x1, .i32⟩
  | 36 => ⟨S100x4, .f32⟩
  | 37 => ⟨S_, .i32⟩
  | 38 => ⟨S100, .i32⟩
  | 39 => ⟨S100, .i1⟩
  | 40 => ⟨S_, .i32⟩
  | 41 => ⟨S100, .i32⟩
  | 42 => ⟨S100, .i32⟩
  | 43 => ⟨S100, .i32⟩
  | 44 => ⟨S100x1, .i32⟩
  | 45 => ⟨S100, .f32⟩
  | 46 => ⟨S100, .f32⟩
  | 47 => ⟨S_, .f32⟩
  | 48 => ⟨S100, .f32⟩
  | 49 => ⟨S100, .i1⟩
  | 50 => ⟨S_, .f32⟩
  | 51 => ⟨S_, .f32⟩
  | 52 => ⟨S100, .f32⟩
  | 53 => ⟨S100, .f32⟩
  | 54 => ⟨S100x1, .f32⟩
  | 55 => ⟨S100x1, .f32⟩
  | 56 => ⟨S100x6, .f32⟩
  | 57 => ⟨S1x100x6, .f32⟩
  | _ => ⟨S1x20000x1, .f32⟩

abbrev hbmTy (i : Nat) : BufTy := match i / 128 with
  | 0 => hbmTy0_0 i
  | 1 => hbmTy0_1 i
  | 2 => hbmTy0_2 i
  | _ => ⟨S1x20000x1, .f32⟩

abbrev bufTy : (tb : Table) → Fin (tcTables nBuf tb) → BufTy
  | .hbm, ⟨i, _⟩ => hbmTy i
  | _, _ => ⟨S1x20000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_1 : Ref sig .tc := ⟨.hbm, 50, rfl⟩
abbrev main_cst_2 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_cst_5 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_cst_8 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_v46 : Ref sig .tc := ⟨.hbm, 81, rfl⟩
abbrev main_cst_9 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_10 : Ref sig .tc := ⟨.hbm, 86, rfl⟩
abbrev main_cst_11 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_12 : Ref sig .tc := ⟨.hbm, 104, rfl⟩
abbrev main_v61 : Ref sig .tc := ⟨.hbm, 105, rfl⟩
abbrev main_v62 : Ref sig .tc := ⟨.hbm, 106, rfl⟩
abbrev main_cst_13 : Ref sig .tc := ⟨.hbm, 107, rfl⟩
abbrev main_call6_v0 : Ref sig .tc := ⟨.hbm, 108, rfl⟩
abbrev main_call6_v1 : Ref sig .tc := ⟨.hbm, 109, rfl⟩
abbrev main_v63 : Ref sig .tc := ⟨.hbm, 110, rfl⟩
abbrev main_values : Ref sig .tc := ⟨.hbm, 111, rfl⟩
abbrev main_indices : Ref sig .tc := ⟨.hbm, 112, rfl⟩
abbrev main_c : Ref sig .tc := ⟨.hbm, 113, rfl⟩
abbrev main_v64 : Ref sig .tc := ⟨.hbm, 114, rfl⟩
abbrev main_v65 : Ref sig .tc := ⟨.hbm, 115, rfl⟩
abbrev main_c_14 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_15 : Ref sig .tc := ⟨.hbm, 122, rfl⟩
abbrev main_v71 : Ref sig .tc := ⟨.hbm, 123, rfl⟩
abbrev main_cst_16 : Ref sig .tc := ⟨.hbm, 124, rfl⟩
abbrev main_v72 : Ref sig .tc := ⟨.hbm, 125, rfl⟩
abbrev main_c_17 : Ref sig .tc := ⟨.hbm, 126, rfl⟩
abbrev main_v73_0 : Ref sig .tc := ⟨.hbm, 127, rfl⟩
abbrev main_v73_1 : Ref sig .tc := ⟨.hbm, 128, rfl⟩
abbrev main_v73_2 : Ref sig .tc := ⟨.hbm, 129, rfl⟩
abbrev main_v73_3 : Ref sig .tc := ⟨.hbm, 130, rfl⟩
abbrev main_v73_4 : Ref sig .tc := ⟨.hbm, 131, rfl⟩
abbrev main_while0c_c_30 : Ref sig .tc := ⟨.hbm, 132, rfl⟩
abbrev main_while0c_v103 : Ref sig .tc := ⟨.hbm, 133, rfl⟩
abbrev main_while0b_call7_v0 : Ref sig .tc := ⟨.hbm, 134, rfl⟩
abbrev main_while0b_call7_cst : Ref sig .tc := ⟨.hbm, 135, rfl⟩
abbrev main_while0b_call7_c : Ref sig .tc := ⟨.hbm, 136, rfl⟩
abbrev main_while0b_call7_v1_0 : Ref sig .tc := ⟨.hbm, 137, rfl⟩
abbrev main_while0b_v103 : Ref sig .tc := ⟨.hbm, 138, rfl⟩
abbrev main_while0b_cst_30 : Ref sig .tc := ⟨.hbm, 139, rfl⟩
abbrev main_while0b_v104 : Ref sig .tc := ⟨.hbm, 140, rfl⟩
abbrev main_while0b_v105 : Ref sig .tc := ⟨.hbm, 141, rfl⟩
abbrev main_while0b_c_31 : Ref sig .tc := ⟨.hbm, 142, rfl⟩
abbrev main_while0b_v106 : Ref sig .tc := ⟨.hbm, 143, rfl⟩
abbrev main_while0b_v107 : Ref sig .tc := ⟨.hbm, 144, rfl⟩
abbrev main_while0b_c_32 : Ref sig .tc := ⟨.hbm, 145, rfl⟩
abbrev main_while0b_v108 : Ref sig .tc := ⟨.hbm, 146, rfl⟩
abbrev main_while0b_v109 : Ref sig .tc := ⟨.hbm, 147, rfl⟩
abbrev main_while0b_v110 : Ref sig .tc := ⟨.hbm, 148, rfl⟩
abbrev main_while0b_c_33 : Ref sig .tc := ⟨.hbm, 149, rfl⟩
abbrev main_while0b_v111 : Ref sig .tc := ⟨.hbm, 150, rfl⟩
abbrev main_while0b_v112 : Ref sig .tc := ⟨.hbm, 151, rfl⟩
abbrev main_while0b_c_34 : Ref sig .tc := ⟨.hbm, 152, rfl⟩
abbrev main_while0b_v113 : Ref sig .tc := ⟨.hbm, 153, rfl⟩
abbrev main_while0b_v114 : Ref sig .tc := ⟨.hbm, 154, rfl⟩
abbrev main_while0b_v115 : Ref sig .tc := ⟨.hbm, 155, rfl⟩
abbrev main_while0b_v116 : Ref sig .tc := ⟨.hbm, 156, rfl⟩
abbrev main_while0b_v117 : Ref sig .tc := ⟨.hbm, 157, rfl⟩
abbrev main_while0b_v118 : Ref sig .tc := ⟨.hbm, 158, rfl⟩
abbrev main_while0b_v119 : Ref sig .tc := ⟨.hbm, 159, rfl⟩
abbrev main_while0b_v120 : Ref sig .tc := ⟨.hbm, 160, rfl⟩
abbrev main_while0b_cst_35 : Ref sig .tc := ⟨.hbm, 161, rfl⟩
abbrev main_while0b_v121 : Ref sig .tc := ⟨.hbm, 162, rfl⟩
abbrev main_while0b_v122 : Ref sig .tc := ⟨.hbm, 163, rfl⟩
abbrev main_while0b_v123 : Ref sig .tc := ⟨.hbm, 164, rfl⟩
abbrev main_while0b_v124 : Ref sig .tc := ⟨.hbm, 165, rfl⟩
abbrev main_while0b_v125 : Ref sig .tc := ⟨.hbm, 166, rfl⟩
abbrev main_while0b_v126 : Ref sig .tc := ⟨.hbm, 167, rfl⟩
abbrev main_while0b_v127 : Ref sig .tc := ⟨.hbm, 168, rfl⟩
abbrev main_while0b_v128 : Ref sig .tc := ⟨.hbm, 169, rfl⟩
abbrev main_while0b_v129 : Ref sig .tc := ⟨.hbm, 170, rfl⟩
abbrev main_while0b_v130 : Ref sig .tc := ⟨.hbm, 171, rfl⟩
abbrev main_while0b_v131 : Ref sig .tc := ⟨.hbm, 172, rfl⟩
abbrev main_while0b_v132 : Ref sig .tc := ⟨.hbm, 173, rfl⟩
abbrev main_while0b_v133 : Ref sig .tc := ⟨.hbm, 174, rfl⟩
abbrev main_while0b_v134 : Ref sig .tc := ⟨.hbm, 175, rfl⟩
abbrev main_while0b_v135 : Ref sig .tc := ⟨.hbm, 176, rfl⟩
abbrev main_while0b_v136 : Ref sig .tc := ⟨.hbm, 177, rfl⟩
abbrev main_while0b_v137 : Ref sig .tc := ⟨.hbm, 178, rfl⟩
abbrev main_while0b_v138 : Ref sig .tc := ⟨.hbm, 179, rfl⟩
abbrev main_while0b_v139 : Ref sig .tc := ⟨.hbm, 180, rfl⟩
abbrev main_while0b_v140 : Ref sig .tc := ⟨.hbm, 181, rfl⟩
abbrev main_while0b_v141 : Ref sig .tc := ⟨.hbm, 182, rfl⟩
abbrev main_while0b_v142 : Ref sig .tc := ⟨.hbm, 183, rfl⟩
abbrev main_while0b_v143 : Ref sig .tc := ⟨.hbm, 184, rfl⟩
abbrev main_while0b_v144 : Ref sig .tc := ⟨.hbm, 185, rfl⟩
abbrev main_while0b_v145 : Ref sig .tc := ⟨.hbm, 186, rfl⟩
abbrev main_while0b_v146 : Ref sig .tc := ⟨.hbm, 187, rfl⟩
abbrev main_while0b_v147 : Ref sig .tc := ⟨.hbm, 188, rfl⟩
abbrev main_while0b_v148 : Ref sig .tc := ⟨.hbm, 189, rfl⟩
abbrev main_while0b_cst_36 : Ref sig .tc := ⟨.hbm, 190, rfl⟩
abbrev main_while0b_v149 : Ref sig .tc := ⟨.hbm, 191, rfl⟩
abbrev main_while0b_v150 : Ref sig .tc := ⟨.hbm, 192, rfl⟩
abbrev main_while0b_v151 : Ref sig .tc := ⟨.hbm, 193, rfl⟩
abbrev main_while0b_cst_37 : Ref sig .tc := ⟨.hbm, 194, rfl⟩
abbrev main_while0b_v152 : Ref sig .tc := ⟨.hbm, 195, rfl⟩
abbrev main_while0b_v153 : Ref sig .tc := ⟨.hbm, 196, rfl⟩
abbrev main_while0b_v154 : Ref sig .tc := ⟨.hbm, 197, rfl⟩
abbrev main_while0b_v155 : Ref sig .tc := ⟨.hbm, 198, rfl⟩
abbrev main_while0b_v156 : Ref sig .tc := ⟨.hbm, 199, rfl⟩
abbrev main_while0b_v157 : Ref sig .tc := ⟨.hbm, 200, rfl⟩
abbrev main_while0b_v158 : Ref sig .tc := ⟨.hbm, 201, rfl⟩
abbrev main_while0b_v159 : Ref sig .tc := ⟨.hbm, 202, rfl⟩
abbrev main_while0b_cst_38 : Ref sig .tc := ⟨.hbm, 203, rfl⟩
abbrev main_while0b_v160 : Ref sig .tc := ⟨.hbm, 204, rfl⟩
abbrev main_while0b_v161 : Ref sig .tc := ⟨.hbm, 205, rfl⟩
abbrev main_while0b_v162 : Ref sig .tc := ⟨.hbm, 206, rfl⟩
abbrev main_while0b_v163 : Ref sig .tc := ⟨.hbm, 207, rfl⟩
abbrev main_while0b_v164 : Ref sig .tc := ⟨.hbm, 208, rfl⟩
abbrev main_while0b_v165 : Ref sig .tc := ⟨.hbm, 209, rfl⟩
abbrev main_while0b_v166 : Ref sig .tc := ⟨.hbm, 210, rfl⟩
abbrev main_while0b_cst_39 : Ref sig .tc := ⟨.hbm, 211, rfl⟩
abbrev main_while0b_v167 : Ref sig .tc := ⟨.hbm, 212, rfl⟩
abbrev main_while0b_v168 : Ref sig .tc := ⟨.hbm, 213, rfl⟩
abbrev main_while0b_v169 : Ref sig .tc := ⟨.hbm, 214, rfl⟩
abbrev main_while0b_v170 : Ref sig .tc := ⟨.hbm, 215, rfl⟩
abbrev main_while0b_v171 : Ref sig .tc := ⟨.hbm, 216, rfl⟩
abbrev main_while0b_v172 : Ref sig .tc := ⟨.hbm, 217, rfl⟩
abbrev main_while0b_v173 : Ref sig .tc := ⟨.hbm, 218, rfl⟩
abbrev main_while0b_v174 : Ref sig .tc := ⟨.hbm, 219, rfl⟩
abbrev main_while0b_cst_40 : Ref sig .tc := ⟨.hbm, 220, rfl⟩
abbrev main_while0b_v175 : Ref sig .tc := ⟨.hbm, 221, rfl⟩
abbrev main_while0b_v176 : Ref sig .tc := ⟨.hbm, 222, rfl⟩
abbrev main_while0b_v177 : Ref sig .tc := ⟨.hbm, 223, rfl⟩
abbrev main_while0b_v178 : Ref sig .tc := ⟨.hbm, 224, rfl⟩
abbrev main_while0b_v179 : Ref sig .tc := ⟨.hbm, 225, rfl⟩
abbrev main_while0b_v180 : Ref sig .tc := ⟨.hbm, 226, rfl⟩
abbrev main_while0b_v181 : Ref sig .tc := ⟨.hbm, 227, rfl⟩
abbrev main_while0b_cst_41 : Ref sig .tc := ⟨.hbm, 228, rfl⟩
abbrev main_while0b_v182 : Ref sig .tc := ⟨.hbm, 229, rfl⟩
abbrev main_while0b_v183 : Ref sig .tc := ⟨.hbm, 230, rfl⟩
abbrev main_while0b_v184 : Ref sig .tc := ⟨.hbm, 231, rfl⟩
abbrev main_while0b_v185 : Ref sig .tc := ⟨.hbm, 232, rfl⟩
abbrev main_while0b_v186 : Ref sig .tc := ⟨.hbm, 233, rfl⟩
abbrev main_while0b_v187 : Ref sig .tc := ⟨.hbm, 234, rfl⟩
abbrev main_while0b_cst_42 : Ref sig .tc := ⟨.hbm, 235, rfl⟩
abbrev main_while0b_v188 : Ref sig .tc := ⟨.hbm, 236, rfl⟩
abbrev main_while0b_v189 : Ref sig .tc := ⟨.hbm, 237, rfl⟩
abbrev main_while0b_v190 : Ref sig .tc := ⟨.hbm, 238, rfl⟩
abbrev main_while0b_cst_43 : Ref sig .tc := ⟨.hbm, 239, rfl⟩
abbrev main_while0b_v191 : Ref sig .tc := ⟨.hbm, 240, rfl⟩
abbrev main_while0b_v192 : Ref sig .tc := ⟨.hbm, 241, rfl⟩
abbrev main_while0b_cst_44 : Ref sig .tc := ⟨.hbm, 242, rfl⟩
abbrev main_while0b_call8_v0 : Ref sig .tc := ⟨.hbm, 243, rfl⟩
abbrev main_while0b_call8_v1 : Ref sig .tc := ⟨.hbm, 244, rfl⟩
abbrev main_while0b_v193 : Ref sig .tc := ⟨.hbm, 245, rfl⟩
abbrev main_while0b_v194 : Ref sig .tc := ⟨.hbm, 246, rfl⟩
abbrev main_while0b_v195 : Ref sig .tc := ⟨.hbm, 247, rfl⟩
abbrev main_while0b_v196 : Ref sig .tc := ⟨.hbm, 248, rfl⟩
abbrev main_while0b_v197 : Ref sig .tc := ⟨.hbm, 249, rfl⟩
abbrev main_while0b_v198 : Ref sig .tc := ⟨.hbm, 250, rfl⟩
abbrev main_while0b_v199 : Ref sig .tc := ⟨.hbm, 251, rfl⟩
abbrev main_while0b_cst_45 : Ref sig .tc := ⟨.hbm, 252, rfl⟩
abbrev main_while0b_call9_v0 : Ref sig .tc := ⟨.hbm, 253, rfl⟩
abbrev main_while0b_call9_v1 : Ref sig .tc := ⟨.hbm, 254, rfl⟩
abbrev main_while0b_v200 : Ref sig .tc := ⟨.hbm, 255, rfl⟩
abbrev main_while0b_v201 : Ref sig .tc := ⟨.hbm, 256, rfl⟩
abbrev main_while0b_cst_46 : Ref sig .tc := ⟨.hbm, 257, rfl⟩
abbrev main_while0b_call10_v0 : Ref sig .tc := ⟨.hbm, 258, rfl⟩
abbrev main_while0b_call10_v1 : Ref sig .tc := ⟨.hbm, 259, rfl⟩
abbrev main_while0b_call10_v2 : Ref sig .tc := ⟨.hbm, 260, rfl⟩
abbrev main_while0b_v202 : Ref sig .tc := ⟨.hbm, 261, rfl⟩
abbrev main_while0b_cst_47 : Ref sig .tc := ⟨.hbm, 262, rfl⟩
abbrev main_while0b_call11_v0 : Ref sig .tc := ⟨.hbm, 263, rfl⟩
abbrev main_while0b_call11_v1 : Ref sig .tc := ⟨.hbm, 264, rfl⟩
abbrev main_while0b_v203 : Ref sig .tc := ⟨.hbm, 265, rfl⟩
abbrev main_while0b_call12_v0 : Ref sig .tc := ⟨.hbm, 266, rfl⟩
abbrev main_while0b_call12_c : Ref sig .tc := ⟨.hbm, 267, rfl⟩
abbrev main_while0b_call12_c_0 : Ref sig .tc := ⟨.hbm, 268, rfl⟩
abbrev main_while0b_v204 : Ref sig .tc := ⟨.hbm, 269, rfl⟩
abbrev main_while0b_call13_v0 : Ref sig .tc := ⟨.hbm, 270, rfl⟩
abbrev main_while0b_call13_c : Ref sig .tc := ⟨.hbm, 271, rfl⟩
abbrev main_while0b_v205 : Ref sig .tc := ⟨.hbm, 272, rfl⟩
abbrev main_while0b_c_48 : Ref sig .tc := ⟨.hbm, 273, rfl⟩
abbrev main_while0b_v206 : Ref sig .tc := ⟨.hbm, 274, rfl⟩
abbrev main_v74 : Ref sig .tc := ⟨.hbm, 275, rfl⟩
abbrev main_v75 : Ref sig .tc := ⟨.hbm, 276, rfl⟩
abbrev main_v76 : Ref sig .tc := ⟨.hbm, 277, rfl⟩
abbrev main_v77 : Ref sig .tc := ⟨.hbm, 278, rfl⟩
abbrev main_v78 : Ref sig .tc := ⟨.hbm, 279, rfl⟩
abbrev main_v79 : Ref sig .tc := ⟨.hbm, 280, rfl⟩
abbrev main_v80 : Ref sig .tc := ⟨.hbm, 281, rfl⟩
abbrev main_values_18 : Ref sig .tc := ⟨.hbm, 282, rfl⟩
abbrev main_indices_19 : Ref sig .tc := ⟨.hbm, 283, rfl⟩
abbrev main_c_20 : Ref sig .tc := ⟨.hbm, 284, rfl⟩
abbrev main_v81 : Ref sig .tc := ⟨.hbm, 285, rfl⟩
abbrev main_v82 : Ref sig .tc := ⟨.hbm, 286, rfl⟩
abbrev main_c_21 : Ref sig .tc := ⟨.hbm, 287, rfl⟩
abbrev main_v83 : Ref sig .tc := ⟨.hbm, 288, rfl⟩
abbrev main_v84 : Ref sig .tc := ⟨.hbm, 289, rfl⟩
abbrev main_v85 : Ref sig .tc := ⟨.hbm, 290, rfl⟩
abbrev main_v86 : Ref sig .tc := ⟨.hbm, 291, rfl⟩
abbrev main_v87 : Ref sig .tc := ⟨.hbm, 292, rfl⟩
abbrev main_c_22 : Ref sig .tc := ⟨.hbm, 293, rfl⟩
abbrev main_v88 : Ref sig .tc := ⟨.hbm, 294, rfl⟩
abbrev main_v89 : Ref sig .tc := ⟨.hbm, 295, rfl⟩
abbrev main_c_23 : Ref sig .tc := ⟨.hbm, 296, rfl⟩
abbrev main_v90 : Ref sig .tc := ⟨.hbm, 297, rfl⟩
abbrev main_v91 : Ref sig .tc := ⟨.hbm, 298, rfl⟩
abbrev main_v92 : Ref sig .tc := ⟨.hbm, 299, rfl⟩
abbrev main_v93 : Ref sig .tc := ⟨.hbm, 300, rfl⟩
abbrev main_v94 : Ref sig .tc := ⟨.hbm, 301, rfl⟩
abbrev main_v95 : Ref sig .tc := ⟨.hbm, 302, rfl⟩
abbrev main_cst_24 : Ref sig .tc := ⟨.hbm, 303, rfl⟩
abbrev main_v96 : Ref sig .tc := ⟨.hbm, 304, rfl⟩
abbrev main_v97 : Ref sig .tc := ⟨.hbm, 305, rfl⟩
abbrev main_cst_25 : Ref sig .tc := ⟨.hbm, 306, rfl⟩
abbrev main_call14_v0 : Ref sig .tc := ⟨.hbm, 307, rfl⟩
abbrev main_call14_v1 : Ref sig .tc := ⟨.hbm, 308, rfl⟩
abbrev main_v98 : Ref sig .tc := ⟨.hbm, 309, rfl⟩
abbrev main_v99 : Ref sig .tc := ⟨.hbm, 310, rfl⟩
abbrev main_v100 : Ref sig .tc := ⟨.hbm, 311, rfl⟩
abbrev main_v101 : Ref sig .tc := ⟨.hbm, 312, rfl⟩
abbrev main_v102 : Ref sig .tc := ⟨.hbm, 313, rfl⟩

abbrev nD : Nat := 1
abbrev τ : Topo := Topo.v7x

variable {F : FTy → Type} [FloatOps F]

abbrev main_while0_count : Scf.Loop 32 := ⟨0#32, 100#32, 1#32⟩
-- ==== Proof.KernelIdealRun.lean ====
/- The kernel body of `KernelIdeal`, run once.

Sixteen rounds fill the candidate buffers, a loop of one hundred trips picks one candidate per class and trip, and a
second loop of one hundred trips, which touches no buffer, draws the final detections.  The run leaves the three
inputs as they were, the scratch buffers at some contents, and each output buffer written with the pieces it finds. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (c : Dev nD)
  (arg0 : Memref sig .tc .vmem S20x160x128 .f32) (harg0 : arg0.IsWhole) (arg1 : Memref sig .tc .vmem S1x160x128 .f32) (harg1 : arg1.IsWhole)
  (arg2 : Memref sig .tc .vmem S8x160x128 .f32) (harg2 : arg2.IsWhole) (arg3 : Memref sig .tc .vmem S1x128 .f32) (harg3 : arg3.IsWhole)
  (arg4 : Memref sig .tc .vmem S1x128 .f32) (harg4 : arg4.IsWhole) (arg5 : Memref sig .tc .vmem S1x128 .f32) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S1x128 .f32) (harg8 : arg8.IsWhole) (arg9 : Memref sig .tc .vmem S20x160x128 .f32) (harg9 : arg9.IsWhole)
  (arg10 : Memref sig .tc .vmem S20x2048 .f32) (harg10 : arg10.IsWhole) (arg11 : Memref sig .tc .vmem S20x2048 .i32) (harg11 : arg11.IsWhole)
  (arg12 : Memref sig .tc .vmem S20x2048 .f32) (harg12 : arg12.IsWhole) (arg13 : Memref sig .tc .vmem S20x2048 .f32) (harg13 : arg13.IsWhole)
  (arg14 : Memref sig .tc .vmem S20x2048 .f32) (harg14 : arg14.IsWhole) (arg15 : Memref sig .tc .vmem S20x2048 .f32) (harg15 : arg15.IsWhole)
  (arg16 : Memref sig .tc .vmem S20x2048 .f32) (harg16 : arg16.IsWhole)
  (x0 : Vec F S20x160x128 .f32) (x1 : Vec F S1x160x128 .f32) (x2 : Vec F S8x160x128 .f32)

/-- What the second loop carries: the scores still in play, and the six rows of detections drawn so far. -/
abbrev Drawn (F : FTy → Type) : Type :=
  FVec F S20x128 .f32 × FVec F S1x128 .f32 × FVec F S1x128 .f32 × FVec F S1x128 .f32 × FVec F S1x128 .f32
    × FVec F S1x128 .f32 × FVec F S1x128 .f32

/-- One trip of the second loop, as a function of what it carries. -/
def drawStep (w : IVec S20x128 32) (b1 b2 b3 b4 : FVec F S20x128 .f32) (k : Fin k0_t2_loop.trips) (a : Drawn F) : Drawn F :=
  (k0_pay267 a.1 (k0_pay18 (k0_pay257 w) a.1),
    k0_pay261 a.2.1 (Scf.iv 0#32 1#32 k) (k0_pay20 b1 (k0_pay257 w) a.1),
    k0_pay262 a.2.2.1 (Scf.iv 0#32 1#32 k) (k0_pay21 b2 (k0_pay257 w) a.1),
    k0_pay263 a.2.2.2.1 (Scf.iv 0#32 1#32 k) (k0_pay22 b3 (k0_pay257 w) a.1),
    k0_pay264 a.2.2.2.2.1 (Scf.iv 0#32 1#32 k) (k0_pay23 b4 (k0_pay257 w) a.1),
    k0_pay265 a.2.2.2.2.2.1 (Scf.iv 0#32 1#32 k) (k0_pay17 a.1) (k0_pay25 a.1),
    k0_pay266 a.2.2.2.2.2.2 (Scf.iv 0#32 1#32 k) (k0_pay24 (k0_pay257 w) (k0_pay258 (F := F)) a.1))

/-- What the second loop carries before trip `k`. -/
def draws (w : IVec S20x128 32) (b1 b2 b3 b4 : FVec F S20x128 .f32) (init : Drawn F) : ℕ → Drawn F
  | 0 => init
  | k + 1 => if h : k < k0_t2_loop.trips then drawStep w b1 b2 b3 b4 ⟨k, h⟩ (draws w b1 b2 b3 b4 init k)
      else draws w b1 b2 b3 b4 init k

/-- The state of the second loop after one more trip. -/
theorem draws_succ (w : IVec S20x128 32) (b1 b2 b3 b4 : FVec F S20x128 .f32) (init : Drawn F) (k : Fin k0_t2_loop.trips) :
    draws w b1 b2 b3 b4 init (k.val + 1) = drawStep w b1 b2 b3 b4 k (draws w b1 b2 b3 b4 init k.val) := by
  rw [draws]; exact dif_pos k.isLt

/-- The second loop by its carried value: it touches no buffer. -/
@[sl_loop] noncomputable def loopInv_t2 (w : IVec S20x128 32) (b1 b2 b3 b4 : FVec F S20x128 .f32) (init : Drawn F) (E : Set ℕ) :
    LoopInvTy_k0_t2 (F := F) Unit ℕ (UR sig nD τ) ℕ Variants.none c none E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 w b1 b2 b3 b4 init where
  inv k acc := iprop(⌜acc = draws w b1 b2 b3 b4 init k⌝)
  step k acc := by
    iintro %h
    subst h
    have e : k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 w b1 b2 b3 b4 k (draws w b1 b2 b3 b4 init k.val)
        = .ret (draws w b1 b2 b3 b4 init (k.val + 1)) := by
      rw [draws_succ]; rfl
    rw [e]
    sl_step
    ipureintro; rfl

set_option maxHeartbeats 4000000 in
/-- The body's run on whole buffers: the inputs at `x0`, `x1`, `x2`, everything else at anything.  What the stores leave
    in each of the six output buffers is found by the run. -/
noncomputable def bodyRun :
    Σ' (L3 : List (View.Piece (Elt F) S1x128 .f32)), Σ' (L4 : List (View.Piece (Elt F) S1x128 .f32)), Σ' (L5 : List (View.Piece (Elt F) S1x128 .f32)), Σ' (L6 : List (View.Piece (Elt F) S1x128 .f32)), Σ' (L7 : List (View.Piece (Elt F) S1x128 .f32)), { L8 : List (View.Piece (Elt F) S1x128 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg0 fullShare x0 ∗ owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0__nms_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0__nms_kernel_eq_skeleton]; unfold cc0__nms_kernel_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg0.eq_unread hf0
    obtain rfl := harg1.eq_unread hf1
    obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.KernelIdeal.Body

end
-- ==== Proof.KernelIdealFrame.lean ====
/- The frame of `KernelIdeal`: what the outputs hold after the body, the proof data of the launch, its body obligation, and the
run of the whole program from any memory. -/
module

public import proofs.«01_k».proof.Proof.KernelIdealRun
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers the body is called with -/

/-- A buffer of output window 3, through which its contents are stated. -/
abbrev VO3 : View sig .tc .vmem S1x128 .f32 := (Memref.whole cc0_stg3_0 : Memref sig .tc .vmem S1x128 .f32).view
/-- A buffer of output window 4, through which its contents are stated. -/
abbrev VO4 : View sig .tc .vmem S1x128 .f32 := (Memref.whole cc0_stg4_0 : Memref sig .tc .vmem S1x128 .f32).view
/-- A buffer of output window 5, through which its contents are stated. -/
abbrev VO5 : View sig .tc .vmem S1x128 .f32 := (Memref.whole cc0_stg5_0 : Memref sig .tc .vmem S1x128 .f32).view
/-- A buffer of output window 6, through which its contents are stated. -/
abbrev VO6 : View sig .tc .vmem S1x128 .f32 := (Memref.whole cc0_stg6_0 : Memref sig .tc .vmem S1x128 .f32).view
/-- A buffer of output window 7, through which its contents are stated. -/
abbrev VO7 : View sig .tc .vmem S1x128 .f32 := (Memref.whole cc0_stg7_0 : Memref sig .tc .vmem S1x128 .f32).view
/-- A buffer of output window 8, through which its contents are stated. -/
abbrev VO8 : View sig .tc .vmem S1x128 .f32 := (Memref.whole cc0_stg8_0 : Memref sig .tc .vmem S1x128 .f32).view
/-- Window 0's buffer at point `t`, and that it is whole. -/
abbrev ms0 (t : Fin cfg0.N) : Memref sig .tc .vmem S20x160x128 .f32 := win0_0.stage (cfg0.slots t 0)
/-- Argument 0's staging buffer is a whole buffer. -/
abbrev hs0 (t : Fin cfg0.N) : (ms0 t).IsWhole := hstage0_0 0
/-- Window 1's buffer at point `t`, and that it is whole. -/
abbrev ms1 (t : Fin cfg0.N) : Memref sig .tc .vmem S1x160x128 .f32 := win0_1.stage (cfg0.slots t 1)
/-- Argument 1's staging buffer is a whole buffer. -/
abbrev hs1 (t : Fin cfg0.N) : (ms1 t).IsWhole := hstage0_1 0
/-- Window 2's buffer at point `t`, and that it is whole. -/
abbrev ms2 (t : Fin cfg0.N) : Memref sig .tc .vmem S8x160x128 .f32 := win0_2.stage (cfg0.slots t 2)
/-- Argument 2's staging buffer is a whole buffer. -/
abbrev hs2 (t : Fin cfg0.N) : (ms2 t).IsWhole := hstage0_2 0
/-- Window 3's buffer at point `t`, and that it is whole. -/
abbrev ms3 (t : Fin cfg0.N) : Memref sig .tc .vmem S1x128 .f32 := win0_3.stage (cfg0.slots t 3)
/-- Argument 3's staging buffer is a whole buffer. -/
abbrev hs3 (t : Fin cfg0.N) : (ms3 t).IsWhole := hstage0_3 0
/-- Window 4's buffer at point `t`, and that it is whole. -/
abbrev ms4 (t : Fin cfg0.N) : Memref sig .tc .vmem S1x128 .f32 := win0_4.stage (cfg0.slots t 4)
/-- Argument 4's staging buffer is a whole buffer. -/
abbrev hs4 (t : Fin cfg0.N) : (ms4 t).IsWhole := hstage0_4 0
/-- Window 5's buffer at point `t`, and that it is whole. -/
abbrev ms5 (t : Fin cfg0.N) : Memref sig .tc .vmem S1x128 .f32 := win0_5.stage (cfg0.slots t 5)
/-- Argument 5's staging buffer is a whole buffer. -/
abbrev hs5 (t : Fin cfg0.N) : (ms5 t).IsWhole := hstage0_5 0
/-- Window 6's buffer at point `t`, and that it is whole. -/
abbrev ms6 (t : Fin cfg0.N) : Memref sig .tc .vmem S1x128 .f32 := win0_6.stage (cfg0.slots t 6)
/-- Argument 6's staging buffer is a whole buffer. -/
abbrev hs6 (t : Fin cfg0.N) : (ms6 t).IsWhole := hstage0_6 0
/-- Window 7's buffer at point `t`, and that it is whole. -/
abbrev ms7 (t : Fin cfg0.N) : Memref sig .tc .vmem S1x128 .f32 := win0_7.stage (cfg0.slots t 7)
/-- Argument 7's staging buffer is a whole buffer. -/
abbrev hs7 (t : Fin cfg0.N) : (ms7 t).IsWhole := hstage0_7 0
/-- Window 8's buffer at point `t`, and that it is whole. -/
abbrev ms8 (t : Fin cfg0.N) : Memref sig .tc .vmem S1x128 .f32 := win0_8.stage (cfg0.slots t 8)
/-- Argument 8's staging buffer is a whole buffer. -/
abbrev hs8 (t : Fin cfg0.N) : (ms8 t).IsWhole := hstage0_8 0
/-- Scratch operand 0. -/
abbrev sc0 : Memref sig .tc .vmem S20x160x128 .f32 := Memref.whole cc0_scratch0
/-- Scratch operand 1. -/
abbrev sc1 : Memref sig .tc .vmem S20x2048 .f32 := Memref.whole cc0_scratch1
/-- Scratch operand 2. -/
abbrev sc2 : Memref sig .tc .vmem S20x2048 .i32 := Memref.whole cc0_scratch2
/-- Scratch operand 3. -/
abbrev sc3 : Memref sig .tc .vmem S20x2048 .f32 := Memref.whole cc0_scratch3
/-- Scratch operand 4. -/
abbrev sc4 : Memref sig .tc .vmem S20x2048 .f32 := Memref.whole cc0_scratch4
/-- Scratch operand 5. -/
abbrev sc5 : Memref sig .tc .vmem S20x2048 .f32 := Memref.whole cc0_scratch5
/-- Scratch operand 6. -/
abbrev sc6 : Memref sig .tc .vmem S20x2048 .f32 := Memref.whole cc0_scratch6
/-- Scratch operand 7. -/
abbrev sc7 : Memref sig .tc .vmem S20x2048 .f32 := Memref.whole cc0_scratch7

/-- The launch's invariant with the scratch operands owned at some contents. -/
theorem PhiA_scratch (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

/-! ## What the outputs hold -/

/-- The body's run at point `t`, on the input blocks there. -/
abbrev runAt (c : Dev nD) (t : Fin cfg0.N) :=
  bodyRun c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _)
    (iblk m c 0 t) (iblk m c 1 t) (iblk m c 2 t)

/-- Output 3's buffer is written whole. -/
theorem cover3 (c : Dev nD) (t : Fin cfg0.N) (y : S1x128.Idx) : ∃ pc ∈ (runAt m c t).1, y ∈ pc.1.set :=
  View.cover_of_tiledL (runAt m c t).1 S1x128.size (by sl_kernel_rfl) y
/-- What the body leaves in output 3's buffer. -/
def out3 (c : Dev nD) (t : Fin cfg0.N) : Vec F S1x128 .f32 :=
  VO3.read (Elt F) (VO3.writes (Elt F) VO3.junk (runAt m c t).1)
/-- Output 4's buffer is written whole. -/
theorem cover4 (c : Dev nD) (t : Fin cfg0.N) (y : S1x128.Idx) : ∃ pc ∈ (runAt m c t).2.1, y ∈ pc.1.set :=
  View.cover_of_tiledL (runAt m c t).2.1 S1x128.size (by sl_kernel_rfl) y
/-- What the body leaves in output 4's buffer. -/
def out4 (c : Dev nD) (t : Fin cfg0.N) : Vec F S1x128 .f32 :=
  VO4.read (Elt F) (VO4.writes (Elt F) VO4.junk (runAt m c t).2.1)
/-- Output 5's buffer is written whole. -/
theorem cover5 (c : Dev nD) (t : Fin cfg0.N) (y : S1x128.Idx) : ∃ pc ∈ (runAt m c t).2.2.1, y ∈ pc.1.set :=
  View.cover_of_tiledL (runAt m c t).2.2.1 S1x128.size (by sl_kernel_rfl) y
/-- What the body leaves in output 5's buffer. -/
def out5 (c : Dev nD) (t : Fin cfg0.N) : Vec F S1x128 .f32 :=
  VO5.read (Elt F) (VO5.writes (Elt F) VO5.junk (runAt m c t).2.2.1)
/-- Output 6's buffer is written whole. -/
theorem cover6 (c : Dev nD) (t : Fin cfg0.N) (y : S1x128.Idx) : ∃ pc ∈ (runAt m c t).2.2.2.1, y ∈ pc.1.set :=
  View.cover_of_tiledL (runAt m c t).2.2.2.1 S1x128.size (by sl_kernel_rfl) y
/-- What the body leaves in output 6's buffer. -/
def out6 (c : Dev nD) (t : Fin cfg0.N) : Vec F S1x128 .f32 :=
  VO6.read (Elt F) (VO6.writes (Elt F) VO6.junk (runAt m c t).2.2.2.1)
/-- Output 7's buffer is written whole. -/
theorem cover7 (c : Dev nD) (t : Fin cfg0.N) (y : S1x128.Idx) : ∃ pc ∈ (runAt m c t).2.2.2.2.1, y ∈ pc.1.set :=
  View.cover_of_tiledL (runAt m c t).2.2.2.2.1 S1x128.size (by sl_kernel_rfl) y
/-- What the body leaves in output 7's buffer. -/
def out7 (c : Dev nD) (t : Fin cfg0.N) : Vec F S1x128 .f32 :=
  VO7.read (Elt F) (VO7.writes (Elt F) VO7.junk (runAt m c t).2.2.2.2.1)
/-- Output 8's buffer is written whole. -/
theorem cover8 (c : Dev nD) (t : Fin cfg0.N) (y : S1x128.Idx) : ∃ pc ∈ (runAt m c t).2.2.2.2.2.1, y ∈ pc.1.set :=
  View.cover_of_tiledL (runAt m c t).2.2.2.2.2.1 S1x128.size (by sl_kernel_rfl) y
/-- What the body leaves in output 8's buffer. -/
def out8 (c : Dev nD) (t : Fin cfg0.N) : Vec F S1x128 .f32 :=
  VO8.read (Elt F) (VO8.writes (Elt F) VO8.junk (runAt m c t).2.2.2.2.2.1)

/-! ## The proof data -/

/-- The arrays as the region finds them; after the body the inputs' buffers at their blocks and the outputs' at `out3` …
    `out8`; the scratch at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
    | ⟨5, _⟩ => out5 m c t
    | ⟨6, _⟩ => out6 m c t
    | ⟨7, _⟩ => out7 m c t
    | ⟨8, _⟩ => out8 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out3 m c t := by dsimp only [dats]
theorem after_4 (c : Dev nD) (t : Fin cfg0.N) : (dats m 0 c).after 4 t = out4 m c t := by dsimp only [dats]
theorem after_5 (c : Dev nD) (t : Fin cfg0.N) : (dats m 0 c).after 5 t = out5 m c t := by dsimp only [dats]
theorem after_6 (c : Dev nD) (t : Fin cfg0.N) : (dats m 0 c).after 6 t = out6 m c t := by dsimp only [dats]
theorem after_7 (c : Dev nD) (t : Fin cfg0.N) : (dats m 0 c).after 7 t = out7 m c t := by dsimp only [dats]
theorem after_8 (c : Dev nD) (t : Fin cfg0.N) : (dats m 0 c).after 8 t = out8 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, PhiA_scratch]
  unfold out3 out4 out5 out6 out7 out8
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runAt m c t).2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, ⟨%e3, H3⟩, ⟨%e4, H4⟩, ⟨%e5, H5⟩, ⟨%e6, H6⟩, ⟨%e7, H7⟩, ⟨%e8, H8⟩, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover3 m c t)
  isplitl [H4]
  · unfold owns; iexists _; isplitr
    swap; · iexact H4
    ipureintro; exact View.read_writes_of_cover _ _ _ _ _ (cover4 m c t)
  isplitl [H5]
  · unfold owns; iexists _; isplitr
    swap; · iexact H5
    ipureintro; exact View.read_writes_of_cover _ _ _ _ _ (cover5 m c t)
  isplitl [H6]
  · unfold owns; iexists _; isplitr
    swap; · iexact H6
    ipureintro; exact View.read_writes_of_cover _ _ _ _ _ (cover6 m c t)
  isplitl [H7]
  · unfold owns; iexists _; isplitr
    swap; · iexact H7
    ipureintro; exact View.read_writes_of_cover _ _ _ _ _ (cover7 m c t)
  unfold owns; iexists _; isplitr
  swap; · iexact H8
  ipureintro; exact View.read_writes_of_cover _ _ _ _ _ (cover8 m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The whole program's run: every buffer as the launch and the lines after it leave it, every counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r
      ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_quiescent m ρ))

end Cert.KernelIdeal.Body

end
-- ==== Proof.ReferenceChain.lean ====
/- The reference program as lists of host operations: fifteen stretches, one loop of 100 trips and three stretches after it. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- long lists of operations recurse past the default depth
set_option maxRecDepth 2552

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

open Idealize.ShloMosaic.StableHlo
variable {F : FTy → Type} [FloatOps F]

-- an array of a shape and an element type; a reference that holds one
local notation "𝔸" s:max e:max => BufTy.Contents (Elt F) (⟨s, e⟩ : BufTy)
local notation "𝕋" s:max e:max => StableHlo.TRef sig (⟨s, e⟩ : BufTy)
/-! ## @main as segments and as a chain of items (Lib/Pipeline/Regions.lean `θ_run_regions_kit`, `Pipeline.chain`) -/

/-- 11 host operations of @main, in order. -/
abbrev hostOps0 : List (HloOp τ sig (Elt F)) :=
  [ reshape main_arg2 main_v0 rfl shapeCasts_S1x20000x4_S20000x4,
    nullary main_cst (constant S_ .f32 0x3C83126F#32),
    unary main_cst main_v1 (Host.log : 𝔸 S_ .f32 → 𝔸 S_ .f32),
    unary main_v1 main_v2 (Host.absf : 𝔸 S_ .f32 → 𝔸 S_ .f32),
    unary main_v0 main_v3 ((extractStridedSlice S20000x1 ![0, 0] · slices_S20000x4_S20000x1_0_0) : 𝔸 S20000x4 .f32 → 𝔸 S20000x1 .f32),
    reshape main_v3 main_v4 rfl shapeCasts_S20000x1_S20000,
    unary main_v0 main_v5 ((extractStridedSlice S20000x1 ![0, 1] · slices_S20000x4_S20000x1_0_1) : 𝔸 S20000x4 .f32 → 𝔸 S20000x1 .f32),
    reshape main_v5 main_v6 rfl shapeCasts_S20000x1_S20000,
    unary main_v0 main_v7 ((extractStridedSlice S20000x1 ![0, 2] · slices_S20000x4_S20000x1_0_2) : 𝔸 S20000x4 .f32 → 𝔸 S20000x1 .f32),
    reshape main_v7 main_v8 rfl shapeCasts_S20000x1_S20000,
    unary main_v2 main_v9 (Host.negf : 𝔸 S_ .f32 → 𝔸 S_ .f32) ]
/-- Each touches the program's own buffers only. -/
theorem hostOps0_sub : (hostOps0 : List (HloOp τ sig (Elt F))).Forall fun op => op.bufs ⊆ StableHlo.tcRefs τ sig :=
  ⟨reshape_bufs_sub .., nullary_bufs_sub .., unary_bufs_sub .., unary_bufs_sub .., unary_bufs_sub .., reshape_bufs_sub .., unary_bufs_sub .., reshape_bufs_sub .., unary_bufs_sub .., reshape_bufs_sub .., unary_bufs_sub ..⟩
/-- 4 host operations of @clip (main_call0), in order. -/
abbrev hostOps0_1 : List (HloOp τ sig (Elt F)) :=
  [ TRef.unary (.of main_v9 : 𝕋 S_ .f32) (.of main_call0_v0 : 𝕋 S20000 .f32) (broadcastInDim S20000 ![] bcast_S_S20000),
    TRef.binary (.of main_call0_v0 : 𝕋 S20000 .f32) (.of main_v8 : 𝕋 S20000 .f32) (.of main_call0_v1 : 𝕋 S20000 .f32) maximumf,
    TRef.unary (.of main_v2 : 𝕋 S_ .f32) (.of main_call0_v2 : 𝕋 S20000 .f32) (broadcastInDim S20000 ![] bcast_S_S20000),
    TRef.binary (.of main_call0_v2 : 𝕋 S20000 .f32) (.of main_call0_v1 : 𝕋 S20000 .f32) (.of main_v10 : 𝕋 S20000 .f32) minimumf ]
/-- Each touches the program's own buffers only. -/
theorem hostOps0_1_sub : (hostOps0_1 : List (HloOp τ sig (Elt F))).Forall fun op => op.bufs ⊆ StableHlo.tcRefs τ sig :=
  ⟨unary_bufs_sub .., binary_bufs_sub .., unary_bufs_sub .., binary_bufs_sub ..⟩
/-- 3 host operations of @main, in order. -/
abbrev hostOps0_2 : List (HloOp τ sig (Elt F)) :=
  [ unary main_v0 main_v11 ((extractStridedSlice S20000x1 ![0, 3] · slices_S20000x4_S20000x1_0_3) : 𝔸 S20000x4 .f32 → 𝔸 S20000x1 .f32),
    reshape main_v11 main_v12 rfl shapeCasts_S20000x1_S20000,
    unary main_v2 main_v13 (Host.negf : 𝔸 S_ .f32 → 𝔸 S_ .f32) ]
/-- Each touches the program's own buffers only. -/
theorem hostOps0_2_sub : (hostOps0_2 : List (HloOp τ sig (Elt F))).Forall fun op => op.bufs ⊆ StableHlo.tcRefs τ sig :=
  ⟨unary_bufs_sub .., reshape_bufs_sub .., unary_bufs_sub ..⟩
/-- 4 host operations of @clip (main_call1), in order. -/
abbrev hostOps0_3 : List (HloOp τ sig (Elt F)) :=
  [ TRef.unary (.of main_v13 : 𝕋 S_ .f32) (.of main_call1_v0 : 𝕋 S20000 .f32) (broadcastInDim S20000 ![] bcast_S_S20000),
    TRef.binary (.of main_call1_v0 : 𝕋 S20000 .f32) (.of main_v12 : 𝕋 S20000 .f32) (.of main_call1_v1 : 𝕋 S20000 .f32) maximumf,
    TRef.unary (.of main_v2 : 𝕋 S_ .f32) (.of main_call1_v2 : 𝕋 S20000 .f32) (broadcastInDim S20000 ![] bcast_S_S20000),
    TRef.binary (.of main_call1_v2 : 𝕋 S20000 .f32) (.of main_call1_v1 : 𝕋 S20000 .f32) (.of main_v14 : 𝕋 S20000 .f32) minimumf ]
/-- Each touches the program's own buffers only. -/
theorem hostOps0_3_sub : (hostOps0_3 : List (HloOp τ sig (Elt F))).Forall fun op => op.bufs ⊆ StableHlo.tcRefs τ sig :=
  ⟨unary_bufs_sub .., binary_bufs_sub .., unary_bufs_sub .., binary_bufs_sub ..⟩
/-- 26 host operations of @main, in order. -/
abbrev hostOps0_4 : List (HloOp τ sig (Elt F)) :=
  [ unary main_arg3 main_v15 ((extractStridedSlice S20000x1 ![0, 0] · slices_S20000x4_S20000x1_0_0) : 𝔸 S20000x4 .f32 → 𝔸 S20000x1 .f32),
    reshape main_v15 main_v16 rfl shapeCasts_S20000x1_S20000,
    unary main_arg3 main_v17 ((extractStridedSlice S20000x1 ![0, 2] · slices_S20000x4_S20000x1_0_2) : 𝔸 S20000x4 .f32 → 𝔸 S20000x1 .f32),
    reshape main_v17 main_v18 rfl shapeCasts_S20000x1_S20000,
    binary main_v4 main_v18 main_v19 (mulf : 𝔸 S20000 .f32 → 𝔸 S20000 .f32 → 𝔸 S20000 .f32),
    binary main_v16 main_v19 main_v20 (addf : 𝔸 S20000 .f32 → 𝔸 S20000 .f32 → 𝔸 S20000 .f32),
    unary main_arg3 main_v21 ((extractStridedSlice S20000x1 ![0, 1] · slices_S20000x4_S20000x1_0_1) : 𝔸 S20000x4 .f32 → 𝔸 S20000x1 .f32),
    reshape main_v21 main_v22 rfl shapeCasts_S20000x1_S20000,
    unary main_arg3 main_v23 ((extractStridedSlice S20000x1 ![0, 3] · slices_S20000x4_S20000x1_0_3) : 𝔸 S20000x4 .f32 → 𝔸 S20000x1 .f32),
    reshape main_v23 main_v24 rfl shapeCasts_S20000x1_S20000,
    binary main_v6 main_v24 main_v25 (mulf : 𝔸 S20000 .f32 → 𝔸 S20000 .f32 → 𝔸 S20000 .f32),
    binary main_v22 main_v25 main_v26 (addf : 𝔸 S20000 .f32 → 𝔸 S20000 .f32 → 𝔸 S20000 .f32),
    unary main_arg3 main_v27 ((extractStridedSlice S20000x1 ![0, 2] · slices_S20000x4_S20000x1_0_2) : 𝔸 S20000x4 .f32 → 𝔸 S20000x1 .f32),
    reshape main_v27 main_v28 rfl shapeCasts_S20000x1_S20000,
    unary main_v10 main_v29 (Host.exp : 𝔸 S20000 .f32 → 𝔸 S20000 .f32),
    binary main_v28 main_v29 main_v30 (mulf : 𝔸 S20000 .f32 → 𝔸 S20000 .f32 → 𝔸 S20000 .f32),
    unary main_arg3 main_v31 ((extractStridedSlice S20000x1 ![0, 3] · slices_S20000x4_S20000x1_0_3) : 𝔸 S20000x4 .f32 → 𝔸 S20000x1 .f32),
    reshape main_v31 main_v32 rfl shapeCasts_S20000x1_S20000,
    unary main_v14 main_v33 (Host.exp : 𝔸 S20000 .f32 → 𝔸 S20000 .f32),
    binary main_v32 main_v33 main_v34 (mulf : 𝔸 S20000 .f32 → 𝔸 S20000 .f32 → 𝔸 S20000 .f32),
    nullary main_cst_0 (constant S_ .f32 0x3F000000#32),
    unary main_cst_0 main_v35 (broadcastInDim S20000 ![] bcast_S_S20000 : 𝔸 S_ .f32 → 𝔸 S20000 .f32),
    binary main_v30 main_v35 main_v36 (mulf : 𝔸 S20000 .f32 → 𝔸 S20000 .f32 → 𝔸 S20000 .f32),
    binary main_v20 main_v36 main_v37 (subf : 𝔸 S20000 .f32 → 𝔸 S20000 .f32 → 𝔸 S20000 .f32),
    nullary main_cst_1 (constant S_ .f32 0x00000000#32),
    nullary main_cst_2 (constant S_ .f32 0x3F800000#32) ]
/-- Each touches the program's own buffers only. -/
theorem hostOps0_4_sub : (hostOps0_4 : List (HloOp τ sig (Elt F))).Forall fun op => op.bufs ⊆ StableHlo.tcRefs τ sig :=
  ⟨unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., binary_bufs_sub .., nullary_bufs_sub .., nullary_bufs_sub ..⟩
/-- 6 host operations of @clip_0 (main_call2), in order. -/
abbrev hostOps0_5 : List (HloOp τ sig (Elt F)) :=
  [ TRef.unary (.of main_cst_1 : 𝕋 S_ .f32) (.of main_call2_v0 : 𝕋 S_ .f32) id,
    TRef.unary (.of main_call2_v0 : 𝕋 S_ .f32) (.of main_call2_v1 : 𝕋 S20000 .f32) (broadcastInDim S20000 ![] bcast_S_S20000),
    TRef.binary (.of main_call2_v1 : 𝕋 S20000 .f32) (.of main_v37 : 𝕋 S20000 .f32) (.of main_call2_v2 : 𝕋 S20000 .f32) maximumf,
    TRef.unary (.of main_cst_2 : 𝕋 S_ .f32) (.of main_call2_v3 : 𝕋 S_ .f32) id,
    TRef.unary (.of main_call2_v3 : 𝕋 S_ .f32) (.of main_call2_v4 : 𝕋 S20000 .f32) (broadcastInDim S20000 ![] bcast_S_S20000),
    TRef.binary (.of main_call2_v4 : 𝕋 S20000 .f32) (.of main_call2_v2 : 𝕋 S20000 .f32) (.of main_v38 : 𝕋 S20000 .f32) minimumf ]
/-- Each touches the program's own buffers only. -/
theorem hostOps0_5_sub : (hostOps0_5 : List (HloOp τ sig (Elt F))).Forall fun op => op.bufs ⊆ StableHlo.tcRefs τ sig :=
  ⟨unary_bufs_sub .., unary_bufs_sub .., binary_bufs_sub .., unary_bufs_sub .., unary_bufs_sub .., binary_bufs_sub ..⟩
/-- 6 host operations of @main, in order. -/
abbrev hostOps0_6 : List (HloOp τ sig (Elt F)) :=
  [ nullary main_cst_3 (constant S_ .f32 0x3F000000#32),
    unary main_cst_3 main_v39 (broadcastInDim S20000 ![] bcast_S_S20000 : 𝔸 S_ .f32 → 𝔸 S20000 .f32),
    binary main_v34 main_v39 main_v40 (mulf : 𝔸 S20000 .f32 → 𝔸 S20000 .f32 → 𝔸 S20000 .f32),
    binary main_v26 main_v40 main_v41 (subf : 𝔸 S20000 .f32 → 𝔸 S20000 .f32 → 𝔸 S20000 .f32),
    nullary main_cst_4 (constant S_ .f32 0x00000000#32),
    nullary main_cst_5 (constant S_ .f32 0x3F800000#32) ]
/-- Each touches the program's own buffers only. -/
theorem hostOps0_6_sub : (hostOps0_6 : List (HloOp τ sig (Elt F))).Forall fun op => op.bufs ⊆ StableHlo.tcRefs τ sig :=
  ⟨nullary_bufs_sub .., unary_bufs_sub .., binary_bufs_sub .., binary_bufs_sub .., nullary_bufs_sub .., nullary_bufs_sub ..⟩
/-- 6 host operations of @clip_0 (main_call3), in order. -/
abbrev hostOps0_7 : List (HloOp τ sig (Elt F)) :=
  [ TRef.unary (.of main_cst_4 : 𝕋 S_ .f32) (.of main_call3_v0 : 𝕋 S_ .f32) id,
    TRef.unary (.of main_call3_v0 : 𝕋 S_ .f32) (.of main_call3_v1 : 𝕋 S20000 .f32) (broadcastInDim S20000 ![] bcast_S_S20000),
    TRef.binary (.of main_call3_v1 : 𝕋 S20000 .f32) (.of main_v41 : 𝕋 S20000 .f32) (.of main_call3_v2 : 𝕋 S20000 .f32) maximumf,
    TRef.unary (.of main_cst_5 : 𝕋 S_ .f32) (.of main_call3_v3 : 𝕋 S_ .f32) id,
    TRef.unary (.of main_call3_v3 : 𝕋 S_ .f32) (.of main_call3_v4 : 𝕋 S20000 .f32) (broadcastInDim S20000 ![] bcast_S_S20000),
    TRef.binary (.of main_call3_v4 : 𝕋 S20000 .f32) (.of main_call3_v2 : 𝕋 S20000 .f32) (.of main_v42 : 𝕋 S20000 .f32) minimumf ]
/-- Each touches the program's own buffers only. -/
theorem hostOps0_7_sub : (hostOps0_7 : List (HloOp τ sig (Elt F))).Forall fun op => op.bufs ⊆ StableHlo.tcRefs τ sig :=
  ⟨unary_bufs_sub .., unary_bufs_sub .., binary_bufs_sub .., unary_bufs_sub .., unary_bufs_sub .., binary_bufs_sub ..⟩
/-- 6 host operations of @main, in order. -/
abbrev hostOps0_8 : List (HloOp τ sig (Elt F)) :=
  [ nullary main_cst_6 (constant S_ .f32 0x3F000000#32),
    unary main_cst_6 main_v43 (broadcastInDim S20000 ![] bcast_S_S20000 : 𝔸 S_ .f32 → 𝔸 S20000 .f32),
    binary main_v30 main_v43 main_v44 (mulf : 𝔸 S20000 .f32 → 𝔸 S20000 .f32 → 𝔸 S20000 .f32),
    binary main_v20 main_v44 main_v45 (addf : 𝔸 S20000 .f32 → 𝔸 S20000 .f32 → 𝔸 S20000 .f32),
    nullary main_cst_7 (constant S_ .f32 0x00000000#32),
    nullary main_cst_8 (constant S_ .f32 0x3F800000#32) ]
/-- Each touches the program's own buffers only. -/
theorem hostOps0_8_sub : (hostOps0_8 : List (HloOp τ sig (Elt F))).Forall fun op => op.bufs ⊆ StableHlo.tcRefs τ sig :=
  ⟨nullary_bufs_sub .., unary_bufs_sub .., binary_bufs_sub .., binary_bufs_sub .., nullary_bufs_sub .., nullary_bufs_sub ..⟩
/-- 6 host operations of @clip_0 (main_call4), in order. -/
abbrev hostOps0_9 : List (HloOp τ sig (Elt F)) :=
  [ TRef.unary (.of main_cst_7 : 𝕋 S_ .f32) (.of main_call4_v0 : 𝕋 S_ .f32) id,
    TRef.unary (.of main_call4_v0 : 𝕋 S_ .f32) (.of main_call4_v1 : 𝕋 S20000 .f32) (broadcastInDim S20000 ![] bcast_S_S20000),
    TRef.binary (.of main_call4_v1 : 𝕋 S20000 .f32) (.of main_v45 : 𝕋 S20000 .f32) (.of main_call4_v2 : 𝕋 S20000 .f32) maximumf,
    TRef.unary (.of main_cst_8 : 𝕋 S_ .f32) (.of main_call4_v3 : 𝕋 S_ .f32) id,
    TRef.unary (.of main_call4_v3 : 𝕋 S_ .f32) (.of main_call4_v4 : 𝕋 S20000 .f32) (broadcastInDim S20000 ![] bcast_S_S20000),
    TRef.binary (.of main_call4_v4 : 𝕋 S20000 .f32) (.of main_call4_v2 : 𝕋 S20000 .f32) (.of main_v46 : 𝕋 S20000 .f32) minimumf ]
/-- Each touches the program's own buffers only. -/
theorem hostOps0_9_sub : (hostOps0_9 : List (HloOp τ sig (Elt F))).Forall fun op => op.bufs ⊆ StableHlo.tcRefs τ sig :=
  ⟨unary_bufs_sub .., unary_bufs_sub .., binary_bufs_sub .., unary_bufs_sub .., unary_bufs_sub .., binary_bufs_sub ..⟩
/-- 6 host operations of @main, in order. -/
abbrev hostOps0_10 : List (HloOp τ sig (Elt F)) :=
  [ nullary main_cst_9 (constant S_ .f32 0x3F000000#32),
    unary main_cst_9 main_v47 (broadcastInDim S20000 ![] bcast_S_S20000 : 𝔸 S_ .f32 → 𝔸 S20000 .f32),
    binary main_v34 main_v47 main_v48 (mulf : 𝔸 S20000 .f32 → 𝔸 S20000 .f32 → 𝔸 S20000 .f32),
    binary main_v26 main_v48 main_v49 (addf : 𝔸 S20000 .f32 → 𝔸 S20000 .f32 → 𝔸 S20000 .f32),
    nullary main_cst_10 (constant S_ .f32 0x00000000#32),
    nullary main_cst_11 (constant S_ .f32 0x3F800000#32) ]
/-- Each touches the program's own buffers only. -/
theorem hostOps0_10_sub : (hostOps0_10 : List (HloOp τ sig (Elt F))).Forall fun op => op.bufs ⊆ StableHlo.tcRefs τ sig :=
  ⟨nullary_bufs_sub .., unary_bufs_sub .., binary_bufs_sub .., binary_bufs_sub .., nullary_bufs_sub .., nullary_bufs_sub ..⟩
/-- 6 host operations of @clip_0 (main_call5), in order. -/
abbrev hostOps0_11 : List (HloOp τ sig (Elt F)) :=
  [ TRef.unary (.of main_cst_10 : 𝕋 S_ .f32) (.of main_call5_v0 : 𝕋 S_ .f32) id,
    TRef.unary (.of main_call5_v0 : 𝕋 S_ .f32) (.of main_call5_v1 : 𝕋 S20000 .f32) (broadcastInDim S20000 ![] bcast_S_S20000),
    TRef.binary (.of main_call5_v1 : 𝕋 S20000 .f32) (.of main_v49 : 𝕋 S20000 .f32) (.of main_call5_v2 : 𝕋 S20000 .f32) maximumf,
    TRef.unary (.of main_cst_11 : 𝕋 S_ .f32) (.of main_call5_v3 : 𝕋 S_ .f32) id,
    TRef.unary (.of main_call5_v3 : 𝕋 S_ .f32) (.of main_call5_v4 : 𝕋 S20000 .f32) (broadcastInDim S20000 ![] bcast_S_S20000),
    TRef.binary (.of main_call5_v4 : 𝕋 S20000 .f32) (.of main_call5_v2 : 𝕋 S20000 .f32) (.of main_v50 : 𝕋 S20000 .f32) minimumf ]
/-- Each touches the program's own buffers only. -/
theorem hostOps0_11_sub : (hostOps0_11 : List (HloOp τ sig (Elt F))).Forall fun op => op.bufs ⊆ StableHlo.tcRefs τ sig :=
  ⟨unary_bufs_sub .., unary_bufs_sub .., binary_bufs_sub .., unary_bufs_sub .., unary_bufs_sub .., binary_bufs_sub ..⟩
/-- 14 host operations of @main, in order. -/
abbrev hostOps0_12 : List (HloOp τ sig (Elt F)) :=
  [ unary main_v38 main_v51 (broadcastInDim S20000x1 ![0] bcast_S20000_S20000x1_0 : 𝔸 S20000 .f32 → 𝔸 S20000x1 .f32),
    unary main_v42 main_v52 (broadcastInDim S20000x1 ![0] bcast_S20000_S20000x1_0 : 𝔸 S20000 .f32 → 𝔸 S20000x1 .f32),
    unary main_v46 main_v53 (broadcastInDim S20000x1 ![0] bcast_S20000_S20000x1_0 : 𝔸 S20000 .f32 → 𝔸 S20000x1 .f32),
    unary main_v50 main_v54 (broadcastInDim S20000x1 ![0] bcast_S20000_S20000x1_0 : 𝔸 S20000 .f32 → 𝔸 S20000x1 .f32),
    StableHlo.nary ![main_v51, main_v52, main_v53, main_v54] main_v55 (fun u => (concatenate S20000x4 1 [⟨S20000x1, (u 0 : 𝔸 S20000x1 .f32)⟩, ⟨S20000x1, (u 1 : 𝔸 S20000x1 .f32)⟩, ⟨S20000x1, (u 2 : 𝔸 S20000x1 .f32)⟩, ⟨S20000x1, (u 3 : 𝔸 S20000x1 .f32)⟩] concatenates_S20000x1_S20000x1_S20000x1_S20000x1_S20000x4_d1 : 𝔸 S20000x4 .f32)),
    reshape main_arg1 main_v56 rfl shapeCasts_S1x20000x20_S20000x20,
    reshape main_arg0 main_v57 rfl shapeCasts_S1x20000x1_S20000x1,
    unary main_v57 main_v58 (broadcastInDim S20000x20 ![0, 1] bcast_S20000x1_S20000x20_0_1 : 𝔸 S20000x1 .f32 → 𝔸 S20000x20 .f32),
    binary main_v56 main_v58 main_v59 (mulf : 𝔸 S20000x20 .f32 → 𝔸 S20000x20 .f32 → 𝔸 S20000x20 .f32),
    unary main_v59 main_v60 ((transpose S20x20000 [1, 0] · transposes_S20000x20_S20x20000_1_0) : 𝔸 S20000x20 .f32 → 𝔸 S20x20000 .f32),
    nullary main_cst_12 (constant S_ .f32 0x3D4CCCCD#32),
    unary main_cst_12 main_v61 (broadcastInDim S20x20000 ![] bcast_S_S20x20000 : 𝔸 S_ .f32 → 𝔸 S20x20000 .f32),
    binary main_v60 main_v61 main_v62 (cmpf .ogt : 𝔸 S20x20000 .f32 → 𝔸 S20x20000 .f32 → 𝔸 S20x20000 .i1),
    nullary main_cst_13 (constant S_ .f32 0xFF800000#32) ]
/-- Each touches the program's own buffers only. -/
theorem hostOps0_12_sub : (hostOps0_12 : List (HloOp τ sig (Elt F))).Forall fun op => op.bufs ⊆ StableHlo.tcRefs τ sig :=
  ⟨unary_bufs_sub .., unary_bufs_sub .., unary_bufs_sub .., unary_bufs_sub .., nary_bufs_sub .., reshape_bufs_sub .., reshape_bufs_sub .., unary_bufs_sub .., binary_bufs_sub .., unary_bufs_sub .., nullary_bufs_sub .., unary_bufs_sub .., binary_bufs_sub .., nullary_bufs_sub ..⟩
/-- 3 host operations of @_where (main_call6), in order. -/
abbrev hostOps0_13 : List (HloOp τ sig (Elt F)) :=
  [ TRef.unary (.of main_cst_13 : 𝕋 S_ .f32) (.of main_call6_v0 : 𝕋 S_ .f32) id,
    TRef.unary (.of main_call6_v0 : 𝕋 S_ .f32) (.of main_call6_v1 : 𝕋 S20x20000 .f32) (broadcastInDim S20x20000 ![] bcast_S_S20x20000),
    TRef.ternary (.of main_v62 : 𝕋 S20x20000 .i1) (.of main_v60 : 𝕋 S20x20000 .f32) (.of main_call6_v1 : 𝕋 S20x20000 .f32) (.of main_v63 : 𝕋 S20x20000 .f32) select ]
/-- Each touches the program's own buffers only. -/
theorem hostOps0_13_sub : (hostOps0_13 : List (HloOp τ sig (Elt F))).Forall fun op => op.bufs ⊆ StableHlo.tcRefs τ sig :=
  ⟨unary_bufs_sub .., unary_bufs_sub .., ternary_bufs_sub ..⟩
/-- 21 host operations of @main, in order. -/
abbrev hostOps0_14 : List (HloOp τ sig (Elt F)) :=
  [ unary main_v63 main_values ((fun x => (Host.topK S20x5000 1 (FloatOps.cmpfTotal .gt) x sliceFits_S20x20000_S20x5000).1) : 𝔸 S20x20000 .f32 → 𝔸 S20x5000 .f32),
    unary main_v63 main_indices ((fun x => (Host.topK S20x5000 1 (FloatOps.cmpfTotal .gt) x sliceFits_S20x20000_S20x5000).2) : 𝔸 S20x20000 .f32 → 𝔸 S20x5000 .i32),
    nullary main_c (constantI S_ 32 0#32),
    unary main_c main_v64 (broadcastInDim S20x5000 ![] bcast_S_S20x5000 : 𝔸 S_ .i32 → 𝔸 S20x5000 .i32),
    binary main_indices main_v64 main_v65 (cmpi .slt : 𝔸 S20x5000 .i32 → 𝔸 S20x5000 .i32 → 𝔸 S20x5000 .i1),
    nullary main_c_14 (constantI S_ 32 20000#32),
    unary main_c_14 main_v66 (broadcastInDim S20x5000 ![] bcast_S_S20x5000 : 𝔸 S_ .i32 → 𝔸 S20x5000 .i32),
    binary main_indices main_v66 main_v67 (addi : 𝔸 S20x5000 .i32 → 𝔸 S20x5000 .i32 → 𝔸 S20x5000 .i32),
    ternary main_v65 main_v67 main_indices main_v68 (select : 𝔸 S20x5000 .i1 → 𝔸 S20x5000 .i32 → 𝔸 S20x5000 .i32 → 𝔸 S20x5000 .i32),
    unary main_v68 main_v69 (broadcastInDim S20x5000x1 ![0, 1] bcast_S20x5000_S20x5000x1_0_1 : 𝔸 S20x5000 .i32 → 𝔸 S20x5000x1 .i32),
    binary main_v55 main_v69 main_v70 ((fun x i => Host.gather gather_S20000x4_S20x5000x1_S20x5000x4_2_0_n_n_0_2_14 x i) : 𝔸 S20000x4 .f32 → 𝔸 S20x5000x1 .i32 → 𝔸 S20x5000x4 .f32),
    nullary main_cst_15 (constant S_ .f32 0x00000000#32),
    unary main_cst_15 main_v71 (broadcastInDim S100x20x4 ![] bcast_S_S100x20x4 : 𝔸 S_ .f32 → 𝔸 S100x20x4 .f32),
    nullary main_cst_16 (constant S_ .f32 0x00000000#32),
    unary main_cst_16 main_v72 (broadcastInDim S100x20 ![] bcast_S_S100x20 : 𝔸 S_ .f32 → 𝔸 S100x20 .f32),
    nullary main_c_17 (constantI S_ 32 0#32),
    unary main_v70 main_v73_0 id,
    unary main_c_17 main_v73_1 id,
    unary main_values main_v73_2 id,
    unary main_v71 main_v73_3 id,
    unary main_v72 main_v73_4 id ]
/-- Each touches the program's own buffers only. -/
theorem hostOps0_14_sub : (hostOps0_14 : List (HloOp τ sig (Elt F))).Forall fun op => op.bufs ⊆ StableHlo.tcRefs τ sig :=
  ⟨unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., nullary_bufs_sub .., unary_bufs_sub .., unary_bufs_sub .., unary_bufs_sub .., unary_bufs_sub .., unary_bufs_sub ..⟩
/-- 32 host operations of @main, in order. -/
abbrev hostOps0_15 : List (HloOp τ sig (Elt F)) :=
  [ unary main_v73_3 main_v74 ((transpose S20x100x4 [1, 0, 2] · transposes_S100x20x4_S20x100x4_1_0_2) : 𝔸 S100x20x4 .f32 → 𝔸 S20x100x4 .f32),
    reshape main_v74 main_v75 rfl shapeCasts_S20x100x4_S2000x4,
    unary main_v73_4 main_v76 ((transpose S20x100 [1, 0] · transposes_S100x20_S20x100_1_0) : 𝔸 S100x20 .f32 → 𝔸 S20x100 .f32),
    reshape main_v76 main_v77 rfl shapeCasts_S20x100_S2000,
    nullary main_v78 (sitofp .f32 (iotaInDim S20 32 0)),
    unary main_v78 main_v79 (broadcastInDim S20x100 ![0] bcast_S20_S20x100_0 : 𝔸 S20 .f32 → 𝔸 S20x100 .f32),
    reshape main_v79 main_v80 rfl shapeCasts_S20x100_S2000,
    unary main_v77 main_values_18 ((fun x => (Host.topK S100 0 (FloatOps.cmpfTotal .gt) x sliceFits_S2000_S100).1) : 𝔸 S2000 .f32 → 𝔸 S100 .f32),
    unary main_v77 main_indices_19 ((fun x => (Host.topK S100 0 (FloatOps.cmpfTotal .gt) x sliceFits_S2000_S100).2) : 𝔸 S2000 .f32 → 𝔸 S100 .i32),
    nullary main_c_20 (constantI S_ 32 0#32),
    unary main_c_20 main_v81 (broadcastInDim S100 ![] bcast_S_S100 : 𝔸 S_ .i32 → 𝔸 S100 .i32),
    binary main_indices_19 main_v81 main_v82 (cmpi .slt : 𝔸 S100 .i32 → 𝔸 S100 .i32 → 𝔸 S100 .i1),
    nullary main_c_21 (constantI S_ 32 2000#32),
    unary main_c_21 main_v83 (broadcastInDim S100 ![] bcast_S_S100 : 𝔸 S_ .i32 → 𝔸 S100 .i32),
    binary main_indices_19 main_v83 main_v84 (addi : 𝔸 S100 .i32 → 𝔸 S100 .i32 → 𝔸 S100 .i32),
    ternary main_v82 main_v84 main_indices_19 main_v85 (select : 𝔸 S100 .i1 → 𝔸 S100 .i32 → 𝔸 S100 .i32 → 𝔸 S100 .i32),
    unary main_v85 main_v86 (broadcastInDim S100x1 ![0] bcast_S100_S100x1_0 : 𝔸 S100 .i32 → 𝔸 S100x1 .i32),
    binary main_v75 main_v86 main_v87 ((fun x i => Host.gather gather_S2000x4_S100x1_S100x4_1_0_n_n_0_1_14 x i) : 𝔸 S2000x4 .f32 → 𝔸 S100x1 .i32 → 𝔸 S100x4 .f32),
    nullary main_c_22 (constantI S_ 32 0#32),
    unary main_c_22 main_v88 (broadcastInDim S100 ![] bcast_S_S100 : 𝔸 S_ .i32 → 𝔸 S100 .i32),
    binary main_indices_19 main_v88 main_v89 (cmpi .slt : 𝔸 S100 .i32 → 𝔸 S100 .i32 → 𝔸 S100 .i1),
    nullary main_c_23 (constantI S_ 32 2000#32),
    unary main_c_23 main_v90 (broadcastInDim S100 ![] bcast_S_S100 : 𝔸 S_ .i32 → 𝔸 S100 .i32),
    binary main_indices_19 main_v90 main_v91 (addi : 𝔸 S100 .i32 → 𝔸 S100 .i32 → 𝔸 S100 .i32),
    ternary main_v89 main_v91 main_indices_19 main_v92 (select : 𝔸 S100 .i1 → 𝔸 S100 .i32 → 𝔸 S100 .i32 → 𝔸 S100 .i32),
    unary main_v92 main_v93 (broadcastInDim S100x1 ![0] bcast_S100_S100x1_0 : 𝔸 S100 .i32 → 𝔸 S100x1 .i32),
    binary main_v80 main_v93 main_v94 ((fun x i => Host.gather gather_S2000_S100x1_S100_n_0_n_n_0_1_1 x i) : 𝔸 S2000 .f32 → 𝔸 S100x1 .i32 → 𝔸 S100 .f32),
    unary main_values_18 main_v95 (Host.absf : 𝔸 S100 .f32 → 𝔸 S100 .f32),
    nullary main_cst_24 (constant S_ .f32 0x7F800000#32),
    unary main_cst_24 main_v96 (broadcastInDim S100 ![] bcast_S_S100 : 𝔸 S_ .f32 → 𝔸 S100 .f32),
    binary main_v95 main_v96 main_v97 (cmpf .olt : 𝔸 S100 .f32 → 𝔸 S100 .f32 → 𝔸 S100 .i1),
    nullary main_cst_25 (constant S_ .f32 0x00000000#32) ]
/-- Each touches the program's own buffers only. -/
theorem hostOps0_15_sub : (hostOps0_15 : List (HloOp τ sig (Elt F))).Forall fun op => op.bufs ⊆ StableHlo.tcRefs τ sig :=
  ⟨unary_bufs_sub .., reshape_bufs_sub .., unary_bufs_sub .., reshape_bufs_sub .., nullary_bufs_sub .., unary_bufs_sub .., reshape_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub ..⟩
/-- 3 host operations of @_where_5 (main_call14), in order. -/
abbrev hostOps0_16 : List (HloOp τ sig (Elt F)) :=
  [ TRef.unary (.of main_cst_25 : 𝕋 S_ .f32) (.of main_call14_v0 : 𝕋 S_ .f32) id,
    TRef.unary (.of main_call14_v0 : 𝕋 S_ .f32) (.of main_call14_v1 : 𝕋 S100 .f32) (broadcastInDim S100 ![] bcast_S_S100),
    TRef.ternary (.of main_v97 : 𝕋 S100 .i1) (.of main_values_18 : 𝕋 S100 .f32) (.of main_call14_v1 : 𝕋 S100 .f32) (.of main_v98 : 𝕋 S100 .f32) select ]
/-- Each touches the program's own buffers only. -/
theorem hostOps0_16_sub : (hostOps0_16 : List (HloOp τ sig (Elt F))).Forall fun op => op.bufs ⊆ StableHlo.tcRefs τ sig :=
  ⟨unary_bufs_sub .., unary_bufs_sub .., ternary_bufs_sub ..⟩
/-- 4 host operations of @main, in order. -/
abbrev hostOps0_17 : List (HloOp τ sig (Elt F)) :=
  [ unary main_v98 main_v99 (broadcastInDim S100x1 ![0] bcast_S100_S100x1_0 : 𝔸 S100 .f32 → 𝔸 S100x1 .f32),
    unary main_v94 main_v100 (broadcastInDim S100x1 ![0] bcast_S100_S100x1_0 : 𝔸 S100 .f32 → 𝔸 S100x1 .f32),
    StableHlo.nary ![main_v87, main_v99, main_v100] main_v101 (fun u => (concatenate S100x6 1 [⟨S100x4, (u 0 : 𝔸 S100x4 .f32)⟩, ⟨S100x1, (u 1 : 𝔸 S100x1 .f32)⟩, ⟨S100x1, (u 2 : 𝔸 S100x1 .f32)⟩] concatenates_S100x4_S100x1_S100x1_S100x6_d1 : 𝔸 S100x6 .f32)),
    unary main_v101 main_v102 (broadcastInDim S1x100x6 ![1, 2] bcast_S100x6_S1x100x6_1_2 : 𝔸 S100x6 .f32 → 𝔸 S1x100x6 .f32) ]
/-- Each touches the program's own buffers only. -/
theorem hostOps0_17_sub : (hostOps0_17 : List (HloOp τ sig (Elt F))).Forall fun op => op.bufs ⊆ StableHlo.tcRefs τ sig :=
  ⟨unary_bufs_sub .., unary_bufs_sub .., nary_bufs_sub .., unary_bufs_sub ..⟩
/-- 11 host operations of @main, window 0 (statements 1 … 60), in order. -/
abbrev main_part0_ops0 : List (HloOp τ sig (Elt F)) :=
  [ reshape main_arg2 main_v0 rfl shapeCasts_S1x20000x4_S20000x4,
    nullary main_cst (constant S_ .f32 0x3C83126F#32),
    unary main_cst main_v1 (Host.log : 𝔸 S_ .f32 → 𝔸 S_ .f32),
    unary main_v1 main_v2 (Host.absf : 𝔸 S_ .f32 → 𝔸 S_ .f32),
    unary main_v0 main_v3 ((extractStridedSlice S20000x1 ![0, 0] · slices_S20000x4_S20000x1_0_0) : 𝔸 S20000x4 .f32 → 𝔸 S20000x1 .f32),
    reshape main_v3 main_v4 rfl shapeCasts_S20000x1_S20000,
    unary main_v0 main_v5 ((extractStridedSlice S20000x1 ![0, 1] · slices_S20000x4_S20000x1_0_1) : 𝔸 S20000x4 .f32 → 𝔸 S20000x1 .f32),
    reshape main_v5 main_v6 rfl shapeCasts_S20000x1_S20000,
    unary main_v0 main_v7 ((extractStridedSlice S20000x1 ![0, 2] · slices_S20000x4_S20000x1_0_2) : 𝔸 S20000x4 .f32 → 𝔸 S20000x1 .f32),
    reshape main_v7 main_v8 rfl shapeCasts_S20000x1_S20000,
    unary main_v2 main_v9 (Host.negf : 𝔸 S_ .f32 → 𝔸 S_ .f32) ]
/-- Each touches the program's own buffers only. -/
theorem main_part0_ops0_sub : (main_part0_ops0 : List (HloOp τ sig (Elt F))).Forall fun op => op.bufs ⊆ StableHlo.tcRefs τ sig :=
  ⟨reshape_bufs_sub .., nullary_bufs_sub .., unary_bufs_sub .., unary_bufs_sub .., unary_bufs_sub .., reshape_bufs_sub .., unary_bufs_sub .., reshape_bufs_sub .., unary_bufs_sub .., reshape_bufs_sub .., unary_bufs_sub ..⟩
/-- 4 host operations of @clip (main_call0), window 0 (statements 1 … 60), in order. -/
abbrev main_part0_ops1 : List (HloOp τ sig (Elt F)) :=
  [ TRef.unary (.of main_v9 : 𝕋 S_ .f32) (.of main_call0_v0 : 𝕋 S20000 .f32) (broadcastInDim S20000 ![] bcast_S_S20000),
    TRef.binary (.of main_call0_v0 : 𝕋 S20000 .f32) (.of main_v8 : 𝕋 S20000 .f32) (.of main_call0_v1 : 𝕋 S20000 .f32) maximumf,
    TRef.unary (.of main_v2 : 𝕋 S_ .f32) (.of main_call0_v2 : 𝕋 S20000 .f32) (broadcastInDim S20000 ![] bcast_S_S20000),
    TRef.binary (.of main_call0_v2 : 𝕋 S20000 .f32) (.of main_call0_v1 : 𝕋 S20000 .f32) (.of main_v10 : 𝕋 S20000 .f32) minimumf ]
/-- Each touches the program's own buffers only. -/
theorem main_part0_ops1_sub : (main_part0_ops1 : List (HloOp τ sig (Elt F))).Forall fun op => op.bufs ⊆ StableHlo.tcRefs τ sig :=
  ⟨unary_bufs_sub .., binary_bufs_sub .., unary_bufs_sub .., binary_bufs_sub ..⟩
/-- 3 host operations of @main, window 0 (statements 1 … 60), in order. -/
abbrev main_part0_ops2 : List (HloOp τ sig (Elt F)) :=
  [ unary main_v0 main_v11 ((extractStridedSlice S20000x1 ![0, 3] · slices_S20000x4_S20000x1_0_3) : 𝔸 S20000x4 .f32 → 𝔸 S20000x1 .f32),
    reshape main_v11 main_v12 rfl shapeCasts_S20000x1_S20000,
    unary main_v2 main_v13 (Host.negf : 𝔸 S_ .f32 → 𝔸 S_ .f32) ]
/-- Each touches the program's own buffers only. -/
theorem main_part0_ops2_sub : (main_part0_ops2 : List (HloOp τ sig (Elt F))).Forall fun op => op.bufs ⊆ StableHlo.tcRefs τ sig :=
  ⟨unary_bufs_sub .., reshape_bufs_sub .., unary_bufs_sub ..⟩
/-- 4 host operations of @clip (main_call1), window 0 (statements 1 … 60), in order. -/
abbrev main_part0_ops3 : List (HloOp τ sig (Elt F)) :=
  [ TRef.unary (.of main_v13 : 𝕋 S_ .f32) (.of main_call1_v0 : 𝕋 S20000 .f32) (broadcastInDim S20000 ![] bcast_S_S20000),
    TRef.binary (.of main_call1_v0 : 𝕋 S20000 .f32) (.of main_v12 : 𝕋 S20000 .f32) (.of main_call1_v1 : 𝕋 S20000 .f32) maximumf,
    TRef.unary (.of main_v2 : 𝕋 S_ .f32) (.of main_call1_v2 : 𝕋 S20000 .f32) (broadcastInDim S20000 ![] bcast_S_S20000),
    TRef.binary (.of main_call1_v2 : 𝕋 S20000 .f32) (.of main_call1_v1 : 𝕋 S20000 .f32) (.of main_v14 : 𝕋 S20000 .f32) minimumf ]
/-- Each touches the program's own buffers only. -/
theorem main_part0_ops3_sub : (main_part0_ops3 : List (HloOp τ sig (Elt F))).Forall fun op => op.bufs ⊆ StableHlo.tcRefs τ sig :=
  ⟨unary_bufs_sub .., binary_bufs_sub .., unary_bufs_sub .., binary_bufs_sub ..⟩
/-- 26 host operations of @main, window 0 (statements 1 … 60), in order. -/
abbrev main_part0_ops4 : List (HloOp τ sig (Elt F)) :=
  [ unary main_arg3 main_v15 ((extractStridedSlice S20000x1 ![0, 0] · slices_S20000x4_S20000x1_0_0) : 𝔸 S20000x4 .f32 → 𝔸 S20000x1 .f32),
    reshape main_v15 main_v16 rfl shapeCasts_S20000x1_S20000,
    unary main_arg3 main_v17 ((extractStridedSlice S20000x1 ![0, 2] · slices_S20000x4_S20000x1_0_2) : 𝔸 S20000x4 .f32 → 𝔸 S20000x1 .f32),
    reshape main_v17 main_v18 rfl shapeCasts_S20000x1_S20000,
    binary main_v4 main_v18 main_v19 (mulf : 𝔸 S20000 .f32 → 𝔸 S20000 .f32 → 𝔸 S20000 .f32),
    binary main_v16 main_v19 main_v20 (addf : 𝔸 S20000 .f32 → 𝔸 S20000 .f32 → 𝔸 S20000 .f32),
    unary main_arg3 main_v21 ((extractStridedSlice S20000x1 ![0, 1] · slices_S20000x4_S20000x1_0_1) : 𝔸 S20000x4 .f32 → 𝔸 S20000x1 .f32),
    reshape main_v21 main_v22 rfl shapeCasts_S20000x1_S20000,
    unary main_arg3 main_v23 ((extractStridedSlice S20000x1 ![0, 3] · slices_S20000x4_S20000x1_0_3) : 𝔸 S20000x4 .f32 → 𝔸 S20000x1 .f32),
    reshape main_v23 main_v24 rfl shapeCasts_S20000x1_S20000,
    binary main_v6 main_v24 main_v25 (mulf : 𝔸 S20000 .f32 → 𝔸 S20000 .f32 → 𝔸 S20000 .f32),
    binary main_v22 main_v25 main_v26 (addf : 𝔸 S20000 .f32 → 𝔸 S20000 .f32 → 𝔸 S20000 .f32),
    unary main_arg3 main_v27 ((extractStridedSlice S20000x1 ![0, 2] · slices_S20000x4_S20000x1_0_2) : 𝔸 S20000x4 .f32 → 𝔸 S20000x1 .f32),
    reshape main_v27 main_v28 rfl shapeCasts_S20000x1_S20000,
    unary main_v10 main_v29 (Host.exp : 𝔸 S20000 .f32 → 𝔸 S20000 .f32),
    binary main_v28 main_v29 main_v30 (mulf : 𝔸 S20000 .f32 → 𝔸 S20000 .f32 → 𝔸 S20000 .f32),
    unary main_arg3 main_v31 ((extractStridedSlice S20000x1 ![0, 3] · slices_S20000x4_S20000x1_0_3) : 𝔸 S20000x4 .f32 → 𝔸 S20000x1 .f32),
    reshape main_v31 main_v32 rfl shapeCasts_S20000x1_S20000,
    unary main_v14 main_v33 (Host.exp : 𝔸 S20000 .f32 → 𝔸 S20000 .f32),
    binary main_v32 main_v33 main_v34 (mulf : 𝔸 S20000 .f32 → 𝔸 S20000 .f32 → 𝔸 S20000 .f32),
    nullary main_cst_0 (constant S_ .f32 0x3F000000#32),
    unary main_cst_0 main_v35 (broadcastInDim S20000 ![] bcast_S_S20000 : 𝔸 S_ .f32 → 𝔸 S20000 .f32),
    binary main_v30 main_v35 main_v36 (mulf : 𝔸 S20000 .f32 → 𝔸 S20000 .f32 → 𝔸 S20000 .f32),
    binary main_v20 main_v36 main_v37 (subf : 𝔸 S20000 .f32 → 𝔸 S20000 .f32 → 𝔸 S20000 .f32),
    nullary main_cst_1 (constant S_ .f32 0x00000000#32),
    nullary main_cst_2 (constant S_ .f32 0x3F800000#32) ]
/-- Each touches the program's own buffers only. -/
theorem main_part0_ops4_sub : (main_part0_ops4 : List (HloOp τ sig (Elt F))).Forall fun op => op.bufs ⊆ StableHlo.tcRefs τ sig :=
  ⟨unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., binary_bufs_sub .., nullary_bufs_sub .., nullary_bufs_sub ..⟩
/-- 6 host operations of @clip_0 (main_call2), window 0 (statements 1 … 60), in order. -/
abbrev main_part0_ops5 : List (HloOp τ sig (Elt F)) :=
  [ TRef.unary (.of main_cst_1 : 𝕋 S_ .f32) (.of main_call2_v0 : 𝕋 S_ .f32) id,
    TRef.unary (.of main_call2_v0 : 𝕋 S_ .f32) (.of main_call2_v1 : 𝕋 S20000 .f32) (broadcastInDim S20000 ![] bcast_S_S20000),
    TRef.binary (.of main_call2_v1 : 𝕋 S20000 .f32) (.of main_v37 : 𝕋 S20000 .f32) (.of main_call2_v2 : 𝕋 S20000 .f32) maximumf,
    TRef.unary (.of main_cst_2 : 𝕋 S_ .f32) (.of main_call2_v3 : 𝕋 S_ .f32) id,
    TRef.unary (.of main_call2_v3 : 𝕋 S_ .f32) (.of main_call2_v4 : 𝕋 S20000 .f32) (broadcastInDim S20000 ![] bcast_S_S20000),
    TRef.binary (.of main_call2_v4 : 𝕋 S20000 .f32) (.of main_call2_v2 : 𝕋 S20000 .f32) (.of main_v38 : 𝕋 S20000 .f32) minimumf ]
/-- Each touches the program's own buffers only. -/
theorem main_part0_ops5_sub : (main_part0_ops5 : List (HloOp τ sig (Elt F))).Forall fun op => op.bufs ⊆ StableHlo.tcRefs τ sig :=
  ⟨unary_bufs_sub .., unary_bufs_sub .., binary_bufs_sub .., unary_bufs_sub .., unary_bufs_sub .., binary_bufs_sub ..⟩
/-- 6 host operations of @main, window 0 (statements 1 … 60), in order. -/
abbrev main_part0_ops6 : List (HloOp τ sig (Elt F)) :=
  [ nullary main_cst_3 (constant S_ .f32 0x3F000000#32),
    unary main_cst_3 main_v39 (broadcastInDim S20000 ![] bcast_S_S20000 : 𝔸 S_ .f32 → 𝔸 S20000 .f32),
    binary main_v34 main_v39 main_v40 (mulf : 𝔸 S20000 .f32 → 𝔸 S20000 .f32 → 𝔸 S20000 .f32),
    binary main_v26 main_v40 main_v41 (subf : 𝔸 S20000 .f32 → 𝔸 S20000 .f32 → 𝔸 S20000 .f32),
    nullary main_cst_4 (constant S_ .f32 0x00000000#32),
    nullary main_cst_5 (constant S_ .f32 0x3F800000#32) ]
/-- Each touches the program's own buffers only. -/
theorem main_part0_ops6_sub : (main_part0_ops6 : List (HloOp τ sig (Elt F))).Forall fun op => op.bufs ⊆ StableHlo.tcRefs τ sig :=
  ⟨nullary_bufs_sub .., unary_bufs_sub .., binary_bufs_sub .., binary_bufs_sub .., nullary_bufs_sub .., nullary_bufs_sub ..⟩
/-- 6 host operations of @clip_0 (main_call3), window 0 (statements 1 … 60), in order. -/
abbrev main_part0_ops7 : List (HloOp τ sig (Elt F)) :=
  [ TRef.unary (.of main_cst_4 : 𝕋 S_ .f32) (.of main_call3_v0 : 𝕋 S_ .f32) id,
    TRef.unary (.of main_call3_v0 : 𝕋 S_ .f32) (.of main_call3_v1 : 𝕋 S20000 .f32) (broadcastInDim S20000 ![] bcast_S_S20000),
    TRef.binary (.of main_call3_v1 : 𝕋 S20000 .f32) (.of main_v41 : 𝕋 S20000 .f32) (.of main_call3_v2 : 𝕋 S20000 .f32) maximumf,
    TRef.unary (.of main_cst_5 : 𝕋 S_ .f32) (.of main_call3_v3 : 𝕋 S_ .f32) id,
    TRef.unary (.of main_call3_v3 : 𝕋 S_ .f32) (.of main_call3_v4 : 𝕋 S20000 .f32) (broadcastInDim S20000 ![] bcast_S_S20000),
    TRef.binary (.of main_call3_v4 : 𝕋 S20000 .f32) (.of main_call3_v2 : 𝕋 S20000 .f32) (.of main_v42 : 𝕋 S20000 .f32) minimumf ]
/-- Each touches the program's own buffers only. -/
theorem main_part0_ops7_sub : (main_part0_ops7 : List (HloOp τ sig (Elt F))).Forall fun op => op.bufs ⊆ StableHlo.tcRefs τ sig :=
  ⟨unary_bufs_sub .., unary_bufs_sub .., binary_bufs_sub .., unary_bufs_sub .., unary_bufs_sub .., binary_bufs_sub ..⟩
/-- 6 host operations of @main, window 0 (statements 1 … 60), in order. -/
abbrev main_part0_ops8 : List (HloOp τ sig (Elt F)) :=
  [ nullary main_cst_6 (constant S_ .f32 0x3F000000#32),
    unary main_cst_6 main_v43 (broadcastInDim S20000 ![] bcast_S_S20000 : 𝔸 S_ .f32 → 𝔸 S20000 .f32),
    binary main_v30 main_v43 main_v44 (mulf : 𝔸 S20000 .f32 → 𝔸 S20000 .f32 → 𝔸 S20000 .f32),
    binary main_v20 main_v44 main_v45 (addf : 𝔸 S20000 .f32 → 𝔸 S20000 .f32 → 𝔸 S20000 .f32),
    nullary main_cst_7 (constant S_ .f32 0x00000000#32),
    nullary main_cst_8 (constant S_ .f32 0x3F800000#32) ]
/-- Each touches the program's own buffers only. -/
theorem main_part0_ops8_sub : (main_part0_ops8 : List (HloOp τ sig (Elt F))).Forall fun op => op.bufs ⊆ StableHlo.tcRefs τ sig :=
  ⟨nullary_bufs_sub .., unary_bufs_sub .., binary_bufs_sub .., binary_bufs_sub .., nullary_bufs_sub .., nullary_bufs_sub ..⟩
/-- 6 host operations of @clip_0 (main_call4), window 0 (statements 1 … 60), in order. -/
abbrev main_part0_ops9 : List (HloOp τ sig (Elt F)) :=
  [ TRef.unary (.of main_cst_7 : 𝕋 S_ .f32) (.of main_call4_v0 : 𝕋 S_ .f32) id,
    TRef.unary (.of main_call4_v0 : 𝕋 S_ .f32) (.of main_call4_v1 : 𝕋 S20000 .f32) (broadcastInDim S20000 ![] bcast_S_S20000),
    TRef.binary (.of main_call4_v1 : 𝕋 S20000 .f32) (.of main_v45 : 𝕋 S20000 .f32) (.of main_call4_v2 : 𝕋 S20000 .f32) maximumf,
    TRef.unary (.of main_cst_8 : 𝕋 S_ .f32) (.of main_call4_v3 : 𝕋 S_ .f32) id,
    TRef.unary (.of main_call4_v3 : 𝕋 S_ .f32) (.of main_call4_v4 : 𝕋 S20000 .f32) (broadcastInDim S20000 ![] bcast_S_S20000),
    TRef.binary (.of main_call4_v4 : 𝕋 S20000 .f32) (.of main_call4_v2 : 𝕋 S20000 .f32) (.of main_v46 : 𝕋 S20000 .f32) minimumf ]
/-- Each touches the program's own buffers only. -/
theorem main_part0_ops9_sub : (main_part0_ops9 : List (HloOp τ sig (Elt F))).Forall fun op => op.bufs ⊆ StableHlo.tcRefs τ sig :=
  ⟨unary_bufs_sub .., unary_bufs_sub .., binary_bufs_sub .., unary_bufs_sub .., unary_bufs_sub .., binary_bufs_sub ..⟩
/-- 3 host operations of @main, window 0 (statements 1 … 60), in order. -/
abbrev main_part0_ops10 : List (HloOp τ sig (Elt F)) :=
  [ nullary main_cst_9 (constant S_ .f32 0x3F000000#32),
    unary main_cst_9 main_v47 (broadcastInDim S20000 ![] bcast_S_S20000 : 𝔸 S_ .f32 → 𝔸 S20000 .f32),
    binary main_v34 main_v47 main_v48 (mulf : 𝔸 S20000 .f32 → 𝔸 S20000 .f32 → 𝔸 S20000 .f32) ]
/-- Each touches the program's own buffers only. -/
theorem main_part0_ops10_sub : (main_part0_ops10 : List (HloOp τ sig (Elt F))).Forall fun op => op.bufs ⊆ StableHlo.tcRefs τ sig :=
  ⟨nullary_bufs_sub .., unary_bufs_sub .., binary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ seq main_part0_ops0,
    seq main_part0_ops1,
    seq main_part0_ops2,
    seq main_part0_ops3,
    seq main_part0_ops4,
    seq main_part0_ops5,
    seq main_part0_ops6,
    seq main_part0_ops7,
    seq main_part0_ops8,
    seq main_part0_ops9 ]
  (seq main_part0_ops10) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 3 host operations of @main, window 1 (statements 61 … 120), in order. -/
abbrev main_part1_ops0 : List (HloOp τ sig (Elt F)) :=
  [ binary main_v26 main_v48 main_v49 (addf : 𝔸 S20000 .f32 → 𝔸 S20000 .f32 → 𝔸 S20000 .f32),
    nullary main_cst_10 (constant S_ .f32 0x00000000#32),
    nullary main_cst_11 (constant S_ .f32 0x3F800000#32) ]
/-- Each touches the program's own buffers only. -/
theorem main_part1_ops0_sub : (main_part1_ops0 : List (HloOp τ sig (Elt F))).Forall fun op => op.bufs ⊆ StableHlo.tcRefs τ sig :=
  ⟨binary_bufs_sub .., nullary_bufs_sub .., nullary_bufs_sub ..⟩
/-- 6 host operations of @clip_0 (main_call5), window 1 (statements 61 … 120), in order. -/
abbrev main_part1_ops1 : List (HloOp τ sig (Elt F)) :=
  [ TRef.unary (.of main_cst_10 : 𝕋 S_ .f32) (.of main_call5_v0 : 𝕋 S_ .f32) id,
    TRef.unary (.of main_call5_v0 : 𝕋 S_ .f32) (.of main_call5_v1 : 𝕋 S20000 .f32) (broadcastInDim S20000 ![] bcast_S_S20000),
    TRef.binary (.of main_call5_v1 : 𝕋 S20000 .f32) (.of main_v49 : 𝕋 S20000 .f32) (.of main_call5_v2 : 𝕋 S20000 .f32) maximumf,
    TRef.unary (.of main_cst_11 : 𝕋 S_ .f32) (.of main_call5_v3 : 𝕋 S_ .f32) id,
    TRef.unary (.of main_call5_v3 : 𝕋 S_ .f32) (.of main_call5_v4 : 𝕋 S20000 .f32) (broadcastInDim S20000 ![] bcast_S_S20000),
    TRef.binary (.of main_call5_v4 : 𝕋 S20000 .f32) (.of main_call5_v2 : 𝕋 S20000 .f32) (.of main_v50 : 𝕋 S20000 .f32) minimumf ]
/-- Each touches the program's own buffers only. -/
theorem main_part1_ops1_sub : (main_part1_ops1 : List (HloOp τ sig (Elt F))).Forall fun op => op.bufs ⊆ StableHlo.tcRefs τ sig :=
  ⟨unary_bufs_sub .., unary_bufs_sub .., binary_bufs_sub .., unary_bufs_sub .., unary_bufs_sub .., binary_bufs_sub ..⟩
/-- 14 host operations of @main, window 1 (statements 61 … 120), in order. -/
abbrev main_part1_ops2 : List (HloOp τ sig (Elt F)) :=
  [ unary main_v38 main_v51 (broadcastInDim S20000x1 ![0] bcast_S20000_S20000x1_0 : 𝔸 S20000 .f32 → 𝔸 S20000x1 .f32),
    unary main_v42 main_v52 (broadcastInDim S20000x1 ![0] bcast_S20000_S20000x1_0 : 𝔸 S20000 .f32 → 𝔸 S20000x1 .f32),
    unary main_v46 main_v53 (broadcastInDim S20000x1 ![0] bcast_S20000_S20000x1_0 : 𝔸 S20000 .f32 → 𝔸 S20000x1 .f32),
    unary main_v50 main_v54 (broadcastInDim S20000x1 ![0] bcast_S20000_S20000x1_0 : 𝔸 S20000 .f32 → 𝔸 S20000x1 .f32),
    StableHlo.nary ![main_v51, main_v52, main_v53, main_v54] main_v55 (fun u => (concatenate S20000x4 1 [⟨S20000x1, (u 0 : 𝔸 S20000x1 .f32)⟩, ⟨S20000x1, (u 1 : 𝔸 S20000x1 .f32)⟩, ⟨S20000x1, (u 2 : 𝔸 S20000x1 .f32)⟩, ⟨S20000x1, (u 3 : 𝔸 S20000x1 .f32)⟩] concatenates_S20000x1_S20000x1_S20000x1_S20000x1_S20000x4_d1 : 𝔸 S20000x4 .f32)),
    reshape main_arg1 main_v56 rfl shapeCasts_S1x20000x20_S20000x20,
    reshape main_arg0 main_v57 rfl shapeCasts_S1x20000x1_S20000x1,
    unary main_v57 main_v58 (broadcastInDim S20000x20 ![0, 1] bcast_S20000x1_S20000x20_0_1 : 𝔸 S20000x1 .f32 → 𝔸 S20000x20 .f32),
    binary main_v56 main_v58 main_v59 (mulf : 𝔸 S20000x20 .f32 → 𝔸 S20000x20 .f32 → 𝔸 S20000x20 .f32),
    unary main_v59 main_v60 ((transpose S20x20000 [1, 0] · transposes_S20000x20_S20x20000_1_0) : 𝔸 S20000x20 .f32 → 𝔸 S20x20000 .f32),
    nullary main_cst_12 (constant S_ .f32 0x3D4CCCCD#32),
    unary main_cst_12 main_v61 (broadcastInDim S20x20000 ![] bcast_S_S20x20000 : 𝔸 S_ .f32 → 𝔸 S20x20000 .f32),
    binary main_v60 main_v61 main_v62 (cmpf .ogt : 𝔸 S20x20000 .f32 → 𝔸 S20x20000 .f32 → 𝔸 S20x20000 .i1),
    nullary main_cst_13 (constant S_ .f32 0xFF800000#32) ]
/-- Each touches the program's own buffers only. -/
theorem main_part1_ops2_sub : (main_part1_ops2 : List (HloOp τ sig (Elt F))).Forall fun op => op.bufs ⊆ StableHlo.tcRefs τ sig :=
  ⟨unary_bufs_sub .., unary_bufs_sub .., unary_bufs_sub .., unary_bufs_sub .., nary_bufs_sub .., reshape_bufs_sub .., reshape_bufs_sub .., unary_bufs_sub .., binary_bufs_sub .., unary_bufs_sub .., nullary_bufs_sub .., unary_bufs_sub .., binary_bufs_sub .., nullary_bufs_sub ..⟩
/-- 3 host operations of @_where (main_call6), window 1 (statements 61 … 120), in order. -/
abbrev main_part1_ops3 : List (HloOp τ sig (Elt F)) :=
  [ TRef.unary (.of main_cst_13 : 𝕋 S_ .f32) (.of main_call6_v0 : 𝕋 S_ .f32) id,
    TRef.unary (.of main_call6_v0 : 𝕋 S_ .f32) (.of main_call6_v1 : 𝕋 S20x20000 .f32) (broadcastInDim S20x20000 ![] bcast_S_S20x20000),
    TRef.ternary (.of main_v62 : 𝕋 S20x20000 .i1) (.of main_v60 : 𝕋 S20x20000 .f32) (.of main_call6_v1 : 𝕋 S20x20000 .f32) (.of main_v63 : 𝕋 S20x20000 .f32) select ]
/-- Each touches the program's own buffers only. -/
theorem main_part1_ops3_sub : (main_part1_ops3 : List (HloOp τ sig (Elt F))).Forall fun op => op.bufs ⊆ StableHlo.tcRefs τ sig :=
  ⟨unary_bufs_sub .., unary_bufs_sub .., ternary_bufs_sub ..⟩
/-- 21 host operations of @main, window 1 (statements 61 … 120), in order. -/
abbrev main_part1_ops4 : List (HloOp τ sig (Elt F)) :=
  [ unary main_v63 main_values ((fun x => (Host.topK S20x5000 1 (FloatOps.cmpfTotal .gt) x sliceFits_S20x20000_S20x5000).1) : 𝔸 S20x20000 .f32 → 𝔸 S20x5000 .f32),
    unary main_v63 main_indices ((fun x => (Host.topK S20x5000 1 (FloatOps.cmpfTotal .gt) x sliceFits_S20x20000_S20x5000).2) : 𝔸 S20x20000 .f32 → 𝔸 S20x5000 .i32),
    nullary main_c (constantI S_ 32 0#32),
    unary main_c main_v64 (broadcastInDim S20x5000 ![] bcast_S_S20x5000 : 𝔸 S_ .i32 → 𝔸 S20x5000 .i32),
    binary main_indices main_v64 main_v65 (cmpi .slt : 𝔸 S20x5000 .i32 → 𝔸 S20x5000 .i32 → 𝔸 S20x5000 .i1),
    nullary main_c_14 (constantI S_ 32 20000#32),
    unary main_c_14 main_v66 (broadcastInDim S20x5000 ![] bcast_S_S20x5000 : 𝔸 S_ .i32 → 𝔸 S20x5000 .i32),
    binary main_indices main_v66 main_v67 (addi : 𝔸 S20x5000 .i32 → 𝔸 S20x5000 .i32 → 𝔸 S20x5000 .i32),
    ternary main_v65 main_v67 main_indices main_v68 (select : 𝔸 S20x5000 .i1 → 𝔸 S20x5000 .i32 → 𝔸 S20x5000 .i32 → 𝔸 S20x5000 .i32),
    unary main_v68 main_v69 (broadcastInDim S20x5000x1 ![0, 1] bcast_S20x5000_S20x5000x1_0_1 : 𝔸 S20x5000 .i32 → 𝔸 S20x5000x1 .i32),
    binary main_v55 main_v69 main_v70 ((fun x i => Host.gather gather_S20000x4_S20x5000x1_S20x5000x4_2_0_n_n_0_2_14 x i) : 𝔸 S20000x4 .f32 → 𝔸 S20x5000x1 .i32 → 𝔸 S20x5000x4 .f32),
    nullary main_cst_15 (constant S_ .f32 0x00000000#32),
    unary main_cst_15 main_v71 (broadcastInDim S100x20x4 ![] bcast_S_S100x20x4 : 𝔸 S_ .f32 → 𝔸 S100x20x4 .f32),
    nullary main_cst_16 (constant S_ .f32 0x00000000#32),
    unary main_cst_16 main_v72 (broadcastInDim S100x20 ![] bcast_S_S100x20 : 𝔸 S_ .f32 → 𝔸 S100x20 .f32),
    nullary main_c_17 (constantI S_ 32 0#32),
    unary main_v70 main_v73_0 id,
    unary main_c_17 main_v73_1 id,
    unary main_values main_v73_2 id,
    unary main_v71 main_v73_3 id,
    unary main_v72 main_v73_4 id ]
/-- Each touches the program's own buffers only. -/
theorem main_part1_ops4_sub : (main_part1_ops4 : List (HloOp τ sig (Elt F))).Forall fun op => op.bufs ⊆ StableHlo.tcRefs τ sig :=
  ⟨unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., nullary_bufs_sub .., unary_bufs_sub .., unary_bufs_sub .., unary_bufs_sub .., unary_bufs_sub .., unary_bufs_sub ..⟩
/-- 19 host operations of @main, window 1 (statements 61 … 120), in order. -/
abbrev main_part1_ops5 : List (HloOp τ sig (Elt F)) :=
  [ unary main_v73_3 main_v74 ((transpose S20x100x4 [1, 0, 2] · transposes_S100x20x4_S20x100x4_1_0_2) : 𝔸 S100x20x4 .f32 → 𝔸 S20x100x4 .f32),
    reshape main_v74 main_v75 rfl shapeCasts_S20x100x4_S2000x4,
    unary main_v73_4 main_v76 ((transpose S20x100 [1, 0] · transposes_S100x20_S20x100_1_0) : 𝔸 S100x20 .f32 → 𝔸 S20x100 .f32),
    reshape main_v76 main_v77 rfl shapeCasts_S20x100_S2000,
    nullary main_v78 (sitofp .f32 (iotaInDim S20 32 0)),
    unary main_v78 main_v79 (broadcastInDim S20x100 ![0] bcast_S20_S20x100_0 : 𝔸 S20 .f32 → 𝔸 S20x100 .f32),
    reshape main_v79 main_v80 rfl shapeCasts_S20x100_S2000,
    unary main_v77 main_values_18 ((fun x => (Host.topK S100 0 (FloatOps.cmpfTotal .gt) x sliceFits_S2000_S100).1) : 𝔸 S2000 .f32 → 𝔸 S100 .f32),
    unary main_v77 main_indices_19 ((fun x => (Host.topK S100 0 (FloatOps.cmpfTotal .gt) x sliceFits_S2000_S100).2) : 𝔸 S2000 .f32 → 𝔸 S100 .i32),
    nullary main_c_20 (constantI S_ 32 0#32),
    unary main_c_20 main_v81 (broadcastInDim S100 ![] bcast_S_S100 : 𝔸 S_ .i32 → 𝔸 S100 .i32),
    binary main_indices_19 main_v81 main_v82 (cmpi .slt : 𝔸 S100 .i32 → 𝔸 S100 .i32 → 𝔸 S100 .i1),
    nullary main_c_21 (constantI S_ 32 2000#32),
    unary main_c_21 main_v83 (broadcastInDim S100 ![] bcast_S_S100 : 𝔸 S_ .i32 → 𝔸 S100 .i32),
    binary main_indices_19 main_v83 main_v84 (addi : 𝔸 S100 .i32 → 𝔸 S100 .i32 → 𝔸 S100 .i32),
    ternary main_v82 main_v84 main_indices_19 main_v85 (select : 𝔸 S100 .i1 → 𝔸 S100 .i32 → 𝔸 S100 .i32 → 𝔸 S100 .i32),
    unary main_v85 main_v86 (broadcastInDim S100x1 ![0] bcast_S100_S100x1_0 : 𝔸 S100 .i32 → 𝔸 S100x1 .i32),
    binary main_v75 main_v86 main_v87 ((fun x i => Host.gather gather_S2000x4_S100x1_S100x4_1_0_n_n_0_1_14 x i) : 𝔸 S2000x4 .f32 → 𝔸 S100x1 .i32 → 𝔸 S100x4 .f32),
    nullary main_c_22 (constantI S_ 32 0#32) ]
/-- Each touches the program's own buffers only. -/
theorem main_part1_ops5_sub : (main_part1_ops5 : List (HloOp τ sig (Elt F))).Forall fun op => op.bufs ⊆ StableHlo.tcRefs τ sig :=
  ⟨unary_bufs_sub .., reshape_bufs_sub .., unary_bufs_sub .., reshape_bufs_sub .., nullary_bufs_sub .., unary_bufs_sub .., reshape_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩
/-- Window 1 of `main` (`main_part1`, statements 61 … 120) is the chain of ITS items ending in the last
    (`Pipeline.chainK`: no closing `pure`, the window's last statement being in tail position), each item but the last aligned with the
    window's statements, then `chain_rfl`. -/
theorem main_part1_chain (c : Dev nD) : main_part1 (F := F) c = (Pipeline.chainK
  [ seq main_part1_ops0,
    seq main_part1_ops1,
    seq main_part1_ops2,
    seq main_part1_ops3,
    seq main_part1_ops4,
    HostLoop.enter 0 ]
  (seq main_part1_ops5) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons]
  chain_rfl

/-- 13 host operations of @main, window 2 (statements 121 … 139), in order. -/
abbrev main_part2_ops0 : List (HloOp τ sig (Elt F)) :=
  [ unary main_c_22 main_v88 (broadcastInDim S100 ![] bcast_S_S100 : 𝔸 S_ .i32 → 𝔸 S100 .i32),
    binary main_indices_19 main_v88 main_v89 (cmpi .slt : 𝔸 S100 .i32 → 𝔸 S100 .i32 → 𝔸 S100 .i1),
    nullary main_c_23 (constantI S_ 32 2000#32),
    unary main_c_23 main_v90 (broadcastInDim S100 ![] bcast_S_S100 : 𝔸 S_ .i32 → 𝔸 S100 .i32),
    binary main_indices_19 main_v90 main_v91 (addi : 𝔸 S100 .i32 → 𝔸 S100 .i32 → 𝔸 S100 .i32),
    ternary main_v89 main_v91 main_indices_19 main_v92 (select : 𝔸 S100 .i1 → 𝔸 S100 .i32 → 𝔸 S100 .i32 → 𝔸 S100 .i32),
    unary main_v92 main_v93 (broadcastInDim S100x1 ![0] bcast_S100_S100x1_0 : 𝔸 S100 .i32 → 𝔸 S100x1 .i32),
    binary main_v80 main_v93 main_v94 ((fun x i => Host.gather gather_S2000_S100x1_S100_n_0_n_n_0_1_1 x i) : 𝔸 S2000 .f32 → 𝔸 S100x1 .i32 → 𝔸 S100 .f32),
    unary main_values_18 main_v95 (Host.absf : 𝔸 S100 .f32 → 𝔸 S100 .f32),
    nullary main_cst_24 (constant S_ .f32 0x7F800000#32),
    unary main_cst_24 main_v96 (broadcastInDim S100 ![] bcast_S_S100 : 𝔸 S_ .f32 → 𝔸 S100 .f32),
    binary main_v95 main_v96 main_v97 (cmpf .olt : 𝔸 S100 .f32 → 𝔸 S100 .f32 → 𝔸 S100 .i1),
    nullary main_cst_25 (constant S_ .f32 0x00000000#32) ]
/-- Each touches the program's own buffers only. -/
theorem main_part2_ops0_sub : (main_part2_ops0 : List (HloOp τ sig (Elt F))).Forall fun op => op.bufs ⊆ StableHlo.tcRefs τ sig :=
  ⟨unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub ..⟩
/-- 3 host operations of @_where_5 (main_call14), window 2 (statements 121 … 139), in order. -/
abbrev main_part2_ops1 : List (HloOp τ sig (Elt F)) :=
  [ TRef.unary (.of main_cst_25 : 𝕋 S_ .f32) (.of main_call14_v0 : 𝕋 S_ .f32) id,
    TRef.unary (.of main_call14_v0 : 𝕋 S_ .f32) (.of main_call14_v1 : 𝕋 S100 .f32) (broadcastInDim S100 ![] bcast_S_S100),
    TRef.ternary (.of main_v97 : 𝕋 S100 .i1) (.of main_values_18 : 𝕋 S100 .f32) (.of main_call14_v1 : 𝕋 S100 .f32) (.of main_v98 : 𝕋 S100 .f32) select ]
/-- Each touches the program's own buffers only. -/
theorem main_part2_ops1_sub : (main_part2_ops1 : List (HloOp τ sig (Elt F))).Forall fun op => op.bufs ⊆ StableHlo.tcRefs τ sig :=
  ⟨unary_bufs_sub .., unary_bufs_sub .., ternary_bufs_sub ..⟩
/-- 4 host operations of @main, window 2 (statements 121 … 139), in order. -/
abbrev main_part2_ops2 : List (HloOp τ sig (Elt F)) :=
  [ unary main_v98 main_v99 (broadcastInDim S100x1 ![0] bcast_S100_S100x1_0 : 𝔸 S100 .f32 → 𝔸 S100x1 .f32),
    unary main_v94 main_v100 (broadcastInDim S100x1 ![0] bcast_S100_S100x1_0 : 𝔸 S100 .f32 → 𝔸 S100x1 .f32),
    StableHlo.nary ![main_v87, main_v99, main_v100] main_v101 (fun u => (concatenate S100x6 1 [⟨S100x4, (u 0 : 𝔸 S100x4 .f32)⟩, ⟨S100x1, (u 1 : 𝔸 S100x1 .f32)⟩, ⟨S100x1, (u 2 : 𝔸 S100x1 .f32)⟩] concatenates_S100x4_S100x1_S100x1_S100x6_d1 : 𝔸 S100x6 .f32)),
    unary main_v101 main_v102 (broadcastInDim S1x100x6 ![1, 2] bcast_S100x6_S1x100x6_1_2 : 𝔸 S100x6 .f32 → 𝔸 S1x100x6 .f32) ]
/-- Each touches the program's own buffers only. -/
theorem main_part2_ops2_sub : (main_part2_ops2 : List (HloOp τ sig (Elt F))).Forall fun op => op.bufs ⊆ StableHlo.tcRefs τ sig :=
  ⟨unary_bufs_sub .., unary_bufs_sub .., nary_bufs_sub .., unary_bufs_sub ..⟩
/-- The last window of `main` (`main_part2`, statements 121 … 139) is the chain of ITS items, each item aligned with the window's
    statements, then `chain_rfl`. -/
theorem main_part2_chain (c : Dev nD) : main_part2 (F := F) c = (Pipeline.chain
  [ seq main_part2_ops0,
    seq main_part2_ops1,
    seq main_part2_ops2 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ seq main_part0_ops0,
    seq main_part0_ops1,
    seq main_part0_ops2,
    seq main_part0_ops3,
    seq main_part0_ops4,
    seq main_part0_ops5,
    seq main_part0_ops6,
    seq main_part0_ops7,
    seq main_part0_ops8,
    seq main_part0_ops9,
    seq main_part0_ops10,
    seq main_part1_ops0,
    seq main_part1_ops1,
    seq main_part1_ops2,
    seq main_part1_ops3,
    seq main_part1_ops4,
    HostLoop.enter 0,
    seq main_part1_ops5,
    seq main_part2_ops0,
    seq main_part2_ops1,
    seq main_part2_ops2 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .ops [main_part0_ops1],
    .ops [main_part0_ops2],
    .ops [main_part0_ops3],
    .ops [main_part0_ops4],
    .ops [main_part0_ops5],
    .ops [main_part0_ops6],
    .ops [main_part0_ops7],
    .ops [main_part0_ops8],
    .ops [main_part0_ops9],
    .ops [main_part0_ops10, main_part1_ops0],
    .ops [main_part1_ops1],
    .ops [main_part1_ops2],
    .ops [main_part1_ops3],
    .ops [main_part1_ops4],
    .prog (HostLoop.enter 0),
    .ops [main_part1_ops5, main_part2_ops0],
    .ops [main_part2_ops1],
    .ops [main_part2_ops2] ]

/-- The windows' item list is `main_groups` with each stretch cut into its window pieces (`StableHlo.Group.cut`): the two
    lists are the same, by `chain_rfl`. -/
theorem main_chain_cut (c : Dev nD) : (Pipeline.chain
  [ seq main_part0_ops0,
    seq main_part0_ops1,
    seq main_part0_ops2,
    seq main_part0_ops3,
    seq main_part0_ops4,
    seq main_part0_ops5,
    seq main_part0_ops6,
    seq main_part0_ops7,
    seq main_part0_ops8,
    seq main_part0_ops9,
    seq main_part0_ops10,
    seq main_part1_ops0,
    seq main_part1_ops1,
    seq main_part1_ops2,
    seq main_part1_ops3,
    seq main_part1_ops4,
    HostLoop.enter 0,
    seq main_part1_ops5,
    seq main_part2_ops0,
    seq main_part2_ops1,
    seq main_part2_ops2 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ seq hostOps0,
    seq hostOps0_1,
    seq hostOps0_2,
    seq hostOps0_3,
    seq hostOps0_4,
    seq hostOps0_5,
    seq hostOps0_6,
    seq hostOps0_7,
    seq hostOps0_8,
    seq hostOps0_9,
    seq hostOps0_10,
    seq hostOps0_11,
    seq hostOps0_12,
    seq hostOps0_13,
    seq hostOps0_14,
    HostLoop.enter 0,
    seq hostOps0_15,
    seq hostOps0_16,
    seq hostOps0_17 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 3 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ seq hostOps0,
    seq hostOps0_1,
    seq hostOps0_2,
    seq hostOps0_3,
    seq hostOps0_4,
    seq hostOps0_5,
    seq hostOps0_6,
    seq hostOps0_7,
    seq hostOps0_8,
    seq hostOps0_9,
    seq hostOps0_10,
    seq hostOps0_11,
    seq hostOps0_12,
    seq hostOps0_13,
    seq hostOps0_14,
    HostLoop.enter 0,
    seq hostOps0_15,
    seq hostOps0_16,
    seq hostOps0_17 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 5 host operations of @argmax (main_while0b_call7), in order. -/
abbrev while0Ops0 : List (HloOp τ sig (Elt F)) :=
  [ TRef.nullary (.of main_while0b_call7_v0 : 𝕋 S20x5000 .i32) (iotaInDim S20x5000 32 1),
    TRef.nullary (.of main_while0b_call7_cst : 𝕋 S_ .f32) (constant S_ .f32 0xFF800000#32),
    TRef.nullary (.of main_while0b_call7_c : 𝕋 S_ .i32) (constantI S_ 32 0#32),
    TRef.quaternary (.of main_v73_2 : 𝕋 S20x5000 .f32) (.of main_while0b_call7_v0 : 𝕋 S20x5000 .i32) (.of main_while0b_call7_cst : 𝕋 S_ .f32) (.of main_while0b_call7_c : 𝕋 S_ .i32) (.of main_while0b_call7_v1_0 : 𝕋 S20 .f32) (fun x y u v j => (Host.argReduce reducer_argmax_f32_i32 x y u v reducesTo_S20x5000_S20_d1 h_S_ j).1),
    TRef.quaternary (.of main_v73_2 : 𝕋 S20x5000 .f32) (.of main_while0b_call7_v0 : 𝕋 S20x5000 .i32) (.of main_while0b_call7_cst : 𝕋 S_ .f32) (.of main_while0b_call7_c : 𝕋 S_ .i32) (.of main_while0b_v103 : 𝕋 S20 .i32) (fun x y u v j => (Host.argReduce reducer_argmax_f32_i32 x y u v reducesTo_S20x5000_S20_d1 h_S_ j).2) ]
/-- Each touches the program's own buffers only. -/
theorem while0Ops0_sub : (while0Ops0 : List (HloOp τ sig (Elt F))).Forall fun op => op.bufs ⊆ StableHlo.tcRefs τ sig :=
  ⟨nullary_bufs_sub .., nullary_bufs_sub .., nullary_bufs_sub .., quaternary_bufs_sub .., quaternary_bufs_sub ..⟩
set_option maxHeartbeats 40000000 in  -- a long stretch: its list (or the term over it) exceeds the default budget
/-- 104 host operations of host loop 0's body region, in order. -/
abbrev while0Ops0_1 : List (HloOp τ sig (Elt F)) :=
  ( nullary main_while0b_cst_30 (constant S_ .f32 0xFF800000#32)
  :: binary main_v73_2 main_while0b_cst_30 main_while0b_v104 ((fun x v => Host.reduce FloatOps.maximumf x v reducesTo_S20x5000_S20_d1 h_S_) : 𝔸 S20x5000 .f32 → 𝔸 S_ .f32 → 𝔸 S20 .f32)
  :: nullary main_while0b_v105 (iotaInDim S20 32 0)
  :: nullary main_while0b_c_31 (constantI S_ 32 0#32)
  :: unary main_while0b_c_31 main_while0b_v106 (broadcastInDim S20 ![] bcast_S_S20 : 𝔸 S_ .i32 → 𝔸 S20 .i32)
  :: binary main_while0b_v105 main_while0b_v106 main_while0b_v107 (cmpi .slt : 𝔸 S20 .i32 → 𝔸 S20 .i32 → 𝔸 S20 .i1)
  :: nullary main_while0b_c_32 (constantI S_ 32 20#32)
  :: unary main_while0b_c_32 main_while0b_v108 (broadcastInDim S20 ![] bcast_S_S20 : 𝔸 S_ .i32 → 𝔸 S20 .i32)
  :: binary main_while0b_v105 main_while0b_v108 main_while0b_v109 (addi : 𝔸 S20 .i32 → 𝔸 S20 .i32 → 𝔸 S20 .i32)
  :: ternary main_while0b_v107 main_while0b_v109 main_while0b_v105 main_while0b_v110 (select : 𝔸 S20 .i1 → 𝔸 S20 .i32 → 𝔸 S20 .i32 → 𝔸 S20 .i32)
  :: nullary main_while0b_c_33 (constantI S_ 32 0#32)
  :: unary main_while0b_c_33 main_while0b_v111 (broadcastInDim S20 ![] bcast_S_S20 : 𝔸 S_ .i32 → 𝔸 S20 .i32)
  :: binary main_while0b_v103 main_while0b_v111 main_while0b_v112 (cmpi .slt : 𝔸 S20 .i32 → 𝔸 S20 .i32 → 𝔸 S20 .i1)
  :: nullary main_while0b_c_34 (constantI S_ 32 5000#32)
  :: unary main_while0b_c_34 main_while0b_v113 (broadcastInDim S20 ![] bcast_S_S20 : 𝔸 S_ .i32 → 𝔸 S20 .i32)
  :: binary main_while0b_v103 main_while0b_v113 main_while0b_v114 (addi : 𝔸 S20 .i32 → 𝔸 S20 .i32 → 𝔸 S20 .i32)
  :: ternary main_while0b_v112 main_while0b_v114 main_while0b_v103 main_while0b_v115 (select : 𝔸 S20 .i1 → 𝔸 S20 .i32 → 𝔸 S20 .i32 → 𝔸 S20 .i32)
  :: unary main_while0b_v110 main_while0b_v116 (broadcastInDim S20x1 ![0] bcast_S20_S20x1_0 : 𝔸 S20 .i32 → 𝔸 S20x1 .i32)
  :: unary main_while0b_v115 main_while0b_v117 (broadcastInDim S20x1 ![0] bcast_S20_S20x1_0 : 𝔸 S20 .i32 → 𝔸 S20x1 .i32)
  :: binary main_while0b_v116 main_while0b_v117 main_while0b_v118 ((fun a b => concatenate S20x2 1 [⟨S20x1, a⟩, ⟨S20x1, b⟩] concatenates_S20x1_S20x1_S20x2_d1) : 𝔸 S20x1 .i32 → 𝔸 S20x1 .i32 → 𝔸 S20x2 .i32)
  :: binary main_v73_0 main_while0b_v118 main_while0b_v119 ((fun x i => Host.gather gather_S20x5000x4_S20x2_S20x4_1_01_n_n_01_1_114 x i) : 𝔸 S20x5000x4 .f32 → 𝔸 S20x2 .i32 → 𝔸 S20x4 .f32)
  :: unary main_while0b_v104 main_while0b_v120 (Host.absf : 𝔸 S20 .f32 → 𝔸 S20 .f32)
  :: nullary main_while0b_cst_35 (constant S_ .f32 0x7F800000#32)
  :: unary main_while0b_cst_35 main_while0b_v121 (broadcastInDim S20 ![] bcast_S_S20 : 𝔸 S_ .f32 → 𝔸 S20 .f32)
  :: binary main_while0b_v120 main_while0b_v121 main_while0b_v122 (cmpf .olt : 𝔸 S20 .f32 → 𝔸 S20 .f32 → 𝔸 S20 .i1)
  :: unary main_while0b_v119 main_while0b_v123 (broadcastInDim S20x1x4 ![0, 2] bcast_S20x4_S20x1x4_0_2 : 𝔸 S20x4 .f32 → 𝔸 S20x1x4 .f32)
  :: unary main_while0b_v123 main_while0b_v124 ((extractStridedSlice S20x1x1 ![0, 0, 0] · slices_S20x1x4_S20x1x1_0_0_0) : 𝔸 S20x1x4 .f32 → 𝔸 S20x1x1 .f32)
  :: reshape main_while0b_v124 main_while0b_v125 rfl shapeCasts_S20x1x1_S20x1
  :: unary main_v73_0 main_while0b_v126 ((extractStridedSlice S20x5000x1 ![0, 0, 0] · slices_S20x5000x4_S20x5000x1_0_0_0) : 𝔸 S20x5000x4 .f32 → 𝔸 S20x5000x1 .f32)
  :: reshape main_while0b_v126 main_while0b_v127 rfl shapeCasts_S20x5000x1_S20x5000
  :: unary main_while0b_v125 main_while0b_v128 (broadcastInDim S20x5000 ![0, 1] bcast_S20x1_S20x5000_0_1 : 𝔸 S20x1 .f32 → 𝔸 S20x5000 .f32)
  :: binary main_while0b_v128 main_while0b_v127 main_while0b_v129 (maximumf : 𝔸 S20x5000 .f32 → 𝔸 S20x5000 .f32 → 𝔸 S20x5000 .f32)
  :: unary main_while0b_v123 main_while0b_v130 ((extractStridedSlice S20x1x1 ![0, 0, 1] · slices_S20x1x4_S20x1x1_0_0_1) : 𝔸 S20x1x4 .f32 → 𝔸 S20x1x1 .f32)
  :: reshape main_while0b_v130 main_while0b_v131 rfl shapeCasts_S20x1x1_S20x1
  :: unary main_v73_0 main_while0b_v132 ((extractStridedSlice S20x5000x1 ![0, 0, 1] · slices_S20x5000x4_S20x5000x1_0_0_1) : 𝔸 S20x5000x4 .f32 → 𝔸 S20x5000x1 .f32)
  :: reshape main_while0b_v132 main_while0b_v133 rfl shapeCasts_S20x5000x1_S20x5000
  :: unary main_while0b_v131 main_while0b_v134 (broadcastInDim S20x5000 ![0, 1] bcast_S20x1_S20x5000_0_1 : 𝔸 S20x1 .f32 → 𝔸 S20x5000 .f32)
  :: binary main_while0b_v134 main_while0b_v133 main_while0b_v135 (maximumf : 𝔸 S20x5000 .f32 → 𝔸 S20x5000 .f32 → 𝔸 S20x5000 .f32)
  :: unary main_while0b_v123 main_while0b_v136 ((extractStridedSlice S20x1x1 ![0, 0, 2] · slices_S20x1x4_S20x1x1_0_0_2) : 𝔸 S20x1x4 .f32 → 𝔸 S20x1x1 .f32)
  :: reshape main_while0b_v136 main_while0b_v137 rfl shapeCasts_S20x1x1_S20x1
  :: unary main_v73_0 main_while0b_v138 ((extractStridedSlice S20x5000x1 ![0, 0, 2] · slices_S20x5000x4_S20x5000x1_0_0_2) : 𝔸 S20x5000x4 .f32 → 𝔸 S20x5000x1 .f32)
  :: reshape main_while0b_v138 main_while0b_v139 rfl shapeCasts_S20x5000x1_S20x5000
  :: unary main_while0b_v137 main_while0b_v140 (broadcastInDim S20x5000 ![0, 1] bcast_S20x1_S20x5000_0_1 : 𝔸 S20x1 .f32 → 𝔸 S20x5000 .f32)
  :: binary main_while0b_v140 main_while0b_v139 main_while0b_v141 (minimumf : 𝔸 S20x5000 .f32 → 𝔸 S20x5000 .f32 → 𝔸 S20x5000 .f32)
  :: unary main_while0b_v123 main_while0b_v142 ((extractStridedSlice S20x1x1 ![0, 0, 3] · slices_S20x1x4_S20x1x1_0_0_3) : 𝔸 S20x1x4 .f32 → 𝔸 S20x1x1 .f32)
  :: reshape main_while0b_v142 main_while0b_v143 rfl shapeCasts_S20x1x1_S20x1
  :: unary main_v73_0 main_while0b_v144 ((extractStridedSlice S20x5000x1 ![0, 0, 3] · slices_S20x5000x4_S20x5000x1_0_0_3) : 𝔸 S20x5000x4 .f32 → 𝔸 S20x5000x1 .f32)
  :: reshape main_while0b_v144 main_while0b_v145 rfl shapeCasts_S20x5000x1_S20x5000
  :: unary main_while0b_v143 main_while0b_v146 (broadcastInDim S20x5000 ![0, 1] bcast_S20x1_S20x5000_0_1 : 𝔸 S20x1 .f32 → 𝔸 S20x5000 .f32)
  :: binary main_while0b_v146 main_while0b_v145 main_while0b_v147 (minimumf : 𝔸 S20x5000 .f32 → 𝔸 S20x5000 .f32 → 𝔸 S20x5000 .f32)
  :: binary main_while0b_v141 main_while0b_v129 main_while0b_v148 (subf : 𝔸 S20x5000 .f32 → 𝔸 S20x5000 .f32 → 𝔸 S20x5000 .f32)
  :: nullary main_while0b_cst_36 (constant S_ .f32 0x00000000#32)
  :: unary main_while0b_cst_36 main_while0b_v149 (broadcastInDim S20x5000 ![] bcast_S_S20x5000 : 𝔸 S_ .f32 → 𝔸 S20x5000 .f32)
  :: binary main_while0b_v148 main_while0b_v149 main_while0b_v150 (maximumf : 𝔸 S20x5000 .f32 → 𝔸 S20x5000 .f32 → 𝔸 S20x5000 .f32)
  :: binary main_while0b_v147 main_while0b_v135 main_while0b_v151 (subf : 𝔸 S20x5000 .f32 → 𝔸 S20x5000 .f32 → 𝔸 S20x5000 .f32)
  :: nullary main_while0b_cst_37 (constant S_ .f32 0x00000000#32)
  :: unary main_while0b_cst_37 main_while0b_v152 (broadcastInDim S20x5000 ![] bcast_S_S20x5000 : 𝔸 S_ .f32 → 𝔸 S20x5000 .f32)
  :: binary main_while0b_v151 main_while0b_v152 main_while0b_v153 (maximumf : 𝔸 S20x5000 .f32 → 𝔸 S20x5000 .f32 → 𝔸 S20x5000 .f32)
  :: binary main_while0b_v150 main_while0b_v153 main_while0b_v154 (mulf : 𝔸 S20x5000 .f32 → 𝔸 S20x5000 .f32 → 𝔸 S20x5000 .f32)
  :: unary main_while0b_v123 main_while0b_v155 ((extractStridedSlice S20x1x1 ![0, 0, 2] · slices_S20x1x4_S20x1x1_0_0_2) : 𝔸 S20x1x4 .f32 → 𝔸 S20x1x1 .f32)
  :: reshape main_while0b_v155 main_while0b_v156 rfl shapeCasts_S20x1x1_S20x1
  :: unary main_while0b_v123 main_while0b_v157 ((extractStridedSlice S20x1x1 ![0, 0, 0] · slices_S20x1x4_S20x1x1_0_0_0) : 𝔸 S20x1x4 .f32 → 𝔸 S20x1x1 .f32)
  :: reshape main_while0b_v157 main_while0b_v158 rfl shapeCasts_S20x1x1_S20x1
  :: binary main_while0b_v156 main_while0b_v158 main_while0b_v159 (subf : 𝔸 S20x1 .f32 → 𝔸 S20x1 .f32 → 𝔸 S20x1 .f32)
  :: nullary main_while0b_cst_38 (constant S_ .f32 0x00000000#32)
  :: unary main_while0b_cst_38 main_while0b_v160 (broadcastInDim S20x1 ![] bcast_S_S20x1 : 𝔸 S_ .f32 → 𝔸 S20x1 .f32)
  :: binary main_while0b_v159 main_while0b_v160 main_while0b_v161 (maximumf : 𝔸 S20x1 .f32 → 𝔸 S20x1 .f32 → 𝔸 S20x1 .f32)
  :: unary main_while0b_v123 main_while0b_v162 ((extractStridedSlice S20x1x1 ![0, 0, 3] · slices_S20x1x4_S20x1x1_0_0_3) : 𝔸 S20x1x4 .f32 → 𝔸 S20x1x1 .f32)
  :: reshape main_while0b_v162 main_while0b_v163 rfl shapeCasts_S20x1x1_S20x1
  :: unary main_while0b_v123 main_while0b_v164 ((extractStridedSlice S20x1x1 ![0, 0, 1] · slices_S20x1x4_S20x1x1_0_0_1) : 𝔸 S20x1x4 .f32 → 𝔸 S20x1x1 .f32)
  :: reshape main_while0b_v164 main_while0b_v165 rfl shapeCasts_S20x1x1_S20x1
  :: binary main_while0b_v163 main_while0b_v165 main_while0b_v166 (subf : 𝔸 S20x1 .f32 → 𝔸 S20x1 .f32 → 𝔸 S20x1 .f32)
  :: nullary main_while0b_cst_39 (constant S_ .f32 0x00000000#32)
  :: unary main_while0b_cst_39 main_while0b_v167 (broadcastInDim S20x1 ![] bcast_S_S20x1 : 𝔸 S_ .f32 → 𝔸 S20x1 .f32)
  :: binary main_while0b_v166 main_while0b_v167 main_while0b_v168 (maximumf : 𝔸 S20x1 .f32 → 𝔸 S20x1 .f32 → 𝔸 S20x1 .f32)
  :: binary main_while0b_v161 main_while0b_v168 main_while0b_v169 (mulf : 𝔸 S20x1 .f32 → 𝔸 S20x1 .f32 → 𝔸 S20x1 .f32)
  :: unary main_v73_0 main_while0b_v170 ((extractStridedSlice S20x5000x1 ![0, 0, 2] · slices_S20x5000x4_S20x5000x1_0_0_2) : 𝔸 S20x5000x4 .f32 → 𝔸 S20x5000x1 .f32)
  :: reshape main_while0b_v170 main_while0b_v171 rfl shapeCasts_S20x5000x1_S20x5000
  :: unary main_v73_0 main_while0b_v172 ((extractStridedSlice S20x5000x1 ![0, 0, 0] · slices_S20x5000x4_S20x5000x1_0_0_0) : 𝔸 S20x5000x4 .f32 → 𝔸 S20x5000x1 .f32)
  :: reshape main_while0b_v172 main_while0b_v173 rfl shapeCasts_S20x5000x1_S20x5000
  :: binary main_while0b_v171 main_while0b_v173 main_while0b_v174 (subf : 𝔸 S20x5000 .f32 → 𝔸 S20x5000 .f32 → 𝔸 S20x5000 .f32)
  :: nullary main_while0b_cst_40 (constant S_ .f32 0x00000000#32)
  :: unary main_while0b_cst_40 main_while0b_v175 (broadcastInDim S20x5000 ![] bcast_S_S20x5000 : 𝔸 S_ .f32 → 𝔸 S20x5000 .f32)
  :: binary main_while0b_v174 main_while0b_v175 main_while0b_v176 (maximumf : 𝔸 S20x5000 .f32 → 𝔸 S20x5000 .f32 → 𝔸 S20x5000 .f32)
  :: unary main_v73_0 main_while0b_v177 ((extractStridedSlice S20x5000x1 ![0, 0, 3] · slices_S20x5000x4_S20x5000x1_0_0_3) : 𝔸 S20x5000x4 .f32 → 𝔸 S20x5000x1 .f32)
  :: reshape main_while0b_v177 main_while0b_v178 rfl shapeCasts_S20x5000x1_S20x5000
  :: unary main_v73_0 main_while0b_v179 ((extractStridedSlice S20x5000x1 ![0, 0, 1] · slices_S20x5000x4_S20x5000x1_0_0_1) : 𝔸 S20x5000x4 .f32 → 𝔸 S20x5000x1 .f32)
  :: reshape main_while0b_v179 main_while0b_v180 rfl shapeCasts_S20x5000x1_S20x5000
  :: binary main_while0b_v178 main_while0b_v180 main_while0b_v181 (subf : 𝔸 S20x5000 .f32 → 𝔸 S20x5000 .f32 → 𝔸 S20x5000 .f32)
  :: nullary main_while0b_cst_41 (constant S_ .f32 0x00000000#32)
  :: unary main_while0b_cst_41 main_while0b_v182 (broadcastInDim S20x5000 ![] bcast_S_S20x5000 : 𝔸 S_ .f32 → 𝔸 S20x5000 .f32)
  :: binary main_while0b_v181 main_while0b_v182 main_while0b_v183 (maximumf : 𝔸 S20x5000 .f32 → 𝔸 S20x5000 .f32 → 𝔸 S20x5000 .f32)
  :: binary main_while0b_v176 main_while0b_v183 main_while0b_v184 (mulf : 𝔸 S20x5000 .f32 → 𝔸 S20x5000 .f32 → 𝔸 S20x5000 .f32)
  :: unary main_while0b_v169 main_while0b_v185 (broadcastInDim S20x5000 ![0, 1] bcast_S20x1_S20x5000_0_1 : 𝔸 S20x1 .f32 → 𝔸 S20x5000 .f32)
  :: binary main_while0b_v185 main_while0b_v184 main_while0b_v186 (addf : 𝔸 S20x5000 .f32 → 𝔸 S20x5000 .f32 → 𝔸 S20x5000 .f32)
  :: binary main_while0b_v186 main_while0b_v154 main_while0b_v187 (subf : 𝔸 S20x5000 .f32 → 𝔸 S20x5000 .f32 → 𝔸 S20x5000 .f32)
  :: nullary main_while0b_cst_42 (constant S_ .f32 0x322BCC77#32)
  :: unary main_while0b_cst_42 main_while0b_v188 (broadcastInDim S20x5000 ![] bcast_S_S20x5000 : 𝔸 S_ .f32 → 𝔸 S20x5000 .f32)
  :: binary main_while0b_v187 main_while0b_v188 main_while0b_v189 (maximumf : 𝔸 S20x5000 .f32 → 𝔸 S20x5000 .f32 → 𝔸 S20x5000 .f32)
  :: binary main_while0b_v154 main_while0b_v189 main_while0b_v190 (Host.divf : 𝔸 S20x5000 .f32 → 𝔸 S20x5000 .f32 → 𝔸 S20x5000 .f32)
  :: nullary main_while0b_cst_43 (constant S_ .f32 0x3F000000#32)
  :: unary main_while0b_cst_43 main_while0b_v191 (broadcastInDim S20x5000 ![] bcast_S_S20x5000 : 𝔸 S_ .f32 → 𝔸 S20x5000 .f32)
  :: binary main_while0b_v190 main_while0b_v191 main_while0b_v192 (cmpf .ogt : 𝔸 S20x5000 .f32 → 𝔸 S20x5000 .f32 → 𝔸 S20x5000 .i1)
  :: nullary main_while0b_cst_44 (constant S_ .f32 0xFF800000#32)
  :: [] )
set_option maxHeartbeats 40000000 in  -- a long stretch: its list (or the term over it) exceeds the default budget
/-- Each touches the program's own buffers only. -/
theorem while0Ops0_1_sub : (while0Ops0_1 : List (HloOp τ sig (Elt F))).Forall fun op => op.bufs ⊆ StableHlo.tcRefs τ sig :=
  ⟨nullary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., nullary_bufs_sub .., unary_bufs_sub .., binary_bufs_sub .., unary_bufs_sub .., unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., binary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub ..⟩
/-- 3 host operations of @_where_1 (main_while0b_call8), in order. -/
abbrev while0Ops0_2 : List (HloOp τ sig (Elt F)) :=
  [ TRef.unary (.of main_while0b_cst_44 : 𝕋 S_ .f32) (.of main_while0b_call8_v0 : 𝕋 S_ .f32) id,
    TRef.unary (.of main_while0b_call8_v0 : 𝕋 S_ .f32) (.of main_while0b_call8_v1 : 𝕋 S20x5000 .f32) (broadcastInDim S20x5000 ![] bcast_S_S20x5000),
    TRef.ternary (.of main_while0b_v192 : 𝕋 S20x5000 .i1) (.of main_while0b_call8_v1 : 𝕋 S20x5000 .f32) (.of main_v73_2 : 𝕋 S20x5000 .f32) (.of main_while0b_v193 : 𝕋 S20x5000 .f32) select ]
/-- Each touches the program's own buffers only. -/
theorem while0Ops0_2_sub : (while0Ops0_2 : List (HloOp τ sig (Elt F))).Forall fun op => op.bufs ⊆ StableHlo.tcRefs τ sig :=
  ⟨unary_bufs_sub .., unary_bufs_sub .., ternary_bufs_sub ..⟩
/-- 7 host operations of host loop 0's body region, in order. -/
abbrev while0Ops0_3 : List (HloOp τ sig (Elt F)) :=
  [ nullary main_while0b_v194 (iotaInDim S5000 32 0),
    unary main_while0b_v194 main_while0b_v195 (broadcastInDim S1x5000 ![1] bcast_S5000_S1x5000_1 : 𝔸 S5000 .i32 → 𝔸 S1x5000 .i32),
    unary main_while0b_v103 main_while0b_v196 (broadcastInDim S20x1 ![0] bcast_S20_S20x1_0 : 𝔸 S20 .i32 → 𝔸 S20x1 .i32),
    unary main_while0b_v195 main_while0b_v197 (broadcastInDim S20x5000 ![0, 1] bcast_S1x5000_S20x5000_0_1 : 𝔸 S1x5000 .i32 → 𝔸 S20x5000 .i32),
    unary main_while0b_v196 main_while0b_v198 (broadcastInDim S20x5000 ![0, 1] bcast_S20x1_S20x5000_0_1 : 𝔸 S20x1 .i32 → 𝔸 S20x5000 .i32),
    binary main_while0b_v197 main_while0b_v198 main_while0b_v199 (cmpi .eq : 𝔸 S20x5000 .i32 → 𝔸 S20x5000 .i32 → 𝔸 S20x5000 .i1),
    nullary main_while0b_cst_45 (constant S_ .f32 0xFF800000#32) ]
/-- Each touches the program's own buffers only. -/
theorem while0Ops0_3_sub : (while0Ops0_3 : List (HloOp τ sig (Elt F))).Forall fun op => op.bufs ⊆ StableHlo.tcRefs τ sig :=
  ⟨nullary_bufs_sub .., unary_bufs_sub .., unary_bufs_sub .., unary_bufs_sub .., unary_bufs_sub .., binary_bufs_sub .., nullary_bufs_sub ..⟩
/-- 3 host operations of @_where_1 (main_while0b_call9), in order. -/
abbrev while0Ops0_4 : List (HloOp τ sig (Elt F)) :=
  [ TRef.unary (.of main_while0b_cst_45 : 𝕋 S_ .f32) (.of main_while0b_call9_v0 : 𝕋 S_ .f32) id,
    TRef.unary (.of main_while0b_call9_v0 : 𝕋 S_ .f32) (.of main_while0b_call9_v1 : 𝕋 S20x5000 .f32) (broadcastInDim S20x5000 ![] bcast_S_S20x5000),
    TRef.ternary (.of main_while0b_v199 : 𝕋 S20x5000 .i1) (.of main_while0b_call9_v1 : 𝕋 S20x5000 .f32) (.of main_while0b_v193 : 𝕋 S20x5000 .f32) (.of main_while0b_v200 : 𝕋 S20x5000 .f32) select ]
/-- Each touches the program's own buffers only. -/
theorem while0Ops0_4_sub : (while0Ops0_4 : List (HloOp τ sig (Elt F))).Forall fun op => op.bufs ⊆ StableHlo.tcRefs τ sig :=
  ⟨unary_bufs_sub .., unary_bufs_sub .., ternary_bufs_sub ..⟩
/-- 2 host operations of host loop 0's body region, in order. -/
abbrev while0Ops0_5 : List (HloOp τ sig (Elt F)) :=
  [ unary main_while0b_v122 main_while0b_v201 (broadcastInDim S20x1 ![0] bcast_S20_S20x1_0 : 𝔸 S20 .i1 → 𝔸 S20x1 .i1),
    nullary main_while0b_cst_46 (constant S_ .f32 0x00000000#32) ]
/-- Each touches the program's own buffers only. -/
theorem while0Ops0_5_sub : (while0Ops0_5 : List (HloOp τ sig (Elt F))).Forall fun op => op.bufs ⊆ StableHlo.tcRefs τ sig :=
  ⟨unary_bufs_sub .., nullary_bufs_sub ..⟩
/-- 4 host operations of @_where_2 (main_while0b_call10), in order. -/
abbrev while0Ops0_6 : List (HloOp τ sig (Elt F)) :=
  [ TRef.unary (.of main_while0b_cst_46 : 𝕋 S_ .f32) (.of main_while0b_call10_v0 : 𝕋 S_ .f32) id,
    TRef.unary (.of main_while0b_v201 : 𝕋 S20x1 .i1) (.of main_while0b_call10_v1 : 𝕋 S20x4 .i1) (broadcastInDim S20x4 ![0, 1] bcast_S20x1_S20x4_0_1),
    TRef.unary (.of main_while0b_call10_v0 : 𝕋 S_ .f32) (.of main_while0b_call10_v2 : 𝕋 S20x4 .f32) (broadcastInDim S20x4 ![] bcast_S_S20x4),
    TRef.ternary (.of main_while0b_call10_v1 : 𝕋 S20x4 .i1) (.of main_while0b_v119 : 𝕋 S20x4 .f32) (.of main_while0b_call10_v2 : 𝕋 S20x4 .f32) (.of main_while0b_v202 : 𝕋 S20x4 .f32) select ]
/-- Each touches the program's own buffers only. -/
theorem while0Ops0_6_sub : (while0Ops0_6 : List (HloOp τ sig (Elt F))).Forall fun op => op.bufs ⊆ StableHlo.tcRefs τ sig :=
  ⟨unary_bufs_sub .., unary_bufs_sub .., unary_bufs_sub .., ternary_bufs_sub ..⟩
/-- 1 host operation of host loop 0's body region, in order. -/
abbrev while0Ops0_7 : List (HloOp τ sig (Elt F)) :=
  [ nullary main_while0b_cst_47 (constant S_ .f32 0xFF800000#32) ]
/-- Each touches the program's own buffers only. -/
theorem while0Ops0_7_sub : (while0Ops0_7 : List (HloOp τ sig (Elt F))).Forall fun op => op.bufs ⊆ StableHlo.tcRefs τ sig :=
  nullary_bufs_sub ..
/-- 3 host operations of @_where_3 (main_while0b_call11), in order. -/
abbrev while0Ops0_8 : List (HloOp τ sig (Elt F)) :=
  [ TRef.unary (.of main_while0b_cst_47 : 𝕋 S_ .f32) (.of main_while0b_call11_v0 : 𝕋 S_ .f32) id,
    TRef.unary (.of main_while0b_call11_v0 : 𝕋 S_ .f32) (.of main_while0b_call11_v1 : 𝕋 S20 .f32) (broadcastInDim S20 ![] bcast_S_S20),
    TRef.ternary (.of main_while0b_v122 : 𝕋 S20 .i1) (.of main_while0b_v104 : 𝕋 S20 .f32) (.of main_while0b_call11_v1 : 𝕋 S20 .f32) (.of main_while0b_v203 : 𝕋 S20 .f32) select ]
/-- Each touches the program's own buffers only. -/
theorem while0Ops0_8_sub : (while0Ops0_8 : List (HloOp τ sig (Elt F))).Forall fun op => op.bufs ⊆ StableHlo.tcRefs τ sig :=
  ⟨unary_bufs_sub .., unary_bufs_sub .., ternary_bufs_sub ..⟩
/-- 4 host operations of @dynamic_update_index_in_dim (main_while0b_call12), in order. -/
abbrev while0Ops0_9 : List (HloOp τ sig (Elt F)) :=
  [ TRef.unary (.of main_while0b_v202 : 𝕋 S20x4 .f32) (.of main_while0b_call12_v0 : 𝕋 S1x20x4 .f32) (broadcastInDim S1x20x4 ![1, 2] bcast_S20x4_S1x20x4_1_2),
    TRef.nullary (.of main_while0b_call12_c : 𝕋 S_ .i32) (constantI S_ 32 0#32),
    TRef.nullary (.of main_while0b_call12_c_0 : 𝕋 S_ .i32) (constantI S_ 32 0#32),
    TRef.binaryIndexed (.of main_v73_3 : 𝕋 S100x20x4 .f32) (.of main_while0b_call12_v0 : 𝕋 S1x20x4 .f32) ![(.of main_v73_1 : 𝕋 S_ .i32), (.of main_while0b_call12_c : 𝕋 S_ .i32), (.of main_while0b_call12_c_0 : 𝕋 S_ .i32)] (.of main_while0b_v204 : 𝕋 S100x20x4 .f32) (fun x u i => Host.dynamicUpdateSlice x u (fun k => (i k (Shape.Idx.first h_S_)).toInt) updateFits_S100x20x4_S1x20x4) ]
/-- Each touches the program's own buffers only. -/
theorem while0Ops0_9_sub : (while0Ops0_9 : List (HloOp τ sig (Elt F))).Forall fun op => op.bufs ⊆ StableHlo.tcRefs τ sig :=
  ⟨unary_bufs_sub .., nullary_bufs_sub .., nullary_bufs_sub .., StableHlo.binaryIndexed_bufs_sub ..⟩
/-- 3 host operations of @dynamic_update_index_in_dim_4 (main_while0b_call13), in order. -/
abbrev while0Ops0_10 : List (HloOp τ sig (Elt F)) :=
  [ TRef.unary (.of main_while0b_v203 : 𝕋 S20 .f32) (.of main_while0b_call13_v0 : 𝕋 S1x20 .f32) (broadcastInDim S1x20 ![1] bcast_S20_S1x20_1),
    TRef.nullary (.of main_while0b_call13_c : 𝕋 S_ .i32) (constantI S_ 32 0#32),
    TRef.binaryIndexed (.of main_v73_4 : 𝕋 S100x20 .f32) (.of main_while0b_call13_v0 : 𝕋 S1x20 .f32) ![(.of main_v73_1 : 𝕋 S_ .i32), (.of main_while0b_call13_c : 𝕋 S_ .i32)] (.of main_while0b_v205 : 𝕋 S100x20 .f32) (fun x u i => Host.dynamicUpdateSlice x u (fun k => (i k (Shape.Idx.first h_S_)).toInt) updateFits_S100x20_S1x20) ]
/-- Each touches the program's own buffers only. -/
theorem while0Ops0_10_sub : (while0Ops0_10 : List (HloOp τ sig (Elt F))).Forall fun op => op.bufs ⊆ StableHlo.tcRefs τ sig :=
  ⟨unary_bufs_sub .., nullary_bufs_sub .., StableHlo.binaryIndexed_bufs_sub ..⟩
/-- 6 host operations of host loop 0's body region, in order. -/
abbrev while0Ops0_11 : List (HloOp τ sig (Elt F)) :=
  [ nullary main_while0b_c_48 (constantI S_ 32 1#32),
    binary main_v73_1 main_while0b_c_48 main_while0b_v206 (addi : 𝔸 S_ .i32 → 𝔸 S_ .i32 → 𝔸 S_ .i32),
    unary main_while0b_v206 main_v73_1 id,
    unary main_while0b_v200 main_v73_2 id,
    unary main_while0b_v204 main_v73_3 id,
    unary main_while0b_v205 main_v73_4 id ]
/-- Each touches the program's own buffers only. -/
theorem while0Ops0_11_sub : (while0Ops0_11 : List (HloOp τ sig (Elt F))).Forall fun op => op.bufs ⊆ StableHlo.tcRefs τ sig :=
  ⟨nullary_bufs_sub .., binary_bufs_sub .., unary_bufs_sub .., unary_bufs_sub .., unary_bufs_sub .., unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7,
    seq while0Ops0_8,
    seq while0Ops0_9,
    seq while0Ops0_10,
    seq while0Ops0_11 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons, StableHlo.chain_seq_cons, Pipeline.chain_cons, StableHlo.chain_seq_cons, Pipeline.chain_cons, Pipeline.chain_cons, Pipeline.chain_cons, StableHlo.chain_seq_cons]
  chain_rfl

end Cert.ReferenceIdeal.Gen

end
-- ==== Proof.ReferenceFold.lean ====
/- The run of the reference program: every buffer ends at the fold of the operations over its launch contents. -/
module

public import proofs.«01_k».proof.Proof.ReferenceChain

@[expose] public section

-- long lists of operations recurse past the default depth
set_option maxRecDepth 2552

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_cst, main_v1, main_v2, main_v3, main_v4, main_v5, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_v1, main_call0_v2, main_v10]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_v11, main_v12, main_v13]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_call1_v0, main_call1_v1, main_call1_v2, main_v14]
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_4` writes, in order. -/
abbrev hostOps0_4_W : List (Ref sig .tc) := [main_v15, main_v16, main_v17, main_v18, main_v19, main_v20, main_v21, main_v22, main_v23, main_v24, main_v25, main_v26, main_v27, main_v28, main_v29, main_v30, main_v31, main_v32, main_v33, main_v34, main_cst_0, main_v35, main_v36, main_v37, main_cst_1, main_cst_2]
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_5` writes, in order. -/
abbrev hostOps0_5_W : List (Ref sig .tc) := [main_call2_v0, main_call2_v1, main_call2_v2, main_call2_v3, main_call2_v4, main_v38]
theorem hostOps0_5_writes : (hostOps0_5 : List (HloOp τ sig (Elt F))).Forall fun op => op.writes ⊆ (hostOps0_5_W.map (Proc.devRef (τ := τ) .tc)).toFinset :=
  StableHlo.forall_writes_sub_of_map rfl
/-- No operation of `hostOps0_6` allocates a buffer. -/
theorem hostOps0_6_fresh : (hostOps0_6 : List (HloOp τ sig (Elt F))).Forall fun op => op.fresh = ∅ :=
  StableHlo.forall_fresh_of_map rfl
/-- The reference each operation of `hostOps0_6` writes, in order. -/
abbrev hostOps0_6_W : List (Ref sig .tc) := [main_cst_3, main_v39, main_v40, main_v41, main_cst_4, main_cst_5]
theorem hostOps0_6_writes : (hostOps0_6 : List (HloOp τ sig (Elt F))).Forall fun op => op.writes ⊆ (hostOps0_6_W.map (Proc.devRef (τ := τ) .tc)).toFinset :=
  StableHlo.forall_writes_sub_of_map rfl
/-- No operation of `hostOps0_7` allocates a buffer. -/
theorem hostOps0_7_fresh : (hostOps0_7 : List (HloOp τ sig (Elt F))).Forall fun op => op.fresh = ∅ :=
  StableHlo.forall_fresh_of_map rfl
/-- The reference each operation of `hostOps0_7` writes, in order. -/
abbrev hostOps0_7_W : List (Ref sig .tc) := [main_call3_v0, main_call3_v1, main_call3_v2, main_call3_v3, main_call3_v4, main_v42]
theorem hostOps0_7_writes : (hostOps0_7 : List (HloOp τ sig (Elt F))).Forall fun op => op.writes ⊆ (hostOps0_7_W.map (Proc.devRef (τ := τ) .tc)).toFinset :=
  StableHlo.forall_writes_sub_of_map rfl
/-- No operation of `hostOps0_8` allocates a buffer. -/
theorem hostOps0_8_fresh : (hostOps0_8 : List (HloOp τ sig (Elt F))).Forall fun op => op.fresh = ∅ :=
  StableHlo.forall_fresh_of_map rfl
/-- The reference each operation of `hostOps0_8` writes, in order. -/
abbrev hostOps0_8_W : List (Ref sig .tc) := [main_cst_6, main_v43, main_v44, main_v45, main_cst_7, main_cst_8]
theorem hostOps0_8_writes : (hostOps0_8 : List (HloOp τ sig (Elt F))).Forall fun op => op.writes ⊆ (hostOps0_8_W.map (Proc.devRef (τ := τ) .tc)).toFinset :=
  StableHlo.forall_writes_sub_of_map rfl
/-- No operation of `hostOps0_9` allocates a buffer. -/
theorem hostOps0_9_fresh : (hostOps0_9 : List (HloOp τ sig (Elt F))).Forall fun op => op.fresh = ∅ :=
  StableHlo.forall_fresh_of_map rfl
/-- The reference each operation of `hostOps0_9` writes, in order. -/
abbrev hostOps0_9_W : List (Ref sig .tc) := [main_call4_v0, main_call4_v1, main_call4_v2, main_call4_v3, main_call4_v4, main_v46]
theorem hostOps0_9_writes : (hostOps0_9 : List (HloOp τ sig (Elt F))).Forall fun op => op.writes ⊆ (hostOps0_9_W.map (Proc.devRef (τ := τ) .tc)).toFinset :=
  StableHlo.forall_writes_sub_of_map rfl
/-- No operation of `hostOps0_10` allocates a buffer. -/
theorem hostOps0_10_fresh : (hostOps0_10 : List (HloOp τ sig (Elt F))).Forall fun op => op.fresh = ∅ :=
  StableHlo.forall_fresh_of_map rfl
/-- The reference each operation of `hostOps0_10` writes, in order. -/
abbrev hostOps0_10_W : List (Ref sig .tc) := [main_cst_9, main_v47, main_v48, main_v49, main_cst_10, main_cst_11]
theorem hostOps0_10_writes : (hostOps0_10 : List (HloOp τ sig (Elt F))).Forall fun op => op.writes ⊆ (hostOps0_10_W.map (Proc.devRef (τ := τ) .tc)).toFinset :=
  StableHlo.forall_writes_sub_of_map rfl
/-- No operation of `hostOps0_11` allocates a buffer. -/
theorem hostOps0_11_fresh : (hostOps0_11 : List (HloOp τ sig (Elt F))).Forall fun op => op.fresh = ∅ :=
  StableHlo.forall_fresh_of_map rfl
/-- The reference each operation of `hostOps0_11` writes, in order. -/
abbrev hostOps0_11_W : List (Ref sig .tc) := [main_call5_v0, main_call5_v1, main_call5_v2, main_call5_v3, main_call5_v4, main_v50]
theorem hostOps0_11_writes : (hostOps0_11 : List (HloOp τ sig (Elt F))).Forall fun op => op.writes ⊆ (hostOps0_11_W.map (Proc.devRef (τ := τ) .tc)).toFinset :=
  StableHlo.forall_writes_sub_of_map rfl
/-- No operation of `hostOps0_12` allocates a buffer. -/
theorem hostOps0_12_fresh : (hostOps0_12 : List (HloOp τ sig (Elt F))).Forall fun op => op.fresh = ∅ :=
  StableHlo.forall_fresh_of_map rfl
/-- The reference each operation of `hostOps0_12` writes, in order. -/
abbrev hostOps0_12_W : List (Ref sig .tc) := [main_v51, main_v52, main_v53, main_v54, main_v55, main_v56, main_v57, main_v58, main_v59, main_v60, main_cst_12, main_v61, main_v62, main_cst_13]
theorem hostOps0_12_writes : (hostOps0_12 : List (HloOp τ sig (Elt F))).Forall fun op => op.writes ⊆ (hostOps0_12_W.map (Proc.devRef (τ := τ) .tc)).toFinset :=
  StableHlo.forall_writes_sub_of_map rfl
/-- No operation of `hostOps0_13` allocates a buffer. -/
theorem hostOps0_13_fresh : (hostOps0_13 : List (HloOp τ sig (Elt F))).Forall fun op => op.fresh = ∅ :=
  StableHlo.forall_fresh_of_map rfl
/-- The reference each operation of `hostOps0_13` writes, in order. -/
abbrev hostOps0_13_W : List (Ref sig .tc) := [main_call6_v0, main_call6_v1, main_v63]
theorem hostOps0_13_writes : (hostOps0_13 : List (HloOp τ sig (Elt F))).Forall fun op => op.writes ⊆ (hostOps0_13_W.map (Proc.devRef (τ := τ) .tc)).toFinset :=
  StableHlo.forall_writes_sub_of_map rfl
/-- No operation of `hostOps0_14` allocates a buffer. -/
theorem hostOps0_14_fresh : (hostOps0_14 : List (HloOp τ sig (Elt F))).Forall fun op => op.fresh = ∅ :=
  StableHlo.forall_fresh_of_map rfl
/-- The reference each operation of `hostOps0_14` writes, in order. -/
abbrev hostOps0_14_W : List (Ref sig .tc) := [main_values, main_indices, main_c, main_v64, main_v65, main_c_14, main_v66, main_v67, main_v68, main_v69, main_v70, main_cst_15, main_v71, main_cst_16, main_v72, main_c_17, main_v73_0, main_v73_1, main_v73_2, main_v73_3, main_v73_4]
theorem hostOps0_14_writes : (hostOps0_14 : List (HloOp τ sig (Elt F))).Forall fun op => op.writes ⊆ (hostOps0_14_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call7_v0, main_while0b_call7_cst, main_while0b_call7_c, main_while0b_call7_v1_0, main_while0b_v103]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_cst_30, main_while0b_v104, main_while0b_v105, main_while0b_c_31, main_while0b_v106, main_while0b_v107, main_while0b_c_32, main_while0b_v108, main_while0b_v109, main_while0b_v110, main_while0b_c_33, main_while0b_v111, main_while0b_v112, main_while0b_c_34, main_while0b_v113, main_while0b_v114, main_while0b_v115, main_while0b_v116, main_while0b_v117, main_while0b_v118, main_while0b_v119, main_while0b_v120, main_while0b_cst_35, main_while0b_v121, main_while0b_v122, main_while0b_v123, main_while0b_v124, main_while0b_v125, main_while0b_v126, main_while0b_v127, main_while0b_v128, main_while0b_v129, main_while0b_v130, main_while0b_v131, main_while0b_v132, main_while0b_v133, main_while0b_v134, main_while0b_v135, main_while0b_v136, main_while0b_v137, main_while0b_v138, main_while0b_v139, main_while0b_v140, main_while0b_v141, main_while0b_v142, main_while0b_v143, main_while0b_v144, main_while0b_v145, main_while0b_v146, main_while0b_v147, main_while0b_v148, main_while0b_cst_36, main_while0b_v149, main_while0b_v150, main_while0b_v151, main_while0b_cst_37, main_while0b_v152, main_while0b_v153, main_while0b_v154, main_while0b_v155, main_while0b_v156, main_while0b_v157, main_while0b_v158, main_while0b_v159, main_while0b_cst_38, main_while0b_v160, main_while0b_v161, main_while0b_v162, main_while0b_v163, main_while0b_v164, main_while0b_v165, main_while0b_v166, main_while0b_cst_39, main_while0b_v167, main_while0b_v168, main_while0b_v169, main_while0b_v170, main_while0b_v171, main_while0b_v172, main_while0b_v173, main_while0b_v174, main_while0b_cst_40, main_while0b_v175, main_while0b_v176, main_while0b_v177, main_while0b_v178, main_while0b_v179, main_while0b_v180, main_while0b_v181, main_while0b_cst_41, main_while0b_v182, main_while0b_v183, main_while0b_v184, main_while0b_v185, main_while0b_v186, main_while0b_v187, main_while0b_cst_42, main_while0b_v188, main_while0b_v189, main_while0b_v190, main_while0b_cst_43, main_while0b_v191, main_while0b_v192, main_while0b_cst_44]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call8_v0, main_while0b_call8_v1, main_while0b_v193]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_v194, main_while0b_v195, main_while0b_v196, main_while0b_v197, main_while0b_v198, main_while0b_v199, main_while0b_cst_45]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call9_v0, main_while0b_call9_v1, main_while0b_v200]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_v201, main_while0b_cst_46]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call10_v0, main_while0b_call10_v1, main_while0b_call10_v2, main_while0b_v202]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_cst_47]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_call11_v0, main_while0b_call11_v1, main_while0b_v203]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `while0Ops0_9` allocates a buffer. -/
theorem while0Ops0_9_fresh : (while0Ops0_9 : List (HloOp τ sig (Elt F))).Forall fun op => op.fresh = ∅ :=
  StableHlo.forall_fresh_of_map rfl
/-- The reference each operation of `while0Ops0_9` writes, in order. -/
abbrev while0Ops0_9_W : List (Ref sig .tc) := [main_while0b_call12_v0, main_while0b_call12_c, main_while0b_call12_c_0, main_while0b_v204]
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- No operation of `while0Ops0_10` allocates a buffer. -/
theorem while0Ops0_10_fresh : (while0Ops0_10 : List (HloOp τ sig (Elt F))).Forall fun op => op.fresh = ∅ :=
  StableHlo.forall_fresh_of_map rfl
/-- The reference each operation of `while0Ops0_10` writes, in order. -/
abbrev while0Ops0_10_W : List (Ref sig .tc) := [main_while0b_call13_v0, main_while0b_call13_c, main_while0b_v205]
theorem while0Ops0_10_writes : (while0Ops0_10 : List (HloOp τ sig (Elt F))).Forall fun op => op.writes ⊆ (while0Ops0_10_W.map (Proc.devRef (τ := τ) .tc)).toFinset :=
  StableHlo.forall_writes_sub_of_map rfl
/-- No operation of `while0Ops0_11` allocates a buffer. -/
theorem while0Ops0_11_fresh : (while0Ops0_11 : List (HloOp τ sig (Elt F))).Forall fun op => op.fresh = ∅ :=
  StableHlo.forall_fresh_of_map rfl
/-- The reference each operation of `while0Ops0_11` writes, in order. -/
abbrev while0Ops0_11_W : List (Ref sig .tc) := [main_while0b_c_48, main_while0b_v206, main_v73_1, main_v73_2, main_v73_3, main_v73_4]
theorem while0Ops0_11_writes : (while0Ops0_11 : List (HloOp τ sig (Elt F))).Forall fun op => op.writes ⊆ (while0Ops0_11_W.map (Proc.devRef (τ := τ) .tc)).toFinset :=
  StableHlo.forall_writes_sub_of_map rfl
/-- No operation of `hostOps0_15` allocates a buffer. -/
theorem hostOps0_15_fresh : (hostOps0_15 : List (HloOp τ sig (Elt F))).Forall fun op => op.fresh = ∅ :=
  StableHlo.forall_fresh_of_map rfl
/-- No operation of `hostOps0_16` allocates a buffer. -/
theorem hostOps0_16_fresh : (hostOps0_16 : List (HloOp τ sig (Elt F))).Forall fun op => op.fresh = ∅ :=
  StableHlo.forall_fresh_of_map rfl
/-- No operation of `hostOps0_17` allocates a buffer. -/
theorem hostOps0_17_fresh : (hostOps0_17 : List (HloOp τ sig (Elt F))).Forall fun op => op.fresh = ∅ :=
  StableHlo.forall_fresh_of_map rfl
/-- The reference each operation of `hostOps0_15` writes, in order. -/
abbrev hostOps0_15_W : List (Ref sig .tc) := [main_v74, main_v75, main_v76, main_v77, main_v78, main_v79, main_v80, main_values_18, main_indices_19, main_c_20, main_v81, main_v82, main_c_21, main_v83, main_v84, main_v85, main_v86, main_v87, main_c_22, main_v88, main_v89, main_c_23, main_v90, main_v91, main_v92, main_v93, main_v94, main_v95, main_cst_24, main_v96, main_v97, main_cst_25]
theorem hostOps0_15_writes : (hostOps0_15 : List (HloOp τ sig (Elt F))).Forall fun op => op.writes ⊆ (hostOps0_15_W.map (Proc.devRef (τ := τ) .tc)).toFinset :=
  StableHlo.forall_writes_sub_of_map rfl
/-- The reference each operation of `hostOps0_16` writes, in order. -/
abbrev hostOps0_16_W : List (Ref sig .tc) := [main_call14_v0, main_call14_v1, main_v98]
theorem hostOps0_16_writes : (hostOps0_16 : List (HloOp τ sig (Elt F))).Forall fun op => op.writes ⊆ (hostOps0_16_W.map (Proc.devRef (τ := τ) .tc)).toFinset :=
  StableHlo.forall_writes_sub_of_map rfl
/-- The reference each operation of `hostOps0_17` writes, in order. -/
abbrev hostOps0_17_W : List (Ref sig .tc) := [main_v99, main_v100, main_v101, main_v102]
theorem hostOps0_17_writes : (hostOps0_17 : List (HloOp τ sig (Elt F))).Forall fun op => op.writes ⊆ (hostOps0_17_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_30 (constantI S_ 32 100#32),
    StableHlo.binary main_v73_1 main_while0c_c_30 main_while0c_v103 (cmpi .slt) ]

/-- @main's stretches before the loop, the loop body's, and @main's after the loop. -/
abbrev preI : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14]
/-- The loop's body, as its stretches. -/
abbrev bodyI : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11]
/-- What follows the loop, as its stretches. -/
abbrev postI : List (List (HloOp τ sig (Elt F))) := [hostOps0_15, hostOps0_16, hostOps0_17]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.cons hostOps0_9_sub (hf := List.forall_iff_forall_mem.mp hostOps0_9_fresh) (.cons hostOps0_10_sub (hf := List.forall_iff_forall_mem.mp hostOps0_10_fresh) (.cons hostOps0_11_sub (hf := List.forall_iff_forall_mem.mp hostOps0_11_fresh) (.cons hostOps0_12_sub (hf := List.forall_iff_forall_mem.mp hostOps0_12_fresh) (.cons hostOps0_13_sub (hf := List.forall_iff_forall_mem.mp hostOps0_13_fresh) (.cons hostOps0_14_sub (hf := List.forall_iff_forall_mem.mp hostOps0_14_fresh) (.nil)))))))))))))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.cons while0Ops0_11_sub (hf := List.forall_iff_forall_mem.mp while0Ops0_11_fresh) (.nil))))))))))))
theorem hpost : Plain (postI (F := F)) := .cons hostOps0_15_sub (hf := List.forall_iff_forall_mem.mp hostOps0_15_fresh) (.cons hostOps0_16_sub (hf := List.forall_iff_forall_mem.mp hostOps0_16_fresh) (.cons hostOps0_17_sub (hf := List.forall_iff_forall_mem.mp hostOps0_17_fresh) (.nil)))

/-- The reference each operation of `condOps` writes, in order. -/
abbrev condOps_W : List (Ref sig .tc) := [main_while0c_c_30, main_while0c_v103]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v73_1`) is written by one stretch of the body, `while0Ops0_11`: not by the condition, nor by the
    body's other stretches. -/
theorem ctr_cond (V : Valuation τ sig (Elt F)) : after condOps V (Proc.devRef .tc main_v73_1) = V (Proc.devRef .tc main_v73_1) :=
  after_of_writes_sub condOps V condOps_writes (by decide +kernel)
theorem ctr_while0Ops0 (V : Valuation τ sig (Elt F)) : after while0Ops0 V (Proc.devRef .tc main_v73_1) = V (Proc.devRef .tc main_v73_1) :=
  after_of_writes_sub while0Ops0 V while0Ops0_writes (by decide +kernel)
theorem ctr_while0Ops0_1 (V : Valuation τ sig (Elt F)) : after while0Ops0_1 V (Proc.devRef .tc main_v73_1) = V (Proc.devRef .tc main_v73_1) :=
  after_of_writes_sub while0Ops0_1 V while0Ops0_1_writes (by decide +kernel)
theorem ctr_while0Ops0_2 (V : Valuation τ sig (Elt F)) : after while0Ops0_2 V (Proc.devRef .tc main_v73_1) = V (Proc.devRef .tc main_v73_1) :=
  after_of_writes_sub while0Ops0_2 V while0Ops0_2_writes (by decide +kernel)
theorem ctr_while0Ops0_3 (V : Valuation τ sig (Elt F)) : after while0Ops0_3 V (Proc.devRef .tc main_v73_1) = V (Proc.devRef .tc main_v73_1) :=
  after_of_writes_sub while0Ops0_3 V while0Ops0_3_writes (by decide +kernel)
theorem ctr_while0Ops0_4 (V : Valuation τ sig (Elt F)) : after while0Ops0_4 V (Proc.devRef .tc main_v73_1) = V (Proc.devRef .tc main_v73_1) :=
  after_of_writes_sub while0Ops0_4 V while0Ops0_4_writes (by decide +kernel)
theorem ctr_while0Ops0_5 (V : Valuation τ sig (Elt F)) : after while0Ops0_5 V (Proc.devRef .tc main_v73_1) = V (Proc.devRef .tc main_v73_1) :=
  after_of_writes_sub while0Ops0_5 V while0Ops0_5_writes (by decide +kernel)
theorem ctr_while0Ops0_6 (V : Valuation τ sig (Elt F)) : after while0Ops0_6 V (Proc.devRef .tc main_v73_1) = V (Proc.devRef .tc main_v73_1) :=
  after_of_writes_sub while0Ops0_6 V while0Ops0_6_writes (by decide +kernel)
theorem ctr_while0Ops0_7 (V : Valuation τ sig (Elt F)) : after while0Ops0_7 V (Proc.devRef .tc main_v73_1) = V (Proc.devRef .tc main_v73_1) :=
  after_of_writes_sub while0Ops0_7 V while0Ops0_7_writes (by decide +kernel)
theorem ctr_while0Ops0_8 (V : Valuation τ sig (Elt F)) : after while0Ops0_8 V (Proc.devRef .tc main_v73_1) = V (Proc.devRef .tc main_v73_1) :=
  after_of_writes_sub while0Ops0_8 V while0Ops0_8_writes (by decide +kernel)
theorem ctr_while0Ops0_9 (V : Valuation τ sig (Elt F)) : after while0Ops0_9 V (Proc.devRef .tc main_v73_1) = V (Proc.devRef .tc main_v73_1) :=
  after_of_writes_sub while0Ops0_9 V while0Ops0_9_writes (by decide +kernel)
theorem ctr_while0Ops0_10 (V : Valuation τ sig (Elt F)) : after while0Ops0_10 V (Proc.devRef .tc main_v73_1) = V (Proc.devRef .tc main_v73_1) :=
  after_of_writes_sub while0Ops0_10 V while0Ops0_10_writes (by decide +kernel)

set_option maxRecDepth 100000 in
/-- `while0Ops0_11` leaves the counter one step on. -/
theorem ctr_step (X : Valuation τ sig (Elt F)) :
    after while0Ops0_11 X (Proc.devRef .tc main_v73_1) = addi (X (Proc.devRef .tc main_v73_1)) (constantI S_ 32 1#32) := by
  after_results
  rfl

/-- The counter is the loop's lower bound at the loop's entry: its last writer before the loop read back. -/
theorem ctr_entry (c : Dev nD) : entryContents preI m c (Proc.devRef .tc main_v73_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v73_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_10, ctr_while0Ops0_9, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v73_1 HostLoop.idx0)
        (HloOp.result _ (atK m k c) main_while0c_c_30 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 100 m ρ (cond_spec m)

end Cert.ReferenceIdeal.Value

end
-- ==== Proof.ReferenceTrip.lean ====
/- The values of one trip of the reference's loop, first part: from the arg-max to the intersections. -/
module

public import proofs.«01_k».proof.Proof.ReferenceFold

@[expose] public section

-- long lists of operations recurse past the default depth
set_option maxRecDepth 2552

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

-- an array of a shape and an element type; a reference that holds one
local notation "𝔸" s:max e:max => BufTy.Contents (Elt F) (⟨s, e⟩ : BufTy)
local notation "𝕋" s:max e:max => StableHlo.TRef sig (⟨s, e⟩ : BufTy)

variable (m : (ℓ : Loc nD τ sig) → Buf (Elt F) ℓ) (ρ : Dev nD → PrngReg)

/-! ## One trip's values -/

/-- An operation that writes one buffer, one of a list of buffers. -/
theorem writes_listed {op : HloOp τ sig (Elt F)} {W : List (Ref sig .tc)} {r : Ref sig .tc} (h : op.writes = {Proc.devRef .tc r})
    (hr : r ∈ W) : op.writes ⊆ (W.map (Proc.devRef (τ := τ) .tc)).toFinset := by
  rw [h, Finset.singleton_subset_iff, List.mem_toFinset]
  exact List.mem_map_of_mem hr

/-- The function of the body's operation that writes `main_while0b_v118`, named. It packs its operands into a list of dependent pairs
    whose shapes a later argument's type mentions, so `simp` cannot rewrite an operand where it stands; applied by
    name, the operands are plain arguments, which the window lemmas below rewrite before the name unfolds. -/
def fn_main_while0b_v118 : 𝔸 S20x1 .i32 → 𝔸 S20x1 .i32 → 𝔸 S20x2 .i32 :=
  (fun a b => concatenate S20x2 1 [⟨S20x1, a⟩, ⟨S20x1, b⟩] concatenates_S20x1_S20x1_S20x2_d1)

/-- The body's operations 1 … 5 of 145. -/
abbrev trip_w0 : List (HloOp τ sig (Elt F)) :=
  [ TRef.nullary (.of main_while0b_call7_v0 : 𝕋 S20x5000 .i32) (iotaInDim S20x5000 32 1),
    TRef.nullary (.of main_while0b_call7_cst : 𝕋 S_ .f32) (constant S_ .f32 0xFF800000#32),
    TRef.nullary (.of main_while0b_call7_c : 𝕋 S_ .i32) (constantI S_ 32 0#32),
    TRef.quaternary (.of main_v73_2 : 𝕋 S20x5000 .f32) (.of main_while0b_call7_v0 : 𝕋 S20x5000 .i32) (.of main_while0b_call7_cst : 𝕋 S_ .f32) (.of main_while0b_call7_c : 𝕋 S_ .i32) (.of main_while0b_call7_v1_0 : 𝕋 S20 .f32) (fun x y u v j => (Host.argReduce reducer_argmax_f32_i32 x y u v reducesTo_S20x5000_S20_d1 h_S_ j).1),
    TRef.quaternary (.of main_v73_2 : 𝕋 S20x5000 .f32) (.of main_while0b_call7_v0 : 𝕋 S20x5000 .i32) (.of main_while0b_call7_cst : 𝕋 S_ .f32) (.of main_while0b_call7_c : 𝕋 S_ .i32) (.of main_while0b_v103 : 𝕋 S20 .i32) (fun x y u v j => (Host.argReduce reducer_argmax_f32_i32 x y u v reducesTo_S20x5000_S20_d1 h_S_ j).2) ]

/-- The body's operations 6 … 29 of 145. -/
abbrev trip_w1 : List (HloOp τ sig (Elt F)) :=
  [ nullary main_while0b_cst_30 (constant S_ .f32 0xFF800000#32),
    binary main_v73_2 main_while0b_cst_30 main_while0b_v104 ((fun x v => Host.reduce FloatOps.maximumf x v reducesTo_S20x5000_S20_d1 h_S_) : 𝔸 S20x5000 .f32 → 𝔸 S_ .f32 → 𝔸 S20 .f32),
    nullary main_while0b_v105 (iotaInDim S20 32 0),
    nullary main_while0b_c_31 (constantI S_ 32 0#32),
    unary main_while0b_c_31 main_while0b_v106 (broadcastInDim S20 ![] bcast_S_S20 : 𝔸 S_ .i32 → 𝔸 S20 .i32),
    binary main_while0b_v105 main_while0b_v106 main_while0b_v107 (cmpi .slt : 𝔸 S20 .i32 → 𝔸 S20 .i32 → 𝔸 S20 .i1),
    nullary main_while0b_c_32 (constantI S_ 32 20#32),
    unary main_while0b_c_32 main_while0b_v108 (broadcastInDim S20 ![] bcast_S_S20 : 𝔸 S_ .i32 → 𝔸 S20 .i32),
    binary main_while0b_v105 main_while0b_v108 main_while0b_v109 (addi : 𝔸 S20 .i32 → 𝔸 S20 .i32 → 𝔸 S20 .i32),
    ternary main_while0b_v107 main_while0b_v109 main_while0b_v105 main_while0b_v110 (select : 𝔸 S20 .i1 → 𝔸 S20 .i32 → 𝔸 S20 .i32 → 𝔸 S20 .i32),
    nullary main_while0b_c_33 (constantI S_ 32 0#32),
    unary main_while0b_c_33 main_while0b_v111 (broadcastInDim S20 ![] bcast_S_S20 : 𝔸 S_ .i32 → 𝔸 S20 .i32),
    binary main_while0b_v103 main_while0b_v111 main_while0b_v112 (cmpi .slt : 𝔸 S20 .i32 → 𝔸 S20 .i32 → 𝔸 S20 .i1),
    nullary main_while0b_c_34 (constantI S_ 32 5000#32),
    unary main_while0b_c_34 main_while0b_v113 (broadcastInDim S20 ![] bcast_S_S20 : 𝔸 S_ .i32 → 𝔸 S20 .i32),
    binary main_while0b_v103 main_while0b_v113 main_while0b_v114 (addi : 𝔸 S20 .i32 → 𝔸 S20 .i32 → 𝔸 S20 .i32),
    ternary main_while0b_v112 main_while0b_v114 main_while0b_v103 main_while0b_v115 (select : 𝔸 S20 .i1 → 𝔸 S20 .i32 → 𝔸 S20 .i32 → 𝔸 S20 .i32),
    unary main_while0b_v110 main_while0b_v116 (broadcastInDim S20x1 ![0] bcast_S20_S20x1_0 : 𝔸 S20 .i32 → 𝔸 S20x1 .i32),
    unary main_while0b_v115 main_while0b_v117 (broadcastInDim S20x1 ![0] bcast_S20_S20x1_0 : 𝔸 S20 .i32 → 𝔸 S20x1 .i32),
    binary main_while0b_v116 main_while0b_v117 main_while0b_v118 (fn_main_while0b_v118 (F := F)),
    binary main_v73_0 main_while0b_v118 main_while0b_v119 ((fun x i => Host.gather gather_S20x5000x4_S20x2_S20x4_1_01_n_n_01_1_114 x i) : 𝔸 S20x5000x4 .f32 → 𝔸 S20x2 .i32 → 𝔸 S20x4 .f32),
    unary main_while0b_v104 main_while0b_v120 (Host.absf : 𝔸 S20 .f32 → 𝔸 S20 .f32),
    nullary main_while0b_cst_35 (constant S_ .f32 0x7F800000#32),
    unary main_while0b_cst_35 main_while0b_v121 (broadcastInDim S20 ![] bcast_S_S20 : 𝔸 S_ .f32 → 𝔸 S20 .f32) ]

/-- The body's operations 30 … 53 of 145. -/
abbrev trip_w2 : List (HloOp τ sig (Elt F)) :=
  [ binary main_while0b_v120 main_while0b_v121 main_while0b_v122 (cmpf .olt : 𝔸 S20 .f32 → 𝔸 S20 .f32 → 𝔸 S20 .i1),
    unary main_while0b_v119 main_while0b_v123 (broadcastInDim S20x1x4 ![0, 2] bcast_S20x4_S20x1x4_0_2 : 𝔸 S20x4 .f32 → 𝔸 S20x1x4 .f32),
    unary main_while0b_v123 main_while0b_v124 ((extractStridedSlice S20x1x1 ![0, 0, 0] · slices_S20x1x4_S20x1x1_0_0_0) : 𝔸 S20x1x4 .f32 → 𝔸 S20x1x1 .f32),
    reshape main_while0b_v124 main_while0b_v125 rfl shapeCasts_S20x1x1_S20x1,
    unary main_v73_0 main_while0b_v126 ((extractStridedSlice S20x5000x1 ![0, 0, 0] · slices_S20x5000x4_S20x5000x1_0_0_0) : 𝔸 S20x5000x4 .f32 → 𝔸 S20x5000x1 .f32),
    reshape main_while0b_v126 main_while0b_v127 rfl shapeCasts_S20x5000x1_S20x5000,
    unary main_while0b_v125 main_while0b_v128 (broadcastInDim S20x5000 ![0, 1] bcast_S20x1_S20x5000_0_1 : 𝔸 S20x1 .f32 → 𝔸 S20x5000 .f32),
    binary main_while0b_v128 main_while0b_v127 main_while0b_v129 (maximumf : 𝔸 S20x5000 .f32 → 𝔸 S20x5000 .f32 → 𝔸 S20x5000 .f32),
    unary main_while0b_v123 main_while0b_v130 ((extractStridedSlice S20x1x1 ![0, 0, 1] · slices_S20x1x4_S20x1x1_0_0_1) : 𝔸 S20x1x4 .f32 → 𝔸 S20x1x1 .f32),
    reshape main_while0b_v130 main_while0b_v131 rfl shapeCasts_S20x1x1_S20x1,
    unary main_v73_0 main_while0b_v132 ((extractStridedSlice S20x5000x1 ![0, 0, 1] · slices_S20x5000x4_S20x5000x1_0_0_1) : 𝔸 S20x5000x4 .f32 → 𝔸 S20x5000x1 .f32),
    reshape main_while0b_v132 main_while0b_v133 rfl shapeCasts_S20x5000x1_S20x5000,
    unary main_while0b_v131 main_while0b_v134 (broadcastInDim S20x5000 ![0, 1] bcast_S20x1_S20x5000_0_1 : 𝔸 S20x1 .f32 → 𝔸 S20x5000 .f32),
    binary main_while0b_v134 main_while0b_v133 main_while0b_v135 (maximumf : 𝔸 S20x5000 .f32 → 𝔸 S20x5000 .f32 → 𝔸 S20x5000 .f32),
    unary main_while0b_v123 main_while0b_v136 ((extractStridedSlice S20x1x1 ![0, 0, 2] · slices_S20x1x4_S20x1x1_0_0_2) : 𝔸 S20x1x4 .f32 → 𝔸 S20x1x1 .f32),
    reshape main_while0b_v136 main_while0b_v137 rfl shapeCasts_S20x1x1_S20x1,
    unary main_v73_0 main_while0b_v138 ((extractStridedSlice S20x5000x1 ![0, 0, 2] · slices_S20x5000x4_S20x5000x1_0_0_2) : 𝔸 S20x5000x4 .f32 → 𝔸 S20x5000x1 .f32),
    reshape main_while0b_v138 main_while0b_v139 rfl shapeCasts_S20x5000x1_S20x5000,
    unary main_while0b_v137 main_while0b_v140 (broadcastInDim S20x5000 ![0, 1] bcast_S20x1_S20x5000_0_1 : 𝔸 S20x1 .f32 → 𝔸 S20x5000 .f32),
    binary main_while0b_v140 main_while0b_v139 main_while0b_v141 (minimumf : 𝔸 S20x5000 .f32 → 𝔸 S20x5000 .f32 → 𝔸 S20x5000 .f32),
    unary main_while0b_v123 main_while0b_v142 ((extractStridedSlice S20x1x1 ![0, 0, 3] · slices_S20x1x4_S20x1x1_0_0_3) : 𝔸 S20x1x4 .f32 → 𝔸 S20x1x1 .f32),
    reshape main_while0b_v142 main_while0b_v143 rfl shapeCasts_S20x1x1_S20x1,
    unary main_v73_0 main_while0b_v144 ((extractStridedSlice S20x5000x1 ![0, 0, 3] · slices_S20x5000x4_S20x5000x1_0_0_3) : 𝔸 S20x5000x4 .f32 → 𝔸 S20x5000x1 .f32),
    reshape main_while0b_v144 main_while0b_v145 rfl shapeCasts_S20x5000x1_S20x5000 ]

/-- The body's operations 54 … 77 of 145. -/
abbrev trip_w3 : List (HloOp τ sig (Elt F)) :=
  [ unary main_while0b_v143 main_while0b_v146 (broadcastInDim S20x5000 ![0, 1] bcast_S20x1_S20x5000_0_1 : 𝔸 S20x1 .f32 → 𝔸 S20x5000 .f32),
    binary main_while0b_v146 main_while0b_v145 main_while0b_v147 (minimumf : 𝔸 S20x5000 .f32 → 𝔸 S20x5000 .f32 → 𝔸 S20x5000 .f32),
    binary main_while0b_v141 main_while0b_v129 main_while0b_v148 (subf : 𝔸 S20x5000 .f32 → 𝔸 S20x5000 .f32 → 𝔸 S20x5000 .f32),
    nullary main_while0b_cst_36 (constant S_ .f32 0x00000000#32),
    unary main_while0b_cst_36 main_while0b_v149 (broadcastInDim S20x5000 ![] bcast_S_S20x5000 : 𝔸 S_ .f32 → 𝔸 S20x5000 .f32),
    binary main_while0b_v148 main_while0b_v149 main_while0b_v150 (maximumf : 𝔸 S20x5000 .f32 → 𝔸 S20x5000 .f32 → 𝔸 S20x5000 .f32),
    binary main_while0b_v147 main_while0b_v135 main_while0b_v151 (subf : 𝔸 S20x5000 .f32 → 𝔸 S20x5000 .f32 → 𝔸 S20x5000 .f32),
    nullary main_while0b_cst_37 (constant S_ .f32 0x00000000#32),
    unary main_while0b_cst_37 main_while0b_v152 (broadcastInDim S20x5000 ![] bcast_S_S20x5000 : 𝔸 S_ .f32 → 𝔸 S20x5000 .f32),
    binary main_while0b_v151 main_while0b_v152 main_while0b_v153 (maximumf : 𝔸 S20x5000 .f32 → 𝔸 S20x5000 .f32 → 𝔸 S20x5000 .f32),
    binary main_while0b_v150 main_while0b_v153 main_while0b_v154 (mulf : 𝔸 S20x5000 .f32 → 𝔸 S20x5000 .f32 → 𝔸 S20x5000 .f32),
    unary main_while0b_v123 main_while0b_v155 ((extractStridedSlice S20x1x1 ![0, 0, 2] · slices_S20x1x4_S20x1x1_0_0_2) : 𝔸 S20x1x4 .f32 → 𝔸 S20x1x1 .f32),
    reshape main_while0b_v155 main_while0b_v156 rfl shapeCasts_S20x1x1_S20x1,
    unary main_while0b_v123 main_while0b_v157 ((extractStridedSlice S20x1x1 ![0, 0, 0] · slices_S20x1x4_S20x1x1_0_0_0) : 𝔸 S20x1x4 .f32 → 𝔸 S20x1x1 .f32),
    reshape main_while0b_v157 main_while0b_v158 rfl shapeCasts_S20x1x1_S20x1,
    binary main_while0b_v156 main_while0b_v158 main_while0b_v159 (subf : 𝔸 S20x1 .f32 → 𝔸 S20x1 .f32 → 𝔸 S20x1 .f32),
    nullary main_while0b_cst_38 (constant S_ .f32 0x00000000#32),
    unary main_while0b_cst_38 main_while0b_v160 (broadcastInDim S20x1 ![] bcast_S_S20x1 : 𝔸 S_ .f32 → 𝔸 S20x1 .f32),
    binary main_while0b_v159 main_while0b_v160 main_while0b_v161 (maximumf : 𝔸 S20x1 .f32 → 𝔸 S20x1 .f32 → 𝔸 S20x1 .f32),
    unary main_while0b_v123 main_while0b_v162 ((extractStridedSlice S20x1x1 ![0, 0, 3] · slices_S20x1x4_S20x1x1_0_0_3) : 𝔸 S20x1x4 .f32 → 𝔸 S20x1x1 .f32),
    reshape main_while0b_v162 main_while0b_v163 rfl shapeCasts_S20x1x1_S20x1,
    unary main_while0b_v123 main_while0b_v164 ((extractStridedSlice S20x1x1 ![0, 0, 1] · slices_S20x1x4_S20x1x1_0_0_1) : 𝔸 S20x1x4 .f32 → 𝔸 S20x1x1 .f32),
    reshape main_while0b_v164 main_while0b_v165 rfl shapeCasts_S20x1x1_S20x1,
    binary main_while0b_v163 main_while0b_v165 main_while0b_v166 (subf : 𝔸 S20x1 .f32 → 𝔸 S20x1 .f32 → 𝔸 S20x1 .f32) ]

/-- The body's operations 78 … 101 of 145. -/
abbrev trip_w4 : List (HloOp τ sig (Elt F)) :=
  [ nullary main_while0b_cst_39 (constant S_ .f32 0x00000000#32),
    unary main_while0b_cst_39 main_while0b_v167 (broadcastInDim S20x1 ![] bcast_S_S20x1 : 𝔸 S_ .f32 → 𝔸 S20x1 .f32),
    binary main_while0b_v166 main_while0b_v167 main_while0b_v168 (maximumf : 𝔸 S20x1 .f32 → 𝔸 S20x1 .f32 → 𝔸 S20x1 .f32),
    binary main_while0b_v161 main_while0b_v168 main_while0b_v169 (mulf : 𝔸 S20x1 .f32 → 𝔸 S20x1 .f32 → 𝔸 S20x1 .f32),
    unary main_v73_0 main_while0b_v170 ((extractStridedSlice S20x5000x1 ![0, 0, 2] · slices_S20x5000x4_S20x5000x1_0_0_2) : 𝔸 S20x5000x4 .f32 → 𝔸 S20x5000x1 .f32),
    reshape main_while0b_v170 main_while0b_v171 rfl shapeCasts_S20x5000x1_S20x5000,
    unary main_v73_0 main_while0b_v172 ((extractStridedSlice S20x5000x1 ![0, 0, 0] · slices_S20x5000x4_S20x5000x1_0_0_0) : 𝔸 S20x5000x4 .f32 → 𝔸 S20x5000x1 .f32),
    reshape main_while0b_v172 main_while0b_v173 rfl shapeCasts_S20x5000x1_S20x5000,
    binary main_while0b_v171 main_while0b_v173 main_while0b_v174 (subf : 𝔸 S20x5000 .f32 → 𝔸 S20x5000 .f32 → 𝔸 S20x5000 .f32),
    nullary main_while0b_cst_40 (constant S_ .f32 0x00000000#32),
    unary main_while0b_cst_40 main_while0b_v175 (broadcastInDim S20x5000 ![] bcast_S_S20x5000 : 𝔸 S_ .f32 → 𝔸 S20x5000 .f32),
    binary main_while0b_v174 main_while0b_v175 main_while0b_v176 (maximumf : 𝔸 S20x5000 .f32 → 𝔸 S20x5000 .f32 → 𝔸 S20x5000 .f32),
    unary main_v73_0 main_while0b_v177 ((extractStridedSlice S20x5000x1 ![0, 0, 3] · slices_S20x5000x4_S20x5000x1_0_0_3) : 𝔸 S20x5000x4 .f32 → 𝔸 S20x5000x1 .f32),
    reshape main_while0b_v177 main_while0b_v178 rfl shapeCasts_S20x5000x1_S20x5000,
    unary main_v73_0 main_while0b_v179 ((extractStridedSlice S20x5000x1 ![0, 0, 1] · slices_S20x5000x4_S20x5000x1_0_0_1) : 𝔸 S20x5000x4 .f32 → 𝔸 S20x5000x1 .f32),
    reshape main_while0b_v179 main_while0b_v180 rfl shapeCasts_S20x5000x1_S20x5000,
    binary main_while0b_v178 main_while0b_v180 main_while0b_v181 (subf : 𝔸 S20x5000 .f32 → 𝔸 S20x5000 .f32 → 𝔸 S20x5000 .f32),
    nullary main_while0b_cst_41 (constant S_ .f32 0x00000000#32),
    unary main_while0b_cst_41 main_while0b_v182 (broadcastInDim S20x5000 ![] bcast_S_S20x5000 : 𝔸 S_ .f32 → 𝔸 S20x5000 .f32),
    binary main_while0b_v181 main_while0b_v182 main_while0b_v183 (maximumf : 𝔸 S20x5000 .f32 → 𝔸 S20x5000 .f32 → 𝔸 S20x5000 .f32),
    binary main_while0b_v176 main_while0b_v183 main_while0b_v184 (mulf : 𝔸 S20x5000 .f32 → 𝔸 S20x5000 .f32 → 𝔸 S20x5000 .f32),
    unary main_while0b_v169 main_while0b_v185 (broadcastInDim S20x5000 ![0, 1] bcast_S20x1_S20x5000_0_1 : 𝔸 S20x1 .f32 → 𝔸 S20x5000 .f32),
    binary main_while0b_v185 main_while0b_v184 main_while0b_v186 (addf : 𝔸 S20x5000 .f32 → 𝔸 S20x5000 .f32 → 𝔸 S20x5000 .f32),
    binary main_while0b_v186 main_while0b_v154 main_while0b_v187 (subf : 𝔸 S20x5000 .f32 → 𝔸 S20x5000 .f32 → 𝔸 S20x5000 .f32) ]

/-- The body's operations 102 … 109 of 145. -/
abbrev trip_w5 : List (HloOp τ sig (Elt F)) :=
  [ nullary main_while0b_cst_42 (constant S_ .f32 0x322BCC77#32),
    unary main_while0b_cst_42 main_while0b_v188 (broadcastInDim S20x5000 ![] bcast_S_S20x5000 : 𝔸 S_ .f32 → 𝔸 S20x5000 .f32),
    binary main_while0b_v187 main_while0b_v188 main_while0b_v189 (maximumf : 𝔸 S20x5000 .f32 → 𝔸 S20x5000 .f32 → 𝔸 S20x5000 .f32),
    binary main_while0b_v154 main_while0b_v189 main_while0b_v190 (Host.divf : 𝔸 S20x5000 .f32 → 𝔸 S20x5000 .f32 → 𝔸 S20x5000 .f32),
    nullary main_while0b_cst_43 (constant S_ .f32 0x3F000000#32),
    unary main_while0b_cst_43 main_while0b_v191 (broadcastInDim S20x5000 ![] bcast_S_S20x5000 : 𝔸 S_ .f32 → 𝔸 S20x5000 .f32),
    binary main_while0b_v190 main_while0b_v191 main_while0b_v192 (cmpf .ogt : 𝔸 S20x5000 .f32 → 𝔸 S20x5000 .f32 → 𝔸 S20x5000 .i1),
    nullary main_while0b_cst_44 (constant S_ .f32 0xFF800000#32) ]

/-- The body's operations 110 … 112 of 145. -/
abbrev trip_w6 : List (HloOp τ sig (Elt F)) :=
  [ TRef.unary (.of main_while0b_cst_44 : 𝕋 S_ .f32) (.of main_while0b_call8_v0 : 𝕋 S_ .f32) id,
    TRef.unary (.of main_while0b_call8_v0 : 𝕋 S_ .f32) (.of main_while0b_call8_v1 : 𝕋 S20x5000 .f32) (broadcastInDim S20x5000 ![] bcast_S_S20x5000),
    TRef.ternary (.of main_while0b_v192 : 𝕋 S20x5000 .i1) (.of main_while0b_call8_v1 : 𝕋 S20x5000 .f32) (.of main_v73_2 : 𝕋 S20x5000 .f32) (.of main_while0b_v193 : 𝕋 S20x5000 .f32) select ]

/-- The body's operations 113 … 119 of 145. -/
abbrev trip_w7 : List (HloOp τ sig (Elt F)) :=
  [ nullary main_while0b_v194 (iotaInDim S5000 32 0),
    unary main_while0b_v194 main_while0b_v195 (broadcastInDim S1x5000 ![1] bcast_S5000_S1x5000_1 : 𝔸 S5000 .i32 → 𝔸 S1x5000 .i32),
    unary main_while0b_v103 main_while0b_v196 (broadcastInDim S20x1 ![0] bcast_S20_S20x1_0 : 𝔸 S20 .i32 → 𝔸 S20x1 .i32),
    unary main_while0b_v195 main_while0b_v197 (broadcastInDim S20x5000 ![0, 1] bcast_S1x5000_S20x5000_0_1 : 𝔸 S1x5000 .i32 → 𝔸 S20x5000 .i32),
    unary main_while0b_v196 main_while0b_v198 (broadcastInDim S20x5000 ![0, 1] bcast_S20x1_S20x5000_0_1 : 𝔸 S20x1 .i32 → 𝔸 S20x5000 .i32),
    binary main_while0b_v197 main_while0b_v198 main_while0b_v199 (cmpi .eq : 𝔸 S20x5000 .i32 → 𝔸 S20x5000 .i32 → 𝔸 S20x5000 .i1),
    nullary main_while0b_cst_45 (constant S_ .f32 0xFF800000#32) ]

/-- The body's operations 120 … 122 of 145. -/
abbrev trip_w8 : List (HloOp τ sig (Elt F)) :=
  [ TRef.unary (.of main_while0b_cst_45 : 𝕋 S_ .f32) (.of main_while0b_call9_v0 : 𝕋 S_ .f32) id,
    TRef.unary (.of main_while0b_call9_v0 : 𝕋 S_ .f32) (.of main_while0b_call9_v1 : 𝕋 S20x5000 .f32) (broadcastInDim S20x5000 ![] bcast_S_S20x5000),
    TRef.ternary (.of main_while0b_v199 : 𝕋 S20x5000 .i1) (.of main_while0b_call9_v1 : 𝕋 S20x5000 .f32) (.of main_while0b_v193 : 𝕋 S20x5000 .f32) (.of main_while0b_v200 : 𝕋 S20x5000 .f32) select ]

/-- The body's operations 123 … 124 of 145. -/
abbrev trip_w9 : List (HloOp τ sig (Elt F)) :=
  [ unary main_while0b_v122 main_while0b_v201 (broadcastInDim S20x1 ![0] bcast_S20_S20x1_0 : 𝔸 S20 .i1 → 𝔸 S20x1 .i1),
    nullary main_while0b_cst_46 (constant S_ .f32 0x00000000#32) ]

/-- The body's operations 125 … 128 of 145. -/
abbrev trip_w10 : List (HloOp τ sig (Elt F)) :=
  [ TRef.unary (.of main_while0b_cst_46 : 𝕋 S_ .f32) (.of main_while0b_call10_v0 : 𝕋 S_ .f32) id,
    TRef.unary (.of main_while0b_v201 : 𝕋 S20x1 .i1) (.of main_while0b_call10_v1 : 𝕋 S20x4 .i1) (broadcastInDim S20x4 ![0, 1] bcast_S20x1_S20x4_0_1),
    TRef.unary (.of main_while0b_call10_v0 : 𝕋 S_ .f32) (.of main_while0b_call10_v2 : 𝕋 S20x4 .f32) (broadcastInDim S20x4 ![] bcast_S_S20x4),
    TRef.ternary (.of main_while0b_call10_v1 : 𝕋 S20x4 .i1) (.of main_while0b_v119 : 𝕋 S20x4 .f32) (.of main_while0b_call10_v2 : 𝕋 S20x4 .f32) (.of main_while0b_v202 : 𝕋 S20x4 .f32) select ]

/-- The body's operations 129 … 129 of 145. -/
abbrev trip_w11 : List (HloOp τ sig (Elt F)) :=
  [ nullary main_while0b_cst_47 (constant S_ .f32 0xFF800000#32) ]

/-- The body's operations 130 … 132 of 145. -/
abbrev trip_w12 : List (HloOp τ sig (Elt F)) :=
  [ TRef.unary (.of main_while0b_cst_47 : 𝕋 S_ .f32) (.of main_while0b_call11_v0 : 𝕋 S_ .f32) id,
    TRef.unary (.of main_while0b_call11_v0 : 𝕋 S_ .f32) (.of main_while0b_call11_v1 : 𝕋 S20 .f32) (broadcastInDim S20 ![] bcast_S_S20),
    TRef.ternary (.of main_while0b_v122 : 𝕋 S20 .i1) (.of main_while0b_v104 : 𝕋 S20 .f32) (.of main_while0b_call11_v1 : 𝕋 S20 .f32) (.of main_while0b_v203 : 𝕋 S20 .f32) select ]

/-- The body's operations 133 … 136 of 145. -/
abbrev trip_w13 : List (HloOp τ sig (Elt F)) :=
  [ TRef.unary (.of main_while0b_v202 : 𝕋 S20x4 .f32) (.of main_while0b_call12_v0 : 𝕋 S1x20x4 .f32) (broadcastInDim S1x20x4 ![1, 2] bcast_S20x4_S1x20x4_1_2),
    TRef.nullary (.of main_while0b_call12_c : 𝕋 S_ .i32) (constantI S_ 32 0#32),
    TRef.nullary (.of main_while0b_call12_c_0 : 𝕋 S_ .i32) (constantI S_ 32 0#32),
    TRef.binaryIndexed (.of main_v73_3 : 𝕋 S100x20x4 .f32) (.of main_while0b_call12_v0 : 𝕋 S1x20x4 .f32) ![(.of main_v73_1 : 𝕋 S_ .i32), (.of main_while0b_call12_c : 𝕋 S_ .i32), (.of main_while0b_call12_c_0 : 𝕋 S_ .i32)] (.of main_while0b_v204 : 𝕋 S100x20x4 .f32) (fun x u i => Host.dynamicUpdateSlice x u (fun k => (i k (Shape.Idx.first h_S_)).toInt) updateFits_S100x20x4_S1x20x4) ]

/-- The body's operations 137 … 139 of 145. -/
abbrev trip_w14 : List (HloOp τ sig (Elt F)) :=
  [ TRef.unary (.of main_while0b_v203 : 𝕋 S20 .f32) (.of main_while0b_call13_v0 : 𝕋 S1x20 .f32) (broadcastInDim S1x20 ![1] bcast_S20_S1x20_1),
    TRef.nullary (.of main_while0b_call13_c : 𝕋 S_ .i32) (constantI S_ 32 0#32),
    TRef.binaryIndexed (.of main_v73_4 : 𝕋 S100x20 .f32) (.of main_while0b_call13_v0 : 𝕋 S1x20 .f32) ![(.of main_v73_1 : 𝕋 S_ .i32), (.of main_while0b_call13_c : 𝕋 S_ .i32)] (.of main_while0b_v205 : 𝕋 S100x20 .f32) (fun x u i => Host.dynamicUpdateSlice x u (fun k => (i k (Shape.Idx.first h_S_)).toInt) updateFits_S100x20_S1x20) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 ++ (trip_w2 ++ (trip_w3 ++ (trip_w4 ++ (trip_w5)))) := rfl
set_option maxRecDepth 5000 in
/-- `while0Ops0_2` is its windows in order. -/
theorem while0Ops0_2_cut : (while0Ops0_2 : List (HloOp τ sig (Elt F))) = trip_w6 := rfl
set_option maxRecDepth 5000 in
/-- `while0Ops0_3` is its windows in order. -/
theorem while0Ops0_3_cut : (while0Ops0_3 : List (HloOp τ sig (Elt F))) = trip_w7 := rfl
set_option maxRecDepth 5000 in
/-- `while0Ops0_4` is its windows in order. -/
theorem while0Ops0_4_cut : (while0Ops0_4 : List (HloOp τ sig (Elt F))) = trip_w8 := rfl
set_option maxRecDepth 5000 in
/-- `while0Ops0_5` is its windows in order. -/
theorem while0Ops0_5_cut : (while0Ops0_5 : List (HloOp τ sig (Elt F))) = trip_w9 := rfl
set_option maxRecDepth 5000 in
/-- `while0Ops0_6` is its windows in order. -/
theorem while0Ops0_6_cut : (while0Ops0_6 : List (HloOp τ sig (Elt F))) = trip_w10 := rfl
set_option maxRecDepth 5000 in
/-- `while0Ops0_7` is its windows in order. -/
theorem while0Ops0_7_cut : (while0Ops0_7 : List (HloOp τ sig (Elt F))) = trip_w11 := rfl
set_option maxRecDepth 5000 in
/-- `while0Ops0_8` is its windows in order. -/
theorem while0Ops0_8_cut : (while0Ops0_8 : List (HloOp τ sig (Elt F))) = trip_w12 := rfl
set_option maxRecDepth 5000 in
/-- `while0Ops0_9` is its windows in order. -/
theorem while0Ops0_9_cut : (while0Ops0_9 : List (HloOp τ sig (Elt F))) = trip_w13 := rfl
set_option maxRecDepth 5000 in
/-- `while0Ops0_10` is its windows in order. -/
theorem while0Ops0_10_cut : (while0Ops0_10 : List (HloOp τ sig (Elt F))) = trip_w14 := rfl

set_option maxRecDepth 8192 in
/-- `main_while0b_call7_v0`'s composed term of the carried buffers (named: it is used 2 times). -/
def res_main_while0b_call7_v0 (V0 : Valuation τ sig (Elt F)) : (Proc.devRef .tc main_while0b_call7_v0 : DevRef τ sig).ty.Contents (Elt F) :=
  iotaInDim S20x5000 32 1

set_option maxRecDepth 8192 in
/-- `main_while0b_call7_cst`'s composed term of the carried buffers (named: it is used 2 times). -/
def res_main_while0b_call7_cst (V0 : Valuation τ sig (Elt F)) : (Proc.devRef .tc main_while0b_call7_cst : DevRef τ sig).ty.Contents (Elt F) :=
  constant S_ .f32 0xFF800000#32

set_option maxRecDepth 8192 in
/-- `main_while0b_call7_c`'s composed term of the carried buffers (named: it is used 2 times). -/
def res_main_while0b_call7_c (V0 : Valuation τ sig (Elt F)) : (Proc.devRef .tc main_while0b_call7_c : DevRef τ sig).ty.Contents (Elt F) :=
  constantI S_ 32 0#32

set_option maxRecDepth 8192 in
/-- `main_while0b_v103`'s composed term of the carried buffers (named: it is used 4 times). -/
def res_main_while0b_v103 (V0 : Valuation τ sig (Elt F)) : (Proc.devRef .tc main_while0b_v103 : DevRef τ sig).ty.Contents (Elt F) :=
  (fun j => (Host.argReduce reducer_argmax_f32_i32 (V0 (Proc.devRef .tc main_v73_2)) (res_main_while0b_call7_v0 V0) (res_main_while0b_call7_cst V0) (res_main_while0b_call7_c V0) reducesTo_S20x5000_S20_d1 h_S_ j).2)

set_option maxRecDepth 8192 in
/-- `main_while0b_v104`'s composed term of the carried buffers (named: it is used 2 times). -/
def res_main_while0b_v104 (V0 : Valuation τ sig (Elt F)) : (Proc.devRef .tc main_while0b_v104 : DevRef τ sig).ty.Contents (Elt F) :=
  Host.reduce FloatOps.maximumf (V0 (Proc.devRef .tc main_v73_2)) (constant S_ .f32 0xFF800000#32) reducesTo_S20x5000_S20_d1 h_S_

set_option maxRecDepth 8192 in
/-- `main_while0b_v105`'s composed term of the carried buffers (named: it is used 3 times). -/
def res_main_while0b_v105 (V0 : Valuation τ sig (Elt F)) : (Proc.devRef .tc main_while0b_v105 : DevRef τ sig).ty.Contents (Elt F) :=
  iotaInDim S20 32 0

set_option maxRecDepth 8192 in
/-- `main_while0b_v119`'s composed term of the carried buffers (named: it is used 2 times). -/
def res_main_while0b_v119 (V0 : Valuation τ sig (Elt F)) : (Proc.devRef .tc main_while0b_v119 : DevRef τ sig).ty.Contents (Elt F) :=
  Host.gather gather_S20x5000x4_S20x2_S20x4_1_01_n_n_01_1_114 (V0 (Proc.devRef .tc main_v73_0)) (concatenate S20x2 1 [⟨S20x1, (broadcastInDim S20x1 ![0] bcast_S20_S20x1_0 (select (cmpi .slt (res_main_while0b_v105 V0) (broadcastInDim S20 ![] bcast_S_S20 (constantI S_ 32 0#32))) (addi (res_main_while0b_v105 V0) (broadcastInDim S20 ![] bcast_S_S20 (constantI S_ 32 20#32))) (res_main_while0b_v105 V0)))⟩, ⟨S20x1, (broadcastInDim S20x1 ![0] bcast_S20_S20x1_0 (select (cmpi .slt (res_main_while0b_v103 V0) (broadcastInDim S20 ![] bcast_S_S20 (constantI S_ 32 0#32))) (addi (res_main_while0b_v103 V0) (broadcastInDim S20 ![] bcast_S_S20 (constantI S_ 32 5000#32))) (res_main_while0b_v103 V0)))⟩] concatenates_S20x1_S20x1_S20x2_d1)

set_option maxRecDepth 8192 in
/-- `main_while0b_v122`'s composed term of the carried buffers (named: it is used 2 times). -/
def res_main_while0b_v122 (V0 : Valuation τ sig (Elt F)) : (Proc.devRef .tc main_while0b_v122 : DevRef τ sig).ty.Contents (Elt F) :=
  cmpf .olt (Host.absf (res_main_while0b_v104 V0)) (broadcastInDim S20 ![] bcast_S_S20 (constant S_ .f32 0x7F800000#32))

set_option maxRecDepth 8192 in
/-- `main_while0b_v123`'s composed term of the carried buffers (named: it is used 8 times). -/
def res_main_while0b_v123 (V0 : Valuation τ sig (Elt F)) : (Proc.devRef .tc main_while0b_v123 : DevRef τ sig).ty.Contents (Elt F) :=
  broadcastInDim S20x1x4 ![0, 2] bcast_S20x4_S20x1x4_0_2 (res_main_while0b_v119 V0)

set_option maxRecDepth 8192 in
/-- `main_while0b_v154`'s composed term of the carried buffers (named: it is used 2 times). -/
def res_main_while0b_v154 (V0 : Valuation τ sig (Elt F)) : (Proc.devRef .tc main_while0b_v154 : DevRef τ sig).ty.Contents (Elt F) :=
  mulf (maximumf (subf (minimumf (broadcastInDim S20x5000 ![0, 1] bcast_S20x1_S20x5000_0_1 (shapeCast S20x1 (extractStridedSlice S20x1x1 ![0, 0, 2] (res_main_while0b_v123 V0) slices_S20x1x4_S20x1x1_0_0_2) shapeCasts_S20x1x1_S20x1)) (shapeCast S20x5000 (extractStridedSlice S20x5000x1 ![0, 0, 2] (V0 (Proc.devRef .tc main_v73_0)) slices_S20x5000x4_S20x5000x1_0_0_2) shapeCasts_S20x5000x1_S20x5000)) (maximumf (broadcastInDim S20x5000 ![0, 1] bcast_S20x1_S20x5000_0_1 (shapeCast S20x1 (extractStridedSlice S20x1x1 ![0, 0, 0] (res_main_while0b_v123 V0) slices_S20x1x4_S20x1x1_0_0_0) shapeCasts_S20x1x1_S20x1)) (shapeCast S20x5000 (extractStridedSlice S20x5000x1 ![0, 0, 0] (V0 (Proc.devRef .tc main_v73_0)) slices_S20x5000x4_S20x5000x1_0_0_0) shapeCasts_S20x5000x1_S20x5000))) (broadcastInDim S20x5000 ![] bcast_S_S20x5000 (constant S_ .f32 0x00000000#32))) (maximumf (subf (minimumf (broadcastInDim S20x5000 ![0, 1] bcast_S20x1_S20x5000_0_1 (shapeCast S20x1 (extractStridedSlice S20x1x1 ![0, 0, 3] (res_main_while0b_v123 V0) slices_S20x1x4_S20x1x1_0_0_3) shapeCasts_S20x1x1_S20x1)) (shapeCast S20x5000 (extractStridedSlice S20x5000x1 ![0, 0, 3] (V0 (Proc.devRef .tc main_v73_0)) slices_S20x5000x4_S20x5000x1_0_0_3) shapeCasts_S20x5000x1_S20x5000)) (maximumf (broadcastInDim S20x5000 ![0, 1] bcast_S20x1_S20x5000_0_1 (shapeCast S20x1 (extractStridedSlice S20x1x1 ![0, 0, 1] (res_main_while0b_v123 V0) slices_S20x1x4_S20x1x1_0_0_1) shapeCasts_S20x1x1_S20x1)) (shapeCast S20x5000 (extractStridedSlice S20x5000x1 ![0, 0, 1] (V0 (Proc.devRef .tc main_v73_0)) slices_S20x5000x4_S20x5000x1_0_0_1) shapeCasts_S20x5000x1_S20x5000))) (broadcastInDim S20x5000 ![] bcast_S_S20x5000 (constant S_ .f32 0x00000000#32)))

/-- The device's buffer contents before the body's first window. -/
def val0 (V0 : Valuation τ sig (Elt F)) : Valuation τ sig (Elt F) := V0
theorem val0_main_v73_2 (V0 : Valuation τ sig (Elt F)) : val0 V0 (no_index (Proc.devRef .tc main_v73_2)) = V0 (Proc.devRef .tc main_v73_2) := rfl
theorem val0_main_v73_0 (V0 : Valuation τ sig (Elt F)) : val0 V0 (no_index (Proc.devRef .tc main_v73_0)) = V0 (Proc.devRef .tc main_v73_0) := rfl
theorem val0_main_v73_3 (V0 : Valuation τ sig (Elt F)) : val0 V0 (no_index (Proc.devRef .tc main_v73_3)) = V0 (Proc.devRef .tc main_v73_3) := rfl
theorem val0_main_v73_1 (V0 : Valuation τ sig (Elt F)) : val0 V0 (no_index (Proc.devRef .tc main_v73_1)) = V0 (Proc.devRef .tc main_v73_1) := rfl
theorem val0_main_v73_4 (V0 : Valuation τ sig (Elt F)) : val0 V0 (no_index (Proc.devRef .tc main_v73_4)) = V0 (Proc.devRef .tc main_v73_4) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call7_v0, main_while0b_call7_cst, main_while0b_call7_c, main_while0b_call7_v1_0, main_while0b_v103]
set_option maxRecDepth 8192 in
theorem trip_w0_writes : (trip_w0 : List (HloOp τ sig (Elt F))).Forall fun op => op.writes ⊆ (trip_w0_W.map (Proc.devRef (τ := τ) .tc)).toFinset := by
  simp only [List.Forall]; and_intros <;> exact writes_listed rfl (by decide)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v73_2 (V0 : Valuation τ sig (Elt F)) : val1 V0 (no_index (Proc.devRef .tc main_v73_2)) = V0 (Proc.devRef .tc main_v73_2) :=
  (val1_keep V0 main_v73_2 (by decide)).trans (val0_main_v73_2 V0)
theorem val1_main_v73_0 (V0 : Valuation τ sig (Elt F)) : val1 V0 (no_index (Proc.devRef .tc main_v73_0)) = V0 (Proc.devRef .tc main_v73_0) :=
  (val1_keep V0 main_v73_0 (by decide)).trans (val0_main_v73_0 V0)
theorem val1_main_v73_3 (V0 : Valuation τ sig (Elt F)) : val1 V0 (no_index (Proc.devRef .tc main_v73_3)) = V0 (Proc.devRef .tc main_v73_3) :=
  (val1_keep V0 main_v73_3 (by decide)).trans (val0_main_v73_3 V0)
theorem val1_main_v73_1 (V0 : Valuation τ sig (Elt F)) : val1 V0 (no_index (Proc.devRef .tc main_v73_1)) = V0 (Proc.devRef .tc main_v73_1) :=
  (val1_keep V0 main_v73_1 (by decide)).trans (val0_main_v73_1 V0)
theorem val1_main_v73_4 (V0 : Valuation τ sig (Elt F)) : val1 V0 (no_index (Proc.devRef .tc main_v73_4)) = V0 (Proc.devRef .tc main_v73_4) :=
  (val1_keep V0 main_v73_4 (by decide)).trans (val0_main_v73_4 V0)
set_option maxRecDepth 8192 in
theorem val1_main_while0b_v103 (V0 : Valuation τ sig (Elt F)) : val1 V0 (no_index (Proc.devRef .tc main_while0b_v103)) = res_main_while0b_v103 V0 := by
  unfold val1
  simp only [trip_w0]
  after_results_entrywise [val0_main_v73_2, res_main_while0b_call7_v0, res_main_while0b_call7_cst, res_main_while0b_call7_c, res_main_while0b_v103, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_cst_30, main_while0b_v104, main_while0b_v105, main_while0b_c_31, main_while0b_v106, main_while0b_v107, main_while0b_c_32, main_while0b_v108, main_while0b_v109, main_while0b_v110, main_while0b_c_33, main_while0b_v111, main_while0b_v112, main_while0b_c_34, main_while0b_v113, main_while0b_v114, main_while0b_v115, main_while0b_v116, main_while0b_v117, main_while0b_v118, main_while0b_v119, main_while0b_v120, main_while0b_cst_35, main_while0b_v121]
set_option maxRecDepth 8192 in
theorem trip_w1_writes : (trip_w1 : List (HloOp τ sig (Elt F))).Forall fun op => op.writes ⊆ (trip_w1_W.map (Proc.devRef (τ := τ) .tc)).toFinset := by
  simp only [List.Forall]; and_intros <;> exact writes_listed rfl (by decide)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v73_2 (V0 : Valuation τ sig (Elt F)) : val2 V0 (no_index (Proc.devRef .tc main_v73_2)) = V0 (Proc.devRef .tc main_v73_2) :=
  (val2_keep V0 main_v73_2 (by decide)).trans (val1_main_v73_2 V0)
theorem val2_main_v73_0 (V0 : Valuation τ sig (Elt F)) : val2 V0 (no_index (Proc.devRef .tc main_v73_0)) = V0 (Proc.devRef .tc main_v73_0) :=
  (val2_keep V0 main_v73_0 (by decide)).trans (val1_main_v73_0 V0)
theorem val2_main_v73_3 (V0 : Valuation τ sig (Elt F)) : val2 V0 (no_index (Proc.devRef .tc main_v73_3)) = V0 (Proc.devRef .tc main_v73_3) :=
  (val2_keep V0 main_v73_3 (by decide)).trans (val1_main_v73_3 V0)
theorem val2_main_v73_1 (V0 : Valuation τ sig (Elt F)) : val2 V0 (no_index (Proc.devRef .tc main_v73_1)) = V0 (Proc.devRef .tc main_v73_1) :=
  (val2_keep V0 main_v73_1 (by decide)).trans (val1_main_v73_1 V0)
theorem val2_main_v73_4 (V0 : Valuation τ sig (Elt F)) : val2 V0 (no_index (Proc.devRef .tc main_v73_4)) = V0 (Proc.devRef .tc main_v73_4) :=
  (val2_keep V0 main_v73_4 (by decide)).trans (val1_main_v73_4 V0)
theorem val2_main_while0b_v103 (V0 : Valuation τ sig (Elt F)) : val2 V0 (no_index (Proc.devRef .tc main_while0b_v103)) = res_main_while0b_v103 V0 :=
  (val2_keep V0 main_while0b_v103 (by decide)).trans (val1_main_while0b_v103 V0)
set_option maxRecDepth 8192 in
set_option maxHeartbeats 2000000 in
theorem val2_main_while0b_v104 (V0 : Valuation τ sig (Elt F)) : val2 V0 (no_index (Proc.devRef .tc main_while0b_v104)) = res_main_while0b_v104 V0 := by
  unfold val2
  simp only [trip_w1]
  after_results_entrywise [val1_main_v73_2, res_main_while0b_v104, cast_eq]
set_option maxRecDepth 8192 in
set_option maxHeartbeats 2000000 in
theorem val2_main_while0b_v119 (V0 : Valuation τ sig (Elt F)) : val2 V0 (no_index (Proc.devRef .tc main_while0b_v119)) = res_main_while0b_v119 V0 := by
  unfold val2
  simp only [trip_w1]
  after_results_entrywise [val1_main_while0b_v103, val1_main_v73_0, res_main_while0b_v105, res_main_while0b_v119, cast_eq]
set_option maxRecDepth 8192 in
set_option maxHeartbeats 2000000 in
theorem val2_main_while0b_v120 (V0 : Valuation τ sig (Elt F)) : val2 V0 (no_index (Proc.devRef .tc main_while0b_v120)) = Host.absf (res_main_while0b_v104 V0) := by
  unfold val2
  simp only [trip_w1]
  after_results_entrywise [val1_main_v73_2, res_main_while0b_v104, cast_eq]
set_option maxRecDepth 8192 in
set_option maxHeartbeats 2000000 in
theorem val2_main_while0b_v121 (V0 : Valuation τ sig (Elt F)) : val2 V0 (no_index (Proc.devRef .tc main_while0b_v121)) = broadcastInDim S20 ![] bcast_S_S20 (constant S_ .f32 0x7F800000#32) := by
  unfold val2
  simp only [trip_w1]
  after_results_entrywise [cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_v122, main_while0b_v123, main_while0b_v124, main_while0b_v125, main_while0b_v126, main_while0b_v127, main_while0b_v128, main_while0b_v129, main_while0b_v130, main_while0b_v131, main_while0b_v132, main_while0b_v133, main_while0b_v134, main_while0b_v135, main_while0b_v136, main_while0b_v137, main_while0b_v138, main_while0b_v139, main_while0b_v140, main_while0b_v141, main_while0b_v142, main_while0b_v143, main_while0b_v144, main_while0b_v145]
set_option maxRecDepth 8192 in
theorem trip_w2_writes : (trip_w2 : List (HloOp τ sig (Elt F))).Forall fun op => op.writes ⊆ (trip_w2_W.map (Proc.devRef (τ := τ) .tc)).toFinset := by
  simp only [List.Forall]; and_intros <;> exact writes_listed rfl (by decide)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v73_2 (V0 : Valuation τ sig (Elt F)) : val3 V0 (no_index (Proc.devRef .tc main_v73_2)) = V0 (Proc.devRef .tc main_v73_2) :=
  (val3_keep V0 main_v73_2 (by decide)).trans (val2_main_v73_2 V0)
theorem val3_main_v73_0 (V0 : Valuation τ sig (Elt F)) : val3 V0 (no_index (Proc.devRef .tc main_v73_0)) = V0 (Proc.devRef .tc main_v73_0) :=
  (val3_keep V0 main_v73_0 (by decide)).trans (val2_main_v73_0 V0)
theorem val3_main_v73_3 (V0 : Valuation τ sig (Elt F)) : val3 V0 (no_index (Proc.devRef .tc main_v73_3)) = V0 (Proc.devRef .tc main_v73_3) :=
  (val3_keep V0 main_v73_3 (by decide)).trans (val2_main_v73_3 V0)
theorem val3_main_v73_1 (V0 : Valuation τ sig (Elt F)) : val3 V0 (no_index (Proc.devRef .tc main_v73_1)) = V0 (Proc.devRef .tc main_v73_1) :=
  (val3_keep V0 main_v73_1 (by decide)).trans (val2_main_v73_1 V0)
theorem val3_main_v73_4 (V0 : Valuation τ sig (Elt F)) : val3 V0 (no_index (Proc.devRef .tc main_v73_4)) = V0 (Proc.devRef .tc main_v73_4) :=
  (val3_keep V0 main_v73_4 (by decide)).trans (val2_main_v73_4 V0)
theorem val3_main_while0b_v103 (V0 : Valuation τ sig (Elt F)) : val3 V0 (no_index (Proc.devRef .tc main_while0b_v103)) = res_main_while0b_v103 V0 :=
  (val3_keep V0 main_while0b_v103 (by decide)).trans (val2_main_while0b_v103 V0)
theorem val3_main_while0b_v104 (V0 : Valuation τ sig (Elt F)) : val3 V0 (no_index (Proc.devRef .tc main_while0b_v104)) = res_main_while0b_v104 V0 :=
  (val3_keep V0 main_while0b_v104 (by decide)).trans (val2_main_while0b_v104 V0)
theorem val3_main_while0b_v119 (V0 : Valuation τ sig (Elt F)) : val3 V0 (no_index (Proc.devRef .tc main_while0b_v119)) = res_main_while0b_v119 V0 :=
  (val3_keep V0 main_while0b_v119 (by decide)).trans (val2_main_while0b_v119 V0)
set_option maxRecDepth 8192 in
set_option maxHeartbeats 2000000 in
theorem val3_main_while0b_v122 (V0 : Valuation τ sig (Elt F)) : val3 V0 (no_index (Proc.devRef .tc main_while0b_v122)) = res_main_while0b_v122 V0 := by
  unfold val3
  simp only [trip_w2]
  after_results_entrywise [val2_main_while0b_v121, val2_main_while0b_v120, res_main_while0b_v122, cast_eq]
set_option maxRecDepth 8192 in
set_option maxHeartbeats 2000000 in
theorem val3_main_while0b_v123 (V0 : Valuation τ sig (Elt F)) : val3 V0 (no_index (Proc.devRef .tc main_while0b_v123)) = res_main_while0b_v123 V0 := by
  unfold val3
  simp only [trip_w2]
  after_results_entrywise [val2_main_while0b_v119, res_main_while0b_v123, cast_eq]
set_option maxRecDepth 8192 in
set_option maxHeartbeats 2000000 in
theorem val3_main_while0b_v129 (V0 : Valuation τ sig (Elt F)) : val3 V0 (no_index (Proc.devRef .tc main_while0b_v129)) = maximumf (broadcastInDim S20x5000 ![0, 1] bcast_S20x1_S20x5000_0_1 (shapeCast S20x1 (extractStridedSlice S20x1x1 ![0, 0, 0] (res_main_while0b_v123 V0) slices_S20x1x4_S20x1x1_0_0_0) shapeCasts_S20x1x1_S20x1)) (shapeCast S20x5000 (extractStridedSlice S20x5000x1 ![0, 0, 0] (V0 (Proc.devRef .tc main_v73_0)) slices_S20x5000x4_S20x5000x1_0_0_0) shapeCasts_S20x5000x1_S20x5000) := by
  unfold val3
  simp only [trip_w2]
  after_results_entrywise [val2_main_v73_0, val2_main_while0b_v119, res_main_while0b_v123, cast_eq]
set_option maxRecDepth 8192 in
set_option maxHeartbeats 2000000 in
theorem val3_main_while0b_v135 (V0 : Valuation τ sig (Elt F)) : val3 V0 (no_index (Proc.devRef .tc main_while0b_v135)) = maximumf (broadcastInDim S20x5000 ![0, 1] bcast_S20x1_S20x5000_0_1 (shapeCast S20x1 (extractStridedSlice S20x1x1 ![0, 0, 1] (res_main_while0b_v123 V0) slices_S20x1x4_S20x1x1_0_0_1) shapeCasts_S20x1x1_S20x1)) (shapeCast S20x5000 (extractStridedSlice S20x5000x1 ![0, 0, 1] (V0 (Proc.devRef .tc main_v73_0)) slices_S20x5000x4_S20x5000x1_0_0_1) shapeCasts_S20x5000x1_S20x5000) := by
  unfold val3
  simp only [trip_w2]
  after_results_entrywise [val2_main_v73_0, val2_main_while0b_v119, res_main_while0b_v123, cast_eq]
set_option maxRecDepth 8192 in
set_option maxHeartbeats 2000000 in
theorem val3_main_while0b_v141 (V0 : Valuation τ sig (Elt F)) : val3 V0 (no_index (Proc.devRef .tc main_while0b_v141)) = minimumf (broadcastInDim S20x5000 ![0, 1] bcast_S20x1_S20x5000_0_1 (shapeCast S20x1 (extractStridedSlice S20x1x1 ![0, 0, 2] (res_main_while0b_v123 V0) slices_S20x1x4_S20x1x1_0_0_2) shapeCasts_S20x1x1_S20x1)) (shapeCast S20x5000 (extractStridedSlice S20x5000x1 ![0, 0, 2] (V0 (Proc.devRef .tc main_v73_0)) slices_S20x5000x4_S20x5000x1_0_0_2) shapeCasts_S20x5000x1_S20x5000) := by
  unfold val3
  simp only [trip_w2]
  after_results_entrywise [val2_main_v73_0, val2_main_while0b_v119, res_main_while0b_v123, cast_eq]
set_option maxRecDepth 8192 in
set_option maxHeartbeats 2000000 in
theorem val3_main_while0b_v143 (V0 : Valuation τ sig (Elt F)) : val3 V0 (no_index (Proc.devRef .tc main_while0b_v143)) = shapeCast S20x1 (extractStridedSlice S20x1x1 ![0, 0, 3] (res_main_while0b_v123 V0) slices_S20x1x4_S20x1x1_0_0_3) shapeCasts_S20x1x1_S20x1 := by
  unfold val3
  simp only [trip_w2]
  after_results_entrywise [val2_main_while0b_v119, res_main_while0b_v123, cast_eq]
set_option maxRecDepth 8192 in
set_option maxHeartbeats 2000000 in
theorem val3_main_while0b_v145 (V0 : Valuation τ sig (Elt F)) : val3 V0 (no_index (Proc.devRef .tc main_while0b_v145)) = shapeCast S20x5000 (extractStridedSlice S20x5000x1 ![0, 0, 3] (V0 (Proc.devRef .tc main_v73_0)) slices_S20x5000x4_S20x5000x1_0_0_3) shapeCasts_S20x5000x1_S20x5000 := by
  unfold val3
  simp only [trip_w2]
  after_results_entrywise [val2_main_v73_0, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v146, main_while0b_v147, main_while0b_v148, main_while0b_cst_36, main_while0b_v149, main_while0b_v150, main_while0b_v151, main_while0b_cst_37, main_while0b_v152, main_while0b_v153, main_while0b_v154, main_while0b_v155, main_while0b_v156, main_while0b_v157, main_while0b_v158, main_while0b_v159, main_while0b_cst_38, main_while0b_v160, main_while0b_v161, main_while0b_v162, main_while0b_v163, main_while0b_v164, main_while0b_v165, main_while0b_v166]
set_option maxRecDepth 8192 in
theorem trip_w3_writes : (trip_w3 : List (HloOp τ sig (Elt F))).Forall fun op => op.writes ⊆ (trip_w3_W.map (Proc.devRef (τ := τ) .tc)).toFinset := by
  simp only [List.Forall]; and_intros <;> exact writes_listed rfl (by decide)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v73_2 (V0 : Valuation τ sig (Elt F)) : val4 V0 (no_index (Proc.devRef .tc main_v73_2)) = V0 (Proc.devRef .tc main_v73_2) :=
  (val4_keep V0 main_v73_2 (by decide)).trans (val3_main_v73_2 V0)
theorem val4_main_v73_0 (V0 : Valuation τ sig (Elt F)) : val4 V0 (no_index (Proc.devRef .tc main_v73_0)) = V0 (Proc.devRef .tc main_v73_0) :=
  (val4_keep V0 main_v73_0 (by decide)).trans (val3_main_v73_0 V0)
theorem val4_main_v73_3 (V0 : Valuation τ sig (Elt F)) : val4 V0 (no_index (Proc.devRef .tc main_v73_3)) = V0 (Proc.devRef .tc main_v73_3) :=
  (val4_keep V0 main_v73_3 (by decide)).trans (val3_main_v73_3 V0)
theorem val4_main_v73_1 (V0 : Valuation τ sig (Elt F)) : val4 V0 (no_index (Proc.devRef .tc main_v73_1)) = V0 (Proc.devRef .tc main_v73_1) :=
  (val4_keep V0 main_v73_1 (by decide)).trans (val3_main_v73_1 V0)
theorem val4_main_v73_4 (V0 : Valuation τ sig (Elt F)) : val4 V0 (no_index (Proc.devRef .tc main_v73_4)) = V0 (Proc.devRef .tc main_v73_4) :=
  (val4_keep V0 main_v73_4 (by decide)).trans (val3_main_v73_4 V0)
theorem val4_main_while0b_v103 (V0 : Valuation τ sig (Elt F)) : val4 V0 (no_index (Proc.devRef .tc main_while0b_v103)) = res_main_while0b_v103 V0 :=
  (val4_keep V0 main_while0b_v103 (by decide)).trans (val3_main_while0b_v103 V0)
theorem val4_main_while0b_v104 (V0 : Valuation τ sig (Elt F)) : val4 V0 (no_index (Proc.devRef .tc main_while0b_v104)) = res_main_while0b_v104 V0 :=
  (val4_keep V0 main_while0b_v104 (by decide)).trans (val3_main_while0b_v104 V0)
theorem val4_main_while0b_v119 (V0 : Valuation τ sig (Elt F)) : val4 V0 (no_index (Proc.devRef .tc main_while0b_v119)) = res_main_while0b_v119 V0 :=
  (val4_keep V0 main_while0b_v119 (by decide)).trans (val3_main_while0b_v119 V0)
theorem val4_main_while0b_v122 (V0 : Valuation τ sig (Elt F)) : val4 V0 (no_index (Proc.devRef .tc main_while0b_v122)) = res_main_while0b_v122 V0 :=
  (val4_keep V0 main_while0b_v122 (by decide)).trans (val3_main_while0b_v122 V0)
set_option maxRecDepth 8192 in
set_option maxHeartbeats 2000000 in
theorem val4_main_while0b_v154 (V0 : Valuation τ sig (Elt F)) : val4 V0 (no_index (Proc.devRef .tc main_while0b_v154)) = res_main_while0b_v154 V0 := by
  unfold val4
  simp only [trip_w3]
  after_results_entrywise [val3_main_while0b_v135, val3_main_while0b_v145, val3_main_while0b_v143, val3_main_while0b_v129, val3_main_while0b_v141, res_main_while0b_v154, cast_eq]
set_option maxRecDepth 8192 in
set_option maxHeartbeats 2000000 in
theorem val4_main_while0b_v161 (V0 : Valuation τ sig (Elt F)) : val4 V0 (no_index (Proc.devRef .tc main_while0b_v161)) = maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32)) := by
  unfold val4
  simp only [trip_w3]
  after_results_entrywise [val3_main_while0b_v123, cast_eq]
set_option maxRecDepth 8192 in
set_option maxHeartbeats 2000000 in
theorem val4_main_while0b_v166 (V0 : Valuation τ sig (Elt F)) : val4 V0 (no_index (Proc.devRef .tc main_while0b_v166)) = subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1) := by
  unfold val4
  simp only [trip_w3]
  after_results_entrywise [val3_main_while0b_v123, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_cst_39, main_while0b_v167, main_while0b_v168, main_while0b_v169, main_while0b_v170, main_while0b_v171, main_while0b_v172, main_while0b_v173, main_while0b_v174, main_while0b_cst_40, main_while0b_v175, main_while0b_v176, main_while0b_v177, main_while0b_v178, main_while0b_v179, main_while0b_v180, main_while0b_v181, main_while0b_cst_41, main_while0b_v182, main_while0b_v183, main_while0b_v184, main_while0b_v185, main_while0b_v186, main_while0b_v187]
set_option maxRecDepth 8192 in
theorem trip_w4_writes : (trip_w4 : List (HloOp τ sig (Elt F))).Forall fun op => op.writes ⊆ (trip_w4_W.map (Proc.devRef (τ := τ) .tc)).toFinset := by
  simp only [List.Forall]; and_intros <;> exact writes_listed rfl (by decide)
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v73_2 (V0 : Valuation τ sig (Elt F)) : val5 V0 (no_index (Proc.devRef .tc main_v73_2)) = V0 (Proc.devRef .tc main_v73_2) :=
  (val5_keep V0 main_v73_2 (by decide)).trans (val4_main_v73_2 V0)
theorem val5_main_v73_0 (V0 : Valuation τ sig (Elt F)) : val5 V0 (no_index (Proc.devRef .tc main_v73_0)) = V0 (Proc.devRef .tc main_v73_0) :=
  (val5_keep V0 main_v73_0 (by decide)).trans (val4_main_v73_0 V0)
theorem val5_main_v73_3 (V0 : Valuation τ sig (Elt F)) : val5 V0 (no_index (Proc.devRef .tc main_v73_3)) = V0 (Proc.devRef .tc main_v73_3) :=
  (val5_keep V0 main_v73_3 (by decide)).trans (val4_main_v73_3 V0)
theorem val5_main_v73_1 (V0 : Valuation τ sig (Elt F)) : val5 V0 (no_index (Proc.devRef .tc main_v73_1)) = V0 (Proc.devRef .tc main_v73_1) :=
  (val5_keep V0 main_v73_1 (by decide)).trans (val4_main_v73_1 V0)
theorem val5_main_v73_4 (V0 : Valuation τ sig (Elt F)) : val5 V0 (no_index (Proc.devRef .tc main_v73_4)) = V0 (Proc.devRef .tc main_v73_4) :=
  (val5_keep V0 main_v73_4 (by decide)).trans (val4_main_v73_4 V0)
theorem val5_main_while0b_v103 (V0 : Valuation τ sig (Elt F)) : val5 V0 (no_index (Proc.devRef .tc main_while0b_v103)) = res_main_while0b_v103 V0 :=
  (val5_keep V0 main_while0b_v103 (by decide)).trans (val4_main_while0b_v103 V0)
theorem val5_main_while0b_v104 (V0 : Valuation τ sig (Elt F)) : val5 V0 (no_index (Proc.devRef .tc main_while0b_v104)) = res_main_while0b_v104 V0 :=
  (val5_keep V0 main_while0b_v104 (by decide)).trans (val4_main_while0b_v104 V0)
theorem val5_main_while0b_v119 (V0 : Valuation τ sig (Elt F)) : val5 V0 (no_index (Proc.devRef .tc main_while0b_v119)) = res_main_while0b_v119 V0 :=
  (val5_keep V0 main_while0b_v119 (by decide)).trans (val4_main_while0b_v119 V0)
theorem val5_main_while0b_v122 (V0 : Valuation τ sig (Elt F)) : val5 V0 (no_index (Proc.devRef .tc main_while0b_v122)) = res_main_while0b_v122 V0 :=
  (val5_keep V0 main_while0b_v122 (by decide)).trans (val4_main_while0b_v122 V0)
theorem val5_main_while0b_v154 (V0 : Valuation τ sig (Elt F)) : val5 V0 (no_index (Proc.devRef .tc main_while0b_v154)) = res_main_while0b_v154 V0 :=
  (val5_keep V0 main_while0b_v154 (by decide)).trans (val4_main_while0b_v154 V0)
set_option maxRecDepth 8192 in
set_option maxHeartbeats 2000000 in
theorem val5_main_while0b_v187 (V0 : Valuation τ sig (Elt F)) : val5 V0 (no_index (Proc.devRef .tc main_while0b_v187)) = subf (addf (broadcastInDim S20x5000 ![0, 1] bcast_S20x1_S20x5000_0_1 (mulf (maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32))) (maximumf (subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1)) (broadcastInDim S20x1 ![] bcast_S_S20x1 (constant S_ .f32 0x00000000#32))))) (mulf (maximumf (subf (shapeCast S20x5000 (extractStridedSlice S20x5000x1 ![0, 0, 2] (V0 (Proc.devRef .tc main_v73_0)) slices_S20x5000x4_S20x5000x1_0_0_2) shapeCasts_S20x5000x1_S20x5000) (shapeCast S20x5000 (extractStridedSlice S20x5000x1 ![0, 0, 0] (V0 (Proc.devRef .tc main_v73_0)) slices_S20x5000x4_S20x5000x1_0_0_0) shapeCasts_S20x5000x1_S20x5000)) (broadcastInDim S20x5000 ![] bcast_S_S20x5000 (constant S_ .f32 0x00000000#32))) (maximumf (subf (shapeCast S20x5000 (extractStridedSlice S20x5000x1 ![0, 0, 3] (V0 (Proc.devRef .tc main_v73_0)) slices_S20x5000x4_S20x5000x1_0_0_3) shapeCasts_S20x5000x1_S20x5000) (shapeCast S20x5000 (extractStridedSlice S20x5000x1 ![0, 0, 1] (V0 (Proc.devRef .tc main_v73_0)) slices_S20x5000x4_S20x5000x1_0_0_1) shapeCasts_S20x5000x1_S20x5000)) (broadcastInDim S20x5000 ![] bcast_S_S20x5000 (constant S_ .f32 0x00000000#32))))) (res_main_while0b_v154 V0) := by
  unfold val5
  simp only [trip_w4]
  after_results_entrywise [val4_main_while0b_v154, val4_main_v73_0, val4_main_while0b_v166, val4_main_while0b_v161, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_cst_42, main_while0b_v188, main_while0b_v189, main_while0b_v190, main_while0b_cst_43, main_while0b_v191, main_while0b_v192, main_while0b_cst_44]
set_option maxRecDepth 8192 in
theorem trip_w5_writes : (trip_w5 : List (HloOp τ sig (Elt F))).Forall fun op => op.writes ⊆ (trip_w5_W.map (Proc.devRef (τ := τ) .tc)).toFinset := by
  simp only [List.Forall]; and_intros <;> exact writes_listed rfl (by decide)
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v73_2 (V0 : Valuation τ sig (Elt F)) : val6 V0 (no_index (Proc.devRef .tc main_v73_2)) = V0 (Proc.devRef .tc main_v73_2) :=
  (val6_keep V0 main_v73_2 (by decide)).trans (val5_main_v73_2 V0)
theorem val6_main_v73_0 (V0 : Valuation τ sig (Elt F)) : val6 V0 (no_index (Proc.devRef .tc main_v73_0)) = V0 (Proc.devRef .tc main_v73_0) :=
  (val6_keep V0 main_v73_0 (by decide)).trans (val5_main_v73_0 V0)
theorem val6_main_v73_3 (V0 : Valuation τ sig (Elt F)) : val6 V0 (no_index (Proc.devRef .tc main_v73_3)) = V0 (Proc.devRef .tc main_v73_3) :=
  (val6_keep V0 main_v73_3 (by decide)).trans (val5_main_v73_3 V0)
theorem val6_main_v73_1 (V0 : Valuation τ sig (Elt F)) : val6 V0 (no_index (Proc.devRef .tc main_v73_1)) = V0 (Proc.devRef .tc main_v73_1) :=
  (val6_keep V0 main_v73_1 (by decide)).trans (val5_main_v73_1 V0)
theorem val6_main_v73_4 (V0 : Valuation τ sig (Elt F)) : val6 V0 (no_index (Proc.devRef .tc main_v73_4)) = V0 (Proc.devRef .tc main_v73_4) :=
  (val6_keep V0 main_v73_4 (by decide)).trans (val5_main_v73_4 V0)
theorem val6_main_while0b_v103 (V0 : Valuation τ sig (Elt F)) : val6 V0 (no_index (Proc.devRef .tc main_while0b_v103)) = res_main_while0b_v103 V0 :=
  (val6_keep V0 main_while0b_v103 (by decide)).trans (val5_main_while0b_v103 V0)
theorem val6_main_while0b_v104 (V0 : Valuation τ sig (Elt F)) : val6 V0 (no_index (Proc.devRef .tc main_while0b_v104)) = res_main_while0b_v104 V0 :=
  (val6_keep V0 main_while0b_v104 (by decide)).trans (val5_main_while0b_v104 V0)
theorem val6_main_while0b_v119 (V0 : Valuation τ sig (Elt F)) : val6 V0 (no_index (Proc.devRef .tc main_while0b_v119)) = res_main_while0b_v119 V0 :=
  (val6_keep V0 main_while0b_v119 (by decide)).trans (val5_main_while0b_v119 V0)
theorem val6_main_while0b_v122 (V0 : Valuation τ sig (Elt F)) : val6 V0 (no_index (Proc.devRef .tc main_while0b_v122)) = res_main_while0b_v122 V0 :=
  (val6_keep V0 main_while0b_v122 (by decide)).trans (val5_main_while0b_v122 V0)
set_option maxRecDepth 8192 in
theorem val6_main_while0b_v192 (V0 : Valuation τ sig (Elt F)) : val6 V0 (no_index (Proc.devRef .tc main_while0b_v192)) = cmpf .ogt (Host.divf (res_main_while0b_v154 V0) (maximumf (subf (addf (broadcastInDim S20x5000 ![0, 1] bcast_S20x1_S20x5000_0_1 (mulf (maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32))) (maximumf (subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1)) (broadcastInDim S20x1 ![] bcast_S_S20x1 (constant S_ .f32 0x00000000#32))))) (mulf (maximumf (subf (shapeCast S20x5000 (extractStridedSlice S20x5000x1 ![0, 0, 2] (V0 (Proc.devRef .tc main_v73_0)) slices_S20x5000x4_S20x5000x1_0_0_2) shapeCasts_S20x5000x1_S20x5000) (shapeCast S20x5000 (extractStridedSlice S20x5000x1 ![0, 0, 0] (V0 (Proc.devRef .tc main_v73_0)) slices_S20x5000x4_S20x5000x1_0_0_0) shapeCasts_S20x5000x1_S20x5000)) (broadcastInDim S20x5000 ![] bcast_S_S20x5000 (constant S_ .f32 0x00000000#32))) (maximumf (subf (shapeCast S20x5000 (extractStridedSlice S20x5000x1 ![0, 0, 3] (V0 (Proc.devRef .tc main_v73_0)) slices_S20x5000x4_S20x5000x1_0_0_3) shapeCasts_S20x5000x1_S20x5000) (shapeCast S20x5000 (extractStridedSlice S20x5000x1 ![0, 0, 1] (V0 (Proc.devRef .tc main_v73_0)) slices_S20x5000x4_S20x5000x1_0_0_1) shapeCasts_S20x5000x1_S20x5000)) (broadcastInDim S20x5000 ![] bcast_S_S20x5000 (constant S_ .f32 0x00000000#32))))) (res_main_while0b_v154 V0)) (broadcastInDim S20x5000 ![] bcast_S_S20x5000 (constant S_ .f32 0x322BCC77#32)))) (broadcastInDim S20x5000 ![] bcast_S_S20x5000 (constant S_ .f32 0x3F000000#32)) := by
  unfold val6
  simp only [trip_w5]
  after_results_entrywise [val5_main_while0b_v187, val5_main_while0b_v154, cast_eq]
set_option maxRecDepth 8192 in
theorem val6_main_while0b_cst_44 (V0 : Valuation τ sig (Elt F)) : val6 V0 (no_index (Proc.devRef .tc main_while0b_cst_44)) = constant S_ .f32 0xFF800000#32 := by
  unfold val6
  simp only [trip_w5]
  after_results_entrywise [cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_call8_v0, main_while0b_call8_v1, main_while0b_v193]
set_option maxRecDepth 8192 in
theorem trip_w6_writes : (trip_w6 : List (HloOp τ sig (Elt F))).Forall fun op => op.writes ⊆ (trip_w6_W.map (Proc.devRef (τ := τ) .tc)).toFinset := by
  simp only [List.Forall]; and_intros <;> exact writes_listed rfl (by decide)
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v73_2 (V0 : Valuation τ sig (Elt F)) : val7 V0 (no_index (Proc.devRef .tc main_v73_2)) = V0 (Proc.devRef .tc main_v73_2) :=
  (val7_keep V0 main_v73_2 (by decide)).trans (val6_main_v73_2 V0)
theorem val7_main_v73_0 (V0 : Valuation τ sig (Elt F)) : val7 V0 (no_index (Proc.devRef .tc main_v73_0)) = V0 (Proc.devRef .tc main_v73_0) :=
  (val7_keep V0 main_v73_0 (by decide)).trans (val6_main_v73_0 V0)
theorem val7_main_v73_3 (V0 : Valuation τ sig (Elt F)) : val7 V0 (no_index (Proc.devRef .tc main_v73_3)) = V0 (Proc.devRef .tc main_v73_3) :=
  (val7_keep V0 main_v73_3 (by decide)).trans (val6_main_v73_3 V0)
theorem val7_main_v73_1 (V0 : Valuation τ sig (Elt F)) : val7 V0 (no_index (Proc.devRef .tc main_v73_1)) = V0 (Proc.devRef .tc main_v73_1) :=
  (val7_keep V0 main_v73_1 (by decide)).trans (val6_main_v73_1 V0)
theorem val7_main_v73_4 (V0 : Valuation τ sig (Elt F)) : val7 V0 (no_index (Proc.devRef .tc main_v73_4)) = V0 (Proc.devRef .tc main_v73_4) :=
  (val7_keep V0 main_v73_4 (by decide)).trans (val6_main_v73_4 V0)
theorem val7_main_while0b_v103 (V0 : Valuation τ sig (Elt F)) : val7 V0 (no_index (Proc.devRef .tc main_while0b_v103)) = res_main_while0b_v103 V0 :=
  (val7_keep V0 main_while0b_v103 (by decide)).trans (val6_main_while0b_v103 V0)
theorem val7_main_while0b_v104 (V0 : Valuation τ sig (Elt F)) : val7 V0 (no_index (Proc.devRef .tc main_while0b_v104)) = res_main_while0b_v104 V0 :=
  (val7_keep V0 main_while0b_v104 (by decide)).trans (val6_main_while0b_v104 V0)
theorem val7_main_while0b_v119 (V0 : Valuation τ sig (Elt F)) : val7 V0 (no_index (Proc.devRef .tc main_while0b_v119)) = res_main_while0b_v119 V0 :=
  (val7_keep V0 main_while0b_v119 (by decide)).trans (val6_main_while0b_v119 V0)
theorem val7_main_while0b_v122 (V0 : Valuation τ sig (Elt F)) : val7 V0 (no_index (Proc.devRef .tc main_while0b_v122)) = res_main_while0b_v122 V0 :=
  (val7_keep V0 main_while0b_v122 (by decide)).trans (val6_main_while0b_v122 V0)
set_option maxRecDepth 8192 in
theorem val7_main_while0b_v193 (V0 : Valuation τ sig (Elt F)) : val7 V0 (no_index (Proc.devRef .tc main_while0b_v193)) = select (cmpf .ogt (Host.divf (res_main_while0b_v154 V0) (maximumf (subf (addf (broadcastInDim S20x5000 ![0, 1] bcast_S20x1_S20x5000_0_1 (mulf (maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32))) (maximumf (subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1)) (broadcastInDim S20x1 ![] bcast_S_S20x1 (constant S_ .f32 0x00000000#32))))) (mulf (maximumf (subf (shapeCast S20x5000 (extractStridedSlice S20x5000x1 ![0, 0, 2] (V0 (Proc.devRef .tc main_v73_0)) slices_S20x5000x4_S20x5000x1_0_0_2) shapeCasts_S20x5000x1_S20x5000) (shapeCast S20x5000 (extractStridedSlice S20x5000x1 ![0, 0, 0] (V0 (Proc.devRef .tc main_v73_0)) slices_S20x5000x4_S20x5000x1_0_0_0) shapeCasts_S20x5000x1_S20x5000)) (broadcastInDim S20x5000 ![] bcast_S_S20x5000 (constant S_ .f32 0x00000000#32))) (maximumf (subf (shapeCast S20x5000 (extractStridedSlice S20x5000x1 ![0, 0, 3] (V0 (Proc.devRef .tc main_v73_0)) slices_S20x5000x4_S20x5000x1_0_0_3) shapeCasts_S20x5000x1_S20x5000) (shapeCast S20x5000 (extractStridedSlice S20x5000x1 ![0, 0, 1] (V0 (Proc.devRef .tc main_v73_0)) slices_S20x5000x4_S20x5000x1_0_0_1) shapeCasts_S20x5000x1_S20x5000)) (broadcastInDim S20x5000 ![] bcast_S_S20x5000 (constant S_ .f32 0x00000000#32))))) (res_main_while0b_v154 V0)) (broadcastInDim S20x5000 ![] bcast_S_S20x5000 (constant S_ .f32 0x322BCC77#32)))) (broadcastInDim S20x5000 ![] bcast_S_S20x5000 (constant S_ .f32 0x3F000000#32))) (broadcastInDim S20x5000 ![] bcast_S_S20x5000 (id (constant S_ .f32 0xFF800000#32))) (V0 (Proc.devRef .tc main_v73_2)) := by
  unfold val7
  simp only [trip_w6]
  after_results_entrywise [val6_main_v73_2, val6_main_while0b_cst_44, val6_main_while0b_v192, cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_v194, main_while0b_v195, main_while0b_v196, main_while0b_v197, main_while0b_v198, main_while0b_v199, main_while0b_cst_45]
set_option maxRecDepth 8192 in
theorem trip_w7_writes : (trip_w7 : List (HloOp τ sig (Elt F))).Forall fun op => op.writes ⊆ (trip_w7_W.map (Proc.devRef (τ := τ) .tc)).toFinset := by
  simp only [List.Forall]; and_intros <;> exact writes_listed rfl (by decide)
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v73_2 (V0 : Valuation τ sig (Elt F)) : val8 V0 (no_index (Proc.devRef .tc main_v73_2)) = V0 (Proc.devRef .tc main_v73_2) :=
  (val8_keep V0 main_v73_2 (by decide)).trans (val7_main_v73_2 V0)
theorem val8_main_v73_0 (V0 : Valuation τ sig (Elt F)) : val8 V0 (no_index (Proc.devRef .tc main_v73_0)) = V0 (Proc.devRef .tc main_v73_0) :=
  (val8_keep V0 main_v73_0 (by decide)).trans (val7_main_v73_0 V0)
theorem val8_main_v73_3 (V0 : Valuation τ sig (Elt F)) : val8 V0 (no_index (Proc.devRef .tc main_v73_3)) = V0 (Proc.devRef .tc main_v73_3) :=
  (val8_keep V0 main_v73_3 (by decide)).trans (val7_main_v73_3 V0)
theorem val8_main_v73_1 (V0 : Valuation τ sig (Elt F)) : val8 V0 (no_index (Proc.devRef .tc main_v73_1)) = V0 (Proc.devRef .tc main_v73_1) :=
  (val8_keep V0 main_v73_1 (by decide)).trans (val7_main_v73_1 V0)
theorem val8_main_v73_4 (V0 : Valuation τ sig (Elt F)) : val8 V0 (no_index (Proc.devRef .tc main_v73_4)) = V0 (Proc.devRef .tc main_v73_4) :=
  (val8_keep V0 main_v73_4 (by decide)).trans (val7_main_v73_4 V0)
theorem val8_main_while0b_v104 (V0 : Valuation τ sig (Elt F)) : val8 V0 (no_index (Proc.devRef .tc main_while0b_v104)) = res_main_while0b_v104 V0 :=
  (val8_keep V0 main_while0b_v104 (by decide)).trans (val7_main_while0b_v104 V0)
theorem val8_main_while0b_v119 (V0 : Valuation τ sig (Elt F)) : val8 V0 (no_index (Proc.devRef .tc main_while0b_v119)) = res_main_while0b_v119 V0 :=
  (val8_keep V0 main_while0b_v119 (by decide)).trans (val7_main_while0b_v119 V0)
theorem val8_main_while0b_v122 (V0 : Valuation τ sig (Elt F)) : val8 V0 (no_index (Proc.devRef .tc main_while0b_v122)) = res_main_while0b_v122 V0 :=
  (val8_keep V0 main_while0b_v122 (by decide)).trans (val7_main_while0b_v122 V0)
theorem val8_main_while0b_v193 (V0 : Valuation τ sig (Elt F)) : val8 V0 (no_index (Proc.devRef .tc main_while0b_v193)) = select (cmpf .ogt (Host.divf (res_main_while0b_v154 V0) (maximumf (subf (addf (broadcastInDim S20x5000 ![0, 1] bcast_S20x1_S20x5000_0_1 (mulf (maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32))) (maximumf (subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1)) (broadcastInDim S20x1 ![] bcast_S_S20x1 (constant S_ .f32 0x00000000#32))))) (mulf (maximumf (subf (shapeCast S20x5000 (extractStridedSlice S20x5000x1 ![0, 0, 2] (V0 (Proc.devRef .tc main_v73_0)) slices_S20x5000x4_S20x5000x1_0_0_2) shapeCasts_S20x5000x1_S20x5000) (shapeCast S20x5000 (extractStridedSlice S20x5000x1 ![0, 0, 0] (V0 (Proc.devRef .tc main_v73_0)) slices_S20x5000x4_S20x5000x1_0_0_0) shapeCasts_S20x5000x1_S20x5000)) (broadcastInDim S20x5000 ![] bcast_S_S20x5000 (constant S_ .f32 0x00000000#32))) (maximumf (subf (shapeCast S20x5000 (extractStridedSlice S20x5000x1 ![0, 0, 3] (V0 (Proc.devRef .tc main_v73_0)) slices_S20x5000x4_S20x5000x1_0_0_3) shapeCasts_S20x5000x1_S20x5000) (shapeCast S20x5000 (extractStridedSlice S20x5000x1 ![0, 0, 1] (V0 (Proc.devRef .tc main_v73_0)) slices_S20x5000x4_S20x5000x1_0_0_1) shapeCasts_S20x5000x1_S20x5000)) (broadcastInDim S20x5000 ![] bcast_S_S20x5000 (constant S_ .f32 0x00000000#32))))) (res_main_while0b_v154 V0)) (broadcastInDim S20x5000 ![] bcast_S_S20x5000 (constant S_ .f32 0x322BCC77#32)))) (broadcastInDim S20x5000 ![] bcast_S_S20x5000 (constant S_ .f32 0x3F000000#32))) (broadcastInDim S20x5000 ![] bcast_S_S20x5000 (id (constant S_ .f32 0xFF800000#32))) (V0 (Proc.devRef .tc main_v73_2)) :=
  (val8_keep V0 main_while0b_v193 (by decide)).trans (val7_main_while0b_v193 V0)
set_option maxRecDepth 8192 in
theorem val8_main_while0b_v199 (V0 : Valuation τ sig (Elt F)) : val8 V0 (no_index (Proc.devRef .tc main_while0b_v199)) = cmpi .eq (broadcastInDim S20x5000 ![0, 1] bcast_S1x5000_S20x5000_0_1 (broadcastInDim S1x5000 ![1] bcast_S5000_S1x5000_1 (iotaInDim S5000 32 0))) (broadcastInDim S20x5000 ![0, 1] bcast_S20x1_S20x5000_0_1 (broadcastInDim S20x1 ![0] bcast_S20_S20x1_0 (res_main_while0b_v103 V0))) := by
  unfold val8
  simp only [trip_w7]
  after_results_entrywise [val7_main_while0b_v103, cast_eq]
set_option maxRecDepth 8192 in
theorem val8_main_while0b_cst_45 (V0 : Valuation τ sig (Elt F)) : val8 V0 (no_index (Proc.devRef .tc main_while0b_cst_45)) = constant S_ .f32 0xFF800000#32 := by
  unfold val8
  simp only [trip_w7]
  after_results_entrywise [cast_eq]

/-- The device's buffer contents after the body's first 9 windows. -/
def val9 (V0 : Valuation τ sig (Elt F)) : Valuation τ sig (Elt F) := after trip_w8 (val8 V0)
/-- The buffers that window `trip_w8`'s operations write. -/
abbrev trip_w8_W : List (Ref sig .tc) := [main_while0b_call9_v0, main_while0b_call9_v1, main_while0b_v200]
set_option maxRecDepth 8192 in
theorem trip_w8_writes : (trip_w8 : List (HloOp τ sig (Elt F))).Forall fun op => op.writes ⊆ (trip_w8_W.map (Proc.devRef (τ := τ) .tc)).toFinset := by
  simp only [List.Forall]; and_intros <;> exact writes_listed rfl (by decide)
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v73_2 (V0 : Valuation τ sig (Elt F)) : val9 V0 (no_index (Proc.devRef .tc main_v73_2)) = V0 (Proc.devRef .tc main_v73_2) :=
  (val9_keep V0 main_v73_2 (by decide)).trans (val8_main_v73_2 V0)
theorem val9_main_v73_0 (V0 : Valuation τ sig (Elt F)) : val9 V0 (no_index (Proc.devRef .tc main_v73_0)) = V0 (Proc.devRef .tc main_v73_0) :=
  (val9_keep V0 main_v73_0 (by decide)).trans (val8_main_v73_0 V0)
theorem val9_main_v73_3 (V0 : Valuation τ sig (Elt F)) : val9 V0 (no_index (Proc.devRef .tc main_v73_3)) = V0 (Proc.devRef .tc main_v73_3) :=
  (val9_keep V0 main_v73_3 (by decide)).trans (val8_main_v73_3 V0)
theorem val9_main_v73_1 (V0 : Valuation τ sig (Elt F)) : val9 V0 (no_index (Proc.devRef .tc main_v73_1)) = V0 (Proc.devRef .tc main_v73_1) :=
  (val9_keep V0 main_v73_1 (by decide)).trans (val8_main_v73_1 V0)
theorem val9_main_v73_4 (V0 : Valuation τ sig (Elt F)) : val9 V0 (no_index (Proc.devRef .tc main_v73_4)) = V0 (Proc.devRef .tc main_v73_4) :=
  (val9_keep V0 main_v73_4 (by decide)).trans (val8_main_v73_4 V0)
theorem val9_main_while0b_v104 (V0 : Valuation τ sig (Elt F)) : val9 V0 (no_index (Proc.devRef .tc main_while0b_v104)) = res_main_while0b_v104 V0 :=
  (val9_keep V0 main_while0b_v104 (by decide)).trans (val8_main_while0b_v104 V0)
theorem val9_main_while0b_v119 (V0 : Valuation τ sig (Elt F)) : val9 V0 (no_index (Proc.devRef .tc main_while0b_v119)) = res_main_while0b_v119 V0 :=
  (val9_keep V0 main_while0b_v119 (by decide)).trans (val8_main_while0b_v119 V0)
theorem val9_main_while0b_v122 (V0 : Valuation τ sig (Elt F)) : val9 V0 (no_index (Proc.devRef .tc main_while0b_v122)) = res_main_while0b_v122 V0 :=
  (val9_keep V0 main_while0b_v122 (by decide)).trans (val8_main_while0b_v122 V0)
set_option maxRecDepth 8192 in
theorem val9_main_while0b_v200 (V0 : Valuation τ sig (Elt F)) : val9 V0 (no_index (Proc.devRef .tc main_while0b_v200)) = select (cmpi .eq (broadcastInDim S20x5000 ![0, 1] bcast_S1x5000_S20x5000_0_1 (broadcastInDim S1x5000 ![1] bcast_S5000_S1x5000_1 (iotaInDim S5000 32 0))) (broadcastInDim S20x5000 ![0, 1] bcast_S20x1_S20x5000_0_1 (broadcastInDim S20x1 ![0] bcast_S20_S20x1_0 (res_main_while0b_v103 V0)))) (broadcastInDim S20x5000 ![] bcast_S_S20x5000 (id (constant S_ .f32 0xFF800000#32))) (select (cmpf .ogt (Host.divf (res_main_while0b_v154 V0) (maximumf (subf (addf (broadcastInDim S20x5000 ![0, 1] bcast_S20x1_S20x5000_0_1 (mulf (maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32))) (maximumf (subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1)) (broadcastInDim S20x1 ![] bcast_S_S20x1 (constant S_ .f32 0x00000000#32))))) (mulf (maximumf (subf (shapeCast S20x5000 (extractStridedSlice S20x5000x1 ![0, 0, 2] (V0 (Proc.devRef .tc main_v73_0)) slices_S20x5000x4_S20x5000x1_0_0_2) shapeCasts_S20x5000x1_S20x5000) (shapeCast S20x5000 (extractStridedSlice S20x5000x1 ![0, 0, 0] (V0 (Proc.devRef .tc main_v73_0)) slices_S20x5000x4_S20x5000x1_0_0_0) shapeCasts_S20x5000x1_S20x5000)) (broadcastInDim S20x5000 ![] bcast_S_S20x5000 (constant S_ .f32 0x00000000#32))) (maximumf (subf (shapeCast S20x5000 (extractStridedSlice S20x5000x1 ![0, 0, 3] (V0 (Proc.devRef .tc main_v73_0)) slices_S20x5000x4_S20x5000x1_0_0_3) shapeCasts_S20x5000x1_S20x5000) (shapeCast S20x5000 (extractStridedSlice S20x5000x1 ![0, 0, 1] (V0 (Proc.devRef .tc main_v73_0)) slices_S20x5000x4_S20x5000x1_0_0_1) shapeCasts_S20x5000x1_S20x5000)) (broadcastInDim S20x5000 ![] bcast_S_S20x5000 (constant S_ .f32 0x00000000#32))))) (res_main_while0b_v154 V0)) (broadcastInDim S20x5000 ![] bcast_S_S20x5000 (constant S_ .f32 0x322BCC77#32)))) (broadcastInDim S20x5000 ![] bcast_S_S20x5000 (constant S_ .f32 0x3F000000#32))) (broadcastInDim S20x5000 ![] bcast_S_S20x5000 (id (constant S_ .f32 0xFF800000#32))) (V0 (Proc.devRef .tc main_v73_2))) := by
  unfold val9
  simp only [trip_w8]
  after_results_entrywise [val8_main_while0b_v193, val8_main_while0b_cst_45, val8_main_while0b_v199, cast_eq]

/-- The device's buffer contents after the body's first 10 windows. -/
def val10 (V0 : Valuation τ sig (Elt F)) : Valuation τ sig (Elt F) := after trip_w9 (val9 V0)
/-- The buffers that window `trip_w9`'s operations write. -/
abbrev trip_w9_W : List (Ref sig .tc) := [main_while0b_v201, main_while0b_cst_46]
set_option maxRecDepth 8192 in
theorem trip_w9_writes : (trip_w9 : List (HloOp τ sig (Elt F))).Forall fun op => op.writes ⊆ (trip_w9_W.map (Proc.devRef (τ := τ) .tc)).toFinset := by
  simp only [List.Forall]; and_intros <;> exact writes_listed rfl (by decide)
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v73_2 (V0 : Valuation τ sig (Elt F)) : val10 V0 (no_index (Proc.devRef .tc main_v73_2)) = V0 (Proc.devRef .tc main_v73_2) :=
  (val10_keep V0 main_v73_2 (by decide)).trans (val9_main_v73_2 V0)
theorem val10_main_v73_0 (V0 : Valuation τ sig (Elt F)) : val10 V0 (no_index (Proc.devRef .tc main_v73_0)) = V0 (Proc.devRef .tc main_v73_0) :=
  (val10_keep V0 main_v73_0 (by decide)).trans (val9_main_v73_0 V0)
theorem val10_main_v73_3 (V0 : Valuation τ sig (Elt F)) : val10 V0 (no_index (Proc.devRef .tc main_v73_3)) = V0 (Proc.devRef .tc main_v73_3) :=
  (val10_keep V0 main_v73_3 (by decide)).trans (val9_main_v73_3 V0)
theorem val10_main_v73_1 (V0 : Valuation τ sig (Elt F)) : val10 V0 (no_index (Proc.devRef .tc main_v73_1)) = V0 (Proc.devRef .tc main_v73_1) :=
  (val10_keep V0 main_v73_1 (by decide)).trans (val9_main_v73_1 V0)
theorem val10_main_v73_4 (V0 : Valuation τ sig (Elt F)) : val10 V0 (no_index (Proc.devRef .tc main_v73_4)) = V0 (Proc.devRef .tc main_v73_4) :=
  (val10_keep V0 main_v73_4 (by decide)).trans (val9_main_v73_4 V0)
theorem val10_main_while0b_v104 (V0 : Valuation τ sig (Elt F)) : val10 V0 (no_index (Proc.devRef .tc main_while0b_v104)) = res_main_while0b_v104 V0 :=
  (val10_keep V0 main_while0b_v104 (by decide)).trans (val9_main_while0b_v104 V0)
theorem val10_main_while0b_v119 (V0 : Valuation τ sig (Elt F)) : val10 V0 (no_index (Proc.devRef .tc main_while0b_v119)) = res_main_while0b_v119 V0 :=
  (val10_keep V0 main_while0b_v119 (by decide)).trans (val9_main_while0b_v119 V0)
theorem val10_main_while0b_v122 (V0 : Valuation τ sig (Elt F)) : val10 V0 (no_index (Proc.devRef .tc main_while0b_v122)) = res_main_while0b_v122 V0 :=
  (val10_keep V0 main_while0b_v122 (by decide)).trans (val9_main_while0b_v122 V0)
theorem val10_main_while0b_v200 (V0 : Valuation τ sig (Elt F)) : val10 V0 (no_index (Proc.devRef .tc main_while0b_v200)) = select (cmpi .eq (broadcastInDim S20x5000 ![0, 1] bcast_S1x5000_S20x5000_0_1 (broadcastInDim S1x5000 ![1] bcast_S5000_S1x5000_1 (iotaInDim S5000 32 0))) (broadcastInDim S20x5000 ![0, 1] bcast_S20x1_S20x5000_0_1 (broadcastInDim S20x1 ![0] bcast_S20_S20x1_0 (res_main_while0b_v103 V0)))) (broadcastInDim S20x5000 ![] bcast_S_S20x5000 (id (constant S_ .f32 0xFF800000#32))) (select (cmpf .ogt (Host.divf (res_main_while0b_v154 V0) (maximumf (subf (addf (broadcastInDim S20x5000 ![0, 1] bcast_S20x1_S20x5000_0_1 (mulf (maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32))) (maximumf (subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1)) (broadcastInDim S20x1 ![] bcast_S_S20x1 (constant S_ .f32 0x00000000#32))))) (mulf (maximumf (subf (shapeCast S20x5000 (extractStridedSlice S20x5000x1 ![0, 0, 2] (V0 (Proc.devRef .tc main_v73_0)) slices_S20x5000x4_S20x5000x1_0_0_2) shapeCasts_S20x5000x1_S20x5000) (shapeCast S20x5000 (extractStridedSlice S20x5000x1 ![0, 0, 0] (V0 (Proc.devRef .tc main_v73_0)) slices_S20x5000x4_S20x5000x1_0_0_0) shapeCasts_S20x5000x1_S20x5000)) (broadcastInDim S20x5000 ![] bcast_S_S20x5000 (constant S_ .f32 0x00000000#32))) (maximumf (subf (shapeCast S20x5000 (extractStridedSlice S20x5000x1 ![0, 0, 3] (V0 (Proc.devRef .tc main_v73_0)) slices_S20x5000x4_S20x5000x1_0_0_3) shapeCasts_S20x5000x1_S20x5000) (shapeCast S20x5000 (extractStridedSlice S20x5000x1 ![0, 0, 1] (V0 (Proc.devRef .tc main_v73_0)) slices_S20x5000x4_S20x5000x1_0_0_1) shapeCasts_S20x5000x1_S20x5000)) (broadcastInDim S20x5000 ![] bcast_S_S20x5000 (constant S_ .f32 0x00000000#32))))) (res_main_while0b_v154 V0)) (broadcastInDim S20x5000 ![] bcast_S_S20x5000 (constant S_ .f32 0x322BCC77#32)))) (broadcastInDim S20x5000 ![] bcast_S_S20x5000 (constant S_ .f32 0x3F000000#32))) (broadcastInDim S20x5000 ![] bcast_S_S20x5000 (id (constant S_ .f32 0xFF800000#32))) (V0 (Proc.devRef .tc main_v73_2))) :=
  (val10_keep V0 main_while0b_v200 (by decide)).trans (val9_main_while0b_v200 V0)
set_option maxRecDepth 8192 in
theorem val10_main_while0b_v201 (V0 : Valuation τ sig (Elt F)) : val10 V0 (no_index (Proc.devRef .tc main_while0b_v201)) = broadcastInDim S20x1 ![0] bcast_S20_S20x1_0 (res_main_while0b_v122 V0) := by
  unfold val10
  simp only [trip_w9]
  after_results_entrywise [val9_main_while0b_v122, cast_eq]
set_option maxRecDepth 8192 in
theorem val10_main_while0b_cst_46 (V0 : Valuation τ sig (Elt F)) : val10 V0 (no_index (Proc.devRef .tc main_while0b_cst_46)) = constant S_ .f32 0x00000000#32 := by
  unfold val10
  simp only [trip_w9]
  after_results_entrywise [cast_eq]

end Cert.ReferenceIdeal.Value

end
-- ==== Proof.ReferenceRun.lean ====
/- The values of one trip of the reference's loop, second part, and the result of the whole run: the trip iterated 100 times, then the final ranking. -/
module

public import proofs.«01_k».proof.Proof.ReferenceTrip

@[expose] public section

-- long lists of operations recurse past the default depth
set_option maxRecDepth 2552

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-- The device's buffer contents after the body's first 11 windows. -/
def val11 (V0 : Valuation τ sig (Elt F)) : Valuation τ sig (Elt F) := after trip_w10 (val10 V0)
/-- The buffers that window `trip_w10`'s operations write. -/
abbrev trip_w10_W : List (Ref sig .tc) := [main_while0b_call10_v0, main_while0b_call10_v1, main_while0b_call10_v2, main_while0b_v202]
set_option maxRecDepth 8192 in
theorem trip_w10_writes : (trip_w10 : List (HloOp τ sig (Elt F))).Forall fun op => op.writes ⊆ (trip_w10_W.map (Proc.devRef (τ := τ) .tc)).toFinset := by
  simp only [List.Forall]; and_intros <;> exact writes_listed rfl (by decide)
/-- A buffer that window `trip_w10` does not write keeps its contents through it. -/
theorem val11_keep (V0 : Valuation τ sig (Elt F)) (r : Ref sig .tc) (h : r ∉ trip_w10_W) :
    val11 V0 (Proc.devRef .tc r) = val10 V0 (Proc.devRef .tc r) :=
  after_of_writes_sub trip_w10 _ trip_w10_writes h
theorem val11_main_v73_2 (V0 : Valuation τ sig (Elt F)) : val11 V0 (no_index (Proc.devRef .tc main_v73_2)) = V0 (Proc.devRef .tc main_v73_2) :=
  (val11_keep V0 main_v73_2 (by decide)).trans (val10_main_v73_2 V0)
theorem val11_main_v73_0 (V0 : Valuation τ sig (Elt F)) : val11 V0 (no_index (Proc.devRef .tc main_v73_0)) = V0 (Proc.devRef .tc main_v73_0) :=
  (val11_keep V0 main_v73_0 (by decide)).trans (val10_main_v73_0 V0)
theorem val11_main_v73_3 (V0 : Valuation τ sig (Elt F)) : val11 V0 (no_index (Proc.devRef .tc main_v73_3)) = V0 (Proc.devRef .tc main_v73_3) :=
  (val11_keep V0 main_v73_3 (by decide)).trans (val10_main_v73_3 V0)
theorem val11_main_v73_1 (V0 : Valuation τ sig (Elt F)) : val11 V0 (no_index (Proc.devRef .tc main_v73_1)) = V0 (Proc.devRef .tc main_v73_1) :=
  (val11_keep V0 main_v73_1 (by decide)).trans (val10_main_v73_1 V0)
theorem val11_main_v73_4 (V0 : Valuation τ sig (Elt F)) : val11 V0 (no_index (Proc.devRef .tc main_v73_4)) = V0 (Proc.devRef .tc main_v73_4) :=
  (val11_keep V0 main_v73_4 (by decide)).trans (val10_main_v73_4 V0)
theorem val11_main_while0b_v104 (V0 : Valuation τ sig (Elt F)) : val11 V0 (no_index (Proc.devRef .tc main_while0b_v104)) = res_main_while0b_v104 V0 :=
  (val11_keep V0 main_while0b_v104 (by decide)).trans (val10_main_while0b_v104 V0)
theorem val11_main_while0b_v122 (V0 : Valuation τ sig (Elt F)) : val11 V0 (no_index (Proc.devRef .tc main_while0b_v122)) = res_main_while0b_v122 V0 :=
  (val11_keep V0 main_while0b_v122 (by decide)).trans (val10_main_while0b_v122 V0)
theorem val11_main_while0b_v200 (V0 : Valuation τ sig (Elt F)) : val11 V0 (no_index (Proc.devRef .tc main_while0b_v200)) = select (cmpi .eq (broadcastInDim S20x5000 ![0, 1] bcast_S1x5000_S20x5000_0_1 (broadcastInDim S1x5000 ![1] bcast_S5000_S1x5000_1 (iotaInDim S5000 32 0))) (broadcastInDim S20x5000 ![0, 1] bcast_S20x1_S20x5000_0_1 (broadcastInDim S20x1 ![0] bcast_S20_S20x1_0 (res_main_while0b_v103 V0)))) (broadcastInDim S20x5000 ![] bcast_S_S20x5000 (id (constant S_ .f32 0xFF800000#32))) (select (cmpf .ogt (Host.divf (res_main_while0b_v154 V0) (maximumf (subf (addf (broadcastInDim S20x5000 ![0, 1] bcast_S20x1_S20x5000_0_1 (mulf (maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32))) (maximumf (subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1)) (broadcastInDim S20x1 ![] bcast_S_S20x1 (constant S_ .f32 0x00000000#32))))) (mulf (maximumf (subf (shapeCast S20x5000 (extractStridedSlice S20x5000x1 ![0, 0, 2] (V0 (Proc.devRef .tc main_v73_0)) slices_S20x5000x4_S20x5000x1_0_0_2) shapeCasts_S20x5000x1_S20x5000) (shapeCast S20x5000 (extractStridedSlice S20x5000x1 ![0, 0, 0] (V0 (Proc.devRef .tc main_v73_0)) slices_S20x5000x4_S20x5000x1_0_0_0) shapeCasts_S20x5000x1_S20x5000)) (broadcastInDim S20x5000 ![] bcast_S_S20x5000 (constant S_ .f32 0x00000000#32))) (maximumf (subf (shapeCast S20x5000 (extractStridedSlice S20x5000x1 ![0, 0, 3] (V0 (Proc.devRef .tc main_v73_0)) slices_S20x5000x4_S20x5000x1_0_0_3) shapeCasts_S20x5000x1_S20x5000) (shapeCast S20x5000 (extractStridedSlice S20x5000x1 ![0, 0, 1] (V0 (Proc.devRef .tc main_v73_0)) slices_S20x5000x4_S20x5000x1_0_0_1) shapeCasts_S20x5000x1_S20x5000)) (broadcastInDim S20x5000 ![] bcast_S_S20x5000 (constant S_ .f32 0x00000000#32))))) (res_main_while0b_v154 V0)) (broadcastInDim S20x5000 ![] bcast_S_S20x5000 (constant S_ .f32 0x322BCC77#32)))) (broadcastInDim S20x5000 ![] bcast_S_S20x5000 (constant S_ .f32 0x3F000000#32))) (broadcastInDim S20x5000 ![] bcast_S_S20x5000 (id (constant S_ .f32 0xFF800000#32))) (V0 (Proc.devRef .tc main_v73_2))) :=
  (val11_keep V0 main_while0b_v200 (by decide)).trans (val10_main_while0b_v200 V0)
set_option maxRecDepth 8192 in
theorem val11_main_while0b_v202 (V0 : Valuation τ sig (Elt F)) : val11 V0 (no_index (Proc.devRef .tc main_while0b_v202)) = select (broadcastInDim S20x4 ![0, 1] bcast_S20x1_S20x4_0_1 (broadcastInDim S20x1 ![0] bcast_S20_S20x1_0 (res_main_while0b_v122 V0))) (res_main_while0b_v119 V0) (broadcastInDim S20x4 ![] bcast_S_S20x4 (id (constant S_ .f32 0x00000000#32))) := by
  unfold val11
  simp only [trip_w10]
  after_results_entrywise [val10_main_while0b_cst_46, val10_main_while0b_v119, val10_main_while0b_v201, cast_eq]

/-- The device's buffer contents after the body's first 12 windows. -/
def val12 (V0 : Valuation τ sig (Elt F)) : Valuation τ sig (Elt F) := after trip_w11 (val11 V0)
/-- The buffers that window `trip_w11`'s operations write. -/
abbrev trip_w11_W : List (Ref sig .tc) := [main_while0b_cst_47]
set_option maxRecDepth 8192 in
theorem trip_w11_writes : (trip_w11 : List (HloOp τ sig (Elt F))).Forall fun op => op.writes ⊆ (trip_w11_W.map (Proc.devRef (τ := τ) .tc)).toFinset := by
  simp only [List.Forall]; and_intros <;> exact writes_listed rfl (by decide)
/-- A buffer that window `trip_w11` does not write keeps its contents through it. -/
theorem val12_keep (V0 : Valuation τ sig (Elt F)) (r : Ref sig .tc) (h : r ∉ trip_w11_W) :
    val12 V0 (Proc.devRef .tc r) = val11 V0 (Proc.devRef .tc r) :=
  after_of_writes_sub trip_w11 _ trip_w11_writes h
theorem val12_main_v73_2 (V0 : Valuation τ sig (Elt F)) : val12 V0 (no_index (Proc.devRef .tc main_v73_2)) = V0 (Proc.devRef .tc main_v73_2) :=
  (val12_keep V0 main_v73_2 (by decide)).trans (val11_main_v73_2 V0)
theorem val12_main_v73_0 (V0 : Valuation τ sig (Elt F)) : val12 V0 (no_index (Proc.devRef .tc main_v73_0)) = V0 (Proc.devRef .tc main_v73_0) :=
  (val12_keep V0 main_v73_0 (by decide)).trans (val11_main_v73_0 V0)
theorem val12_main_v73_3 (V0 : Valuation τ sig (Elt F)) : val12 V0 (no_index (Proc.devRef .tc main_v73_3)) = V0 (Proc.devRef .tc main_v73_3) :=
  (val12_keep V0 main_v73_3 (by decide)).trans (val11_main_v73_3 V0)
theorem val12_main_v73_1 (V0 : Valuation τ sig (Elt F)) : val12 V0 (no_index (Proc.devRef .tc main_v73_1)) = V0 (Proc.devRef .tc main_v73_1) :=
  (val12_keep V0 main_v73_1 (by decide)).trans (val11_main_v73_1 V0)
theorem val12_main_v73_4 (V0 : Valuation τ sig (Elt F)) : val12 V0 (no_index (Proc.devRef .tc main_v73_4)) = V0 (Proc.devRef .tc main_v73_4) :=
  (val12_keep V0 main_v73_4 (by decide)).trans (val11_main_v73_4 V0)
theorem val12_main_while0b_v104 (V0 : Valuation τ sig (Elt F)) : val12 V0 (no_index (Proc.devRef .tc main_while0b_v104)) = res_main_while0b_v104 V0 :=
  (val12_keep V0 main_while0b_v104 (by decide)).trans (val11_main_while0b_v104 V0)
theorem val12_main_while0b_v122 (V0 : Valuation τ sig (Elt F)) : val12 V0 (no_index (Proc.devRef .tc main_while0b_v122)) = res_main_while0b_v122 V0 :=
  (val12_keep V0 main_while0b_v122 (by decide)).trans (val11_main_while0b_v122 V0)
theorem val12_main_while0b_v200 (V0 : Valuation τ sig (Elt F)) : val12 V0 (no_index (Proc.devRef .tc main_while0b_v200)) = select (cmpi .eq (broadcastInDim S20x5000 ![0, 1] bcast_S1x5000_S20x5000_0_1 (broadcastInDim S1x5000 ![1] bcast_S5000_S1x5000_1 (iotaInDim S5000 32 0))) (broadcastInDim S20x5000 ![0, 1] bcast_S20x1_S20x5000_0_1 (broadcastInDim S20x1 ![0] bcast_S20_S20x1_0 (res_main_while0b_v103 V0)))) (broadcastInDim S20x5000 ![] bcast_S_S20x5000 (id (constant S_ .f32 0xFF800000#32))) (select (cmpf .ogt (Host.divf (res_main_while0b_v154 V0) (maximumf (subf (addf (broadcastInDim S20x5000 ![0, 1] bcast_S20x1_S20x5000_0_1 (mulf (maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32))) (maximumf (subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1)) (broadcastInDim S20x1 ![] bcast_S_S20x1 (constant S_ .f32 0x00000000#32))))) (mulf (maximumf (subf (shapeCast S20x5000 (extractStridedSlice S20x5000x1 ![0, 0, 2] (V0 (Proc.devRef .tc main_v73_0)) slices_S20x5000x4_S20x5000x1_0_0_2) shapeCasts_S20x5000x1_S20x5000) (shapeCast S20x5000 (extractStridedSlice S20x5000x1 ![0, 0, 0] (V0 (Proc.devRef .tc main_v73_0)) slices_S20x5000x4_S20x5000x1_0_0_0) shapeCasts_S20x5000x1_S20x5000)) (broadcastInDim S20x5000 ![] bcast_S_S20x5000 (constant S_ .f32 0x00000000#32))) (maximumf (subf (shapeCast S20x5000 (extractStridedSlice S20x5000x1 ![0, 0, 3] (V0 (Proc.devRef .tc main_v73_0)) slices_S20x5000x4_S20x5000x1_0_0_3) shapeCasts_S20x5000x1_S20x5000) (shapeCast S20x5000 (extractStridedSlice S20x5000x1 ![0, 0, 1] (V0 (Proc.devRef .tc main_v73_0)) slices_S20x5000x4_S20x5000x1_0_0_1) shapeCasts_S20x5000x1_S20x5000)) (broadcastInDim S20x5000 ![] bcast_S_S20x5000 (constant S_ .f32 0x00000000#32))))) (res_main_while0b_v154 V0)) (broadcastInDim S20x5000 ![] bcast_S_S20x5000 (constant S_ .f32 0x322BCC77#32)))) (broadcastInDim S20x5000 ![] bcast_S_S20x5000 (constant S_ .f32 0x3F000000#32))) (broadcastInDim S20x5000 ![] bcast_S_S20x5000 (id (constant S_ .f32 0xFF800000#32))) (V0 (Proc.devRef .tc main_v73_2))) :=
  (val12_keep V0 main_while0b_v200 (by decide)).trans (val11_main_while0b_v200 V0)
theorem val12_main_while0b_v202 (V0 : Valuation τ sig (Elt F)) : val12 V0 (no_index (Proc.devRef .tc main_while0b_v202)) = select (broadcastInDim S20x4 ![0, 1] bcast_S20x1_S20x4_0_1 (broadcastInDim S20x1 ![0] bcast_S20_S20x1_0 (res_main_while0b_v122 V0))) (res_main_while0b_v119 V0) (broadcastInDim S20x4 ![] bcast_S_S20x4 (id (constant S_ .f32 0x00000000#32))) :=
  (val12_keep V0 main_while0b_v202 (by decide)).trans (val11_main_while0b_v202 V0)
set_option maxRecDepth 8192 in
theorem val12_main_while0b_cst_47 (V0 : Valuation τ sig (Elt F)) : val12 V0 (no_index (Proc.devRef .tc main_while0b_cst_47)) = constant S_ .f32 0xFF800000#32 := by
  unfold val12
  simp only [trip_w11]
  after_results_entrywise [cast_eq]

/-- The device's buffer contents after the body's first 13 windows. -/
def val13 (V0 : Valuation τ sig (Elt F)) : Valuation τ sig (Elt F) := after trip_w12 (val12 V0)
/-- The buffers that window `trip_w12`'s operations write. -/
abbrev trip_w12_W : List (Ref sig .tc) := [main_while0b_call11_v0, main_while0b_call11_v1, main_while0b_v203]
set_option maxRecDepth 8192 in
theorem trip_w12_writes : (trip_w12 : List (HloOp τ sig (Elt F))).Forall fun op => op.writes ⊆ (trip_w12_W.map (Proc.devRef (τ := τ) .tc)).toFinset := by
  simp only [List.Forall]; and_intros <;> exact writes_listed rfl (by decide)
/-- A buffer that window `trip_w12` does not write keeps its contents through it. -/
theorem val13_keep (V0 : Valuation τ sig (Elt F)) (r : Ref sig .tc) (h : r ∉ trip_w12_W) :
    val13 V0 (Proc.devRef .tc r) = val12 V0 (Proc.devRef .tc r) :=
  after_of_writes_sub trip_w12 _ trip_w12_writes h
theorem val13_main_v73_2 (V0 : Valuation τ sig (Elt F)) : val13 V0 (no_index (Proc.devRef .tc main_v73_2)) = V0 (Proc.devRef .tc main_v73_2) :=
  (val13_keep V0 main_v73_2 (by decide)).trans (val12_main_v73_2 V0)
theorem val13_main_v73_0 (V0 : Valuation τ sig (Elt F)) : val13 V0 (no_index (Proc.devRef .tc main_v73_0)) = V0 (Proc.devRef .tc main_v73_0) :=
  (val13_keep V0 main_v73_0 (by decide)).trans (val12_main_v73_0 V0)
theorem val13_main_v73_3 (V0 : Valuation τ sig (Elt F)) : val13 V0 (no_index (Proc.devRef .tc main_v73_3)) = V0 (Proc.devRef .tc main_v73_3) :=
  (val13_keep V0 main_v73_3 (by decide)).trans (val12_main_v73_3 V0)
theorem val13_main_v73_1 (V0 : Valuation τ sig (Elt F)) : val13 V0 (no_index (Proc.devRef .tc main_v73_1)) = V0 (Proc.devRef .tc main_v73_1) :=
  (val13_keep V0 main_v73_1 (by decide)).trans (val12_main_v73_1 V0)
theorem val13_main_v73_4 (V0 : Valuation τ sig (Elt F)) : val13 V0 (no_index (Proc.devRef .tc main_v73_4)) = V0 (Proc.devRef .tc main_v73_4) :=
  (val13_keep V0 main_v73_4 (by decide)).trans (val12_main_v73_4 V0)
theorem val13_main_while0b_v200 (V0 : Valuation τ sig (Elt F)) : val13 V0 (no_index (Proc.devRef .tc main_while0b_v200)) = select (cmpi .eq (broadcastInDim S20x5000 ![0, 1] bcast_S1x5000_S20x5000_0_1 (broadcastInDim S1x5000 ![1] bcast_S5000_S1x5000_1 (iotaInDim S5000 32 0))) (broadcastInDim S20x5000 ![0, 1] bcast_S20x1_S20x5000_0_1 (broadcastInDim S20x1 ![0] bcast_S20_S20x1_0 (res_main_while0b_v103 V0)))) (broadcastInDim S20x5000 ![] bcast_S_S20x5000 (id (constant S_ .f32 0xFF800000#32))) (select (cmpf .ogt (Host.divf (res_main_while0b_v154 V0) (maximumf (subf (addf (broadcastInDim S20x5000 ![0, 1] bcast_S20x1_S20x5000_0_1 (mulf (maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32))) (maximumf (subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1)) (broadcastInDim S20x1 ![] bcast_S_S20x1 (constant S_ .f32 0x00000000#32))))) (mulf (maximumf (subf (shapeCast S20x5000 (extractStridedSlice S20x5000x1 ![0, 0, 2] (V0 (Proc.devRef .tc main_v73_0)) slices_S20x5000x4_S20x5000x1_0_0_2) shapeCasts_S20x5000x1_S20x5000) (shapeCast S20x5000 (extractStridedSlice S20x5000x1 ![0, 0, 0] (V0 (Proc.devRef .tc main_v73_0)) slices_S20x5000x4_S20x5000x1_0_0_0) shapeCasts_S20x5000x1_S20x5000)) (broadcastInDim S20x5000 ![] bcast_S_S20x5000 (constant S_ .f32 0x00000000#32))) (maximumf (subf (shapeCast S20x5000 (extractStridedSlice S20x5000x1 ![0, 0, 3] (V0 (Proc.devRef .tc main_v73_0)) slices_S20x5000x4_S20x5000x1_0_0_3) shapeCasts_S20x5000x1_S20x5000) (shapeCast S20x5000 (extractStridedSlice S20x5000x1 ![0, 0, 1] (V0 (Proc.devRef .tc main_v73_0)) slices_S20x5000x4_S20x5000x1_0_0_1) shapeCasts_S20x5000x1_S20x5000)) (broadcastInDim S20x5000 ![] bcast_S_S20x5000 (constant S_ .f32 0x00000000#32))))) (res_main_while0b_v154 V0)) (broadcastInDim S20x5000 ![] bcast_S_S20x5000 (constant S_ .f32 0x322BCC77#32)))) (broadcastInDim S20x5000 ![] bcast_S_S20x5000 (constant S_ .f32 0x3F000000#32))) (broadcastInDim S20x5000 ![] bcast_S_S20x5000 (id (constant S_ .f32 0xFF800000#32))) (V0 (Proc.devRef .tc main_v73_2))) :=
  (val13_keep V0 main_while0b_v200 (by decide)).trans (val12_main_while0b_v200 V0)
theorem val13_main_while0b_v202 (V0 : Valuation τ sig (Elt F)) : val13 V0 (no_index (Proc.devRef .tc main_while0b_v202)) = select (broadcastInDim S20x4 ![0, 1] bcast_S20x1_S20x4_0_1 (broadcastInDim S20x1 ![0] bcast_S20_S20x1_0 (res_main_while0b_v122 V0))) (res_main_while0b_v119 V0) (broadcastInDim S20x4 ![] bcast_S_S20x4 (id (constant S_ .f32 0x00000000#32))) :=
  (val13_keep V0 main_while0b_v202 (by decide)).trans (val12_main_while0b_v202 V0)
set_option maxRecDepth 8192 in
theorem val13_main_while0b_v203 (V0 : Valuation τ sig (Elt F)) : val13 V0 (no_index (Proc.devRef .tc main_while0b_v203)) = select (res_main_while0b_v122 V0) (res_main_while0b_v104 V0) (broadcastInDim S20 ![] bcast_S_S20 (id (constant S_ .f32 0xFF800000#32))) := by
  unfold val13
  simp only [trip_w12]
  after_results_entrywise [val12_main_while0b_cst_47, val12_main_while0b_v104, val12_main_while0b_v122, cast_eq]

/-- The device's buffer contents after the body's first 14 windows. -/
def val14 (V0 : Valuation τ sig (Elt F)) : Valuation τ sig (Elt F) := after trip_w13 (val13 V0)
/-- The buffers that window `trip_w13`'s operations write. -/
abbrev trip_w13_W : List (Ref sig .tc) := [main_while0b_call12_v0, main_while0b_call12_c, main_while0b_call12_c_0, main_while0b_v204]
set_option maxRecDepth 8192 in
theorem trip_w13_writes : (trip_w13 : List (HloOp τ sig (Elt F))).Forall fun op => op.writes ⊆ (trip_w13_W.map (Proc.devRef (τ := τ) .tc)).toFinset := by
  simp only [List.Forall]; and_intros <;> exact writes_listed rfl (by decide)
/-- A buffer that window `trip_w13` does not write keeps its contents through it. -/
theorem val14_keep (V0 : Valuation τ sig (Elt F)) (r : Ref sig .tc) (h : r ∉ trip_w13_W) :
    val14 V0 (Proc.devRef .tc r) = val13 V0 (Proc.devRef .tc r) :=
  after_of_writes_sub trip_w13 _ trip_w13_writes h
theorem val14_main_v73_2 (V0 : Valuation τ sig (Elt F)) : val14 V0 (no_index (Proc.devRef .tc main_v73_2)) = V0 (Proc.devRef .tc main_v73_2) :=
  (val14_keep V0 main_v73_2 (by decide)).trans (val13_main_v73_2 V0)
theorem val14_main_v73_0 (V0 : Valuation τ sig (Elt F)) : val14 V0 (no_index (Proc.devRef .tc main_v73_0)) = V0 (Proc.devRef .tc main_v73_0) :=
  (val14_keep V0 main_v73_0 (by decide)).trans (val13_main_v73_0 V0)
theorem val14_main_v73_3 (V0 : Valuation τ sig (Elt F)) : val14 V0 (no_index (Proc.devRef .tc main_v73_3)) = V0 (Proc.devRef .tc main_v73_3) :=
  (val14_keep V0 main_v73_3 (by decide)).trans (val13_main_v73_3 V0)
theorem val14_main_v73_1 (V0 : Valuation τ sig (Elt F)) : val14 V0 (no_index (Proc.devRef .tc main_v73_1)) = V0 (Proc.devRef .tc main_v73_1) :=
  (val14_keep V0 main_v73_1 (by decide)).trans (val13_main_v73_1 V0)
theorem val14_main_v73_4 (V0 : Valuation τ sig (Elt F)) : val14 V0 (no_index (Proc.devRef .tc main_v73_4)) = V0 (Proc.devRef .tc main_v73_4) :=
  (val14_keep V0 main_v73_4 (by decide)).trans (val13_main_v73_4 V0)
theorem val14_main_while0b_v200 (V0 : Valuation τ sig (Elt F)) : val14 V0 (no_index (Proc.devRef .tc main_while0b_v200)) = select (cmpi .eq (broadcastInDim S20x5000 ![0, 1] bcast_S1x5000_S20x5000_0_1 (broadcastInDim S1x5000 ![1] bcast_S5000_S1x5000_1 (iotaInDim S5000 32 0))) (broadcastInDim S20x5000 ![0, 1] bcast_S20x1_S20x5000_0_1 (broadcastInDim S20x1 ![0] bcast_S20_S20x1_0 (res_main_while0b_v103 V0)))) (broadcastInDim S20x5000 ![] bcast_S_S20x5000 (id (constant S_ .f32 0xFF800000#32))) (select (cmpf .ogt (Host.divf (res_main_while0b_v154 V0) (maximumf (subf (addf (broadcastInDim S20x5000 ![0, 1] bcast_S20x1_S20x5000_0_1 (mulf (maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32))) (maximumf (subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1)) (broadcastInDim S20x1 ![] bcast_S_S20x1 (constant S_ .f32 0x00000000#32))))) (mulf (maximumf (subf (shapeCast S20x5000 (extractStridedSlice S20x5000x1 ![0, 0, 2] (V0 (Proc.devRef .tc main_v73_0)) slices_S20x5000x4_S20x5000x1_0_0_2) shapeCasts_S20x5000x1_S20x5000) (shapeCast S20x5000 (extractStridedSlice S20x5000x1 ![0, 0, 0] (V0 (Proc.devRef .tc main_v73_0)) slices_S20x5000x4_S20x5000x1_0_0_0) shapeCasts_S20x5000x1_S20x5000)) (broadcastInDim S20x5000 ![] bcast_S_S20x5000 (constant S_ .f32 0x00000000#32))) (maximumf (subf (shapeCast S20x5000 (extractStridedSlice S20x5000x1 ![0, 0, 3] (V0 (Proc.devRef .tc main_v73_0)) slices_S20x5000x4_S20x5000x1_0_0_3) shapeCasts_S20x5000x1_S20x5000) (shapeCast S20x5000 (extractStridedSlice S20x5000x1 ![0, 0, 1] (V0 (Proc.devRef .tc main_v73_0)) slices_S20x5000x4_S20x5000x1_0_0_1) shapeCasts_S20x5000x1_S20x5000)) (broadcastInDim S20x5000 ![] bcast_S_S20x5000 (constant S_ .f32 0x00000000#32))))) (res_main_while0b_v154 V0)) (broadcastInDim S20x5000 ![] bcast_S_S20x5000 (constant S_ .f32 0x322BCC77#32)))) (broadcastInDim S20x5000 ![] bcast_S_S20x5000 (constant S_ .f32 0x3F000000#32))) (broadcastInDim S20x5000 ![] bcast_S_S20x5000 (id (constant S_ .f32 0xFF800000#32))) (V0 (Proc.devRef .tc main_v73_2))) :=
  (val14_keep V0 main_while0b_v200 (by decide)).trans (val13_main_while0b_v200 V0)
theorem val14_main_while0b_v203 (V0 : Valuation τ sig (Elt F)) : val14 V0 (no_index (Proc.devRef .tc main_while0b_v203)) = select (res_main_while0b_v122 V0) (res_main_while0b_v104 V0) (broadcastInDim S20 ![] bcast_S_S20 (id (constant S_ .f32 0xFF800000#32))) :=
  (val14_keep V0 main_while0b_v203 (by decide)).trans (val13_main_while0b_v203 V0)
set_option maxRecDepth 8192 in
theorem val14_main_while0b_v204 (V0 : Valuation τ sig (Elt F)) : val14 V0 (no_index (Proc.devRef .tc main_while0b_v204)) = Host.dynamicUpdateSlice (V0 (Proc.devRef .tc main_v73_3)) (broadcastInDim S1x20x4 ![1, 2] bcast_S20x4_S1x20x4_1_2 (select (broadcastInDim S20x4 ![0, 1] bcast_S20x1_S20x4_0_1 (broadcastInDim S20x1 ![0] bcast_S20_S20x1_0 (res_main_while0b_v122 V0))) (res_main_while0b_v119 V0) (broadcastInDim S20x4 ![] bcast_S_S20x4 (id (constant S_ .f32 0x00000000#32))))) (fun k => (((![V0 (Proc.devRef .tc main_v73_1), constantI S_ 32 0#32, constantI S_ 32 0#32] : Fin 3 → (⟨S_, .i32⟩ : BufTy).Contents (Elt F))) k (Shape.Idx.first h_S_)).toInt) updateFits_S100x20x4_S1x20x4 := by
  unfold val14
  simp only [trip_w13]
  after_results_entrywise [val13_main_v73_1, val13_main_while0b_v202, val13_main_v73_3, cast_eq]

/-- The device's buffer contents after the body's first 15 windows. -/
def val15 (V0 : Valuation τ sig (Elt F)) : Valuation τ sig (Elt F) := after trip_w14 (val14 V0)
/-- The buffers that window `trip_w14`'s operations write. -/
abbrev trip_w14_W : List (Ref sig .tc) := [main_while0b_call13_v0, main_while0b_call13_c, main_while0b_v205]
set_option maxRecDepth 8192 in
theorem trip_w14_writes : (trip_w14 : List (HloOp τ sig (Elt F))).Forall fun op => op.writes ⊆ (trip_w14_W.map (Proc.devRef (τ := τ) .tc)).toFinset := by
  simp only [List.Forall]; and_intros <;> exact writes_listed rfl (by decide)
/-- A buffer that window `trip_w14` does not write keeps its contents through it. -/
theorem val15_keep (V0 : Valuation τ sig (Elt F)) (r : Ref sig .tc) (h : r ∉ trip_w14_W) :
    val15 V0 (Proc.devRef .tc r) = val14 V0 (Proc.devRef .tc r) :=
  after_of_writes_sub trip_w14 _ trip_w14_writes h
theorem val15_main_v73_2 (V0 : Valuation τ sig (Elt F)) : val15 V0 (no_index (Proc.devRef .tc main_v73_2)) = V0 (Proc.devRef .tc main_v73_2) :=
  (val15_keep V0 main_v73_2 (by decide)).trans (val14_main_v73_2 V0)
theorem val15_main_v73_0 (V0 : Valuation τ sig (Elt F)) : val15 V0 (no_index (Proc.devRef .tc main_v73_0)) = V0 (Proc.devRef .tc main_v73_0) :=
  (val15_keep V0 main_v73_0 (by decide)).trans (val14_main_v73_0 V0)
theorem val15_main_v73_3 (V0 : Valuation τ sig (Elt F)) : val15 V0 (no_index (Proc.devRef .tc main_v73_3)) = V0 (Proc.devRef .tc main_v73_3) :=
  (val15_keep V0 main_v73_3 (by decide)).trans (val14_main_v73_3 V0)
theorem val15_main_v73_1 (V0 : Valuation τ sig (Elt F)) : val15 V0 (no_index (Proc.devRef .tc main_v73_1)) = V0 (Proc.devRef .tc main_v73_1) :=
  (val15_keep V0 main_v73_1 (by decide)).trans (val14_main_v73_1 V0)
theorem val15_main_v73_4 (V0 : Valuation τ sig (Elt F)) : val15 V0 (no_index (Proc.devRef .tc main_v73_4)) = V0 (Proc.devRef .tc main_v73_4) :=
  (val15_keep V0 main_v73_4 (by decide)).trans (val14_main_v73_4 V0)
theorem val15_main_while0b_v200 (V0 : Valuation τ sig (Elt F)) : val15 V0 (no_index (Proc.devRef .tc main_while0b_v200)) = select (cmpi .eq (broadcastInDim S20x5000 ![0, 1] bcast_S1x5000_S20x5000_0_1 (broadcastInDim S1x5000 ![1] bcast_S5000_S1x5000_1 (iotaInDim S5000 32 0))) (broadcastInDim S20x5000 ![0, 1] bcast_S20x1_S20x5000_0_1 (broadcastInDim S20x1 ![0] bcast_S20_S20x1_0 (res_main_while0b_v103 V0)))) (broadcastInDim S20x5000 ![] bcast_S_S20x5000 (id (constant S_ .f32 0xFF800000#32))) (select (cmpf .ogt (Host.divf (res_main_while0b_v154 V0) (maximumf (subf (addf (broadcastInDim S20x5000 ![0, 1] bcast_S20x1_S20x5000_0_1 (mulf (maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32))) (maximumf (subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1)) (broadcastInDim S20x1 ![] bcast_S_S20x1 (constant S_ .f32 0x00000000#32))))) (mulf (maximumf (subf (shapeCast S20x5000 (extractStridedSlice S20x5000x1 ![0, 0, 2] (V0 (Proc.devRef .tc main_v73_0)) slices_S20x5000x4_S20x5000x1_0_0_2) shapeCasts_S20x5000x1_S20x5000) (shapeCast S20x5000 (extractStridedSlice S20x5000x1 ![0, 0, 0] (V0 (Proc.devRef .tc main_v73_0)) slices_S20x5000x4_S20x5000x1_0_0_0) shapeCasts_S20x5000x1_S20x5000)) (broadcastInDim S20x5000 ![] bcast_S_S20x5000 (constant S_ .f32 0x00000000#32))) (maximumf (subf (shapeCast S20x5000 (extractStridedSlice S20x5000x1 ![0, 0, 3] (V0 (Proc.devRef .tc main_v73_0)) slices_S20x5000x4_S20x5000x1_0_0_3) shapeCasts_S20x5000x1_S20x5000) (shapeCast S20x5000 (extractStridedSlice S20x5000x1 ![0, 0, 1] (V0 (Proc.devRef .tc main_v73_0)) slices_S20x5000x4_S20x5000x1_0_0_1) shapeCasts_S20x5000x1_S20x5000)) (broadcastInDim S20x5000 ![] bcast_S_S20x5000 (constant S_ .f32 0x00000000#32))))) (res_main_while0b_v154 V0)) (broadcastInDim S20x5000 ![] bcast_S_S20x5000 (constant S_ .f32 0x322BCC77#32)))) (broadcastInDim S20x5000 ![] bcast_S_S20x5000 (constant S_ .f32 0x3F000000#32))) (broadcastInDim S20x5000 ![] bcast_S_S20x5000 (id (constant S_ .f32 0xFF800000#32))) (V0 (Proc.devRef .tc main_v73_2))) :=
  (val15_keep V0 main_while0b_v200 (by decide)).trans (val14_main_while0b_v200 V0)
theorem val15_main_while0b_v204 (V0 : Valuation τ sig (Elt F)) : val15 V0 (no_index (Proc.devRef .tc main_while0b_v204)) = Host.dynamicUpdateSlice (V0 (Proc.devRef .tc main_v73_3)) (broadcastInDim S1x20x4 ![1, 2] bcast_S20x4_S1x20x4_1_2 (select (broadcastInDim S20x4 ![0, 1] bcast_S20x1_S20x4_0_1 (broadcastInDim S20x1 ![0] bcast_S20_S20x1_0 (res_main_while0b_v122 V0))) (res_main_while0b_v119 V0) (broadcastInDim S20x4 ![] bcast_S_S20x4 (id (constant S_ .f32 0x00000000#32))))) (fun k => (((![V0 (Proc.devRef .tc main_v73_1), constantI S_ 32 0#32, constantI S_ 32 0#32] : Fin 3 → (⟨S_, .i32⟩ : BufTy).Contents (Elt F))) k (Shape.Idx.first h_S_)).toInt) updateFits_S100x20x4_S1x20x4 :=
  (val15_keep V0 main_while0b_v204 (by decide)).trans (val14_main_while0b_v204 V0)
set_option maxRecDepth 8192 in
theorem val15_main_while0b_v205 (V0 : Valuation τ sig (Elt F)) : val15 V0 (no_index (Proc.devRef .tc main_while0b_v205)) = Host.dynamicUpdateSlice (V0 (Proc.devRef .tc main_v73_4)) (broadcastInDim S1x20 ![1] bcast_S20_S1x20_1 (select (res_main_while0b_v122 V0) (res_main_while0b_v104 V0) (broadcastInDim S20 ![] bcast_S_S20 (id (constant S_ .f32 0xFF800000#32))))) (fun k => (((![V0 (Proc.devRef .tc main_v73_1), constantI S_ 32 0#32] : Fin 2 → (⟨S_, .i32⟩ : BufTy).Contents (Elt F))) k (Shape.Idx.first h_S_)).toInt) updateFits_S100x20_S1x20 := by
  unfold val15
  simp only [trip_w14]
  after_results_entrywise [val14_main_v73_1, val14_main_while0b_v203, val14_main_v73_4, cast_eq]

set_option maxRecDepth 8192 in
/-- The body's stretches before `while0Ops0_11`, from any contents: their windows in order. -/
theorem trip_windows (V0 : Valuation τ sig (Elt F)) : after while0Ops0_10 (after while0Ops0_9 (after while0Ops0_8 (after while0Ops0_7 (after while0Ops0_6 (after while0Ops0_5 (after while0Ops0_4 (after while0Ops0_3 (after while0Ops0_2 (after while0Ops0_1 (after while0Ops0 (V0))))))))))) = val15 V0 := by
  simp only [while0Ops0_cut, while0Ops0_1_cut, while0Ops0_2_cut, while0Ops0_3_cut, while0Ops0_4_cut, while0Ops0_5_cut, while0Ops0_6_cut, while0Ops0_7_cut, while0Ops0_8_cut, while0Ops0_9_cut, while0Ops0_10_cut, after_append]
  rfl

set_option maxRecDepth 8192 in
set_option maxHeartbeats 2000000 in
/-- `main_v73_0` after one trip's body, from any contents. -/
theorem trip_main_v73_0 (V0 : Valuation τ sig (Elt F)) : afterL bodyI V0 (no_index (Proc.devRef .tc main_v73_0)) = V0 (Proc.devRef .tc main_v73_0) := by
  simp only [bodyI, afterL_cons, afterL_nil, trip_windows]
  after_results
  all_goals (try simp only [val15_main_while0b_v200, val15_main_while0b_v204, val15_main_while0b_v205, val15_main_v73_0, val15_main_v73_1, val15_main_v73_2, val15_main_v73_3, val15_main_v73_4]) <;> rfl
set_option maxRecDepth 8192 in
set_option maxHeartbeats 2000000 in
/-- `main_v73_1` after one trip's body, from any contents. -/
theorem trip_main_v73_1 (V0 : Valuation τ sig (Elt F)) : afterL bodyI V0 (no_index (Proc.devRef .tc main_v73_1)) = id (addi (V0 (Proc.devRef .tc main_v73_1)) (constantI S_ 32 1#32)) := by
  simp only [bodyI, afterL_cons, afterL_nil, trip_windows]
  after_results
  all_goals (try simp only [val15_main_while0b_v200, val15_main_while0b_v204, val15_main_while0b_v205, val15_main_v73_0, val15_main_v73_1, val15_main_v73_2, val15_main_v73_3, val15_main_v73_4]) <;> rfl
set_option maxRecDepth 8192 in
set_option maxHeartbeats 2000000 in
/-- `main_v73_2` after one trip's body, from any contents. -/
theorem trip_main_v73_2 (V0 : Valuation τ sig (Elt F)) : afterL bodyI V0 (no_index (Proc.devRef .tc main_v73_2)) = id (select (cmpi .eq (broadcastInDim S20x5000 ![0, 1] bcast_S1x5000_S20x5000_0_1 (broadcastInDim S1x5000 ![1] bcast_S5000_S1x5000_1 (iotaInDim S5000 32 0))) (broadcastInDim S20x5000 ![0, 1] bcast_S20x1_S20x5000_0_1 (broadcastInDim S20x1 ![0] bcast_S20_S20x1_0 (res_main_while0b_v103 V0)))) (broadcastInDim S20x5000 ![] bcast_S_S20x5000 (id (constant S_ .f32 0xFF800000#32))) (select (cmpf .ogt (Host.divf (res_main_while0b_v154 V0) (maximumf (subf (addf (broadcastInDim S20x5000 ![0, 1] bcast_S20x1_S20x5000_0_1 (mulf (maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32))) (maximumf (subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1)) (broadcastInDim S20x1 ![] bcast_S_S20x1 (constant S_ .f32 0x00000000#32))))) (mulf (maximumf (subf (shapeCast S20x5000 (extractStridedSlice S20x5000x1 ![0, 0, 2] (V0 (Proc.devRef .tc main_v73_0)) slices_S20x5000x4_S20x5000x1_0_0_2) shapeCasts_S20x5000x1_S20x5000) (shapeCast S20x5000 (extractStridedSlice S20x5000x1 ![0, 0, 0] (V0 (Proc.devRef .tc main_v73_0)) slices_S20x5000x4_S20x5000x1_0_0_0) shapeCasts_S20x5000x1_S20x5000)) (broadcastInDim S20x5000 ![] bcast_S_S20x5000 (constant S_ .f32 0x00000000#32))) (maximumf (subf (shapeCast S20x5000 (extractStridedSlice S20x5000x1 ![0, 0, 3] (V0 (Proc.devRef .tc main_v73_0)) slices_S20x5000x4_S20x5000x1_0_0_3) shapeCasts_S20x5000x1_S20x5000) (shapeCast S20x5000 (extractStridedSlice S20x5000x1 ![0, 0, 1] (V0 (Proc.devRef .tc main_v73_0)) slices_S20x5000x4_S20x5000x1_0_0_1) shapeCasts_S20x5000x1_S20x5000)) (broadcastInDim S20x5000 ![] bcast_S_S20x5000 (constant S_ .f32 0x00000000#32))))) (res_main_while0b_v154 V0)) (broadcastInDim S20x5000 ![] bcast_S_S20x5000 (constant S_ .f32 0x322BCC77#32)))) (broadcastInDim S20x5000 ![] bcast_S_S20x5000 (constant S_ .f32 0x3F000000#32))) (broadcastInDim S20x5000 ![] bcast_S_S20x5000 (id (constant S_ .f32 0xFF800000#32))) (V0 (Proc.devRef .tc main_v73_2)))) := by
  simp only [bodyI, afterL_cons, afterL_nil, trip_windows]
  after_results
  all_goals (try simp only [val15_main_while0b_v200, val15_main_while0b_v204, val15_main_while0b_v205, val15_main_v73_0, val15_main_v73_1, val15_main_v73_2, val15_main_v73_3, val15_main_v73_4]) <;> rfl
set_option maxRecDepth 8192 in
set_option maxHeartbeats 2000000 in
/-- `main_v73_3` after one trip's body, from any contents. -/
theorem trip_main_v73_3 (V0 : Valuation τ sig (Elt F)) : afterL bodyI V0 (no_index (Proc.devRef .tc main_v73_3)) = id (Host.dynamicUpdateSlice (V0 (Proc.devRef .tc main_v73_3)) (broadcastInDim S1x20x4 ![1, 2] bcast_S20x4_S1x20x4_1_2 (select (broadcastInDim S20x4 ![0, 1] bcast_S20x1_S20x4_0_1 (broadcastInDim S20x1 ![0] bcast_S20_S20x1_0 (res_main_while0b_v122 V0))) (res_main_while0b_v119 V0) (broadcastInDim S20x4 ![] bcast_S_S20x4 (id (constant S_ .f32 0x00000000#32))))) (fun k => (((![V0 (Proc.devRef .tc main_v73_1), constantI S_ 32 0#32, constantI S_ 32 0#32] : Fin 3 → (⟨S_, .i32⟩ : BufTy).Contents (Elt F))) k (Shape.Idx.first h_S_)).toInt) updateFits_S100x20x4_S1x20x4) := by
  simp only [bodyI, afterL_cons, afterL_nil, trip_windows]
  after_results
  all_goals (try simp only [val15_main_while0b_v200, val15_main_while0b_v204, val15_main_while0b_v205, val15_main_v73_0, val15_main_v73_1, val15_main_v73_2, val15_main_v73_3, val15_main_v73_4]) <;> rfl
set_option maxRecDepth 8192 in
set_option maxHeartbeats 2000000 in
/-- `main_v73_4` after one trip's body, from any contents. -/
theorem trip_main_v73_4 (V0 : Valuation τ sig (Elt F)) : afterL bodyI V0 (no_index (Proc.devRef .tc main_v73_4)) = id (Host.dynamicUpdateSlice (V0 (Proc.devRef .tc main_v73_4)) (broadcastInDim S1x20 ![1] bcast_S20_S1x20_1 (select (res_main_while0b_v122 V0) (res_main_while0b_v104 V0) (broadcastInDim S20 ![] bcast_S_S20 (id (constant S_ .f32 0xFF800000#32))))) (fun k => (((![V0 (Proc.devRef .tc main_v73_1), constantI S_ 32 0#32] : Fin 2 → (⟨S_, .i32⟩ : BufTy).Contents (Elt F))) k (Shape.Idx.first h_S_)).toInt) updateFits_S100x20_S1x20) := by
  simp only [bodyI, afterL_cons, afterL_nil, trip_windows]
  after_results
  all_goals (try simp only [val15_main_while0b_v200, val15_main_while0b_v204, val15_main_while0b_v205, val15_main_v73_0, val15_main_v73_1, val15_main_v73_2, val15_main_v73_3, val15_main_v73_4]) <;> rfl

/-- The loop's carried buffers. -/
abbrev carriedRefs : List (Ref sig .tc) := [main_v73_0, main_v73_1, main_v73_2, main_v73_3, main_v73_4]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_call7_v0_congr {V0 V0' : Valuation τ sig (Elt F)} (h : Agree V0 V0') : res_main_while0b_call7_v0 V0 = res_main_while0b_call7_v0 V0' := by
  unfold res_main_while0b_call7_v0
  rfl
set_option maxRecDepth 8192 in
theorem res_main_while0b_call7_cst_congr {V0 V0' : Valuation τ sig (Elt F)} (h : Agree V0 V0') : res_main_while0b_call7_cst V0 = res_main_while0b_call7_cst V0' := by
  unfold res_main_while0b_call7_cst
  rfl
set_option maxRecDepth 8192 in
theorem res_main_while0b_call7_c_congr {V0 V0' : Valuation τ sig (Elt F)} (h : Agree V0 V0') : res_main_while0b_call7_c V0 = res_main_while0b_call7_c V0' := by
  unfold res_main_while0b_call7_c
  rfl
set_option maxRecDepth 8192 in
theorem res_main_while0b_v103_congr {V0 V0' : Valuation τ sig (Elt F)} (h : Agree V0 V0') : res_main_while0b_v103 V0 = res_main_while0b_v103 V0' := by
  unfold res_main_while0b_v103
  rw [res_main_while0b_call7_v0_congr h, res_main_while0b_call7_cst_congr h, res_main_while0b_call7_c_congr h, h main_v73_2 (by decide)]
set_option maxRecDepth 8192 in
theorem res_main_while0b_v104_congr {V0 V0' : Valuation τ sig (Elt F)} (h : Agree V0 V0') : res_main_while0b_v104 V0 = res_main_while0b_v104 V0' := by
  unfold res_main_while0b_v104
  rw [h main_v73_2 (by decide)]
set_option maxRecDepth 8192 in
theorem res_main_while0b_v105_congr {V0 V0' : Valuation τ sig (Elt F)} (h : Agree V0 V0') : res_main_while0b_v105 V0 = res_main_while0b_v105 V0' := by
  unfold res_main_while0b_v105
  rfl
set_option maxRecDepth 8192 in
theorem res_main_while0b_v119_congr {V0 V0' : Valuation τ sig (Elt F)} (h : Agree V0 V0') : res_main_while0b_v119 V0 = res_main_while0b_v119 V0' := by
  unfold res_main_while0b_v119
  rw [res_main_while0b_v105_congr h, res_main_while0b_v103_congr h, h main_v73_0 (by decide)]
set_option maxRecDepth 8192 in
theorem res_main_while0b_v122_congr {V0 V0' : Valuation τ sig (Elt F)} (h : Agree V0 V0') : res_main_while0b_v122 V0 = res_main_while0b_v122 V0' := by
  unfold res_main_while0b_v122
  rw [res_main_while0b_v104_congr h]
set_option maxRecDepth 8192 in
theorem res_main_while0b_v123_congr {V0 V0' : Valuation τ sig (Elt F)} (h : Agree V0 V0') : res_main_while0b_v123 V0 = res_main_while0b_v123 V0' := by
  unfold res_main_while0b_v123
  rw [res_main_while0b_v119_congr h]
set_option maxRecDepth 8192 in
theorem res_main_while0b_v154_congr {V0 V0' : Valuation τ sig (Elt F)} (h : Agree V0 V0') : res_main_while0b_v154 V0 = res_main_while0b_v154 V0' := by
  unfold res_main_while0b_v154
  rw [res_main_while0b_v123_congr h, h main_v73_0 (by decide)]

set_option maxRecDepth 8192 in
/-- `main_v73_1` after one trip, of the contents before it. -/
def step_main_v73_1 (V0 : Valuation τ sig (Elt F)) : (Proc.devRef .tc main_v73_1 : DevRef τ sig).ty.Contents (Elt F) :=
  id (addi (V0 (Proc.devRef .tc main_v73_1)) (constantI S_ 32 1#32))
set_option maxRecDepth 8192 in
theorem step_main_v73_1_congr {V0 V0' : Valuation τ sig (Elt F)} (h : Agree V0 V0') : step_main_v73_1 V0 = step_main_v73_1 V0' := by
  unfold step_main_v73_1
  rw [h main_v73_1 (by decide)]
set_option maxRecDepth 8192 in
/-- `main_v73_2` after one trip, of the contents before it. -/
def step_main_v73_2 (V0 : Valuation τ sig (Elt F)) : (Proc.devRef .tc main_v73_2 : DevRef τ sig).ty.Contents (Elt F) :=
  id (select (cmpi .eq (broadcastInDim S20x5000 ![0, 1] bcast_S1x5000_S20x5000_0_1 (broadcastInDim S1x5000 ![1] bcast_S5000_S1x5000_1 (iotaInDim S5000 32 0))) (broadcastInDim S20x5000 ![0, 1] bcast_S20x1_S20x5000_0_1 (broadcastInDim S20x1 ![0] bcast_S20_S20x1_0 (res_main_while0b_v103 V0)))) (broadcastInDim S20x5000 ![] bcast_S_S20x5000 (id (constant S_ .f32 0xFF800000#32))) (select (cmpf .ogt (Host.divf (res_main_while0b_v154 V0) (maximumf (subf (addf (broadcastInDim S20x5000 ![0, 1] bcast_S20x1_S20x5000_0_1 (mulf (maximumf (subf (shapeCast S20x1 (extractStridedSlice S20x1x1 ![0, 0, 2] (res_main_while0b_v123 V0) slices_S20x1x4_S20x1x1_0_0_2) shapeCasts_S20x1x1_S20x1) (shapeCast S20x1 (extractStridedSlice S20x1x1 ![0, 0, 0] (res_main_while0b_v123 V0) slices_S20x1x4_S20x1x1_0_0_0) shapeCasts_S20x1x1_S20x1)) (broadcastInDim S20x1 ![] bcast_S_S20x1 (constant S_ .f32 0x00000000#32))) (maximumf (subf (shapeCast S20x1 (extractStridedSlice S20x1x1 ![0, 0, 3] (res_main_while0b_v123 V0) slices_S20x1x4_S20x1x1_0_0_3) shapeCasts_S20x1x1_S20x1) (shapeCast S20x1 (extractStridedSlice S20x1x1 ![0, 0, 1] (res_main_while0b_v123 V0) slices_S20x1x4_S20x1x1_0_0_1) shapeCasts_S20x1x1_S20x1)) (broadcastInDim S20x1 ![] bcast_S_S20x1 (constant S_ .f32 0x00000000#32))))) (mulf (maximumf (subf (shapeCast S20x5000 (extractStridedSlice S20x5000x1 ![0, 0, 2] (V0 (Proc.devRef .tc main_v73_0)) slices_S20x5000x4_S20x5000x1_0_0_2) shapeCasts_S20x5000x1_S20x5000) (shapeCast S20x5000 (extractStridedSlice S20x5000x1 ![0, 0, 0] (V0 (Proc.devRef .tc main_v73_0)) slices_S20x5000x4_S20x5000x1_0_0_0) shapeCasts_S20x5000x1_S20x5000)) (broadcastInDim S20x5000 ![] bcast_S_S20x5000 (constant S_ .f32 0x00000000#32))) (maximumf (subf (shapeCast S20x5000 (extractStridedSlice S20x5000x1 ![0, 0, 3] (V0 (Proc.devRef .tc main_v73_0)) slices_S20x5000x4_S20x5000x1_0_0_3) shapeCasts_S20x5000x1_S20x5000) (shapeCast S20x5000 (extractStridedSlice S20x5000x1 ![0, 0, 1] (V0 (Proc.devRef .tc main_v73_0)) slices_S20x5000x4_S20x5000x1_0_0_1) shapeCasts_S20x5000x1_S20x5000)) (broadcastInDim S20x5000 ![] bcast_S_S20x5000 (constant S_ .f32 0x00000000#32))))) (res_main_while0b_v154 V0)) (broadcastInDim S20x5000 ![] bcast_S_S20x5000 (constant S_ .f32 0x322BCC77#32)))) (broadcastInDim S20x5000 ![] bcast_S_S20x5000 (constant S_ .f32 0x3F000000#32))) (broadcastInDim S20x5000 ![] bcast_S_S20x5000 (id (constant S_ .f32 0xFF800000#32))) (V0 (Proc.devRef .tc main_v73_2))))
set_option maxRecDepth 8192 in
theorem step_main_v73_2_congr {V0 V0' : Valuation τ sig (Elt F)} (h : Agree V0 V0') : step_main_v73_2 V0 = step_main_v73_2 V0' := by
  unfold step_main_v73_2
  rw [res_main_while0b_v103_congr h, res_main_while0b_v154_congr h, res_main_while0b_v123_congr h, h main_v73_0 (by decide), h main_v73_2 (by decide)]
set_option maxRecDepth 8192 in
/-- `main_v73_3` after one trip, of the contents before it. -/
def step_main_v73_3 (V0 : Valuation τ sig (Elt F)) : (Proc.devRef .tc main_v73_3 : DevRef τ sig).ty.Contents (Elt F) :=
  id (Host.dynamicUpdateSlice (V0 (Proc.devRef .tc main_v73_3)) (broadcastInDim S1x20x4 ![1, 2] bcast_S20x4_S1x20x4_1_2 (select (broadcastInDim S20x4 ![0, 1] bcast_S20x1_S20x4_0_1 (broadcastInDim S20x1 ![0] bcast_S20_S20x1_0 (res_main_while0b_v122 V0))) (res_main_while0b_v119 V0) (broadcastInDim S20x4 ![] bcast_S_S20x4 (id (constant S_ .f32 0x00000000#32))))) (fun k => (((![V0 (Proc.devRef .tc main_v73_1), constantI S_ 32 0#32, constantI S_ 32 0#32] : Fin 3 → (⟨S_, .i32⟩ : BufTy).Contents (Elt F))) k (Shape.Idx.first h_S_)).toInt) updateFits_S100x20x4_S1x20x4)
set_option maxRecDepth 8192 in
theorem step_main_v73_3_congr {V0 V0' : Valuation τ sig (Elt F)} (h : Agree V0 V0') : step_main_v73_3 V0 = step_main_v73_3 V0' := by
  unfold step_main_v73_3
  rw [res_main_while0b_v122_congr h, res_main_while0b_v119_congr h, h main_v73_3 (by decide), h main_v73_1 (by decide)]
set_option maxRecDepth 8192 in
/-- `main_v73_4` after one trip, of the contents before it. -/
def step_main_v73_4 (V0 : Valuation τ sig (Elt F)) : (Proc.devRef .tc main_v73_4 : DevRef τ sig).ty.Contents (Elt F) :=
  id (Host.dynamicUpdateSlice (V0 (Proc.devRef .tc main_v73_4)) (broadcastInDim S1x20 ![1] bcast_S20_S1x20_1 (select (res_main_while0b_v122 V0) (res_main_while0b_v104 V0) (broadcastInDim S20 ![] bcast_S_S20 (id (constant S_ .f32 0xFF800000#32))))) (fun k => (((![V0 (Proc.devRef .tc main_v73_1), constantI S_ 32 0#32] : Fin 2 → (⟨S_, .i32⟩ : BufTy).Contents (Elt F))) k (Shape.Idx.first h_S_)).toInt) updateFits_S100x20_S1x20)
set_option maxRecDepth 8192 in
theorem step_main_v73_4_congr {V0 V0' : Valuation τ sig (Elt F)} (h : Agree V0 V0') : step_main_v73_4 V0 = step_main_v73_4 V0' := by
  unfold step_main_v73_4
  rw [res_main_while0b_v122_congr h, res_main_while0b_v104_congr h, h main_v73_4 (by decide), h main_v73_1 (by decide)]

/-- ONE TRIP on the carried buffers: the buffers the body writes step, everything else is as it was. -/
def STEP (V0 : Valuation τ sig (Elt F)) : Valuation τ sig (Elt F) :=
  Function.update (Function.update (Function.update (Function.update (V0) (Proc.devRef .tc main_v73_1) (step_main_v73_1 V0)) (Proc.devRef .tc main_v73_2) (step_main_v73_2 V0)) (Proc.devRef .tc main_v73_3) (step_main_v73_3 V0)) (Proc.devRef .tc main_v73_4) (step_main_v73_4 V0)

theorem STEP_main_v73_0 (V0 : Valuation τ sig (Elt F)) : STEP V0 (Proc.devRef .tc main_v73_0) = V0 (Proc.devRef .tc main_v73_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v73_1 (V0 : Valuation τ sig (Elt F)) : STEP V0 (Proc.devRef .tc main_v73_1) = step_main_v73_1 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v73_2 (V0 : Valuation τ sig (Elt F)) : STEP V0 (Proc.devRef .tc main_v73_2) = step_main_v73_2 V0 := by
  unfold STEP; rw [Function.update_of_ne (devRef_ne_of_ne (by decide))]; rw [Function.update_of_ne (devRef_ne_of_ne (by decide))]; rw [Function.update_self]
theorem STEP_main_v73_3 (V0 : Valuation τ sig (Elt F)) : STEP V0 (Proc.devRef .tc main_v73_3) = step_main_v73_3 V0 := by
  unfold STEP; rw [Function.update_of_ne (devRef_ne_of_ne (by decide))]; rw [Function.update_self]
theorem STEP_main_v73_4 (V0 : Valuation τ sig (Elt F)) : STEP V0 (Proc.devRef .tc main_v73_4) = step_main_v73_4 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v73_0 (after condOps X)).trans ((hc main_v73_0 (by decide)).trans (STEP_main_v73_0 X).symm)
  · exact (trip_main_v73_1 (after condOps X)).trans ((step_main_v73_1_congr hc).trans (STEP_main_v73_1 X).symm)
  · exact (trip_main_v73_2 (after condOps X)).trans ((step_main_v73_2_congr hc).trans (STEP_main_v73_2 X).symm)
  · exact (trip_main_v73_3 (after condOps X)).trans ((step_main_v73_3_congr hc).trans (STEP_main_v73_3 X).symm)
  · exact (trip_main_v73_4 (after condOps X)).trans ((step_main_v73_4_congr hc).trans (STEP_main_v73_4 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v73_0, STEP_main_v73_0]; exact h main_v73_0 (by decide)
  · rw [STEP_main_v73_1, STEP_main_v73_1]; exact step_main_v73_1_congr h
  · rw [STEP_main_v73_2, STEP_main_v73_2]; exact step_main_v73_2_congr h
  · rw [STEP_main_v73_3, STEP_main_v73_3]; exact step_main_v73_3_congr h
  · rw [STEP_main_v73_4, STEP_main_v73_4]; exact step_main_v73_4_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

/-! ## The arguments are written by nothing -/

/-- The argument arrays. -/
abbrev args : List (Ref sig .tc) := [main_arg0, main_arg1, main_arg2, main_arg3]

/-- The stretches write no argument. -/
def Keeps (L : List (List (HloOp τ sig (Elt F)))) : Prop :=
  ∀ r ∈ args, ∀ V : Valuation τ sig (Elt F), afterL L V (Proc.devRef .tc r) = V (Proc.devRef .tc r)

theorem Keeps.nil : Keeps (F := F) [] := fun _ _ _ => rfl

theorem Keeps.cons {ops : List (HloOp τ sig (Elt F))} {W : List (Ref sig .tc)} {L : List (List (HloOp τ sig (Elt F)))}
    (hW : ops.Forall fun op => op.writes ⊆ (W.map (Proc.devRef (τ := τ) .tc)).toFinset) (hr : ∀ r ∈ args, r ∉ W) (h : Keeps L) : Keeps (ops :: L) :=
  fun r ha V => by rw [afterL_cons, h r ha, after_of_writes_sub ops V hW (hr r ha)]

theorem pre_keeps : Keeps (F := F) preI :=
  .cons hostOps0_writes (by decide +kernel) <| .cons hostOps0_1_writes (by decide +kernel) <| .cons hostOps0_2_writes (by decide +kernel) <|
    .cons hostOps0_3_writes (by decide +kernel) <| .cons hostOps0_4_writes (by decide +kernel) <| .cons hostOps0_5_writes (by decide +kernel) <|
    .cons hostOps0_6_writes (by decide +kernel) <| .cons hostOps0_7_writes (by decide +kernel) <| .cons hostOps0_8_writes (by decide +kernel) <|
    .cons hostOps0_9_writes (by decide +kernel) <| .cons hostOps0_10_writes (by decide +kernel) <| .cons hostOps0_11_writes (by decide +kernel) <|
    .cons hostOps0_12_writes (by decide +kernel) <| .cons hostOps0_13_writes (by decide +kernel) <| .cons hostOps0_14_writes (by decide +kernel) .nil
theorem body_keeps : Keeps (F := F) bodyI :=
  .cons while0Ops0_writes (by decide +kernel) <| .cons while0Ops0_1_writes (by decide +kernel) <| .cons while0Ops0_2_writes (by decide +kernel) <|
    .cons while0Ops0_3_writes (by decide +kernel) <| .cons while0Ops0_4_writes (by decide +kernel) <| .cons while0Ops0_5_writes (by decide +kernel) <|
    .cons while0Ops0_6_writes (by decide +kernel) <| .cons while0Ops0_7_writes (by decide +kernel) <| .cons while0Ops0_8_writes (by decide +kernel) <|
    .cons while0Ops0_9_writes (by decide +kernel) <| .cons while0Ops0_10_writes (by decide +kernel) <| .cons while0Ops0_11_writes (by decide +kernel) .nil
theorem post_keeps : Keeps (F := F) postI :=
  .cons hostOps0_15_writes (by decide +kernel) <| .cons hostOps0_16_writes (by decide +kernel) <| .cons hostOps0_17_writes (by decide +kernel) .nil
theorem cond_keeps_args : Keeps (F := F) [condOps] := .cons condOps_writes (by decide +kernel) .nil

/-- The arguments hold their launch contents before every condition. -/
theorem atK_args (c : Dev nD) (r : Ref sig .tc) (hr : r ∈ args) : ∀ k, atK m k c (Proc.devRef .tc r) = m ((c.tc : Thread nD τ).loc r)
  | 0 => pre_keeps r hr _
  | k + 1 => (body_keeps r hr _).trans ((cond_keeps_args r hr _).trans (atK_args c r hr k))

/-- The arguments hold their launch contents at the end. -/
theorem final_args (c : Dev nD) (r : Ref sig .tc) (hr : r ∈ args) :
    finalContents condOps preI bodyI postI 100 m c (Proc.devRef .tc r) = m ((c.tc : Thread nD τ).loc r) :=
  (post_keeps r hr _).trans ((cond_keeps_args r hr _).trans (atK_args m c r hr 100))

/-- Every run ends with the four argument arrays as they were and no semaphore counted up, whatever memory it starts from. -/
theorem frame_run : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨
      (h c main_arg0 rfl).trans (final_args m c main_arg0 (by decide)),
      (h c main_arg1 rfl).trans (final_args m c main_arg1 (by decide)),
      (h c main_arg2 rfl).trans (final_args m c main_arg2 (by decide)),
      (h c main_arg3 rfl).trans (final_args m c main_arg3 (by decide))⟩,
      sem_eq_zero_of_no_sems rfl r.2⟩) (run_fold m ρ)

end Cert.ReferenceIdeal.Value

end
-- ==== Proof.Greedy.lean ====
/- Greedy suppression of one class, as plain mathematics.

Scores are a function of the anchor's number; a score out of play is `⊥`.  A pick is the best score, and of equal
scores the smallest anchor.  A pick takes itself and every anchor that it suppresses out of play.  Any list of
candidates that tracks the scores, and holds each pick once, makes the same picks. -/
module

public import Idealize.ShloMosaic.Lib.IdealHost

@[expose] public section

namespace Nms

/-- Anchor `p` is the pick of the scores `w`: in play, none better, and no smaller anchor as good. -/
def IsPick (w : ℕ → EReal) (p : ℕ) : Prop := w p ≠ ⊥ ∧ ∀ n, w n < w p ∨ (w n = w p ∧ p ≤ n)

/-- There is at most one pick. -/
theorem IsPick.unique {w : ℕ → EReal} {p q : ℕ} (hp : IsPick w p) (hq : IsPick w q) : p = q := by
  rcases hp.2 q with h | ⟨h, h'⟩ <;> rcases hq.2 p with k | ⟨k, k'⟩
  · exact absurd (h.trans k) (lt_irrefl _)
  · rw [k] at h; exact absurd h (lt_irrefl _)
  · rw [h] at k; exact absurd k (lt_irrefl _)
  · omega

/-- The pick has the greatest score. -/
theorem IsPick.le {w : ℕ → EReal} {p : ℕ} (hp : IsPick w p) (n : ℕ) : w n ≤ w p := by
  rcases hp.2 n with h | h
  · exact h.le
  · exact h.1.le

/-- An anchor with the pick's score is not smaller. -/
theorem IsPick.first {w : ℕ → EReal} {p n : ℕ} (hp : IsPick w p) (h : w n = w p) : p ≤ n := by
  rcases hp.2 n with h' | h'
  · rw [h] at h'; exact absurd h' (lt_irrefl _)
  · exact h'.2

/-- Scores of finitely many anchors, one of them in play, have a pick. -/
theorem exists_pick {w : ℕ → EReal} {N n : ℕ} (hN : ∀ k, N ≤ k → w k = ⊥) (hn : w n ≠ ⊥) : ∃ p, IsPick w p := by
  classical
  have hlt : n < N := by by_contra h; exact hn (hN n (by omega))
  obtain ⟨q, hq, hmax⟩ := Finset.exists_max_image (Finset.range N) w ⟨n, by simpa using hlt⟩
  have hle : ∀ k, w k ≤ w q := fun k => by
    by_cases hk : k < N
    · exact hmax k (by simpa using hk)
    · rw [hN k (by omega)]; exact bot_le
  have hex : ∃ k, w k = w q := ⟨q, rfl⟩
  refine ⟨Nat.find hex, ?_, fun k => ?_⟩
  · rw [Nat.find_spec hex]
    intro h; have := hle n; rw [h] at this; exact hn (le_bot_iff.1 this)
  · rw [Nat.find_spec hex]
    rcases (hle k).lt_or_eq with h | h
    · exact Or.inl h
    · exact Or.inr ⟨h, Nat.find_min' hex h⟩

variable (sup : ℕ → ℕ → Prop)

open Classical in
/-- The scores after one pick. -/
noncomputable def next (w : ℕ → EReal) : ℕ → EReal :=
  fun n => if ∃ p, IsPick w p ∧ (n = p ∨ sup p n) then ⊥ else w n

/-- The scores after `k` picks. -/
noncomputable def left (s : ℕ → EReal) : ℕ → ℕ → EReal
  | 0 => s
  | k + 1 => next sup (left s k)

variable {sup}

open Classical in
/-- What a pick leaves: itself and what it suppresses are struck out. -/
theorem next_of_pick {w : ℕ → EReal} {p : ℕ} (h : IsPick w p) (n : ℕ) :
    next sup w n = if n = p ∨ sup p n then ⊥ else w n := by
  unfold next
  have e : (∃ q, IsPick w q ∧ (n = q ∨ sup q n)) ↔ (n = p ∨ sup p n) :=
    ⟨fun ⟨q, hq, hs⟩ => by rw [h.unique hq]; exact hs, fun hs => ⟨p, h, hs⟩⟩
  simp only [e]

/-- Without a pick nothing changes. -/
theorem next_of_none {w : ℕ → EReal} (h : ∀ p, ¬ IsPick w p) : next sup w = w := by
  funext n; unfold next
  rw [if_neg]; rintro ⟨p, hp, -⟩; exact h p hp

/-- A score still in play is the original one. -/
theorem left_eq {s : ℕ → EReal} (k n : ℕ) (h : left sup s k n ≠ ⊥) : left sup s k n = s n := by
  induction k with
  | zero => rfl
  | succ k ih =>
    rw [left, next] at h ⊢
    split at h
    · exact absurd rfl h
    · rename_i hh; rw [if_neg hh]; exact ih h

/-- What is out of play at the start stays out of play. -/
theorem left_bot {s : ℕ → EReal} {n : ℕ} (h : s n = ⊥) (k : ℕ) : left sup s k n = ⊥ := by
  by_contra h'; exact h' ((left_eq k n h').trans h)

/-- Scores with no pick are all out of play. -/
theorem dead_of_none {w : ℕ → EReal} {N : ℕ} (hN : ∀ k, N ≤ k → w k = ⊥) (h : ∀ p, ¬ IsPick w p) (n : ℕ) : w n = ⊥ := by
  by_contra hn; obtain ⟨p, hp⟩ := exists_pick hN hn; exact h p hp

open Classical in
/-- The pick, if there is one. -/
noncomputable def pickOf (w : ℕ → EReal) : Option ℕ := if h : ∃ p, IsPick w p then some h.choose else none

/-- The pick, where there is one. -/
theorem pickOf_eq_some {w : ℕ → EReal} {p : ℕ} (h : IsPick w p) : pickOf w = some p := by
  have hex : ∃ p, IsPick w p := ⟨p, h⟩
  unfold pickOf; rw [dif_pos hex, hex.choose_spec.unique h]

/-- There is no pick where nothing is one. -/
theorem pickOf_eq_none {w : ℕ → EReal} (h : ∀ p, ¬ IsPick w p) : pickOf w = none := by
  unfold pickOf; rw [dif_neg]; rintro ⟨p, hp⟩; exact h p hp

/-- The score that a pick gives out; `d` when there is none. -/
noncomputable def scoreOf (d : EReal) (w : ℕ → EReal) : EReal := (pickOf w).elim d w
/-- A coordinate that a pick gives out; zero when there is none. -/
noncomputable def coordOf (b : ℕ → EReal) (w : ℕ → EReal) : EReal := (pickOf w).elim 0 b

/-! ## A list of candidates -/

section Track
variable {ι : Type} (g : ι → ℕ) (prim : ι → Prop) (d : EReal)

open Classical in
/-- The candidates' scores `u` follow the scores `w`: a candidate not marked, or out of play, has the score `d`. -/
def Tracks (w : ℕ → EReal) (u : ι → EReal) : Prop := ∀ j, u j = if prim j ∧ w (g j) ≠ ⊥ then w (g j) else d

variable {g prim d}

/-- An entry in play has its score. -/
theorem Tracks.of_pos {w : ℕ → EReal} {u : ι → EReal} (h : Tracks g prim d w u) {j : ι} (hp : prim j) (hw : w (g j) ≠ ⊥) :
    u j = w (g j) := by rw [h j, if_pos ⟨hp, hw⟩]

/-- An entry out of play has the value for that. -/
theorem Tracks.of_neg {w : ℕ → EReal} {u : ι → EReal} (h : Tracks g prim d w u) {j : ι} (hj : ¬ (prim j ∧ w (g j) ≠ ⊥)) :
    u j = d := by rw [h j, if_neg hj]

/-- With no score in play every candidate has the score `d`. -/
theorem Tracks.dead {w : ℕ → EReal} {u : ι → EReal} (h : Tracks g prim d w u) (hw : ∀ n, w n = ⊥) (j : ι) : u j = d :=
  h.of_neg fun hj => hj.2 (hw _)

/-- The greatest candidate score is the pick's. -/
theorem Tracks.le_pick {w : ℕ → EReal} {u : ι → EReal} (h : Tracks g prim d w u) (hd : ∀ n, w n ≠ ⊥ → d < w n)
    {p : ℕ} (hp : IsPick w p) (j : ι) : u j ≤ w p := by
  by_cases hj : prim j ∧ w (g j) ≠ ⊥
  · rw [h.of_pos hj.1 hj.2]; exact hp.le _
  · rw [h.of_neg hj]; exact (hd p hp.1).le

/-- A candidate with the pick's score is marked and in play, and its anchor is not smaller than the pick. -/
theorem Tracks.of_max {w : ℕ → EReal} {u : ι → EReal} (h : Tracks g prim d w u) (hd : ∀ n, w n ≠ ⊥ → d < w n)
    {p : ℕ} (hp : IsPick w p) {j : ι} (hj : u j = w p) : prim j ∧ w (g j) = w p ∧ p ≤ g j := by
  by_cases hjp : prim j ∧ w (g j) ≠ ⊥
  · rw [h.of_pos hjp.1 hjp.2] at hj; exact ⟨hjp.1, hj, hp.first hj⟩
  · rw [h.of_neg hjp] at hj; exact absurd hj (hd p hp.1).ne

open Classical in
/-- Taking the pick and what it suppresses out of the candidates keeps them in step. -/
theorem Tracks.next {w : ℕ → EReal} {u u' : ι → EReal} (h : Tracks g prim d w u) {p : ℕ} (hp : IsPick w p)
    (hu : ∀ j, u' j = if sup p (g j) ∨ g j = p then d else u j) : Tracks g prim d (next sup w) u' := by
  intro j
  rw [hu j, next_of_pick hp]
  by_cases hs : g j = p ∨ sup p (g j)
  · rw [if_pos hs.symm, if_pos hs, if_neg]; exact fun h => h.2 rfl
  · rw [if_neg (fun h => hs h.symm), if_neg hs]; exact h j

/-- With no score in play the candidates stay as they are. -/
theorem Tracks.next_dead {w : ℕ → EReal} {u u' : ι → EReal} (h : Tracks g prim d w u) (hw : ∀ p, ¬ IsPick w p)
    (hz : ∀ n, w n = ⊥) (hu : ∀ j, u' j = d ∨ u' j = u j) : Tracks g prim d (Nms.next sup w) u' := by
  rw [next_of_none hw]
  intro j
  rw [if_neg (fun hh => hh.2 (hz _))]
  rcases hu j with e | e
  · exact e
  · rw [e]; exact h.dead hz j

end Track

/-! ## What the precondition grants -/

/-- Anchor `n` ranks before anchor `p` among the scores `s`. -/
def Ahead (s : ℕ → EReal) (p n : ℕ) : Prop := s p < s n ∨ (s n = s p ∧ n < p)

/-- Anchor `p` has a finite score, is among the 5000 best, and is among the 16 best of its lane, a lane with at least 16
    scores in play. -/
structure Held (s : ℕ → EReal) (p : ℕ) : Prop where
  fin : s p < ⊤
  rank : ∀ f : Fin 5000 → ℕ, Function.Injective f → ¬ ∀ i, Ahead s p (f i)
  laneRank : ∀ f : Fin 16 → ℕ, Function.Injective f → ¬ ∀ i, Ahead s p (f i) ∧ f i % 128 = p % 128
  laneLive : ∃ f : Fin 16 → ℕ, Function.Injective f ∧ ∀ i, s (f i) ≠ ⊥ ∧ f i % 128 = p % 128

/-- Each of the first hundred picks is held. -/
def AllHeld (sup : ℕ → ℕ → Prop) (s : ℕ → EReal) : Prop := ∀ k < 100, ∀ p, IsPick (left sup s k) p → Held s p

end Nms

end
-- ==== Proof.Overlap.lean ====
/- When one box suppresses another: more than half of their union is shared.  The two ways of stating the threshold, as a
quotient and as a product, agree on boxes inside the unit square. -/
module

public import proofs.«01_k».proof.Proof.Greedy

@[expose] public section

namespace Nms

open Idealize.ShloMosaic

/-- The corners of all boxes, by anchor. -/
structure Boxes where
  x1 : ℕ → EReal
  y1 : ℕ → EReal
  x2 : ℕ → EReal
  y2 : ℕ → EReal

/-- The area of a box. -/
noncomputable def areaOf (x1 y1 x2 y2 : EReal) : EReal := max (x2 - x1) 0 * max (y2 - y1) 0

/-- The area that two boxes share. -/
noncomputable def sharedOf (a1 b1 a2 b2 x1 y1 x2 y2 : EReal) : EReal :=
  max (min a2 x2 - max a1 x1) 0 * max (min b2 y2 - max b1 y1) 0

/-- The area that two boxes cover, but not less than 1e-8. -/
noncomputable def unionOf (a1 b1 a2 b2 x1 y1 x2 y2 : EReal) : EReal :=
  max (areaOf a1 b1 a2 b2 + areaOf x1 y1 x2 y2 - sharedOf a1 b1 a2 b2 x1 y1 x2 y2) (Ideal.ofBits .f32 0x322BCC77#32)

/-- Box `p` suppresses box `n`. -/
def Boxes.sup (b : Boxes) (p n : ℕ) : Prop :=
  unionOf (b.x1 p) (b.y1 p) (b.x2 p) (b.y2 p) (b.x1 n) (b.y1 n) (b.x2 n) (b.y2 n) * Ideal.ofBits .f32 0x3F000000#32
    < sharedOf (b.x1 p) (b.y1 p) (b.x2 p) (b.y2 p) (b.x1 n) (b.y1 n) (b.x2 n) (b.y2 n)

/-- A number of the unit interval. -/
def Unit01 (x : EReal) : Prop := 0 ≤ x ∧ x ≤ 1

/-- A number between zero and one is real. -/
theorem Unit01.real {x : EReal} (h : Unit01 x) : ∃ r : ℝ, x = r := by
  induction x using EReal.rec with
  | bot => exact absurd h.1 (by simp)
  | top => exact absurd h.2 (not_le.2 (EReal.coe_lt_top 1))
  | coe r => exact ⟨r, rfl⟩

/-- The word of one half. -/
theorem half_eq : Ideal.ofBits .f32 0x3F000000#32 = ((1 / 2 : ℝ) : EReal) := by
  simp [Ideal.ofBits, Ideal.ieee]
  rw [← EReal.coe_mul]; norm_num

/-- The word of the least union is a positive real. -/
theorem eps_eq : ∃ e : ℝ, 0 < e ∧ Ideal.ofBits .f32 0x322BCC77#32 = (e : EReal) := by
  refine ⟨_, ?_, by simp only [Ideal.ofBits, Ideal.ieee]; simp; rfl⟩
  positivity

/-- A real number among the extended ones. -/
def IsReal (x : EReal) : Prop := ∃ r : ℝ, x = r

/-- The larger of two reals is real. -/
theorem IsReal.max {x y : EReal} (hx : IsReal x) (hy : IsReal y) : IsReal (max x y) := by
  rcases max_choice x y with h | h <;> rw [h]
  · exact hx
  · exact hy
/-- The smaller of two reals is real. -/
theorem IsReal.min {x y : EReal} (hx : IsReal x) (hy : IsReal y) : IsReal (min x y) := by
  rcases min_choice x y with h | h <;> rw [h]
  · exact hx
  · exact hy
/-- A sum of reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- A difference of reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩
/-- A product of reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- Zero is real. -/
theorem isReal_zero : IsReal 0 := ⟨0, rfl⟩

/-- The quotient exceeds a half just if the shared area exceeds half of the union. -/
theorem half_lt_div {a1 b1 a2 b2 x1 y1 x2 y2 : EReal} (h1 : Unit01 a1) (h2 : Unit01 b1) (h3 : Unit01 a2) (h4 : Unit01 b2)
    (h5 : Unit01 x1) (h6 : Unit01 y1) (h7 : Unit01 x2) (h8 : Unit01 y2) :
    Ideal.ofBits .f32 0x3F000000#32 < Ideal.div (sharedOf a1 b1 a2 b2 x1 y1 x2 y2) (unionOf a1 b1 a2 b2 x1 y1 x2 y2)
      ↔ unionOf a1 b1 a2 b2 x1 y1 x2 y2 * Ideal.ofBits .f32 0x3F000000#32 < sharedOf a1 b1 a2 b2 x1 y1 x2 y2 := by
  have hS : IsReal (sharedOf a1 b1 a2 b2 x1 y1 x2 y2) := IsReal.mul
    (IsReal.max (IsReal.sub (IsReal.min h3.real h7.real) (IsReal.max h1.real h5.real)) isReal_zero)
    (IsReal.max (IsReal.sub (IsReal.min h4.real h8.real) (IsReal.max h2.real h6.real)) isReal_zero)
  have hA : IsReal (areaOf a1 b1 a2 b2) := IsReal.mul (IsReal.max (IsReal.sub h3.real h1.real) isReal_zero)
    (IsReal.max (IsReal.sub h4.real h2.real) isReal_zero)
  have hB : IsReal (areaOf x1 y1 x2 y2) := IsReal.mul (IsReal.max (IsReal.sub h7.real h5.real) isReal_zero)
    (IsReal.max (IsReal.sub h8.real h6.real) isReal_zero)
  obtain ⟨e, he, heq⟩ := eps_eq
  have hU : IsReal (unionOf a1 b1 a2 b2 x1 y1 x2 y2) := IsReal.max (IsReal.sub (IsReal.add hA hB) hS) ⟨e, heq⟩
  have hle : Ideal.ofBits .f32 0x322BCC77#32 ≤ unionOf a1 b1 a2 b2 x1 y1 x2 y2 := le_max_right _ _
  obtain ⟨u, hu⟩ := hU; obtain ⟨v, hv⟩ := hS
  rw [heq, hu] at hle
  rw [hu, hv, half_eq]
  have hpos : 0 < u := lt_of_lt_of_le he (EReal.coe_le_coe_iff.1 hle)
  rw [Ideal.div_coe hpos.ne', ← EReal.coe_mul, ← EReal.coe_mul, EReal.coe_lt_coe_iff, EReal.coe_lt_coe_iff, mul_one_div,
    lt_div_iff₀ hpos]
  constructor <;> intro h <;> linarith

end Nms

end
-- ==== Proof.Problem.lean ====
/- The scores and the boxes of the anchors, as functions of an anchor's number. -/
module

public import proofs.«01_k».proof.Proof.Overlap

@[expose] public section

noncomputable section

namespace Nms

open Idealize.ShloMosaic

/-- What a box has to score above. -/
abbrev threshold : EReal := Ideal.ofBits .f32 0x3D4CCCCD#32

/-- The score threshold is positive. -/
theorem threshold_pos : 0 < threshold := by
  have h : ∃ e : ℝ, 0 < e ∧ threshold = (e : EReal) := by
    refine ⟨_, ?_, by simp only [threshold, Ideal.ofBits, Ideal.ieee]; simp; rfl⟩
    positivity
  obtain ⟨e, he, h⟩ := h
  rw [h]; exact_mod_cast he

/-- The largest size factor's logarithm. -/
abbrev maxLog : EReal := ((-(Real.log (8589935 / 536870912)) : ℝ) : EReal)
/-- The smallest size factor's logarithm. -/
abbrev minLog : EReal := ((Real.log (8589935 / 536870912) : ℝ) : EReal)

/-- Half the size of a box: `s` scaled by the clipped exponential of `e`. -/
def halfSize (s e : EReal) : EReal := s * Ideal.exp (min maxLog (max minLog e)) * Ideal.ofBits .f32 0x3F000000#32

/-- A coordinate cut to the unit interval. -/
def unitClip (x : EReal) : EReal := min (Ideal.ofBits .f32 0x3F800000#32) (max 0 x)

/-- The corners of a box on one axis: centre `a` shifted by `d` sizes `s`, size scaled by `e`. -/
def lowCorner (a d s e : EReal) : EReal := unitClip (a + d * s - halfSize s e)
/-- The higher edge of a box along one axis, clipped to [0, 1]. -/
def highCorner (a d s e : EReal) : EReal := unitClip (a + d * s + halfSize s e)

/-- The word of one. -/
theorem one_eq : Ideal.ofBits .f32 0x3F800000#32 = ((1 : ℝ) : EReal) := by
  simp [Ideal.ofBits, Ideal.ieee]
  rw [← EReal.coe_mul]; norm_num

/-- The inputs: each anchor's score and class scores, the four shifts of its box, and the anchor's box. -/
structure Problem where
  score : Fin 20000 → EReal
  logit : Fin 20000 → Fin 20 → EReal
  shift : Fin 20000 → Fin 4 → EReal
  frame : Fin 20000 → Fin 4 → EReal

namespace Problem
variable (P : Problem)

/-- Class `i`'s score of anchor `n`; out of play at or below the threshold, and past the anchors. -/
def scores (i : Fin 20) (n : ℕ) : EReal :=
  if h : n < 20000 then (if threshold < P.logit ⟨n, h⟩ i * P.score ⟨n, h⟩ then P.logit ⟨n, h⟩ i * P.score ⟨n, h⟩ else ⊥) else ⊥

/-- Shift `k` of anchor `n`; zero past the anchors. -/
def shiftAt (k : Fin 4) (n : ℕ) : EReal := if h : n < 20000 then P.shift ⟨n, h⟩ k else 0
/-- Coordinate `k` of anchor `n`; zero past the anchors. -/
def frameAt (k : Fin 4) (n : ℕ) : EReal := if h : n < 20000 then P.frame ⟨n, h⟩ k else 0

/-- The boxes. -/
def boxes : Boxes where
  x1 n := lowCorner (P.frameAt 0 n) (P.shiftAt 0 n) (P.frameAt 2 n) (P.shiftAt 2 n)
  y1 n := lowCorner (P.frameAt 1 n) (P.shiftAt 1 n) (P.frameAt 3 n) (P.shiftAt 3 n)
  x2 n := highCorner (P.frameAt 0 n) (P.shiftAt 0 n) (P.frameAt 2 n) (P.shiftAt 2 n)
  y2 n := highCorner (P.frameAt 1 n) (P.shiftAt 1 n) (P.frameAt 3 n) (P.shiftAt 3 n)

/-- Past the last anchor there is no score. -/
theorem big (i : Fin 20) (n : ℕ) (hn : 20000 ≤ n) : P.scores i n = ⊥ := by
  unfold scores; rw [dif_neg (by omega)]

/-- A score in play is positive. -/
theorem pos (i : Fin 20) (n : ℕ) (hn : P.scores i n ≠ ⊥) : 0 < P.scores i n := by
  unfold scores at hn ⊢
  split
  · rename_i h
    rw [dif_pos h] at hn
    split
    · rename_i h'; exact threshold_pos.trans h'
    · rename_i h'; rw [if_neg h'] at hn; exact absurd rfl hn
  · rename_i h; rw [dif_neg h] at hn; exact absurd rfl hn

end Problem

/-- A clipped number lies between zero and one. -/
theorem unitClip_unit (x : EReal) : Unit01 (unitClip x) := by
  unfold unitClip
  rw [one_eq]
  exact ⟨le_min (by norm_num) (le_max_left _ _), min_le_left _ _⟩

end Nms

end
-- ==== Proof.Ranking.lean ====
/- A stable sort by decreasing keys, in positions: greater keys first, and of equal keys the earlier position. -/
module

public import proofs.«01_k».proof.Proof.Greedy
public import Idealize.ShloMosaic.Lib.SortPrefix

@[expose] public section

namespace Nms

open Idealize.ShloMosaic

/-- Inserting before elements on which two comparisons agree is the same insertion. -/
theorem insertBefore_agree {ι : Type} (B B' : ι → ι → Bool) (a : ι) (l : List ι) (h : ∀ b ∈ l, B b a = B' b a) :
    insertBefore B a l = insertBefore B' a l := by
  induction l with
  | nil => rfl
  | cons b l ih =>
    unfold insertBefore
    rw [h b (by simp), ih fun c hc => h c (by simp [hc])]

open Classical in
/-- Key first, then position. -/
noncomputable def rankBefore {n : ℕ} (key : Fin n → EReal) (a b : Fin n) : Bool :=
  decide (key b < key a) || (decide (key a = key b) && decide (a < b))

/-- A comparison by decreasing key. -/
def ByKey {n : ℕ} (key : Fin n → EReal) (B : Fin n → Fin n → Bool) : Prop := ∀ a b, B a b = true ↔ key b < key a

/-- On increasing positions a stable sort by key is the sort by key, then position. -/
theorem stableSort_rank {n : ℕ} {key : Fin n → EReal} {B : Fin n → Fin n → Bool} (hK : ByKey key B) (l : List (Fin n))
    (hl : l.Pairwise (· < ·)) : stableSort B l = stableSort (rankBefore key) l := by
  classical
  induction l with
  | nil => rfl
  | cons a l ih =>
    unfold stableSort
    rw [ih hl.of_cons]
    refine insertBefore_agree _ _ a _ fun b hb => ?_
    have hab : a < b := (List.pairwise_cons.1 hl).1 b ((perm_stableSort _ l).mem_iff.1 hb)
    unfold rankBefore
    rw [Bool.eq_iff_iff, hK]
    simp [not_lt_of_gt hab]

/-- The order by key and then by place is total and strict. -/
theorem rankBefore_total {n : ℕ} (key : Fin n → EReal) : StrictTotalBefore (rankBefore key) := by
  classical
  have := StrictTotalBefore.of_key_then_position (fun a b : EReal => decide (b < a)) key (by simp)
    (fun a b c h h' => by simp only [decide_eq_true_eq] at *; exact h'.trans h)
    (fun a b => by
      simp only [decide_eq_true_eq]
      rcases lt_trichotomy a b with h | h | h
      · exact Or.inr (Or.inr h)
      · exact Or.inr (Or.inl h)
      · exact Or.inl h)
  have e : rankBefore key = fun k k' : Fin n => decide (key k' < key k) || (decide (key k = key k') && decide (k < k')) := by
    funext a b
    unfold rankBefore
    rw [Bool.eq_iff_iff]
  rw [e]; exact this

/-- An earlier rank has the greater key, or an equal key and the smaller position. -/
theorem sortedFrom_lt {n : ℕ} {key : Fin n → EReal} {B : Fin n → Fin n → Bool} (hK : ByKey key B) {i j : Fin n}
    (h : i < j) : key (sortedFrom B j) < key (sortedFrom B i)
      ∨ (key (sortedFrom B i) = key (sortedFrom B j) ∧ sortedFrom B i < sortedFrom B j) := by
  classical
  have e : ∀ k, sortedFrom B k = sortedFrom (rankBefore key) k := fun k => by
    have h1 : sortPositions n B = sortPositions n (rankBefore key) :=
      stableSort_rank hK (List.finRange n) (List.pairwise_lt_finRange n)
    unfold sortedFrom
    simp [h1]
  have hB := rankBefore_total key
  have hn := sortedFrom_noInversion (rankBefore key) (rankBefore key) (fun a b h => hB.asymm a b h) (fun _ _ h => h)
    hB.negTrans i j h
  have hne : sortedFrom B i ≠ sortedFrom B j := fun h' => h.ne (sortedFrom_injective B h')
  rw [← e, ← e] at hn
  rcases hB.total _ _ hne with h' | h'
  · unfold rankBefore at h'
    simpa using h'
  · rw [hn] at h'; exact absurd h' (by decide)

end Nms

end
-- ==== Proof.Answer.lean ====
/- The answer to the posed problem: each class's hundred picks, the hundred best of all of them in order, and the six
numbers given of each. -/
module

public import proofs.«01_k».proof.Proof.Problem
public import proofs.«01_k».proof.Proof.Ranking

@[expose] public section

noncomputable section

namespace Nms

open Idealize.ShloMosaic

/-- A stable sort by key is the same whatever the comparison is called. -/
theorem sortedFrom_agree {n : ℕ} {key : Fin n → EReal} {B B' : Fin n → Fin n → Bool} (h : ByKey key B) (h' : ByKey key B') :
    sortedFrom B = sortedFrom B' := by
  have e : B = B' := by
    funext a b
    rw [Bool.eq_iff_iff, h a b, h' a b]
  rw [e]

/-- A pick's score is in play. -/
theorem scoreOf_spec {w : ℕ → EReal} (h : scoreOf ⊥ w ≠ ⊥) : ∃ p, IsPick w p ∧ scoreOf ⊥ w = w p := by
  by_cases hp : ∃ p, IsPick w p
  · obtain ⟨p, hp⟩ := hp
    exact ⟨p, hp, by unfold scoreOf; rw [pickOf_eq_some hp]; rfl⟩
  · exact absurd (by unfold scoreOf; rw [pickOf_eq_none fun p h => hp ⟨p, h⟩]; rfl) h

/-- What a pick gives out where there may be none: the score, or the mark `d`. -/
theorem scoreOf_eq (d : EReal) (w : ℕ → EReal) : scoreOf d w = if scoreOf ⊥ w = ⊥ then d else scoreOf ⊥ w := by
  by_cases hp : ∃ p, IsPick w p
  · obtain ⟨p, hp⟩ := hp
    have e : ∀ d, scoreOf d w = w p := fun d => by unfold scoreOf; rw [pickOf_eq_some hp]; rfl
    rw [e, e, if_neg hp.1]
  · have e : ∀ d, scoreOf d w = d := fun d => by unfold scoreOf; rw [pickOf_eq_none fun p h => hp ⟨p, h⟩]; rfl
    rw [e, e, if_pos rfl]

namespace Problem

variable (P : Problem)

/-- The class of position `p` of the 20 · 100 picks. -/
def classOf (p : Fin 2000) : Fin 20 := ⟨p.val / 100, by omega⟩

/-- The scores that pick `p` is taken from. -/
def stage (p : Fin 2000) : ℕ → EReal := left P.boxes.sup (P.scores (classOf p)) (p.val % 100)

/-- The score of pick `p`. -/
def best (p : Fin 2000) : EReal := scoreOf ⊥ (P.stage p)

/-- A pick's score, where there is one, is positive. -/
theorem best_pos (p : Fin 2000) (h : P.best p ≠ ⊥) : 0 < P.best p := by
  obtain ⟨n, hn, e⟩ := scoreOf_spec h
  unfold best
  rw [e, stage, left_eq _ _ hn.1]
  exact P.pos _ n fun e' => hn.1 (left_bot e' _)

open Classical in
/-- The better pick comes first. -/
def byBest (a b : Fin 2000) : Bool := decide (P.best b < P.best a)

/-- The order by score is the one that the scores are the keys of. -/
theorem byBest_key : ByKey P.best P.byBest := fun a b => by simp [byBest]

/-- The pick in place `t` of the answer. -/
def chosen (t : Fin 100) : Fin 2000 := sortedFrom P.byBest ⟨t.val, by omega⟩

open Classical in
/-- The six numbers in place `t` of the answer. -/
def answer (t : Fin 100) : Fin 6 → EReal :=
  ![coordOf P.boxes.x1 (P.stage (P.chosen t)), coordOf P.boxes.y1 (P.stage (P.chosen t)), coordOf P.boxes.x2 (P.stage (P.chosen t)),
    coordOf P.boxes.y2 (P.stage (P.chosen t)), if 0 < P.best (P.chosen t) then P.best (P.chosen t) else 0,
    (((P.chosen t).val / 100 : ℕ) : EReal)]

end Problem

end Nms

end

end
-- ==== Proof.KernelRounds.lean ====
/- The sixteen rounds of the body, as one round repeated: what each round reads, and the pieces it leaves in the
candidate buffers. -/
module

public import proofs.«01_k».proof.Proof.KernelIdealFrame
public import Idealize.ShloMosaic.Lib.VecWindow
public import Idealize.ShloMosaic.Lib.Pointwise

@[expose] public section

set_option maxRecDepth 16384

noncomputable section

namespace Cert.KernelIdeal.Body

open Cert.KernelIdeal Cert.KernelIdeal.Gen Idealize.ShloMosaic

variable {F : FTy → Type} [FloatOps F] [Named F]

/-! ## One round -/

/-- The number of each row. -/
def rowNo : IVec S20x160x128 32 := iota .tc S20x160x128 32 [1] iota_S20x160x128_d1_w32

/-- The number of each lane. -/
def laneNo : IVec S20x128 32 := iota .tc S20x128 32 [1] iota_S20x128_d1_w32

/-- The best score of each lane. -/
def roundMax (z : Vec F S20x160x128 .f32) : FVec F S20x1x128 .f32 :=
  shapeCast S20x1x128 (multiReduction .maximumf [1] S20x128 z 0xFF800000#32 reduces_S20x160x128_S20x128 (.inl rfl) rfl)
    shapeCasts_S20x128_S20x1x128

/-- The first row of each lane with that score. -/
def roundRow (z : Vec F S20x160x128 .f32) : IVec S20x1x128 32 :=
  shapeCast S20x1x128 (multiReductionI .minsi [1] S20x128
    (select (cmpf .oeq z (broadcastTo S20x160x128 (roundMax z) broadcasts_S20x1x128_S20x160x128)) rowNo
      (broadcast S20x160x128 1073741824#32)) 2147483647#32 reduces_S20x160x128_S20x128 rfl) shapeCasts_S20x128_S20x1x128

/-- The row taken in each lane, marked. -/
def roundSel (z : Vec F S20x160x128 .f32) : IVec S20x160x128 1 :=
  cmpi .eq rowNo (broadcastTo S20x160x128 (roundRow z) broadcasts_S20x1x128_S20x160x128)

/-- The scores after the round: the taken rows out of play. -/
def roundNext (z : Vec F S20x160x128 .f32) : Vec F S20x160x128 .f32 :=
  shapeCast S20x160x128 (select (roundSel z) (broadcast S20x160x128 (Scalar.ofBits .f32 0xF149F2CA#32 : F .f32)) z)
    shapeCasts_S20x160x128_S20x160x128

/-- The scores that the round leaves as candidates. -/
def roundScore (z : Vec F S20x160x128 .f32) : FVec F S20x128 .f32 :=
  shapeCast S20x128 (shapeCast S20x128 (roundMax z) shapeCasts_S20x1x128_S20x128) shapeCasts_S20x128_S20x128

/-- The anchors that the round leaves as candidates. -/
def roundAnchor (z : Vec F S20x160x128 .f32) : IVec S20x128 32 :=
  shapeCast S20x128 (addi (muli (shapeCast S20x128 (roundRow z) shapeCasts_S20x1x128_S20x128) (broadcast S20x128 128#32))
    laneNo) shapeCasts_S20x128_S20x128

/-- The values `x` of the rows taken. -/
def roundAt (z : Vec F S20x160x128 .f32) (x : FVec F S1x160x128 .f32) : FVec F S20x128 .f32 :=
  shapeCast S20x128 (shapeCast S20x128 (shapeCast S20x1x128 (multiReduction .add [1] S20x128
    (mulf (sitofp .f32 (extui 32 (roundSel z) natLt_1_32)) (broadcastTo S20x160x128 x broadcasts_S1x160x128_S20x160x128))
    0x00000000#32 reduces_S20x160x128_S20x128 (.inl rfl) rfl) shapeCasts_S20x128_S20x1x128) shapeCasts_S20x1x128_S20x128)
    shapeCasts_S20x128_S20x128

/-- The scores before round `r`. -/
def works (z : Vec F S20x160x128 .f32) : ℕ → Vec F S20x160x128 .f32
  | 0 => z
  | r + 1 => roundNext (works z r)

/-! ## Sixteen pieces side by side -/

/-- A round's piece lies within the list. -/
theorem piece_inb {r : ℕ} (h : r < 16) (a : Fin S20x2048.rank) : (![0, 128 * r] : Fin 2 → ℕ) a + S20x128.size a ≤ S20x2048.size a := by
  fin_cases a
  · exact Nat.le_refl 20
  · show 128 * r + 128 ≤ 2048; omega

/-- The first `k` of sixteen stores, each of 128 columns, the last one first. -/
def sideBySide {e : EltTy} (f : Fin 16 → S20x128.Idx → Elt F e) : ℕ → List (View.Piece (Elt F) S20x2048 e)
  | 0 => []
  | k + 1 => if h : k < 16 then ⟨Rect.unit ![0, 128 * k] S20x128.size (piece_inb h), f ⟨k, h⟩⟩ :: sideBySide f k
      else sideBySide f k

/-- After sixteen stores side by side, column `128 r + l` holds what store `r` put at `l`. -/
theorem read_sideBySide {e : EltTy} (v : View sig .tc .vmem S20x2048 e) (g : v.ty.Contents (Elt F))
    (f : Fin 16 → S20x128.Idx → Elt F e) (i : Fin 20) (r : Fin 16) (l : Fin 128) (k : ℕ) (hk : k ≤ 16) (hr : r.val < k) :
    v.read (Elt F) (v.writes (Elt F) g (sideBySide f k)) (ix2 i ⟨128 * r.val + l.val, by omega⟩) = f r (ix2 i l) := by
  induction k with
  | zero => omega
  | succ k ih =>
    rw [sideBySide, dif_pos (by omega : k < 16)]
    rcases Nat.lt_succ_iff_lt_or_eq.1 hr with h | h
    · rw [View.read_writes_cons_unit_of_not_mem v g (piece_inb (by omega)) _ _ _ rfl 1 (Or.inl (by
        show 128 * r.val + l.val < 128 * k; omega))]
      exact ih (by omega) h
    · subst h
      refine View.read_writes_cons_unit_of_mem v g (piece_inb (by omega)) _ _ _ (ix2 i l) rfl fun a => ?_
      fin_cases a
      · exact (Nat.zero_add _).symm
      · rfl

/-! ## The rounds of the run -/

section Run
variable (c : Dev nD)
  (arg0 : Memref sig .tc .vmem S20x160x128 .f32) (harg0 : arg0.IsWhole) (arg1 : Memref sig .tc .vmem S1x160x128 .f32) (harg1 : arg1.IsWhole)
  (arg2 : Memref sig .tc .vmem S8x160x128 .f32) (harg2 : arg2.IsWhole) (arg9 : Memref sig .tc .vmem S20x160x128 .f32)
  (x0 : Vec F S20x160x128 .f32) (x1 : Vec F S1x160x128 .f32) (x2 : Vec F S8x160x128 .f32)

/-- What each round of the run reads. -/
def found : Fin 16 → Vec F S20x160x128 .f32 :=
  ![bodyRun.sl.v82 c arg0 harg0 arg1 harg1 arg9 x0 x1,
      bodyRun.sl.v151 c arg0 harg0 arg1 harg1 arg9 x0 x1,
      bodyRun.sl.v220 c arg0 harg0 arg1 harg1 arg9 x0 x1,
      bodyRun.sl.v289 c arg0 harg0 arg1 harg1 arg9 x0 x1,
      bodyRun.sl.v358 c arg0 harg0 arg1 harg1 arg9 x0 x1,
      bodyRun.sl.v427 c arg0 harg0 arg1 harg1 arg9 x0 x1,
      bodyRun.sl.v496 c arg0 harg0 arg1 harg1 arg9 x0 x1,
      bodyRun.sl.v565 c arg0 harg0 arg1 harg1 arg9 x0 x1,
      bodyRun.sl.v634 c arg0 harg0 arg1 harg1 arg9 x0 x1,
      bodyRun.sl.v703 c arg0 harg0 arg1 harg1 arg9 x0 x1,
      bodyRun.sl.v772 c arg0 harg0 arg1 harg1 arg9 x0 x1,
      bodyRun.sl.v841 c arg0 harg0 arg1 harg1 arg9 x0 x1,
      bodyRun.sl.v910 c arg0 harg0 arg1 harg1 arg9 x0 x1,
      bodyRun.sl.v979 c arg0 harg0 arg1 harg1 arg9 x0 x1,
      bodyRun.sl.v1048 c arg0 harg0 arg1 harg1 arg9 x0 x1,
      bodyRun.sl.v1117 c arg0 harg0 arg1 harg1 arg9 x0 x1]

/-- The scores before the first round. -/
def start : Vec F S20x160x128 .f32 := bodyRun.sl.v79 c arg0 harg0 arg1 harg1 x0 x1

/-- A round starts from what the round before leaves. -/
theorem found_succ (r : Fin 15) : found c arg0 harg0 arg1 harg1 arg9 x0 x1 r.succ = roundNext (found c arg0 harg0 arg1 harg1 arg9 x0 x1 r.castSucc) := by
  fin_cases r <;> exact View.readCov_full arg9.view _ _ _ _

/-- The scores that a round starts from. -/
theorem found_eq (r : Fin 16) : found c arg0 harg0 arg1 harg1 arg9 x0 x1 r = works (start c arg0 harg0 arg1 harg1 x0 x1) r.val := by
  induction r using Fin.induction with
  | zero => exact View.readCov_full arg9.view _ _ _ _
  | succ r ih => rw [found_succ, ih]; rfl

/-- The list's scores are the rounds' side by side. -/
theorem pieces_score : bodyRun.sl.H10_16 c arg0 harg0 arg1 harg1 arg9 x0 x1 = sideBySide (fun r => roundScore (found c arg0 harg0 arg1 harg1 arg9 x0 x1 r)) 16 := rfl
/-- The list's anchors are the rounds' side by side. -/
theorem pieces_anchor : bodyRun.sl.H11_16 c arg0 harg0 arg1 harg1 arg9 x0 x1 = sideBySide (e := .i32) (fun r => roundAnchor (F := F) (found c arg0 harg0 arg1 harg1 arg9 x0 x1 r)) 16 := rfl
/-- The list's left edges are the rounds' side by side. -/
theorem pieces_x1 : bodyRun.sl.H12_16 c arg0 harg0 arg1 harg1 arg2 harg2 arg9 x0 x1 x2
    = sideBySide (fun r => roundAt (found c arg0 harg0 arg1 harg1 arg9 x0 x1 r) (bodyRun.sl.v38 c arg2 harg2 x2)) 16 := rfl
/-- The list's upper edges are the rounds' side by side. -/
theorem pieces_y1 : bodyRun.sl.H13_16 c arg0 harg0 arg1 harg1 arg2 harg2 arg9 x0 x1 x2
    = sideBySide (fun r => roundAt (found c arg0 harg0 arg1 harg1 arg9 x0 x1 r) (bodyRun.sl.v45 c arg2 harg2 x2)) 16 := rfl
/-- The list's right edges are the rounds' side by side. -/
theorem pieces_x2 : bodyRun.sl.H14_16 c arg0 harg0 arg1 harg1 arg2 harg2 arg9 x0 x1 x2
    = sideBySide (fun r => roundAt (found c arg0 harg0 arg1 harg1 arg9 x0 x1 r) (bodyRun.sl.v52 c arg2 harg2 x2)) 16 := rfl
/-- The list's lower edges are the rounds' side by side. -/
theorem pieces_y2 : bodyRun.sl.H15_16 c arg0 harg0 arg1 harg1 arg2 harg2 arg9 x0 x1 x2
    = sideBySide (fun r => roundAt (found c arg0 harg0 arg1 harg1 arg9 x0 x1 r) (bodyRun.sl.v59 c arg2 harg2 x2)) 16 := rfl
/-- The list's areas are the rounds' side by side. -/
theorem pieces_area : bodyRun.sl.H16_16 c arg0 harg0 arg1 harg1 arg2 harg2 arg9 x0 x1 x2
    = sideBySide (fun r => roundAt (found c arg0 harg0 arg1 harg1 arg9 x0 x1 r) (bodyRun.sl.v66 c arg2 harg2 x2)) 16 := rfl

end Run

end Cert.KernelIdeal.Body

end
-- ==== Proof.KernelList.lean ====
/- The first loop of the body as a function of the candidates: the picks it carries, and the scores it leaves. -/
module

public import proofs.«01_k».proof.Proof.KernelIdealFrame
public import Idealize.ShloMosaic.Lib.VecWindow

@[expose] public section

set_option maxRecDepth 16384

noncomputable section

namespace Cert.KernelIdeal.Body

open Cert.KernelIdeal Cert.KernelIdeal.Gen Idealize.ShloMosaic
variable {F : FTy → Type} [FloatOps F] [Named F]

/-- What the first loop carries in values: five rows of picks, one column per trip. -/
abbrev Carried (F : FTy → Type) : Type :=
  FVec F S20x128 .f32 × FVec F S20x128 .f32 × FVec F S20x128 .f32 × FVec F S20x128 .f32 × FVec F S20x128 .f32

/-- One trip of the first loop, as a function of the picks so far and the candidates' scores. -/
def listStep (w : IVec S20x128 32) (c0 : BitVec 32) (ids : Vec F S20x2048 .i32) (a1 b1 a2 b2 ar : Vec F S20x2048 .f32)
    (k : Fin k0_t1_loop.trips) (T : Carried F × Vec F S20x2048 .f32) : Carried F × Vec F S20x2048 .f32 :=
  ((k0_pay14 w T.1.1 (Scf.iv c0 1#32 k) (k0_pay1 T.2),
    k0_pay15 w T.1.2.1 (Scf.iv c0 1#32 k) (k0_pay1 T.2) (k0_pay4 T.2 ids a1),
    k0_pay254 T.1.2.2.1 (k0_pay13 w (Scf.iv c0 1#32 k)) (k0_pay16 (k0_pay1 T.2) (k0_pay5 T.2 ids b1)),
    k0_pay255 T.1.2.2.2.1 (k0_pay6 T.2 ids a2) (k0_pay12 (k0_pay1 T.2)) (k0_pay13 w (Scf.iv c0 1#32 k)),
    k0_pay256 T.1.2.2.2.2 (k0_pay7 T.2 ids b2) (k0_pay12 (k0_pay1 T.2)) (k0_pay13 w (Scf.iv c0 1#32 k))),
   k0_pay11 T.2 a1 b1 a2 b2 ar (k0_pay2 T.2 ids) (k0_pay4 T.2 ids a1) (k0_pay5 T.2 ids b1) (k0_pay6 T.2 ids a2)
     (k0_pay7 T.2 ids b2) (k0_pay8 T.2 ids a1 a2) (k0_pay9 T.2 ids b1 b2) (k0_pay10 (F := F)))

/-- The first loop's values before trip `k`. -/
def lists (w : IVec S20x128 32) (c0 : BitVec 32) (ids : Vec F S20x2048 .i32) (a1 b1 a2 b2 ar : Vec F S20x2048 .f32)
    (init : Carried F × Vec F S20x2048 .f32) : ℕ → Carried F × Vec F S20x2048 .f32
  | 0 => init
  | k + 1 => if h : k < k0_t1_loop.trips then listStep w c0 ids a1 b1 a2 b2 ar ⟨k, h⟩ (lists w c0 ids a1 b1 a2 b2 ar init k)
      else lists w c0 ids a1 b1 a2 b2 ar init k

/-- The whole of a candidate buffer. -/
abbrev allOf : Rect S20x2048 := Rect.unit ![0, 0] S20x2048.size (by decide)

/-- The state of the first loop after one more trip. -/
theorem lists_succ (w : IVec S20x128 32) (c0 : BitVec 32) (ids : Vec F S20x2048 .i32) (a1 b1 a2 b2 ar : Vec F S20x2048 .f32)
    (init : Carried F × Vec F S20x2048 .f32) (k : Fin k0_t1_loop.trips) :
    lists w c0 ids a1 b1 a2 b2 ar init (k.val + 1) = listStep w c0 ids a1 b1 a2 b2 ar k (lists w c0 ids a1 b1 a2 b2 ar init k.val) := by
  rw [lists]; exact dif_pos k.isLt

variable (c : Dev nD) (t : Fin cfg0.N) (w : IVec S20x128 32) (c0 : BitVec 32)

/-- What one trip of the first loop leaves in its carried arrays. -/
theorem trip_words (X11 X12 X13 X14 X15 X16) (k : Fin k0_t1_loop.trips) (acc : Carried F) f
  (T : _) (hT : T = listStep w c0 (sc2.view.readAt (Elt F) allOf.toLoadRect X11) (sc3.view.readAt (Elt F) allOf.toLoadRect X12) (sc4.view.readAt (Elt F) allOf.toLoadRect X13)
    (sc5.view.readAt (Elt F) allOf.toLoadRect X14) (sc6.view.readAt (Elt F) allOf.toLoadRect X15) (sc7.view.readAt (Elt F) allOf.toLoadRect X16) k
      (acc, sc1.view.readAt (Elt F) allOf.toLoadRect f)) :
  tripR_k0_t1 (F := F)  Variants.none c none (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) w c0 X11 X12 X13 X14 X15 X16 k acc f = T.1 ∧
  tripL_k0_t1 (F := F)  Variants.none c none (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) w c0 X11 X12 X13 X14 X15 X16 k acc f = [⟨allOf, T.2⟩] := by
  subst hT; simp only [tripR_k0_t1, tripL_k0_t1]
  unfold trip_k0_t1; dsimp only
  constructor
  · rfl
  · rfl

/-- The loop's state before trip `k`: what it carries, and what the scores' buffer reads. -/
theorem state_words (X11 X12 X13 X14 X15 X16 G10) (init : Carried F) (k : ℕ) (hk : k ≤ k0_t1_loop.trips)
    (S : _) (hS : S = st_k0_t1 (F := F) Variants.none c none (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) w c0 X11 X12 X13 X14 X15 X16 G10 init k)
    (T : _) (hT : T = lists w c0 (sc2.view.read (Elt F) X11) (sc3.view.read (Elt F) X12) (sc4.view.read (Elt F) X13)
      (sc5.view.read (Elt F) X14) (sc6.view.read (Elt F) X15) (sc7.view.read (Elt F) X16) (init, sc1.view.read (Elt F) G10) k) :
    S.1 = T.1 ∧ sc1.view.read (Elt F) (sc1.view.writes (Elt F) G10 S.2) = T.2 := by
  induction k generalizing S T with
  | zero => subst hS; subst hT; exact ⟨rfl, rfl⟩
  | succ k ih =>
    have hk' : k < k0_t1_loop.trips := hk
    obtain ⟨h1, h2⟩ := ih (by omega) _ rfl _ rfl
    rw [st_k0_t1_succ Variants.none c none (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) w c0 X11 X12 X13 X14 X15 X16 G10 init ⟨k, hk'⟩] at hS
    rw [lists_succ _ _ _ _ _ _ _ _ _ ⟨k, hk'⟩] at hT
    have hw := fun acc f => trip_words c t w c0 X11 X12 X13 X14 X15 X16 ⟨k, hk'⟩ acc f _ rfl
    rw [(hw _ _).1, (hw _ _).2] at hS
    simp only [View.readAt_full, h1, h2] at hS
    subst hS; subst hT
    exact ⟨rfl, View.read_writes_full _ _ _ _ _⟩

end Cert.KernelIdeal.Body
end
-- ==== Proof.KernelOut.lean ====
/- What the body leaves in the outputs, in terms of the candidates: the rounds' pieces joined, the first loop's picks,
and the second loop's draws. -/
module

public import proofs.«01_k».proof.Proof.KernelRounds
public import proofs.«01_k».proof.Proof.KernelList

@[expose] public section

set_option maxRecDepth 16384

noncomputable section

namespace Cert.KernelIdeal.Body

open Cert.KernelIdeal Cert.KernelIdeal.Gen Idealize.ShloMosaic

variable {F : FTy → Type} [FloatOps F] [Named F]

/-- Sixteen pieces of 128 columns, side by side. -/
def joined {e : EltTy} (f : ℕ → S20x128.Idx → Elt F e) : Vec F S20x2048 e :=
  fun y => f ((y 1).val / 128) (ix2 (y 0) ⟨(y 1).val % 128, Nat.mod_lt _ (by decide)⟩)

/-- A buffer written with sixteen pieces side by side reads them joined. -/
theorem read_joined {e : EltTy} (v : View sig .tc .vmem S20x2048 e) (g : v.ty.Contents (Elt F))
    (f : ℕ → S20x128.Idx → Elt F e) : v.read (Elt F) (v.writes (Elt F) g (sideBySide (fun r => f r.val) 16)) = joined f := by
  funext y
  have h1 : (y 1).val < 2048 := (y 1).isLt
  have hr : (y 1).val / 128 < 16 := by omega
  have hl : (y 1).val % 128 < 128 := Nat.mod_lt _ (by decide)
  have e : y = ix2 (y 0) ⟨128 * (⟨(y 1).val / 128, hr⟩ : Fin 16).val + (⟨(y 1).val % 128, hl⟩ : Fin 128).val, by
      show 128 * ((y 1).val / 128) + (y 1).val % 128 < 2048; omega⟩ := by
    funext a
    fin_cases a
    · rfl
    · exact Fin.ext (Nat.div_add_mod _ _).symm
  have := read_sideBySide v g (fun r => f r.val) (y 0) ⟨(y 1).val / 128, hr⟩ ⟨(y 1).val % 128, hl⟩ 16 (le_refl _) hr
  exact (congrArg _ e).trans this

/-- The rows that the first loop starts from. -/
def noPicks : Carried F :=
  (broadcast S20x128 (Scalar.ofBits .f32 0xFF61B1E6#32), broadcast S20x128 (Scalar.ofBits .f32 0x00000000#32),
    broadcast S20x128 (Scalar.ofBits .f32 0x00000000#32), broadcast S20x128 (Scalar.ofBits .f32 0x00000000#32),
    broadcast S20x128 (Scalar.ofBits .f32 0x00000000#32))

/-- The first loop's picks of the lists that the rounds leave from the scores `z` and the coordinates. -/
def picksOf (z : Vec F S20x160x128 .f32) (a1 b1 a2 b2 ar : FVec F S1x160x128 .f32) (k : ℕ) : Carried F × Vec F S20x2048 .f32 :=
  lists laneNo 0#32 (joined (e := .i32) fun r => roundAnchor (F := F) (works z r)) (joined fun r => roundAt (works z r) a1)
    (joined fun r => roundAt (works z r) b1) (joined fun r => roundAt (works z r) a2) (joined fun r => roundAt (works z r) b2)
    (joined fun r => roundAt (works z r) ar) (noPicks, joined fun r => roundScore (works z r)) k

/-- The second loop's draws from the picks. -/
def drawn (S : Carried F) : Drawn F :=
  draws laneNo S.2.1 S.2.2.1 S.2.2.2.1 S.2.2.2.2 (S.1, k0_pay259 (F := F), k0_pay259 (F := F), k0_pay259 (F := F),
    k0_pay259 (F := F), k0_pay259 (F := F), k0_pay259 (F := F)) (Scf.trips 0#32 (Scalar.addi 0#32 100#32) 1#32)

section Out
variable (m : (ℓ : Loc nD τ sig) → Buf (Elt F) ℓ) (c : Dev nD) (t : Fin cfg0.N)

/-- The first loop's state at its end. -/
abbrev listed : Carried F × List (View.Piece (Elt F) S20x2048 .f32) :=
  st_k0_t1 (F := F) Variants.none c none (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) bodyRun.sl.v81 0#32
    ((View.whole cc0_scratch2 : View sig .tc .vmem S20x2048 .i32).writes (Elt F) (View.whole cc0_scratch2).junk (bodyRun.sl.H11_16 c (ms0 t) (hs0 t) (ms1 t) (hs1 t) sc0 (iblk m c 0 t) (iblk m c 1 t)))
    ((View.whole cc0_scratch3 : View sig .tc .vmem S20x2048 .f32).writes (Elt F) (View.whole cc0_scratch3).junk (bodyRun.sl.H12_16 c (ms0 t) (hs0 t) (ms1 t) (hs1 t) (ms2 t) (hs2 t) sc0 (iblk m c 0 t) (iblk m c 1 t) (iblk m c 2 t)))
    ((View.whole cc0_scratch4 : View sig .tc .vmem S20x2048 .f32).writes (Elt F) (View.whole cc0_scratch4).junk (bodyRun.sl.H13_16 c (ms0 t) (hs0 t) (ms1 t) (hs1 t) (ms2 t) (hs2 t) sc0 (iblk m c 0 t) (iblk m c 1 t) (iblk m c 2 t)))
    ((View.whole cc0_scratch5 : View sig .tc .vmem S20x2048 .f32).writes (Elt F) (View.whole cc0_scratch5).junk (bodyRun.sl.H14_16 c (ms0 t) (hs0 t) (ms1 t) (hs1 t) (ms2 t) (hs2 t) sc0 (iblk m c 0 t) (iblk m c 1 t) (iblk m c 2 t)))
    ((View.whole cc0_scratch6 : View sig .tc .vmem S20x2048 .f32).writes (Elt F) (View.whole cc0_scratch6).junk (bodyRun.sl.H15_16 c (ms0 t) (hs0 t) (ms1 t) (hs1 t) (ms2 t) (hs2 t) sc0 (iblk m c 0 t) (iblk m c 1 t) (iblk m c 2 t)))
    ((View.whole cc0_scratch7 : View sig .tc .vmem S20x2048 .f32).writes (Elt F) (View.whole cc0_scratch7).junk (bodyRun.sl.H16_16 c (ms0 t) (hs0 t) (ms1 t) (hs1 t) (ms2 t) (hs2 t) sc0 (iblk m c 0 t) (iblk m c 1 t) (iblk m c 2 t)))
    ((View.whole cc0_scratch1 : View sig .tc .vmem S20x2048 .f32).writes (Elt F) (View.whole cc0_scratch1).junk (bodyRun.sl.H10_16 c (ms0 t) (hs0 t) (ms1 t) (hs1 t) sc0 (iblk m c 0 t) (iblk m c 1 t)))
    (bodyRun.sl.v1187, bodyRun.sl.v1188, bodyRun.sl.v1188, bodyRun.sl.v1188, bodyRun.sl.v1188) (Scf.trips 0#32 (Scalar.addi 0#32 100#32) 1#32)

/-- The picks, from the blocks that the body reads. -/
def picked : Carried F :=
  (picksOf (start c (ms0 t) (hs0 t) (ms1 t) (hs1 t) (iblk m c 0 t) (iblk m c 1 t)) (bodyRun.sl.v38 c (ms2 t) (hs2 t) (iblk m c 2 t)) (bodyRun.sl.v45 c (ms2 t) (hs2 t) (iblk m c 2 t)) (bodyRun.sl.v52 c (ms2 t) (hs2 t) (iblk m c 2 t)) (bodyRun.sl.v59 c (ms2 t) (hs2 t) (iblk m c 2 t))
    (bodyRun.sl.v66 c (ms2 t) (hs2 t) (iblk m c 2 t)) (Scf.trips 0#32 (Scalar.addi 0#32 100#32) 1#32)).1

/-- The first loop's result, as its picks. -/
theorem listed_eq : (listed m c t).1 = picked m c t := by
  unfold listed
  rw [pieces_score, pieces_anchor, pieces_x1, pieces_y1, pieces_x2, pieces_y2, pieces_area]
  simp only [found_eq]
  rw [(state_words c t _ _ _ _ _ _ _ _ _ _ _ (le_refl _) _ rfl _ rfl).1]
  have hat := fun (v : View sig .tc .vmem S20x2048 .f32) g (x : FVec F S1x160x128 .f32) =>
    read_joined (F := F) (e := .f32) v g fun r => roundAt (works (start c (ms0 t) (hs0 t) (ms1 t) (hs1 t) (iblk m c 0 t) (iblk m c 1 t)) r) x
  simp only [hat, read_joined (F := F) (e := .f32) _ _ fun r => roundScore (works (start c (ms0 t) (hs0 t) (ms1 t) (hs1 t) (iblk m c 0 t) (iblk m c 1 t)) r),
    read_joined (F := F) (e := .i32) _ _ fun r => roundAnchor (F := F) (works (start c (ms0 t) (hs0 t) (ms1 t) (hs1 t) (iblk m c 0 t) (iblk m c 1 t)) r)]
  have e1 : bodyRun.sl.v81 = laneNo := rfl
  have e2 : (bodyRun.sl.v1187 (F := F), bodyRun.sl.v1188 (F := F), bodyRun.sl.v1188 (F := F), bodyRun.sl.v1188 (F := F),
      bodyRun.sl.v1188 (F := F)) = noPicks (F := F) := rfl
  unfold picked picksOf
  rw [e1, e2]

/-- Result row 1 of the call is that of the draws. -/
theorem out3_eq : out3 m c t = (drawn (picked m c t)).2.1 := by
  rw [← listed_eq]; exact View.read_writes_full VO3 VO3.junk _ _ _
/-- Result row 2 of the call is that of the draws. -/
theorem out4_eq : out4 m c t = (drawn (picked m c t)).2.2.1 := by
  rw [← listed_eq]; exact View.read_writes_full VO4 VO4.junk _ _ _
/-- Result row 3 of the call is that of the draws. -/
theorem out5_eq : out5 m c t = (drawn (picked m c t)).2.2.2.1 := by
  rw [← listed_eq]; exact View.read_writes_full VO5 VO5.junk _ _ _
/-- Result row 4 of the call is that of the draws. -/
theorem out6_eq : out6 m c t = (drawn (picked m c t)).2.2.2.2.1 := by
  rw [← listed_eq]; exact View.read_writes_full VO6 VO6.junk _ _ _
/-- Result row 5 of the call is that of the draws. -/
theorem out7_eq : out7 m c t = (drawn (picked m c t)).2.2.2.2.2.1 := by
  rw [← listed_eq]; exact View.read_writes_full VO7 VO7.junk _ _ _
/-- Result row 6 of the call is that of the draws. -/
theorem out8_eq : out8 m c t = (drawn (picked m c t)).2.2.2.2.2.2 := by
  rw [← listed_eq]; exact View.read_writes_full VO8 VO8.junk _ _ _

end Out

end Cert.KernelIdeal.Body

end
-- ==== Proof.Best.lean ====
/- The two reductions that find a best score and the first place that has it, and the sum that reads a value there. -/
module

public import Idealize.ShloMosaic.Lib.IdealHost
public import Idealize.ShloMosaic.Lib.Pointwise

@[expose] public section

namespace Nms

open Idealize.ShloMosaic

/-- The word of minus infinity. -/
theorem negInf : Ideal.ofBits .f32 0xFF800000#32 = ⊥ := by simp [Ideal.ofBits, Ideal.ieee]

/-- A maximum over a nonempty family bounds it and is attained. -/
theorem max_spec {ι : Type} [Fintype ι] [Nonempty ι] (x : ι → EReal) :
    (∀ j, x j ≤ Finset.fold max (Ideal.ofBits .f32 0xFF800000#32) x Finset.univ)
      ∧ ∃ j, x j = Finset.fold max (Ideal.ofBits .f32 0xFF800000#32) x Finset.univ := by
  classical
  rw [negInf]
  have hle : ∀ j, x j ≤ Finset.fold max ⊥ x Finset.univ := fun j =>
    (Finset.le_fold_max _).2 (Or.inr ⟨j, Finset.mem_univ j, le_refl _⟩)
  refine ⟨hle, ?_⟩
  obtain ⟨j, -, hj⟩ := Finset.exists_max_image (Finset.univ : Finset ι) x ⟨Classical.arbitrary ι, Finset.mem_univ _⟩
  exact ⟨j, le_antisymm (hle j) ((Finset.fold_max_le _).2 ⟨bot_le, fun k hk => hj k hk⟩)⟩

/-- The smaller of two words as numbers. -/
theorem minsi_toInt (x y : BitVec 32) : (IntOp.minsi x y).toInt = min x.toInt y.toInt ∧ (IntOp.minsi x y = x ∨ IntOp.minsi x y = y) := by
  unfold IntOp.minsi
  split
  · rename_i h; rw [BitVec.slt_iff_toInt_lt] at h; exact ⟨(min_eq_left h.le).symm, Or.inl rfl⟩
  · rename_i h; rw [BitVec.slt_iff_toInt_lt] at h; exact ⟨(min_eq_right (not_lt.1 h)).symm, Or.inr rfl⟩

/-- A minimum of words bounds the family, and is the start or one of the family. -/
theorem min_spec {ι : Type} (f : ι → BitVec 32) (s : Finset ι) :
    (∀ j ∈ s, (Finset.fold IntOp.minsi (2147483647#32) f s).toInt ≤ (f j).toInt)
      ∧ (Finset.fold IntOp.minsi (2147483647#32) f s = 2147483647#32 ∨ ∃ j ∈ s, Finset.fold IntOp.minsi (2147483647#32) f s = f j) := by
  classical
  induction s using Finset.induction_on with
  | empty => exact ⟨fun j hj => absurd hj (Finset.notMem_empty j), Or.inl rfl⟩
  | insert a s ha ih =>
    rw [Finset.fold_insert ha]
    obtain ⟨h1, h2⟩ := minsi_toInt (f a) (Finset.fold IntOp.minsi (2147483647#32) f s)
    constructor
    · intro j hj
      rw [h1]
      rcases Finset.mem_insert.1 hj with rfl | hj
      · exact min_le_left _ _
      · exact (min_le_right _ _).trans (ih.1 j hj)
    · rcases h2 with h2 | h2
      · exact Or.inr ⟨a, Finset.mem_insert_self a s, h2⟩
      · rw [h2]
        rcases ih.2 with h | ⟨j, hj, h⟩
        · exact Or.inl h
        · exact Or.inr ⟨j, Finset.mem_insert_of_mem hj, h⟩

/-- A word whose number is small is that number as a signed one. -/
theorem toInt_small {x : BitVec 32} {n : ℕ} (hx : x.toNat = n) (hn : n < 1073741824) : x.toInt = n := by
  rw [BitVec.toInt_eq_toNat_cond, if_pos (by omega)]; exact_mod_cast hx

/-- The minimum of the numbers of the marked members is the number of a first one. -/
theorem first_spec {ι : Type} [Fintype ι] (num : ι → BitVec 32) (n : ι → ℕ) (hn : ∀ j, (num j).toNat = n j)
    (hlt : ∀ j, n j < 1073741824) (P : ι → Prop) [DecidablePred P] (hP : ∃ j, P j) :
    ∃ j, P j ∧ Finset.fold IntOp.minsi (2147483647#32) (fun j => if P j then num j else 1073741824#32) Finset.univ = num j
      ∧ ∀ k, P k → n j ≤ n k := by
  obtain ⟨h1, h2⟩ := min_spec (fun j => if P j then num j else 1073741824#32) Finset.univ
  have hle : ∀ k, P k → (Finset.fold IntOp.minsi (2147483647#32) (fun j => if P j then num j else 1073741824#32) Finset.univ).toInt
      ≤ n k := fun k hk => by
    have := h1 k (Finset.mem_univ k)
    simp only [if_pos hk] at this
    rw [toInt_small (hn k) (hlt k)] at this; exact this
  obtain ⟨k, hk⟩ := hP
  have hk' := hle k hk
  have hkl := hlt k
  rcases h2 with h | ⟨j, -, h⟩
  · rw [h] at hk'; exact absurd hk' (by have : (2147483647#32 : BitVec 32).toInt = 2147483647 := by decide
                                        omega)
  · by_cases hj : P j
    · simp only [if_pos hj] at h
      refine ⟨j, hj, h, fun i hi => ?_⟩
      have := hle i hi
      rw [h, toInt_small (hn j) (hlt j)] at this; exact_mod_cast this
    · simp only [if_neg hj] at h
      rw [h] at hk'; exact absurd hk' (by have : (1073741824#32 : BitVec 32).toInt = 1073741824 := by decide
                                          omega)

/-- A mark as a number. -/
theorem mark_eq (P : Prop) [Decidable P] : (FloatOps.sitofp FTy.f32 (BitVec.setWidth 32 (if P then (1#1 : BitVec 1) else 0#1)) : Ideal .f32)
    = if P then (1 : EReal) else 0 := by
  split
  · show (((BitVec.setWidth 32 (1#1 : BitVec 1)).toInt : ℝ) : EReal) = 1
    have : (BitVec.setWidth 32 (1#1 : BitVec 1)).toInt = 1 := by decide
    rw [this]; simp
  · show (((BitVec.setWidth 32 (0#1 : BitVec 1)).toInt : ℝ) : EReal) = 0
    have : (BitVec.setWidth 32 (0#1 : BitVec 1)).toInt = 0 := by decide
    rw [this]; simp

/-- A sum against a mark on one member reads the value there. -/
theorem sum_mark {ι : Type} [Fintype ι] (x : ι → EReal) (sel : ι → BitVec 1) (j0 : ι) (h : ∀ j, sel j = 1#1 ↔ j = j0) :
    ∑ j, (FloatOps.sitofp FTy.f32 (BitVec.setWidth 32 (sel j)) : Ideal .f32) * x j = x j0 := by
  classical
  have e : ∀ j, sel j = if j = j0 then 1#1 else 0#1 := fun j => by
    split
    · rename_i hj; exact (h j).2 hj
    · rename_i hj
      have : sel j ≠ 1#1 := fun e => hj ((h j).1 e)
      revert this; generalize sel j = b; revert b; decide
  rw [Finset.sum_eq_single j0]
  · rw [e j0, if_pos rfl]
    have := mark_eq True
    rw [if_pos trivial, if_pos trivial] at this
    rw [this]; exact one_mul _
  · intro j _ hj
    rw [e j, if_neg hj]
    have := mark_eq False
    rw [if_neg not_false, if_neg not_false] at this
    rw [this]; exact zero_mul _
  · intro hn; exact absurd (Finset.mem_univ j0) hn

/-- The comparison of words for equality answers one when they are equal. -/
theorem cmpi_eq_one {n : ℕ} (a b : BitVec n) : IntOp.cmpi .eq a b = 1#1 ↔ a = b := by
  unfold IntOp.cmpi; by_cases h : a = b
  · simp [h]
  · have h' : (a == b) = false := beq_eq_false_iff_ne.2 h
    simp [h, h']

end Nms

end
-- ==== Proof.Shortlist.lean ====
/- The shortlist of one lane: sixteen rounds, each taking the best score left in the lane and of equal scores the
smallest row.  Whatever is among the sixteen best of the lane is taken, and in a lane with sixteen scores in play no row
is taken twice. -/
module

public import proofs.«01_k».proof.Proof.Greedy

@[expose] public section

namespace Nms

/-- The rounds of one lane of scores `t`: round `r` starts from the scores `z r`, takes row `b r` with score `m r`, and
    leaves that row at `d`, the score of a row out of play. -/
structure Rounds {R : ℕ} (t : Fin R → EReal) (d : EReal) (z : ℕ → Fin R → EReal) (m : ℕ → EReal) (b : ℕ → Fin R) : Prop where
  live : ∀ i, t i ≠ ⊥ → d < t i
  zero : ∀ i, z 0 i = if t i = ⊥ then d else t i
  le : ∀ r i, z r i ≤ m r
  att : ∀ r, z r (b r) = m r
  first : ∀ r i, z r i = m r → b r ≤ i
  succ : ∀ r i, z (r + 1) i = if i = b r then d else z r i

namespace Rounds

variable {R : ℕ} {t : Fin R → EReal} {d : EReal} {z : ℕ → Fin R → EReal} {m : ℕ → EReal} {b : ℕ → Fin R}
  (h : Rounds t d z m b)
include h

/-- A row in play that was not taken keeps its score. -/
theorem z_of_pos (r : ℕ) (i : Fin R) (ht : t i ≠ ⊥) (hb : ∀ q < r, b q ≠ i) : z r i = t i := by
  induction r with
  | zero => rw [h.zero, if_neg ht]
  | succ r ih =>
    rw [h.succ, if_neg (fun e => hb r (by omega) e.symm)]
    exact ih fun q hq => hb q (by omega)

/-- A row out of play has the value for that. -/
theorem z_of_bot (r : ℕ) (i : Fin R) (ht : t i = ⊥) : z r i = d := by
  induction r with
  | zero => rw [h.zero, if_pos ht]
  | succ r ih => rw [h.succ]; split; · rfl
                 · exact ih

/-- A row that was taken has the value of a struck-out one. -/
theorem z_of_taken (r : ℕ) (i : Fin R) (hb : ∃ q < r, b q = i) : z r i = d := by
  induction r with
  | zero => obtain ⟨q, hq, -⟩ := hb; omega
  | succ r ih =>
    rw [h.succ]
    split
    · rfl
    · rename_i hne
      obtain ⟨q, hq, e⟩ := hb
      refine ih ⟨q, ?_, e⟩
      rcases Nat.lt_succ_iff_lt_or_eq.1 hq with hq | rfl
      · exact hq
      · exact absurd e.symm hne

/-- A round whose score is not `d` takes a row in play that no earlier round took. -/
theorem prim {r : ℕ} (hm : m r ≠ d) : t (b r) ≠ ⊥ ∧ (∀ q < r, b q ≠ b r) ∧ m r = t (b r) := by
  have h1 : t (b r) ≠ ⊥ := fun e => hm (by rw [← h.att r, h.z_of_bot r _ e])
  have h2 : ∀ q < r, b q ≠ b r := fun q hq e => hm (by rw [← h.att r, h.z_of_taken r _ ⟨q, hq, e⟩])
  exact ⟨h1, h2, by rw [← h.att r, h.z_of_pos r _ h1 h2]⟩

/-- Two rounds with scores other than `d` take different rows. -/
theorem prim_inj {q r : ℕ} (hq : m q ≠ d) (hr : m r ≠ d) (e : b q = b r) : q = r := by
  rcases lt_trichotomy q r with hl | hl | hl
  · exact absurd e ((h.prim hr).2.1 q hl)
  · exact hl
  · exact absurd e.symm ((h.prim hq).2.1 r hl)

/-- If a row in play is not taken by the first `k` rounds, those rounds take `k` different rows, all better. -/
theorem ahead {k : ℕ} {i : Fin R} (ht : t i ≠ ⊥) (hb : ∀ q < k, b q ≠ i) (r : ℕ) (hr : r < k) :
    m r ≠ d ∧ (t i < t (b r) ∨ (t (b r) = t i ∧ b r < i)) := by
  have hz := h.z_of_pos r i ht fun q hq => hb q (by omega)
  have hle := h.le r i
  rw [hz] at hle
  have hm : m r ≠ d := ((h.live i ht).trans_le hle).ne'
  refine ⟨hm, ?_⟩
  rw [← (h.prim hm).2.2]
  rcases hle.lt_or_eq with hl | he
  · exact Or.inl hl
  · refine Or.inr ⟨he.symm, lt_of_le_of_ne (h.first r i (hz.trans he)) (hb r hr)⟩

/-- A row taken at all is taken by a round whose score is its own. -/
theorem taken {k : ℕ} {i : Fin R} (ht : t i ≠ ⊥) (hb : ∃ q < k, b q = i) : ∃ q < k, b q = i ∧ m q ≠ d := by
  classical
  have hex : ∃ q, q < k ∧ b q = i := hb
  refine ⟨Nat.find hex, (Nat.find_spec hex).1, (Nat.find_spec hex).2, ?_⟩
  have hz := h.z_of_pos (Nat.find hex) i ht fun q hq e =>
    Nat.find_min hex hq ⟨lt_trans hq (Nat.find_spec hex).1, e⟩
  rw [← h.att, (Nat.find_spec hex).2, hz]
  exact (h.live i ht).ne'

/-- With `k` rows in play, each of the first `k` rounds has a score other than `d`. -/
theorem all_prim {k : ℕ} (f : Fin k → Fin R) (hf : Function.Injective f) (ht : ∀ i, t (f i) ≠ ⊥) {r : ℕ} (hr : r < k) :
    m r ≠ d := by
  classical
  intro hm
  have hall : ∀ i, ∃ q : Fin r, b q = f i := fun i => by
    by_contra hno
    have hno' : ∀ q < r, b q ≠ f i := fun q hq e => hno ⟨⟨q, hq⟩, e⟩
    have hz := h.z_of_pos r (f i) (ht i) hno'
    have := h.le r (f i)
    rw [hz, hm] at this
    exact absurd (h.live _ (ht i)) (not_lt.2 this)
  choose q hq using hall
  have hinj : Function.Injective q := fun i j e => hf (by rw [← hq i, ← hq j, e])
  have := Fintype.card_le_of_injective q hinj
  simp at this; omega

end Rounds

/-- The rounds of all 128 lanes of the scores `s`: anchor `row * 128 + lane`, for 160 rows. -/
structure Shortlist (s : ℕ → EReal) (d : EReal) (z : ℕ → Fin 128 → Fin 160 → EReal) (m : ℕ → Fin 128 → EReal)
    (b : ℕ → Fin 128 → Fin 160) : Prop where
  big : ∀ n, 20480 ≤ n → s n = ⊥
  lane : ∀ l : Fin 128, Rounds (fun i : Fin 160 => s (i.val * 128 + l.val)) d (fun r => z r l) (fun r => m r l) (fun r => b r l)

namespace Shortlist

variable {s : ℕ → EReal} {d : EReal} {z : ℕ → Fin 128 → Fin 160 → EReal} {m : ℕ → Fin 128 → EReal}
  {b : ℕ → Fin 128 → Fin 160} (h : Shortlist s d z m b)

/-- The anchor that round `r` takes in lane `l`. -/
def anchor (b : ℕ → Fin 128 → Fin 160) (j : Fin 16 × Fin 128) : ℕ := (b j.1.val j.2).val * 128 + j.2.val

/-- Two entries name one anchor when lane and row agree. -/
theorem anchor_eq_iff {j k : Fin 16 × Fin 128} : anchor b j = anchor b k ↔ j.2 = k.2 ∧ b j.1 j.2 = b k.1 k.2 := by
  unfold anchor
  have h1 := j.2.isLt; have h2 := k.2.isLt
  constructor
  · intro e; exact ⟨Fin.ext (by omega), Fin.ext (by omega)⟩
  · rintro ⟨e, e'⟩; rw [e', e]

include h

/-- The candidates follow the scores from the start. -/
theorem tracks : Tracks (anchor b) (fun j => m j.1.val j.2 ≠ d) d s (fun j => m j.1.val j.2) := by
  intro j
  split
  · rename_i hj; exact ((h.lane j.2).prim hj.1).2.2
  · rename_i hj
    by_contra hm
    exact hj ⟨hm, ((h.lane j.2).prim hm).1⟩

/-- An anchor in play that the precondition holds is a candidate, marked, and no other candidate has its number. -/
theorem cover {p : ℕ} (hp : s p ≠ ⊥) (hh : Held s p) :
    ∃ j, m j.1.val j.2 ≠ d ∧ ∀ k : Fin 16 × Fin 128, anchor b k = p ↔ k = j := by
  have hlt : p < 20480 := by by_contra hge; exact hp (h.big p (by omega))
  let l : Fin 128 := ⟨p % 128, by omega⟩
  let i : Fin 160 := ⟨p / 128, by omega⟩
  have hpi : i.val * 128 + l.val = p := by simp only [l, i]; omega
  have hl := h.lane l
  have ht : (fun i : Fin 160 => s (i.val * 128 + l.val)) i ≠ ⊥ := by simp only [hpi]; exact hp
  have hall : ∀ r < 16, m r l ≠ d := by
    obtain ⟨f, hf, hf'⟩ := hh.laneLive
    have hfl : ∀ k, f k < 20480 := fun k => by by_contra hge; exact (hf' k).1 (h.big _ (by omega))
    intro r hr
    refine hl.all_prim (k := 16) (fun k => ⟨f k / 128, by have := hfl k; omega⟩) (fun a c e => hf ?_) (fun k => ?_) hr
    · have e' := congrArg Fin.val e
      have h1 := (hf' a).2; have h2 := (hf' c).2
      simp only at e'
      omega
    · have h1 := (hf' k).2
      have : f k / 128 * 128 + l.val = f k := by simp only [l]; omega
      simp only [this]; exact (hf' k).1
  have hex : ∃ q < 16, b q l = i := by
    by_contra hno
    push Not at hno
    refine hh.laneRank (fun r => (b r.val l).val * 128 + l.val) (fun a c e => ?_) (fun r => ⟨?_, ?_⟩)
    · simp only at e
      exact Fin.ext (hl.prim_inj (hall a a.2) (hall c c.2) (Fin.ext (by omega)))
    · have := (hl.ahead (k := 16) ht hno r.val r.isLt).2
      simp only [hpi] at this
      rcases this with h' | ⟨h', h''⟩
      · exact Or.inl h'
      · refine Or.inr ⟨h', ?_⟩
        have hb : (b r.val l).val < i.val := h''
        rw [← hpi]; clear_value l i; omega
    · simp only [l]; omega
  obtain ⟨q, hq, e, hm⟩ := hl.taken ht hex
  refine ⟨(⟨q, hq⟩, l), hm, fun k => ⟨fun hk => ?_, fun hk => ?_⟩⟩
  · have hk1 := k.2.isLt
    unfold anchor at hk
    have hl' : k.2 = l := Fin.ext (by simp only [l]; omega)
    have hb' : b k.1.val l = i := Fin.ext (by rw [hl'] at hk; simp only [i]; simp only [l] at hk ⊢; omega)
    have := hl.prim_inj (hall k.1.val k.1.isLt) hm (hb'.trans e.symm)
    exact Prod.ext (Fin.ext this) hl'
  · rw [hk]; unfold anchor; simp only [e, hpi]

end Shortlist

end Nms

end
-- ==== Proof.KernelTrip.lean ====
/- The rounds and the first loop of the body as mathematics: the rounds make the shortlist of every lane, and a trip of
the loop makes one pick of the candidates. -/
module

public import proofs.«01_k».proof.Proof.KernelOut
public import proofs.«01_k».proof.Proof.Best
public import proofs.«01_k».proof.Proof.Overlap
public import proofs.«01_k».proof.Proof.Shortlist

@[expose] public section

set_option maxRecDepth 16384

noncomputable section

namespace Cert.KernelIdeal.Body

open Cert.KernelIdeal Cert.KernelIdeal.Gen Idealize.ShloMosaic Nms

/-- The score of a row out of play. -/
abbrev low : EReal := Ideal.ofBits .f32 0xF149F2CA#32

/-! ## One round -/

section Round
variable (z : Vec Ideal S20x160x128 .f32) (i : Fin 20) (l : Fin 128)

/-- The row that the round takes. -/
def takenRow : Fin 160 := ⟨(roundRow (F := Ideal) z (ix3 i 0 l)).toNat % 160, Nat.mod_lt _ (by decide)⟩

/-- A round's maximum of a lane bounds the lane and is reached. -/
theorem roundMax_spec : (∀ r, z (ix3 i r l) ≤ roundMax (F := Ideal) z (ix3 i 0 l))
    ∧ ∃ r, z (ix3 i r l) = roundMax (F := Ideal) z (ix3 i 0 l) := by
  have e : roundMax (F := Ideal) z (ix3 i 0 l) = Finset.fold max (Ideal.ofBits FTy.f32 0xFF800000#32) (fun r => z (ix3 i r l)) Finset.univ := by
    pointwise [roundMax]
  rw [e]; exact max_spec fun r => z (ix3 i r l)

/-- A round takes the first row that reaches the maximum. -/
theorem takenRow_spec : roundRow (F := Ideal) z (ix3 i 0 l) = BitVec.ofNat 32 (takenRow z i l).val
    ∧ z (ix3 i (takenRow z i l) l) = roundMax (F := Ideal) z (ix3 i 0 l)
    ∧ ∀ r, z (ix3 i r l) = roundMax (F := Ideal) z (ix3 i 0 l) → takenRow z i l ≤ r := by
  classical
  have e : roundRow (F := Ideal) z (ix3 i 0 l) = Finset.fold IntOp.minsi (2147483647#32)
      (fun r : Fin 160 => if z (ix3 i r l) = roundMax (F := Ideal) z (ix3 i 0 l) then BitVec.ofNat 32 r.val else 1073741824#32) Finset.univ := by
    pointwise [roundRow, rowNo]
  obtain ⟨b, hb, hb', hfirst⟩ := first_spec (fun r : Fin 160 => BitVec.ofNat 32 r.val) (fun r => r.val)
    (fun r => by have := r.isLt; simp [BitVec.toNat_ofNat]; omega) (fun r => by have := r.isLt; omega)
    (fun r => z (ix3 i r l) = roundMax (F := Ideal) z (ix3 i 0 l)) (roundMax_spec z i l).2
  have e' := e.trans hb'
  have hrow : takenRow z i l = b := by
    refine Fin.ext ?_
    show (roundRow (F := Ideal) z (ix3 i 0 l)).toNat % 160 = b.val
    rw [e']; have := b.isLt
    simp only [BitVec.toNat_ofNat]; omega
  rw [hrow]
  exact ⟨e', hb, fun r hr => hfirst r hr⟩

/-- The row that a round selects. -/
theorem roundSel_iff (r : Fin 160) : roundSel (F := Ideal) z (ix3 i r l) = 1#1 ↔ r = takenRow z i l := by
  have e : roundSel (F := Ideal) z (ix3 i r l) = IntOp.cmpi .eq (BitVec.ofNat 32 r.val) (roundRow (F := Ideal) z (ix3 i 0 l)) := by
    pointwise [roundSel, rowNo]
  rw [e, cmpi_eq_one, (takenRow_spec z i l).1]
  have h1 := r.isLt; have h2 := (takenRow z i l).isLt
  constructor
  · intro h
    have := congrArg BitVec.toNat h
    simp only [BitVec.toNat_ofNat] at this
    exact Fin.ext (by omega)
  · intro h; rw [← h]

/-- A round strikes out the row it takes. -/
theorem roundNext_apply (r : Fin 160) : roundNext (F := Ideal) z (ix3 i r l) = if r = takenRow z i l then low else z (ix3 i r l) := by
  have e : roundNext (F := Ideal) z (ix3 i r l) = Scalar.select (roundSel (F := Ideal) z (ix3 i r l)) low (z (ix3 i r l)) := by
    pointwise [roundNext]
  rw [e]
  by_cases h : r = takenRow z i l
  · rw [if_pos h, (roundSel_iff z i l r).2 h]; rfl
  · rw [if_neg h]
    have h' : roundSel (F := Ideal) z (ix3 i r l) ≠ 1#1 := fun k => h ((roundSel_iff z i l r).1 k)
    revert h'; generalize roundSel (F := Ideal) z (ix3 i r l) = b; revert b; intro b hb
    have : b = 0#1 := by revert hb; revert b; decide
    rw [this]; rfl

/-- A round's score of a lane is the maximum. -/
theorem roundScore_apply : roundScore (F := Ideal) z (ix2 i l) = roundMax (F := Ideal) z (ix3 i 0 l) := by
  pointwise [roundScore]

/-- A round's anchor of a lane, from its row and the lane. -/
theorem roundAnchor_toNat : (roundAnchor (F := Ideal) z (ix2 i l)).toNat = (takenRow z i l).val * 128 + l.val := by
  have e : roundAnchor (F := Ideal) z (ix2 i l) = IntOp.addi (IntOp.muli (roundRow (F := Ideal) z (ix3 i 0 l)) 128#32) (BitVec.ofNat 32 l.val) := by
    pointwise [roundAnchor, laneNo]
  rw [e, (takenRow_spec z i l).1]
  have h1 := l.isLt; have h2 := (takenRow z i l).isLt
  show (BitVec.ofNat 32 _ * 128#32 + BitVec.ofNat 32 _).toNat = _
  simp only [BitVec.toNat_add, BitVec.toNat_mul, BitVec.toNat_ofNat]
  omega

/-- What a round reads at the row it takes. -/
theorem roundAt_apply (x : FVec Ideal S1x160x128 .f32) : roundAt (F := Ideal) z x (ix2 i l) = x (ix3 0 (takenRow z i l) l) := by
  have e : roundAt (F := Ideal) z x (ix2 i l) = ∑ r : Fin 160, (FloatOps.sitofp FTy.f32 (BitVec.setWidth 32 (roundSel (F := Ideal) z (ix3 i r l))) : Ideal .f32) * x (ix3 0 r l) := by
    pointwise [roundAt]
  rw [e]
  exact sum_mark (fun r => x (ix3 0 r l)) _ _ (fun r => roundSel_iff z i l r)

end Round

/-! ## The shortlist -/

/-- The rounds from the scores `z` make the shortlist of class `i`. -/
theorem shortlist (z : Vec Ideal S20x160x128 .f32) (i : Fin 20) (s : ℕ → EReal) (hbig : ∀ n, 20480 ≤ n → s n = ⊥)
    (hlow : ∀ n, s n ≠ ⊥ → low < s n)
    (hz : ∀ (r : Fin 160) (l : Fin 128), z (ix3 i r l) = if s (r.val * 128 + l.val) = ⊥ then low else s (r.val * 128 + l.val)) :
    Shortlist s low (fun r l q => works (F := Ideal) z r (ix3 i q l)) (fun r l => roundMax (F := Ideal) (works (F := Ideal) z r) (ix3 i 0 l))
      (fun r l => takenRow (works (F := Ideal) z r) i l) where
  big := hbig
  lane l :=
    { live := fun q hq => hlow _ hq
      zero := fun q => hz q l
      le := fun r q => (roundMax_spec (works (F := Ideal) z r) i l).1 q
      att := fun r => (takenRow_spec (works (F := Ideal) z r) i l).2.1
      first := fun r q h => (takenRow_spec (works (F := Ideal) z r) i l).2.2 q h
      succ := fun r q => roundNext_apply (works (F := Ideal) z r) i l q }

end Cert.KernelIdeal.Body

end
-- ==== Proof.KernelPick.lean ====
/- One trip of the first loop: it makes the pick of the scores that the candidates follow. -/
module

public import proofs.«01_k».proof.Proof.KernelTrip

@[expose] public section

set_option maxRecDepth 16384

noncomputable section

namespace Cert.KernelIdeal.Body

open Cert.KernelIdeal Cert.KernelIdeal.Gen Idealize.ShloMosaic Nms

/-- A selection by a bit. -/
theorem select_eq {α : Type} (b : BitVec 1) (x y : α) : Scalar.select b x y = if b = 1#1 then x else y := by
  rcases (show b = 1#1 ∨ b = 0#1 by revert b; decide) with h | h <;> subst h <;> rfl

/-- The candidates of class `i`: anchors `g`, the corners of their boxes, and their areas. -/
structure Candidates (i : Fin 20) (g : Fin 2048 → ℕ) (B : Boxes) (ids : Vec Ideal S20x2048 .i32) (a1 b1 a2 b2 ar : Vec Ideal S20x2048 .f32) : Prop where
  num : ∀ j, (ids (ix2 i j)).toNat = g j
  lt : ∀ j, g j < 1073741824
  x1 : ∀ j, a1 (ix2 i j) = B.x1 (g j)
  y1 : ∀ j, b1 (ix2 i j) = B.y1 (g j)
  x2 : ∀ j, a2 (ix2 i j) = B.x2 (g j)
  y2 : ∀ j, b2 (ix2 i j) = B.y2 (g j)
  area : ∀ j, ar (ix2 i j) = areaOf (B.x1 (g j)) (B.y1 (g j)) (B.x2 (g j)) (B.y2 (g j))

variable {i : Fin 20} {g : Fin 2048 → ℕ} {prim : Fin 2048 → Prop} {B : Boxes} {ids : Vec Ideal S20x2048 .i32} {a1 b1 a2 b2 ar : Vec Ideal S20x2048 .f32}

/-- The row's maximum bounds its entries and is reached. -/
theorem max_row (cs : Vec Ideal S20x2048 .f32) : (∀ j, cs (ix2 i j) ≤ k0_pay1 (F := Ideal) cs (ix2 i 0))
    ∧ ∃ j, cs (ix2 i j) = k0_pay1 (F := Ideal) cs (ix2 i 0) := by
  have e : k0_pay1 (F := Ideal) cs (ix2 i 0) = Finset.fold max (Ideal.ofBits FTy.f32 0xFF800000#32) (fun j => cs (ix2 i j)) Finset.univ := by
    pointwise [k0_pay1]
  rw [e]; exact max_spec fun j => cs (ix2 i j)

section Found
variable (hc : Candidates i g B ids a1 b1 a2 b2 ar) {w : ℕ → EReal} {cs : Vec Ideal S20x2048 .f32}
  (hT : Tracks g prim low w (fun j => cs (ix2 i j))) (hlow : ∀ n, w n ≠ ⊥ → low < w n)
include hT hlow

/-- With a pick, the greatest score is the pick's. -/
theorem max_of_pick {p : ℕ} (hp : IsPick w p) {j0 : Fin 2048} (h0 : prim j0) (hj0 : g j0 = p) :
    k0_pay1 (F := Ideal) cs (ix2 i 0) = w p := by
  obtain ⟨hle, j, hj⟩ := max_row (i := i) cs
  refine le_antisymm ?_ ?_
  · rw [← hj]; exact hT.le_pick hlow hp j
  · have := hle j0
    have e := hT.of_pos h0 (by rw [hj0]; exact hp.1)
    rw [e, hj0] at this; exact this

/-- With no score in play, the greatest score is that of a row out of play. -/
theorem max_of_dead (hw : ∀ n, w n = ⊥) : k0_pay1 (F := Ideal) cs (ix2 i 0) = low := by
  obtain ⟨-, j, hj⟩ := max_row (i := i) cs
  rw [← hj]; exact hT.dead hw j

include hc in
/-- With a pick, the pick's candidate alone is selected. -/
theorem sel_of_pick {p : ℕ} (hp : IsPick w p) {j0 : Fin 2048} (h0 : prim j0) (hj0 : ∀ j, g j = p ↔ j = j0) (j : Fin 2048) :
    k0_pay2 (F := Ideal) cs ids (ix2 i j) = 1#1 ↔ j = j0 := by
  classical
  have hmax := max_of_pick hT hlow hp h0 ((hj0 j0).2 rfl)
  have e : k0_pay2 (F := Ideal) cs ids (ix2 i j) = IntOp.cmpi .eq (ids (ix2 i j)) (Finset.fold IntOp.minsi (2147483647#32)
      (fun k : Fin 2048 => if cs (ix2 i k) = k0_pay1 (F := Ideal) cs (ix2 i 0) then ids (ix2 i k) else 1073741824#32) Finset.univ) := by
    pointwise [k0_pay2]
  obtain ⟨k, hk, hk', hfirst⟩ := first_spec (fun k : Fin 2048 => ids (ix2 i k)) g hc.num hc.lt
    (fun k => cs (ix2 i k) = k0_pay1 (F := Ideal) cs (ix2 i 0)) (max_row cs).2
  have hgk : g k = p := by
    rw [hmax] at hk
    have h1 := (hT.of_max hlow hp hk).2.2
    have h2 : g k ≤ g j0 := hfirst j0 (by
      have e := hT.of_pos h0 (by rw [(hj0 j0).2 rfl]; exact hp.1)
      rw [hmax, e, (hj0 j0).2 rfl])
    rw [(hj0 j0).2 rfl] at h2
    omega
  rw [e, hk', cmpi_eq_one, ← hj0 j]
  constructor
  · intro h; have := congrArg BitVec.toNat h; rw [hc.num, hc.num, hgk] at this; exact this
  · intro h; exact BitVec.eq_of_toNat_eq (by rw [hc.num, hc.num, hgk, h])

end Found

/-- The sums against the selection read the selected candidate. -/
theorem reads (cs a1 b1 a2 b2 : Vec Ideal S20x2048 .f32) (ids : Vec Ideal S20x2048 .i32) {j0 : Fin 2048}
    (h : ∀ j, k0_pay2 (F := Ideal) cs ids (ix2 i j) = 1#1 ↔ j = j0) :
    k0_pay4 (F := Ideal) cs ids a1 (ix2 i 0) = a1 (ix2 i j0) ∧ k0_pay5 (F := Ideal) cs ids b1 (ix2 i 0) = b1 (ix2 i j0)
    ∧ k0_pay6 (F := Ideal) cs ids a2 (ix2 i 0) = a2 (ix2 i j0) ∧ k0_pay7 (F := Ideal) cs ids b2 (ix2 i 0) = b2 (ix2 i j0) := by
  have key := fun x : Vec Ideal S20x2048 .f32 => sum_mark (fun j => x (ix2 i j)) _ _ h
  refine ⟨?_, ?_, ?_, ?_⟩
  · rw [← key a1]; pointwise [k0_pay4, k0_pay3]
  · rw [← key b1]; pointwise [k0_pay5, k0_pay3]
  · rw [← key a2]; pointwise [k0_pay6, k0_pay3]
  · rw [← key b2]; pointwise [k0_pay7, k0_pay3]

/-- A disjunction of bits. -/
theorem ori_eq_one (a b : BitVec 1) : IntOp.ori a b = 1#1 ↔ a = 1#1 ∨ b = 1#1 := by revert a b; decide

/-- The bit of a proposition. -/
theorem ofBool_eq_one (P : Prop) [Decidable P] : BitVec.ofBool (decide P) = 1#1 ↔ P := by
  by_cases h : P <;> simp [h]

/-- The scores after a trip, as the loop's words state them. -/
abbrev leftOf (cs : Vec Ideal S20x2048 .f32) (ids : Vec Ideal S20x2048 .i32) (a1 b1 a2 b2 ar : Vec Ideal S20x2048 .f32) : Vec Ideal S20x2048 .f32 :=
  k0_pay11 cs a1 b1 a2 b2 ar (k0_pay2 cs ids) (k0_pay4 cs ids a1) (k0_pay5 cs ids b1) (k0_pay6 cs ids a2)
     (k0_pay7 cs ids b2) (k0_pay8 cs ids a1 a2) (k0_pay9 cs ids b1 b2) (k0_pay10 (F := Ideal))

open Classical in
/-- A trip takes out the selected candidate and those that its box suppresses. -/
theorem leftOf_pick (hc : Candidates i g B ids a1 b1 a2 b2 ar) (cs : Vec Ideal S20x2048 .f32) {j0 : Fin 2048}
    (h : ∀ j, k0_pay2 (F := Ideal) cs ids (ix2 i j) = 1#1 ↔ j = j0) (j : Fin 2048) :
    leftOf cs ids a1 b1 a2 b2 ar (ix2 i j) = if B.sup (g j0) (g j) ∨ j = j0 then low else cs (ix2 i j) := by
  obtain ⟨h4, h5, h6, h7⟩ := reads cs a1 b1 a2 b2 ids h
  rw [hc.x1] at h4; rw [hc.y1] at h5; rw [hc.x2] at h6; rw [hc.y2] at h7
  have h8 : k0_pay8 (F := Ideal) cs ids a1 a2 (ix2 i 0) = max (B.x2 (g j0) - B.x1 (g j0)) 0 := by
    rw [← h4, ← h6]; pointwise [k0_pay8]
  have h9 : k0_pay9 (F := Ideal) cs ids b1 b2 (ix2 i 0) = B.y2 (g j0) - B.y1 (g j0) := by
    rw [← h5, ← h7]; pointwise [k0_pay9]
  have h10 : k0_pay10 (F := Ideal) (ix2 i 0) = 0 := by pointwise [k0_pay10]
  unfold leftOf
  generalize hp4 : k0_pay4 (F := Ideal) cs ids a1 = p4 at *
  generalize hp5 : k0_pay5 (F := Ideal) cs ids b1 = p5 at *
  generalize hp6 : k0_pay6 (F := Ideal) cs ids a2 = p6 at *
  generalize hp7 : k0_pay7 (F := Ideal) cs ids b2 = p7 at *
  generalize hp8 : k0_pay8 (F := Ideal) cs ids a1 a2 = p8 at *
  generalize hp9 : k0_pay9 (F := Ideal) cs ids b1 b2 = p9 at *
  generalize hp10 : k0_pay10 (F := Ideal) = p10 at *
  generalize hsel : k0_pay2 (F := Ideal) cs ids = sel at *
  pointwise [k0_pay11]
  rw [h4, h5, h6, h7, h8, h9, h10, hc.x1, hc.y1, hc.x2, hc.y2, hc.area, select_eq]
  simp only [ori_eq_one, ofBool_eq_one, h j]
  exact if_congr Iff.rfl rfl rfl

/-- A trip leaves each candidate's score, or puts that of a row out of play. -/
theorem leftOf_or (cs : Vec Ideal S20x2048 .f32) (j : Fin 2048) :
    leftOf cs ids a1 b1 a2 b2 ar (ix2 i j) = low ∨ leftOf cs ids a1 b1 a2 b2 ar (ix2 i j) = cs (ix2 i j) := by
  unfold leftOf
  pointwise [k0_pay11]
  rw [select_eq]
  split
  · exact Or.inl rfl
  · exact Or.inr rfl

/-- A trip keeps the candidates in step with the scores. -/
theorem leftOf_tracks (hc : Candidates i g B ids a1 b1 a2 b2 ar) {w : ℕ → EReal} {cs : Vec Ideal S20x2048 .f32}
    (hT : Tracks g prim low w (fun j => cs (ix2 i j))) (hlow : ∀ n, w n ≠ ⊥ → low < w n) {N : ℕ} (hN : ∀ n, N ≤ n → w n = ⊥)
    (hcov : ∀ p, IsPick w p → ∃ j0, prim j0 ∧ ∀ j, g j = p ↔ j = j0) :
    Tracks g prim low (next B.sup w) (fun j => leftOf cs ids a1 b1 a2 b2 ar (ix2 i j)) := by
  classical
  by_cases hex : ∃ p, IsPick w p
  · obtain ⟨p, hp⟩ := hex
    obtain ⟨j0, h0, hj0⟩ := hcov p hp
    have hsel := sel_of_pick hc hT hlow hp h0 hj0
    refine hT.next hp fun j => ?_
    rw [leftOf_pick hc cs hsel j, (hj0 j0).2 rfl]
    simp only [hj0 j]
  · push Not at hex
    exact hT.next_dead hex (dead_of_none hN hex) fun j => leftOf_or cs j

end Cert.KernelIdeal.Body

end
-- ==== Proof.KernelPicks.lean ====
/- The first loop of the body as mathematics: column `k` of its rows holds pick `k` of each class. -/
module

public import proofs.«01_k».proof.Proof.KernelPick

@[expose] public section

set_option maxRecDepth 16384

noncomputable section

namespace Cert.KernelIdeal.Body

open Cert.KernelIdeal Cert.KernelIdeal.Gen Idealize.ShloMosaic Nms

/-- The value of a struck-out score is negative. -/
theorem low_neg : low < 0 := by
  have h : ∃ e : ℝ, e < 0 ∧ low = (e : EReal) := by
    refine ⟨_, ?_, by simp only [low, Ideal.ofBits, Ideal.ieee]; simp; rfl⟩
    exact neg_neg_of_pos (by positivity)
  obtain ⟨e, he, h⟩ := h
  rw [h]; exact_mod_cast he

/-- The first loop makes 100 trips. -/
theorem trips_t1 : k0_t1_loop.trips = 100 := by rfl

/-- The lane numbers. -/
theorem laneNo_apply (i : Fin 20) (l : Fin 128) : laneNo (ix2 i l) = BitVec.ofNat 32 l.val := by
  pointwise [laneNo]

/-- A trip's lane is the one with the trip's number. -/
theorem iv_eq (k : ℕ) (l : Fin 128) (hk : k < 128) : IntOp.cmpi .eq (BitVec.ofNat 32 l.val) (Scf.iv 0#32 1#32 k) = 1#1 ↔ l.val = k := by
  rw [cmpi_eq_one]
  have : (Scf.iv 0#32 1#32 k).toNat = k := by
    simp [Scf.iv]
    omega
  have hl := l.isLt
  constructor
  · intro h
    have h' := congrArg BitVec.toNat h
    rw [this] at h'; simp only [BitVec.toNat_ofNat] at h'; omega
  · intro h
    refine BitVec.eq_of_toNat_eq ?_
    rw [this]; simp only [BitVec.toNat_ofNat]; omega

section Emit
variable (i : Fin 20) (l : Fin 128) (k : ℕ) (hk : k < 128)
include hk

/-- A trip writes its own column: the greatest score if positive, or that of a row out of play. -/
theorem emit_score (old : FVec Ideal S20x128 .f32) (mx : FVec Ideal S20x1 .f32) :
    k0_pay14 (F := Ideal) laneNo old (Scf.iv 0#32 1#32 k) mx (ix2 i l)
      = if l.val = k then (if 0 < mx (ix2 i 0) then mx (ix2 i 0) else low) else old (ix2 i l) := by
  pointwise [k0_pay14, k0_pay13, k0_pay12]
  rw [laneNo_apply, select_eq]
  exact if_congr (iv_eq k l hk) rfl rfl

/-- A trip writes its left edge at its own lane. -/
theorem emit_x1 (old : FVec Ideal S20x128 .f32) (mx v : FVec Ideal S20x1 .f32) :
    k0_pay15 (F := Ideal) laneNo old (Scf.iv 0#32 1#32 k) mx v (ix2 i l)
      = if l.val = k then (if 0 < mx (ix2 i 0) then v (ix2 i 0) else 0) else old (ix2 i l) := by
  pointwise [k0_pay15, k0_pay13, k0_pay12]
  rw [laneNo_apply, select_eq]
  exact if_congr (iv_eq k l hk) rfl rfl

/-- A trip writes its upper edge at its own lane. -/
theorem emit_y1 (old : FVec Ideal S20x128 .f32) (mx v : FVec Ideal S20x1 .f32) :
    k0_pay254 (F := Ideal) old (k0_pay13 laneNo (Scf.iv 0#32 1#32 k)) (k0_pay16 mx v) (ix2 i l)
      = if l.val = k then (if 0 < mx (ix2 i 0) then v (ix2 i 0) else 0) else old (ix2 i l) := by
  pointwise [k0_pay254, k0_pay13, k0_pay12, k0_pay16]
  rw [laneNo_apply, select_eq]
  exact if_congr (iv_eq k l hk) rfl rfl

/-- A trip writes its right edge at its own lane. -/
theorem emit_x2 (old : FVec Ideal S20x128 .f32) (mx v : FVec Ideal S20x1 .f32) :
    k0_pay255 (F := Ideal) old v (k0_pay12 mx) (k0_pay13 laneNo (Scf.iv 0#32 1#32 k)) (ix2 i l)
      = if l.val = k then (if 0 < mx (ix2 i 0) then v (ix2 i 0) else 0) else old (ix2 i l) := by
  pointwise [k0_pay255, k0_pay13, k0_pay12]
  rw [laneNo_apply, select_eq]
  exact if_congr (iv_eq k l hk) rfl rfl

/-- A trip writes its lower edge at its own lane. -/
theorem emit_y2 (old : FVec Ideal S20x128 .f32) (mx v : FVec Ideal S20x1 .f32) :
    k0_pay256 (F := Ideal) old v (k0_pay12 mx) (k0_pay13 laneNo (Scf.iv 0#32 1#32 k)) (ix2 i l)
      = if l.val = k then (if 0 < mx (ix2 i 0) then v (ix2 i 0) else 0) else old (ix2 i l) := by
  pointwise [k0_pay256, k0_pay13, k0_pay12]
  rw [laneNo_apply, select_eq]
  exact if_congr (iv_eq k l hk) rfl rfl

end Emit

/-- What the body's inputs hold for class `i`: scores `s` by anchor, in the lanes of `z`, and the corners and areas of all boxes. -/
structure Inputs (i : Fin 20) (s : ℕ → EReal) (B : Boxes) (z : Vec Ideal S20x160x128 .f32) (a1 b1 a2 b2 ar : FVec Ideal S1x160x128 .f32) : Prop where
  big : ∀ n, 20480 ≤ n → s n = ⊥
  pos : ∀ n, s n ≠ ⊥ → 0 < s n
  score : ∀ (r : Fin 160) (l : Fin 128), z (ix3 i r l) = if s (r.val * 128 + l.val) = ⊥ then low else s (r.val * 128 + l.val)
  x1 : ∀ (r : Fin 160) (l : Fin 128), a1 (ix3 0 r l) = B.x1 (r.val * 128 + l.val)
  y1 : ∀ (r : Fin 160) (l : Fin 128), b1 (ix3 0 r l) = B.y1 (r.val * 128 + l.val)
  x2 : ∀ (r : Fin 160) (l : Fin 128), a2 (ix3 0 r l) = B.x2 (r.val * 128 + l.val)
  y2 : ∀ (r : Fin 160) (l : Fin 128), b2 (ix3 0 r l) = B.y2 (r.val * 128 + l.val)
  area : ∀ (r : Fin 160) (l : Fin 128), ar (ix3 0 r l) = areaOf (B.x1 (r.val * 128 + l.val)) (B.y1 (r.val * 128 + l.val))
    (B.x2 (r.val * 128 + l.val)) (B.y2 (r.val * 128 + l.val))
  held : AllHeld B.sup s

variable {i : Fin 20} {s : ℕ → EReal} {B : Boxes} {z : Vec Ideal S20x160x128 .f32} {a1 b1 a2 b2 ar : FVec Ideal S1x160x128 .f32}

/-- The round and the lane of a candidate. -/
def place (j : Fin 2048) : Fin 16 × Fin 128 := (⟨j.val / 128, by omega⟩, ⟨j.val % 128, by omega⟩)

/-- Every round and lane has a place in the list. -/
theorem exists_place (q : Fin 16 × Fin 128) : ∃ j, place j = q := by
  have h1 := q.1.isLt; have h2 := q.2.isLt
  exact ⟨⟨q.1.val * 128 + q.2.val, by omega⟩, Prod.ext (Fin.ext (by simp only [place]; omega)) (Fin.ext (by simp only [place]; omega))⟩

/-- Two places belong to two pairs of round and lane. -/
theorem place_inj {j k : Fin 2048} (h : place j = place k) : j = k := by
  have h1 := congrArg (fun q => q.1.val) h; have h2 := congrArg (fun q => q.2.val) h
  simp only [place] at h1 h2
  exact Fin.ext (by omega)

/-- The rows that the rounds take in class `i`. -/
abbrev rowsOf (z : Vec Ideal S20x160x128 .f32) (i : Fin 20) : ℕ → Fin 128 → Fin 160 := fun r l => takenRow (works (F := Ideal) z r) i l

/-- The candidates of class `i`, and which of them are first takes. -/
abbrev anchorOf (z : Vec Ideal S20x160x128 .f32) (i : Fin 20) (j : Fin 2048) : ℕ := Shortlist.anchor (rowsOf z i) (place j)
/-- The score at a place is one in play. -/
abbrev primOf (z : Vec Ideal S20x160x128 .f32) (i : Fin 20) (j : Fin 2048) : Prop :=
  roundMax (F := Ideal) (works (F := Ideal) z (place j).1.val) (ix3 i 0 (place j).2) ≠ low

/-- What a trip gives out of scores `w`: the pick's score and corners. -/
theorem hands_out {g : Fin 2048 → ℕ} {prim : Fin 2048 → Prop} {ids : Vec Ideal S20x2048 .i32} {a1 b1 a2 b2 ar : Vec Ideal S20x2048 .f32}
    (hc : Candidates i g B ids a1 b1 a2 b2 ar) {w : ℕ → EReal} {cs : Vec Ideal S20x2048 .f32}
    (hT : Tracks g prim low w (fun j => cs (ix2 i j))) (hpos : ∀ n, w n ≠ ⊥ → 0 < w n) (hN : ∀ n, 20480 ≤ n → w n = ⊥)
    (hcov : ∀ p, IsPick w p → ∃ j0, prim j0 ∧ ∀ j, g j = p ↔ j = j0) :
    (if 0 < k0_pay1 (F := Ideal) cs (ix2 i 0) then k0_pay1 (F := Ideal) cs (ix2 i 0) else low) = scoreOf low w
    ∧ (if 0 < k0_pay1 (F := Ideal) cs (ix2 i 0) then k0_pay4 (F := Ideal) cs ids a1 (ix2 i 0) else 0) = coordOf B.x1 w
    ∧ (if 0 < k0_pay1 (F := Ideal) cs (ix2 i 0) then k0_pay5 (F := Ideal) cs ids b1 (ix2 i 0) else 0) = coordOf B.y1 w
    ∧ (if 0 < k0_pay1 (F := Ideal) cs (ix2 i 0) then k0_pay6 (F := Ideal) cs ids a2 (ix2 i 0) else 0) = coordOf B.x2 w
    ∧ (if 0 < k0_pay1 (F := Ideal) cs (ix2 i 0) then k0_pay7 (F := Ideal) cs ids b2 (ix2 i 0) else 0) = coordOf B.y2 w := by
  have hlow : ∀ n, w n ≠ ⊥ → low < w n := fun n hn => low_neg.trans (hpos n hn)
  by_cases hex : ∃ p, IsPick w p
  · obtain ⟨p, hp⟩ := hex
    obtain ⟨j0, h0, hj0⟩ := hcov p hp
    have e := max_of_pick hT hlow hp h0 ((hj0 j0).2 rfl)
    obtain ⟨h4, h5, h6, h7⟩ := reads cs a1 b1 a2 b2 ids (sel_of_pick hc hT hlow hp h0 hj0)
    rw [h4, h5, h6, h7, e, hc.x1, hc.y1, hc.x2, hc.y2, (hj0 j0).2 rfl]
    unfold scoreOf coordOf
    rw [pickOf_eq_some hp]
    have := hpos p hp.1
    simp only [this, if_true, Option.elim]
    trivial
  · have hno : ∀ p, ¬ IsPick w p := fun p hp => hex ⟨p, hp⟩
    rw [max_of_dead hT hlow (dead_of_none hN hno)]
    unfold scoreOf coordOf
    rw [pickOf_eq_none hno]
    simp only [low_neg.not_gt, if_false, Option.elim]
    trivial

namespace Inputs

variable (h : Inputs i s B z a1 b1 a2 b2 ar)
include h

/-- The 16 rounds make a shortlist of each lane. -/
theorem short : Shortlist s low (fun r l q => works (F := Ideal) z r (ix3 i q l)) (fun r l => roundMax (F := Ideal) (works (F := Ideal) z r) (ix3 i 0 l)) (rowsOf z i) := shortlist z i s h.big (fun n hn => low_neg.trans (h.pos n hn)) h.score

/-- The list holds anchors, scores and boxes that belong together. -/
theorem candidates : Candidates i (anchorOf z i) B (joined (F := Ideal) (e := .i32) fun r => roundAnchor (F := Ideal) (works (F := Ideal) z r))
    (joined (F := Ideal) (e := .f32) fun r => roundAt (F := Ideal) (works (F := Ideal) z r) a1) (joined (F := Ideal) (e := .f32) fun r => roundAt (F := Ideal) (works (F := Ideal) z r) b1)
    (joined (F := Ideal) (e := .f32) fun r => roundAt (F := Ideal) (works (F := Ideal) z r) a2) (joined (F := Ideal) (e := .f32) fun r => roundAt (F := Ideal) (works (F := Ideal) z r) b2)
    (joined (F := Ideal) (e := .f32) fun r => roundAt (F := Ideal) (works (F := Ideal) z r) ar) where
  num j := roundAnchor_toNat _ i _
  lt j := by
    have h1 := (rowsOf z i (place j).1.val (place j).2).isLt; have h2 := (place j).2.isLt
    show (rowsOf z i (place j).1.val (place j).2).val * 128 + (place j).2.val < _
    omega
  x1 j := (roundAt_apply _ i _ a1).trans (h.x1 _ _)
  y1 j := (roundAt_apply _ i _ b1).trans (h.y1 _ _)
  x2 j := (roundAt_apply _ i _ a2).trans (h.x2 _ _)
  y2 j := (roundAt_apply _ i _ b2).trans (h.y2 _ _)
  area j := (roundAt_apply _ i _ ar).trans (h.area _ _)

/-- Before the first pick the list's scores are the listed anchors'. -/
theorem start_tracks : Tracks (anchorOf z i) (primOf z i) low s (fun j => joined (F := Ideal) (e := .f32) (fun r => roundScore (F := Ideal) (works (F := Ideal) z r)) (ix2 i j)) := by
  intro j
  have e : joined (F := Ideal) (e := .f32) (fun r => roundScore (F := Ideal) (works (F := Ideal) z r)) (ix2 i j)
      = roundMax (F := Ideal) (works (F := Ideal) z (place j).1.val) (ix3 i 0 (place j).2) := roundScore_apply _ i _
  show joined (F := Ideal) (e := .f32) (fun r => roundScore (F := Ideal) (works (F := Ideal) z r)) (ix2 i j) = _
  rw [e]
  exact h.short.tracks (place j)

/-- The greedy pick over all the anchors is in the list. -/
theorem covered {k : ℕ} (hk : k < 100) (p : ℕ) (hp : IsPick (left B.sup s k) p) :
    ∃ j0, primOf z i j0 ∧ ∀ j, anchorOf z i j = p ↔ j = j0 := by
  obtain ⟨q, hq, hq'⟩ := h.short.cover (p := p) (by rw [← left_eq k p hp.1]; exact hp.1) (h.held k hk p hp)
  obtain ⟨j0, rfl⟩ := exists_place q
  exact ⟨j0, hq, fun j => (hq' (place j)).trans ⟨place_inj, fun e => by rw [e]⟩⟩

/-- A score still in play is positive. -/
theorem left_low (k n : ℕ) (hn : left B.sup s k n ≠ ⊥) : 0 < left B.sup s k n := by
  have e := left_eq k n hn
  rw [e]; exact h.pos n (by rw [← e]; exact hn)

/-- The loop before trip `k`: the candidates are in step, and the columns written hold the picks. -/
theorem picks (k : ℕ) (hk : k ≤ 100) :
    Tracks (anchorOf z i) (primOf z i) low (left B.sup s k) (fun j => (picksOf (F := Ideal) z a1 b1 a2 b2 ar k).2 (ix2 i j))
    ∧ ∀ l : Fin 128, (l.val < k → (picksOf (F := Ideal) z a1 b1 a2 b2 ar k).1.1 (ix2 i l) = scoreOf low (left B.sup s l.val)
        ∧ (picksOf (F := Ideal) z a1 b1 a2 b2 ar k).1.2.1 (ix2 i l) = coordOf B.x1 (left B.sup s l.val)
        ∧ (picksOf (F := Ideal) z a1 b1 a2 b2 ar k).1.2.2.1 (ix2 i l) = coordOf B.y1 (left B.sup s l.val)
        ∧ (picksOf (F := Ideal) z a1 b1 a2 b2 ar k).1.2.2.2.1 (ix2 i l) = coordOf B.x2 (left B.sup s l.val)
        ∧ (picksOf (F := Ideal) z a1 b1 a2 b2 ar k).1.2.2.2.2 (ix2 i l) = coordOf B.y2 (left B.sup s l.val))
      ∧ (k ≤ l.val → (picksOf (F := Ideal) z a1 b1 a2 b2 ar k).1.1 (ix2 i l) = Ideal.ofBits .f32 0xFF61B1E6#32) := by
  induction k with
  | zero =>
    have e0 : picksOf (F := Ideal) z a1 b1 a2 b2 ar 0 = (noPicks, joined fun r => roundScore (works z r)) := by
      unfold picksOf; rw [lists]
    rw [e0]
    have h0 := h.start_tracks
    rw [left]
    refine ⟨?_, fun l => ⟨fun hl => absurd hl (Nat.not_lt_zero _), fun _ => ?_⟩⟩
    · dsimp only
      exact h0
    · show (noPicks (F := Ideal)).1 (ix2 i l) = _
      pointwise [noPicks]
  | succ k ih =>
    obtain ⟨hT, hL⟩ := ih (by omega)
    have hk' : k < k0_t1_loop.trips := by rw [trips_t1]; omega
    have hstep : picksOf (F := Ideal) z a1 b1 a2 b2 ar (k + 1) = listStep _ _ _ _ _ _ _ _ ⟨k, hk'⟩ (picksOf (F := Ideal) z a1 b1 a2 b2 ar k) :=
      lists_succ _ _ _ _ _ _ _ _ _ ⟨k, hk'⟩
    have hlow : ∀ n, left B.sup s k n ≠ ⊥ → low < left B.sup s k n := fun n hn => low_neg.trans (h.left_low k n hn)
    have hN : ∀ n, 20480 ≤ n → left B.sup s k n = ⊥ := fun n hn => left_bot (h.big n hn) k
    rw [hstep]
    clear hstep ih
    generalize picksOf (F := Ideal) z a1 b1 a2 b2 ar k = T at hT hL ⊢
    obtain ⟨g0, g1, g2, g3, g4⟩ := hands_out h.candidates hT (h.left_low k) hN (h.covered (by omega))
    refine ⟨leftOf_tracks h.candidates hT hlow hN (h.covered (by omega)), fun l => ⟨fun hl => ?_, fun hl => ?_⟩⟩
    · refine ⟨(emit_score i l k (by omega) _ _).trans ?_, (emit_x1 i l k (by omega) _ _ _).trans ?_,
        (emit_y1 i l k (by omega) _ _ _).trans ?_, (emit_x2 i l k (by omega) _ _ _).trans ?_, (emit_y2 i l k (by omega) _ _ _).trans ?_⟩
      · split
        · rename_i e; rw [e]; exact g0
        · exact ((hL l).1 (by omega)).1
      · split
        · rename_i e; rw [e]; exact g1
        · exact ((hL l).1 (by omega)).2.1
      · split
        · rename_i e; rw [e]; exact g2
        · exact ((hL l).1 (by omega)).2.2.1
      · split
        · rename_i e; rw [e]; exact g3
        · exact ((hL l).1 (by omega)).2.2.2.1
      · split
        · rename_i e; rw [e]; exact g4
        · exact ((hL l).1 (by omega)).2.2.2.2
    · refine (emit_score i l k (by omega) _ _).trans ?_
      rw [if_neg (by omega)]; exact (hL l).2 (by omega)

end Inputs

end Cert.KernelIdeal.Body

end
-- ==== Proof.KernelInputs.lean ====
/- What the body is given: the scores and the box corners of the anchors, laid out in 160 rows of 128 lanes. -/
module

public import proofs.«01_k».proof.Proof.KernelPicks
public import proofs.«01_k».proof.Proof.Problem

@[expose] public section

set_option maxRecDepth 16384

noncomputable section

namespace Cert.KernelIdeal.Body

open Cert.KernelIdeal Cert.KernelIdeal.Gen Idealize.ShloMosaic Nms

variable (m : (ℓ : Loc nD τ sig) → Buf (Elt Ideal) ℓ) (c : Dev nD) (t : Fin cfg0.N)

/-- The objectness scores, as given. -/
abbrev argScore : FVec Ideal S1x20000x1 .f32 := m (c, Proc.devRef .tc main_arg0)
/-- The class scores, as given. -/
abbrev argLogit : FVec Ideal S1x20000x20 .f32 := m (c, Proc.devRef .tc main_arg1)
/-- The deltas, as given. -/
abbrev argShift : FVec Ideal S1x20000x4 .f32 := m (c, Proc.devRef .tc main_arg2)
/-- The anchors, as given. -/
abbrev argFrame : FVec Ideal S20000x4 .f32 := m (c, Proc.devRef .tc main_arg3)

/-- The problem that the arguments pose. -/
def posed : Problem where
  score n := argScore m c (ix3 0 n 0)
  logit n i := argLogit m c (ix3 0 n i)
  shift n k := argShift m c (ix3 0 n k)
  frame n k := argFrame m c (ix2 n k)

/-- The float of the integer zero is zero. -/
theorem word_zero : (FloatOps.sitofp FTy.f32 (0#32 : BitVec 32) : Ideal .f32) = 0 := by
  show (((0#32 : BitVec 32).toInt : ℝ) : EReal) = 0
  simp

/-- The padded class scores at row r and lane l are those of anchor 128 r + l, zero past the last. -/
theorem logits_apply (i : Fin 20) (r : Fin 160) (l : Fin 128) : (V m c main_call0_v3 : FVec Ideal S20x160x128 .f32) (ix3 i r l)
    = if h : r.val * 128 + l.val < 20000 then argLogit m c (ix3 0 ⟨r.val * 128 + l.val, h⟩ i) else 0 := by
  have e : (V m c main_call0_v3 : FVec Ideal S20x160x128 .f32) = shapeCast S20x160x128 (pad S20x20480 ![0, 0] ![0, 480] ![0, 0]
     (transpose S20x20000 [1, 0] (shapeCast S20000x20 (argLogit m c) shapeCasts_S1x20000x20_S20000x20) transposes_S20000x20_S20x20000_1_0)
       (sitofp .f32 (constantI S_ 32 0#32)) pads_S20x20000_S20x20480_000_04800 h_S_) shapeCasts_S20x20480_S20x160x128 := rfl
  rw [e, ← word_zero]
  pointwise []

/-- The padded objectness at row r and lane l is that of anchor 128 r + l, zero past the last. -/
theorem score_apply (r : Fin 160) (l : Fin 128) : (V m c main_call0_v7 : FVec Ideal S1x160x128 .f32) (ix3 0 r l)
    = if h : r.val * 128 + l.val < 20000 then argScore m c (ix3 0 ⟨r.val * 128 + l.val, h⟩ 0) else 0 := by
  have e : (V m c main_call0_v7 : FVec Ideal S1x160x128 .f32) = shapeCast S1x160x128 (pad S1x20480 ![0, 0] ![0, 480] ![0, 0]
     (transpose S1x20000 [1, 0] (shapeCast S20000x1 (argScore m c) shapeCasts_S1x20000x1_S20000x1) transposes_S20000x1_S1x20000_1_0)
       (sitofp .f32 (constantI S_ 32 0#32)) pads_S1x20000_S1x20480_000_04800 h_S_) shapeCasts_S1x20480_S1x160x128 := rfl
  rw [e, ← word_zero]
  pointwise []

/-- The padded geometry, as one expression of the deltas and the anchors. -/
theorem geometry_eq : (V m c main_call0_v13 : FVec Ideal S8x160x128 .f32) = shapeCast S8x160x128 (pad S8x20480 ![0, 0] ![0, 480] ![0, 0]
     (concatenate S8x20000 0 [⟨S4x20000, transpose S4x20000 [1, 0] (shapeCast S20000x4 (argShift m c) shapeCasts_S1x20000x4_S20000x4) transposes_S20000x4_S4x20000_1_0⟩,
       ⟨S4x20000, transpose S4x20000 [1, 0] (argFrame m c) transposes_S20000x4_S4x20000_1_0⟩] concatenates_S4x20000_S4x20000_S8x20000_d0)
       (sitofp .f32 (constantI S_ 32 0#32)) pads_S8x20000_S8x20480_000_04800 h_S_) shapeCasts_S8x20480_S8x160x128 := rfl

/-- The first four planes of the geometry are the deltas. -/
theorem shift_apply (k : Fin 4) (r : Fin 160) (l : Fin 128) : (V m c main_call0_v13 : FVec Ideal S8x160x128 .f32) (ix3 ⟨k.val, by omega⟩ r l)
    = (posed m c).shiftAt k (r.val * 128 + l.val) := by
  rw [geometry_eq]
  unfold Problem.shiftAt
  rw [← word_zero]
  match k with
  | ⟨0, _⟩ => pointwise [posed]
  | ⟨1, _⟩ => pointwise [posed]
  | ⟨2, _⟩ => pointwise [posed]
  | ⟨3, _⟩ => pointwise [posed]

/-- The last four planes of the geometry are the anchors. -/
theorem frame_apply (k : Fin 4) (r : Fin 160) (l : Fin 128) : (V m c main_call0_v13 : FVec Ideal S8x160x128 .f32) (ix3 ⟨k.val + 4, by omega⟩ r l)
    = (posed m c).frameAt k (r.val * 128 + l.val) := by
  rw [geometry_eq]
  unfold Problem.frameAt
  rw [← word_zero]
  match k with
  | ⟨0, _⟩ => pointwise [posed]
  | ⟨1, _⟩ => pointwise [posed]
  | ⟨2, _⟩ => pointwise [posed]
  | ⟨3, _⟩ => pointwise [posed]

/-! ## The windows' blocks are the arrays -/

/-- The first operand is handed over whole. -/
theorem block0 : iblk m c 0 t = (V m c main_call0_v3 : FVec Ideal S20x160x128 .f32) := by
  unfold iblk
  show ((cfg0.win 0).blk t).view.read (Elt Ideal) (V m c main_call0_v3) = _
  generalize V m c main_call0_v3 = X
  funext y
  exact congrArg X (funext fun a => Fin.ext (by
    show _ + 1 * (y a).val = (y a).val
    match a with
    | ⟨0, _⟩ => show 0 * 20 + 1 * _ = _; omega
    | ⟨1, _⟩ => show 0 * 160 + 1 * _ = _; omega
    | ⟨2, _⟩ => show 0 * 128 + 1 * _ = _; omega))

/-- The second operand is handed over whole. -/
theorem block1 : iblk m c 1 t = (V m c main_call0_v7 : FVec Ideal S1x160x128 .f32) := by
  unfold iblk
  show ((cfg0.win 1).blk t).view.read (Elt Ideal) (V m c main_call0_v7) = _
  generalize V m c main_call0_v7 = X
  funext y
  exact congrArg X (funext fun a => Fin.ext (by
    show _ + 1 * (y a).val = (y a).val
    match a with
    | ⟨0, _⟩ => show 0 * 1 + 1 * _ = _; omega
    | ⟨1, _⟩ => show 0 * 160 + 1 * _ = _; omega
    | ⟨2, _⟩ => show 0 * 128 + 1 * _ = _; omega))

/-- The third operand is handed over whole. -/
theorem block2 : iblk m c 2 t = (V m c main_call0_v13 : FVec Ideal S8x160x128 .f32) := by
  unfold iblk
  show ((cfg0.win 2).blk t).view.read (Elt Ideal) (V m c main_call0_v13) = _
  generalize V m c main_call0_v13 = X
  funext y
  exact congrArg X (funext fun a => Fin.ext (by
    show _ + 1 * (y a).val = (y a).val
    match a with
    | ⟨0, _⟩ => show 0 * 8 + 1 * _ = _; omega
    | ⟨1, _⟩ => show 0 * 160 + 1 * _ = _; omega
    | ⟨2, _⟩ => show 0 * 128 + 1 * _ = _; omega))

/-- A plane read of the geometry. -/
theorem read_plane {M : Memref sig .tc .vmem S8x160x128 .f32} (hM : M.IsWhole) (x : FVec Ideal S8x160x128 .f32) (k : ℕ) (hk : k < 8)
    (inb : ∀ a, (![k, 0, 0] : Fin 3 → ℕ) a + (![1, 160, 128] : Fin 3 → ℕ) a ≤ S8x160x128.size a) (r : Fin 160) (l : Fin 128) :
    M.view.readAt (Elt Ideal) (Rect.unit (s := S8x160x128) ![k, 0, 0] ![1, 160, 128] inb).toLoadRect (hM.unread x) (ix3 0 r l)
      = x (ix3 (Fin.mk k hk) r l) := by
  rw [View.readAt_eq_ld, Memref.IsWhole.read_unread]
  refine congrArg x (funext fun a => Fin.ext ?_)
  match a with
  | ⟨0, _⟩ => show k + 1 * 0 = k; omega
  | ⟨1, _⟩ => show 0 + 1 * r.val = r.val; omega
  | ⟨2, _⟩ => show 0 + 1 * l.val = l.val; omega

section Corners
variable {M : Memref sig .tc .vmem S8x160x128 .f32} (hM : M.IsWhole) (x : FVec Ideal S8x160x128 .f32) (r : Fin 160) (l : Fin 128)

/-- The two named clip bounds. -/
theorem ratios : (Named.named κ "max_ratio" 0x40845349#32 : Ideal .f32) = maxLog ∧ (Named.named κ "min_ratio" 0xC0845349#32 : Ideal .f32) = minLog := ⟨rfl, rfl⟩

/-- The kernel's left edges. -/
theorem x1_word : bodyRun.sl.v38 (F := Ideal) c M hM x (ix3 0 r l) = lowCorner (x (ix3 4 r l)) (x (ix3 0 r l)) (x (ix3 6 r l)) (x (ix3 2 r l)) := by
  unfold lowCorner unitClip halfSize
  rw [← ratios.1, ← ratios.2]
  pointwise [bodyRun.sl.v38, bodyRun.sl.v37, bodyRun.sl.v36, bodyRun.sl.v35, bodyRun.sl.v34, bodyRun.sl.v33, bodyRun.sl.v32, bodyRun.sl.r, bodyRun.sl.r_2,
    bodyRun.sl.cst_21, bodyRun.sl.cst_20, bodyRun.sl.cst_19, k0_pay28, k0_pay30, k0_pay26]
  rw [read_plane hM x 0 (by omega), read_plane hM x 2 (by omega), read_plane hM x 4 (by omega), read_plane hM x 6 (by omega)]
  rfl

/-- The kernel's upper edges. -/
theorem y1_word : bodyRun.sl.v45 (F := Ideal) c M hM x (ix3 0 r l) = lowCorner (x (ix3 5 r l)) (x (ix3 1 r l)) (x (ix3 7 r l)) (x (ix3 3 r l)) := by
  unfold lowCorner unitClip halfSize
  rw [← ratios.1, ← ratios.2]
  pointwise [bodyRun.sl.v45, bodyRun.sl.v37, bodyRun.sl.v43, bodyRun.sl.v35, bodyRun.sl.v41, bodyRun.sl.v40, bodyRun.sl.v32, bodyRun.sl.r_1, bodyRun.sl.r_3,
    bodyRun.sl.cst_21, bodyRun.sl.cst_20, bodyRun.sl.cst_19, k0_pay29, k0_pay31, k0_pay27]
  rw [read_plane hM x 1 (by omega), read_plane hM x 3 (by omega), read_plane hM x 5 (by omega), read_plane hM x 7 (by omega)]
  rfl

/-- The kernel's right edges. -/
theorem x2_word : bodyRun.sl.v52 (F := Ideal) c M hM x (ix3 0 r l) = highCorner (x (ix3 4 r l)) (x (ix3 0 r l)) (x (ix3 6 r l)) (x (ix3 2 r l)) := by
  unfold highCorner unitClip halfSize
  rw [← ratios.1, ← ratios.2]
  pointwise [bodyRun.sl.v52, bodyRun.sl.v37, bodyRun.sl.v50, bodyRun.sl.v35, bodyRun.sl.v48, bodyRun.sl.v33, bodyRun.sl.v32, bodyRun.sl.r, bodyRun.sl.r_2,
    bodyRun.sl.cst_21, bodyRun.sl.cst_20, bodyRun.sl.cst_19, k0_pay28, k0_pay30, k0_pay26]
  rw [read_plane hM x 0 (by omega), read_plane hM x 2 (by omega), read_plane hM x 4 (by omega), read_plane hM x 6 (by omega)]
  rfl

/-- The kernel's lower edges. -/
theorem y2_word : bodyRun.sl.v59 (F := Ideal) c M hM x (ix3 0 r l) = highCorner (x (ix3 5 r l)) (x (ix3 1 r l)) (x (ix3 7 r l)) (x (ix3 3 r l)) := by
  unfold highCorner unitClip halfSize
  rw [← ratios.1, ← ratios.2]
  pointwise [bodyRun.sl.v59, bodyRun.sl.v37, bodyRun.sl.v57, bodyRun.sl.v35, bodyRun.sl.v55, bodyRun.sl.v40, bodyRun.sl.v32, bodyRun.sl.r_1, bodyRun.sl.r_3,
    bodyRun.sl.cst_21, bodyRun.sl.cst_20, bodyRun.sl.cst_19, k0_pay29, k0_pay31, k0_pay27]
  rw [read_plane hM x 1 (by omega), read_plane hM x 3 (by omega), read_plane hM x 5 (by omega), read_plane hM x 7 (by omega)]
  rfl

/-- The kernel's areas. -/
theorem area_word : bodyRun.sl.v66 (F := Ideal) c M hM x (ix3 0 r l) = areaOf (bodyRun.sl.v38 (F := Ideal) c M hM x (ix3 0 r l))
    (bodyRun.sl.v45 (F := Ideal) c M hM x (ix3 0 r l)) (bodyRun.sl.v52 (F := Ideal) c M hM x (ix3 0 r l)) (bodyRun.sl.v59 (F := Ideal) c M hM x (ix3 0 r l)) := by
  unfold areaOf
  pointwise [bodyRun.sl.v66, bodyRun.sl.v62, bodyRun.sl.v65, bodyRun.sl.v60, bodyRun.sl.v63, bodyRun.sl.v35, bodyRun.sl.cst_20]

end Corners

/-- The scores that the first round starts from. -/
theorem start_word (i : Fin 20) (r : Fin 160) (l : Fin 128) {M0 : Memref sig .tc .vmem S20x160x128 .f32} (h0 : M0.IsWhole)
    {M1 : Memref sig .tc .vmem S1x160x128 .f32} (h1 : M1.IsWhole) (x0 : FVec Ideal S20x160x128 .f32) (x1 : FVec Ideal S1x160x128 .f32) :
    start (F := Ideal) c M0 h0 M1 h1 x0 x1 (ix3 i r l)
      = if threshold < x0 (ix3 i r l) * x1 (ix3 0 r l) then x0 (ix3 i r l) * x1 (ix3 0 r l) else low := by
  unfold start
  pointwise [bodyRun.sl.v79, bodyRun.sl.v76, bodyRun.sl.v75, bodyRun.sl.v74, bodyRun.sl.v73, bodyRun.sl.v72, bodyRun.sl.v71, bodyRun.sl.cst_39, bodyRun.sl.cst_40,
    bodyRun.sl.v68, bodyRun.sl.v70]
  rw [View.readAt_full, View.readAt_full, Memref.IsWhole.read_unread, Memref.IsWhole.read_unread]

variable (i : Fin 20)

/-- The masked product of the two blocks is the posed problem's score. -/
theorem start_score (r : Fin 160) (l : Fin 128) (a b : EReal)
    (ha : a = if h : r.val * 128 + l.val < 20000 then argLogit m c (ix3 0 ⟨r.val * 128 + l.val, h⟩ i) else 0)
    (hb : b = if h : r.val * 128 + l.val < 20000 then argScore m c (ix3 0 ⟨r.val * 128 + l.val, h⟩ 0) else 0) :
    (if threshold < a * b then a * b else low)
      = if (posed m c).scores i (r.val * 128 + l.val) = ⊥ then low else (posed m c).scores i (r.val * 128 + l.val) := by
  unfold Problem.scores
  by_cases h : r.val * 128 + l.val < 20000
  · simp only [dif_pos h] at ha hb ⊢
    have ea : (posed m c).logit ⟨r.val * 128 + l.val, h⟩ i = a := ha.symm
    have eb : (posed m c).score ⟨r.val * 128 + l.val, h⟩ = b := hb.symm
    rw [ea, eb]
    by_cases h' : threshold < a * b
    · simp only [if_pos h']
      rw [if_neg (bot_le.trans_lt h').ne']
    · simp only [if_neg h', if_true]
  · simp only [dif_neg h] at ha hb ⊢
    rw [ha, hb, mul_zero, if_neg (not_lt.2 threshold_pos.le)]; exact (if_pos trivial).symm

/-- The body's inputs hold the posed problem. -/
theorem inputs (hheld : AllHeld (posed m c).boxes.sup ((posed m c).scores i)) :
    Inputs i ((posed m c).scores i) (posed m c).boxes (start (F := Ideal) c (ms0 t) (hs0 t) (ms1 t) (hs1 t) (iblk m c 0 t) (iblk m c 1 t))
      (bodyRun.sl.v38 (F := Ideal) c (ms2 t) (hs2 t) (iblk m c 2 t)) (bodyRun.sl.v45 (F := Ideal) c (ms2 t) (hs2 t) (iblk m c 2 t))
      (bodyRun.sl.v52 (F := Ideal) c (ms2 t) (hs2 t) (iblk m c 2 t)) (bodyRun.sl.v59 (F := Ideal) c (ms2 t) (hs2 t) (iblk m c 2 t))
      (bodyRun.sl.v66 (F := Ideal) c (ms2 t) (hs2 t) (iblk m c 2 t)) := by
  have hx1 : ∀ (r : Fin 160) (l : Fin 128), _ = (posed m c).boxes.x1 (r.val * 128 + l.val) := fun r l => (x1_word c (hs2 t) (iblk m c 2 t) r l).trans (by rw [block2]; exact congr (congr (congr (congrArg lowCorner (frame_apply m c 0 r l)) (shift_apply m c 0 r l)) (frame_apply m c 2 r l)) (shift_apply m c 2 r l))
  have hy1 : ∀ (r : Fin 160) (l : Fin 128), _ = (posed m c).boxes.y1 (r.val * 128 + l.val) := fun r l => (y1_word c (hs2 t) (iblk m c 2 t) r l).trans (by rw [block2]; exact congr (congr (congr (congrArg lowCorner (frame_apply m c 1 r l)) (shift_apply m c 1 r l)) (frame_apply m c 3 r l)) (shift_apply m c 3 r l))
  have hx2 : ∀ (r : Fin 160) (l : Fin 128), _ = (posed m c).boxes.x2 (r.val * 128 + l.val) := fun r l => (x2_word c (hs2 t) (iblk m c 2 t) r l).trans (by rw [block2]; exact congr (congr (congr (congrArg highCorner (frame_apply m c 0 r l)) (shift_apply m c 0 r l)) (frame_apply m c 2 r l)) (shift_apply m c 2 r l))
  have hy2 : ∀ (r : Fin 160) (l : Fin 128), _ = (posed m c).boxes.y2 (r.val * 128 + l.val) := fun r l => (y2_word c (hs2 t) (iblk m c 2 t) r l).trans (by rw [block2]; exact congr (congr (congr (congrArg highCorner (frame_apply m c 1 r l)) (shift_apply m c 1 r l)) (frame_apply m c 3 r l)) (shift_apply m c 3 r l))
  exact
    { big := fun n hn => (posed m c).big i n (by omega)
      pos := fun n hn => (posed m c).pos i n hn
      score := fun r l => by
        exact (start_word c i r l (hs0 t) (hs1 t) _ _).trans (start_score m c i r l _ _ ((congrFun (block0 m c t) _).trans (logits_apply m c i r l))
          ((congrFun (block1 m c t) _).trans (score_apply m c r l)))
      x1 := hx1
      y1 := hy1
      x2 := hx2
      y2 := hy2
      area := fun r l => (area_word c (hs2 t) (iblk m c 2 t) r l).trans (by rw [hx1, hy1, hx2, hy2])
      held := hheld }

end Cert.KernelIdeal.Body

end
-- ==== Proof.Draws.lean ====
/- The last selection: drawing the best of a padded grid again and again gives the positions of a stable sort. -/
module

public import proofs.«01_k».proof.Proof.Ranking

@[expose] public section

namespace Nms

open Idealize.ShloMosaic

/-- The cell of the 20 × 128 grid that holds position `p` of the 20 · 100 picks. -/
def cell (p : Fin 2000) : Fin 20 × Fin 128 := (⟨p.val / 100, by omega⟩, ⟨p.val % 100, by omega⟩)

/-- The number of a cell, row by row. -/
def flat (j : Fin 20 × Fin 128) : ℕ := j.1.val * 128 + j.2.val

/-- Later picks stand at later cells. -/
theorem cell_lt {p q : Fin 2000} (h : p < q) : flat (cell p) < flat (cell q) := by
  have : p.val < q.val := h
  simp only [flat, cell]; omega

/-- Two picks stand at two cells. -/
theorem cell_injective : Function.Injective cell := fun p q h => by
  rcases lt_trichotomy p q with h' | h' | h'
  · exact absurd (congrArg flat h) (cell_lt h').ne
  · exact h'
  · exact absurd (congrArg flat h) (cell_lt h').ne'

/-- A cell of the first 100 lanes holds a pick. -/
theorem exists_cell (j : Fin 20 × Fin 128) (h : j.2.val < 100) : ∃ p, cell p = j := by
  have h1 := j.1.isLt
  refine ⟨⟨j.1.val * 100 + j.2.val, by omega⟩, Prod.ext (Fin.ext ?_) (Fin.ext ?_)⟩ <;> simp only [cell] <;> omega

/-- Draw `t` starts from the grid `kv t`, takes cell `sel t` with score `m t`, and leaves `dead` there. -/
structure Drawing (v : Fin 2000 → EReal) (φ : EReal → EReal) (dead pad : EReal) (kv : ℕ → Fin 20 × Fin 128 → EReal)
    (m : ℕ → EReal) (sel : ℕ → Fin 20 × Fin 128) : Prop where
  mono : ∀ p q, v p < v q → φ (v p) < φ (v q)
  dead_lt : ∀ p, dead < φ (v p)
  pad_lt : ∀ p, pad < φ (v p)
  cell : ∀ p, kv 0 (cell p) = φ (v p)
  padded : ∀ j : Fin 20 × Fin 128, 100 ≤ j.2.val → kv 0 j = pad
  le : ∀ t < 100, ∀ j, kv t j ≤ m t
  att : ∀ t < 100, kv t (sel t) = m t
  first : ∀ t < 100, ∀ j, kv t j = m t → flat (sel t) ≤ flat j
  succ : ∀ t < 100, ∀ j, kv (t + 1) j = if j = sel t then dead else kv t j

namespace Drawing

variable {v : Fin 2000 → EReal} {φ : EReal → EReal} {dead pad : EReal} {kv : ℕ → Fin 20 × Fin 128 → EReal}
  {m : ℕ → EReal} {sel : ℕ → Fin 20 × Fin 128}
include v φ

/-- A cell that was not drawn yet holds what it held at first. -/
theorem kv_of_not (h : Drawing v φ dead pad kv m sel) (t : ℕ) (ht : t ≤ 100) (j : Fin 20 × Fin 128)
    (hj : ∀ q < t, sel q ≠ j) : kv t j = kv 0 j := by
  induction t with
  | zero => rfl
  | succ t ih =>
    rw [h.succ t (by omega), if_neg fun e => hj t (by omega) e.symm]
    exact ih (by omega) fun q hq => hj q (by omega)

/-- A cell that was drawn is dead. -/
theorem kv_of_taken (h : Drawing v φ dead pad kv m sel) (t : ℕ) (ht : t ≤ 100) (j : Fin 20 × Fin 128)
    (hj : ∃ q < t, sel q = j) : kv t j = dead := by
  induction t with
  | zero => obtain ⟨q, hq, -⟩ := hj; omega
  | succ t ih =>
    rw [h.succ t (by omega)]
    split
    · rfl
    · rename_i hne
      obtain ⟨q, hq, e⟩ := hj
      refine ih (by omega) ⟨q, ?_, e⟩
      rcases Nat.lt_succ_iff_lt_or_eq.1 hq with hq | rfl
      · exact hq
      · exact absurd e.symm hne

/-- Draw `t` takes the position that the stable sort puts at `t`. -/
theorem eq_sorted (h : Drawing v φ dead pad kv m sel) {B : Fin 2000 → Fin 2000 → Bool} (hK : ByKey v B) (t : ℕ)
    (ht : t < 100) : sel t = Nms.cell (sortedFrom B ⟨t, by omega⟩) ∧ m t = φ (v (sortedFrom B ⟨t, by omega⟩)) := by
  induction t using Nat.strong_induction_on with
  | _ t ih =>
    have hinj := sortedFrom_injective B
    have hnot : ∀ u : Fin 2000, t ≤ u.val → ∀ q < t, sel q ≠ Nms.cell (sortedFrom B u) := fun u hu q hq e => by
      rw [(ih q hq (by omega)).1] at e
      have := congrArg Fin.val (hinj (cell_injective e)); simp only at this; omega
    have hval : ∀ u : Fin 2000, t ≤ u.val → kv t (Nms.cell (sortedFrom B u)) = φ (v (sortedFrom B u)) := fun u hu => by
      rw [h.kv_of_not t (by omega) _ (hnot u hu), h.cell]
    have hcase : ∀ j, kv t j = dead ∨ kv t j = pad ∨ ∃ u : Fin 2000, t ≤ u.val ∧ j = Nms.cell (sortedFrom B u) := fun j => by
      by_cases hj : ∃ q < t, sel q = j
      · exact Or.inl (h.kv_of_taken t (by omega) j hj)
      · push Not at hj
        by_cases hc : 100 ≤ j.2.val
        · exact Or.inr (Or.inl ((h.kv_of_not t (by omega) j hj).trans (h.padded j hc)))
        · obtain ⟨p, rfl⟩ := exists_cell j (by omega)
          obtain ⟨u, rfl⟩ := sortedFrom_surjective B p
          refine Or.inr (Or.inr ⟨u, ?_, rfl⟩)
          by_contra hu
          exact hj u.val (by omega) (ih u.val (by omega) (by omega)).1
    have hkey : ∀ u : Fin 2000, t ≤ u.val → v (sortedFrom B u) < v (sortedFrom B ⟨t, by omega⟩)
        ∨ (v (sortedFrom B u) = v (sortedFrom B ⟨t, by omega⟩) ∧
          (u = ⟨t, by omega⟩ ∨ sortedFrom B ⟨t, by omega⟩ < sortedFrom B u)) := fun u hu => by
      rcases (show (⟨t, by omega⟩ : Fin 2000) ≤ u from hu).lt_or_eq with hl | he
      · rcases sortedFrom_lt hK hl with h' | h'
        · exact Or.inl h'
        · exact Or.inr ⟨h'.1.symm, Or.inr h'.2⟩
      · rw [← he]; exact Or.inr ⟨rfl, Or.inl rfl⟩
    have hm : m t = φ (v (sortedFrom B ⟨t, by omega⟩)) := by
      apply le_antisymm
      · rw [← h.att t ht]
        rcases hcase (sel t) with e | e | ⟨u, hu, e⟩
        · rw [e]; exact (h.dead_lt _).le
        · rw [e]; exact (h.pad_lt _).le
        · rw [e, hval u hu]
          rcases hkey u hu with h' | h'
          · exact (h.mono _ _ h').le
          · rw [h'.1]
      · rw [← hval ⟨t, by omega⟩ le_rfl]; exact h.le t ht _
    refine ⟨?_, hm⟩
    rcases hcase (sel t) with e | e | ⟨u, hu, e⟩
    · rw [h.att t ht, hm] at e; exact absurd e (h.dead_lt _).ne'
    · rw [h.att t ht, hm] at e; exact absurd e (h.pad_lt _).ne'
    · rcases hkey u hu with h' | ⟨-, h' | h'⟩
      · have := h.att t ht
        rw [e, hval u hu, hm] at this
        exact absurd this (h.mono _ _ h').ne
      · rw [e, h']
      · have := h.first t ht (Nms.cell (sortedFrom B ⟨t, by omega⟩)) ((hval _ le_rfl).trans hm.symm)
        rw [e] at this
        exact absurd (cell_lt h') (not_lt.2 this)

end Drawing

end Nms

end
-- ==== Proof.KernelDraws.lean ====
/- The second loop of the body as mathematics: draw `t` is entry `t` of the picks sorted by score. -/
module

public import proofs.«01_k».proof.Proof.KernelPicks
public import proofs.«01_k».proof.Proof.Draws

@[expose] public section

set_option maxRecDepth 16384

noncomputable section

namespace Cert.KernelIdeal.Body

open Cert.KernelIdeal Cert.KernelIdeal.Gen Idealize.ShloMosaic Nms

/-- The score left in a drawn cell, and the score of the padding cells. -/
abbrev dead : EReal := Ideal.ofBits .f32 0xFF167699#32
/-- The value that fills the lanes past the hundredth. -/
abbrev pad : EReal := Ideal.ofBits .f32 0xFF61B1E6#32

/-- The value of a drawn cell is below that of an exhausted class. -/
theorem dead_lt_low : dead < low := by
  have h : ∃ a b : ℝ, a < b ∧ dead = (a : EReal) ∧ low = (b : EReal) := by
    refine ⟨_, _, ?_, by simp only [dead, Ideal.ofBits, Ideal.ieee]; simp; rfl, by simp only [low, Ideal.ofBits, Ideal.ieee]; simp; rfl⟩
    norm_num
  obtain ⟨a, b, hab, h1, h2⟩ := h
  rw [h1, h2]; exact_mod_cast hab

/-- The filling value is below that of an exhausted class. -/
theorem pad_lt_low : pad < low := by
  have h : ∃ a b : ℝ, a < b ∧ pad = (a : EReal) ∧ low = (b : EReal) := by
    refine ⟨_, _, ?_, by simp only [pad, Ideal.ofBits, Ideal.ieee]; simp; rfl, by simp only [low, Ideal.ofBits, Ideal.ieee]; simp; rfl⟩
    norm_num
  obtain ⟨a, b, hab, h1, h2⟩ := h
  rw [h1, h2]; exact_mod_cast hab

/-- The number of a cell of the grid of picks. -/
theorem flat_word (j : Fin 20 × Fin 128) : (k0_pay257 laneNo (ix2 j.1 j.2)).toNat = flat j := by
  have e : k0_pay257 laneNo (ix2 j.1 j.2) = IntOp.addi (IntOp.muli (BitVec.ofNat 32 j.1.val) 128#32) (BitVec.ofNat 32 j.2.val) := by
    pointwise [k0_pay257, laneNo]
  rw [e]
  have h1 := j.1.isLt; have h2 := j.2.isLt
  simp only [IntOp.addi, IntOp.muli, BitVec.toNat_add, BitVec.toNat_mul, BitVec.toNat_ofNat, flat]
  omega

/-- The cell that a trip draws: the first with the greatest score. -/
theorem exists_draw (kv : FVec Ideal S20x128 .f32) : ∃ q : Fin 20 × Fin 128,
    (∀ j : Fin 20 × Fin 128, kv (ix2 j.1 j.2) ≤ k0_pay17 (F := Ideal) kv (ix2 0 0))
    ∧ kv (ix2 q.1 q.2) = k0_pay17 (F := Ideal) kv (ix2 0 0)
    ∧ (∀ j : Fin 20 × Fin 128, kv (ix2 j.1 j.2) = k0_pay17 (F := Ideal) kv (ix2 0 0) → flat q ≤ flat j)
    ∧ ∀ j : Fin 20 × Fin 128, k0_pay18 (F := Ideal) (k0_pay257 laneNo) kv (ix2 j.1 j.2) = 1#1 ↔ j = q := by
  classical
  have e : k0_pay17 (F := Ideal) kv (ix2 0 0)
      = Finset.fold max (Ideal.ofBits FTy.f32 0xFF800000#32) (fun x : Fin 20 × Fin 128 => kv (ix2 x.1 x.2)) Finset.univ := by
    pointwise [k0_pay17]
  have e' : ∀ j : Fin 20 × Fin 128, k0_pay18 (F := Ideal) (k0_pay257 laneNo) kv (ix2 j.1 j.2)
      = IntOp.cmpi .eq (k0_pay257 laneNo (ix2 j.1 j.2)) (Finset.fold IntOp.minsi (2147483647#32)
        (fun x : Fin 20 × Fin 128 => if kv (ix2 x.1 x.2) = k0_pay17 (F := Ideal) kv (ix2 0 0) then k0_pay257 laneNo (ix2 x.1 x.2) else 1073741824#32) Finset.univ) := by
    intro j
    generalize k0_pay257 laneNo = fl
    pointwise [k0_pay18]
  have hs := max_spec fun x : Fin 20 × Fin 128 => kv (ix2 x.1 x.2)
  rw [← e] at hs
  have hfl : ∀ j : Fin 20 × Fin 128, flat j < 1073741824 := fun j => by
    have h1 := j.1.isLt; have h2 := j.2.isLt
    simp only [flat]; omega
  obtain ⟨q, hq, hq', hmin⟩ := first_spec (fun x : Fin 20 × Fin 128 => k0_pay257 laneNo (ix2 x.1 x.2)) flat flat_word hfl
    (fun x => kv (ix2 x.1 x.2) = k0_pay17 (F := Ideal) kv (ix2 0 0)) hs.2
  refine ⟨q, hs.1, hq, hmin, fun j => ?_⟩
  rw [e' j, hq', cmpi_eq_one]
  constructor
  · intro h
    have h' := congrArg BitVec.toNat h
    rw [flat_word, flat_word] at h'
    have h1 := j.1.isLt; have h2 := j.2.isLt; have h3 := q.1.isLt; have h4 := q.2.isLt
    simp only [flat] at h'
    exact Prod.ext (Fin.ext (by omega)) (Fin.ext (by omega))
  · rintro rfl; rfl

/-- The drawn cell. -/
def drawOf (kv : FVec Ideal S20x128 .f32) : Fin 20 × Fin 128 := (exists_draw kv).choose

/-- A draw's maximum is reached, nothing exceeds it, and the first cell that reaches it is selected. -/
theorem drawOf_spec (kv : FVec Ideal S20x128 .f32) :
    (∀ j : Fin 20 × Fin 128, kv (ix2 j.1 j.2) ≤ k0_pay17 (F := Ideal) kv (ix2 0 0))
    ∧ kv (ix2 (drawOf kv).1 (drawOf kv).2) = k0_pay17 (F := Ideal) kv (ix2 0 0)
    ∧ (∀ j : Fin 20 × Fin 128, kv (ix2 j.1 j.2) = k0_pay17 (F := Ideal) kv (ix2 0 0) → flat (drawOf kv) ≤ flat j)
    ∧ ∀ j : Fin 20 × Fin 128, k0_pay18 (F := Ideal) (k0_pay257 laneNo) kv (ix2 j.1 j.2) = 1#1 ↔ j = drawOf kv :=
  (exists_draw kv).choose_spec

/-- The sums against the selection read the drawn cell. -/
theorem reads_draw (kv b : FVec Ideal S20x128 .f32) :
    k0_pay20 (F := Ideal) b (k0_pay257 laneNo) kv (ix2 0 0) = b (ix2 (drawOf kv).1 (drawOf kv).2)
    ∧ k0_pay21 (F := Ideal) b (k0_pay257 laneNo) kv (ix2 0 0) = b (ix2 (drawOf kv).1 (drawOf kv).2)
    ∧ k0_pay22 (F := Ideal) b (k0_pay257 laneNo) kv (ix2 0 0) = b (ix2 (drawOf kv).1 (drawOf kv).2)
    ∧ k0_pay23 (F := Ideal) b (k0_pay257 laneNo) kv (ix2 0 0) = b (ix2 (drawOf kv).1 (drawOf kv).2)
    ∧ k0_pay24 (F := Ideal) (k0_pay257 laneNo) b kv (ix2 0 0) = b (ix2 (drawOf kv).1 (drawOf kv).2) := by
  rw [← sum_mark (fun x : Fin 20 × Fin 128 => b (ix2 x.1 x.2)) _ _ (drawOf_spec kv).2.2.2, Fintype.sum_prod_type]
  generalize k0_pay257 laneNo = fl
  refine ⟨?_, ?_, ?_, ?_, ?_⟩
  · pointwise [k0_pay20, k0_pay19]
  · pointwise [k0_pay21, k0_pay19]
  · pointwise [k0_pay22, k0_pay19]
  · pointwise [k0_pay23, k0_pay19]
  · pointwise [k0_pay24, k0_pay19]

section Row
variable (l : Fin 128) (k : ℕ) (hk : k < 128) (old : FVec Ideal S1x128 .f32) (x : FVec Ideal S1x1 .f32)
include hk

/-- A trip writes its own column of each output row. -/
theorem row_words : k0_pay261 (F := Ideal) old (Scf.iv 0#32 1#32 k) x (ix2 0 l) = (if l.val = k then x (ix2 0 0) else old (ix2 0 l))
    ∧ k0_pay262 (F := Ideal) old (Scf.iv 0#32 1#32 k) x (ix2 0 l) = (if l.val = k then x (ix2 0 0) else old (ix2 0 l))
    ∧ k0_pay263 (F := Ideal) old (Scf.iv 0#32 1#32 k) x (ix2 0 l) = (if l.val = k then x (ix2 0 0) else old (ix2 0 l))
    ∧ k0_pay264 (F := Ideal) old (Scf.iv 0#32 1#32 k) x (ix2 0 l) = (if l.val = k then x (ix2 0 0) else old (ix2 0 l))
    ∧ k0_pay266 (F := Ideal) old (Scf.iv 0#32 1#32 k) x (ix2 0 l) = (if l.val = k then x (ix2 0 0) else old (ix2 0 l)) := by
  simp only [← iv_eq k l hk]
  refine ⟨?_, ?_, ?_, ?_, ?_⟩
  · rw [← select_eq]; pointwise [k0_pay261, k0_pay260]
  · rw [← select_eq]; pointwise [k0_pay262, k0_pay260]
  · rw [← select_eq]; pointwise [k0_pay263, k0_pay260]
  · rw [← select_eq]; pointwise [k0_pay264, k0_pay260]
  · rw [← select_eq]; pointwise [k0_pay266, k0_pay260]

/-- A trip writes its score, zero for none, at its own lane. -/
theorem row_score (kv : FVec Ideal S20x128 .f32) : k0_pay265 (F := Ideal) old (Scf.iv 0#32 1#32 k) (k0_pay17 kv) (k0_pay25 kv) (ix2 0 l)
    = if l.val = k then (if 0 < k0_pay17 (F := Ideal) kv (ix2 0 0) then k0_pay17 (F := Ideal) kv (ix2 0 0) else 0) else old (ix2 0 l) := by
  simp only [← iv_eq k l hk]
  rw [← select_eq]; pointwise [k0_pay265, k0_pay260, k0_pay25]

end Row

section Draws
variable (b1 b2 b3 b4 : FVec Ideal S20x128 .f32) (init : Drawn Ideal)

/-- The second loop makes 100 trips. -/
theorem trips_t2 : k0_t2_loop.trips = 100 := by rfl

/-- The state after one more draw. -/
theorem draws_next {t : ℕ} (ht : t < 100) : draws laneNo b1 b2 b3 b4 init (t + 1)
    = drawStep laneNo b1 b2 b3 b4 ⟨t, by rw [trips_t2]; exact ht⟩ (draws laneNo b1 b2 b3 b4 init t) :=
  draws_succ laneNo b1 b2 b3 b4 init ⟨t, by rw [trips_t2]; exact ht⟩

/-- The scores before trip `t`. -/
abbrev before (t : ℕ) : FVec Ideal S20x128 .f32 := (draws laneNo b1 b2 b3 b4 init t).1

/-- A cell of the drawn column. -/
abbrev atDraw (b kv : FVec Ideal S20x128 .f32) : EReal := b (ix2 (drawOf kv).1 (drawOf kv).2)

open Classical in
/-- One trip, entry by entry. -/
theorem step_words (k : Fin k0_t2_loop.trips) (a : Drawn Ideal) (l : Fin 128) (j : Fin 20 × Fin 128) :
    (drawStep laneNo b1 b2 b3 b4 k a).1 (ix2 j.1 j.2) = (if j = drawOf a.1 then dead else a.1 (ix2 j.1 j.2))
    ∧ (drawStep laneNo b1 b2 b3 b4 k a).2.1 (ix2 0 l) = (if l.val = k.val then atDraw b1 a.1 else a.2.1 (ix2 0 l))
    ∧ (drawStep laneNo b1 b2 b3 b4 k a).2.2.1 (ix2 0 l) = (if l.val = k.val then atDraw b2 a.1 else a.2.2.1 (ix2 0 l))
    ∧ (drawStep laneNo b1 b2 b3 b4 k a).2.2.2.1 (ix2 0 l) = (if l.val = k.val then atDraw b3 a.1 else a.2.2.2.1 (ix2 0 l))
    ∧ (drawStep laneNo b1 b2 b3 b4 k a).2.2.2.2.1 (ix2 0 l) = (if l.val = k.val then atDraw b4 a.1 else a.2.2.2.2.1 (ix2 0 l))
    ∧ (drawStep laneNo b1 b2 b3 b4 k a).2.2.2.2.2.1 (ix2 0 l) = (if l.val = k.val then
        (if 0 < k0_pay17 (F := Ideal) a.1 (ix2 0 0) then k0_pay17 (F := Ideal) a.1 (ix2 0 0) else 0) else a.2.2.2.2.2.1 (ix2 0 l))
    ∧ (drawStep laneNo b1 b2 b3 b4 k a).2.2.2.2.2.2 (ix2 0 l) = (if l.val = k.val then atDraw (k0_pay258 (F := Ideal)) a.1 else a.2.2.2.2.2.2 (ix2 0 l)) := by
  have hk : k.val < 128 := by have := lt_of_lt_of_eq k.isLt trips_t2; omega
  obtain ⟨kv, r1, r2, r3, r4, r5, r6⟩ := a
  unfold drawStep
  dsimp only
  have r := fun b => reads_draw kv b
  rw [(row_words l k.val hk _ _).1, (row_words l k.val hk _ _).2.1, (row_words l k.val hk _ _).2.2.1, (row_words l k.val hk _ _).2.2.2.1,
    (row_words l k.val hk _ _).2.2.2.2, row_score l k.val hk, (r b1).1, (r b2).2.1, (r b3).2.2.1, (r b4).2.2.2.1, (r _).2.2.2.2]
  refine ⟨?_, rfl, rfl, rfl, rfl, rfl, rfl⟩
  have e : ∀ (kv : FVec Ideal S20x128 .f32) (z : IVec S20x128 1), k0_pay267 (F := Ideal) kv z (ix2 j.1 j.2)
    = if z (ix2 j.1 j.2) = 1#1 then dead else kv (ix2 j.1 j.2) := fun kv z => by
      rw [← select_eq]; pointwise [k0_pay267]
  rw [e]
  exact if_congr ((drawOf_spec kv).2.2.2 j) rfl rfl

/-- Later trips keep what an earlier trip wrote. -/
theorem rows (k : ℕ) (hk : k ≤ 100) (l : Fin 128) (hl : l.val < k) :
    (draws laneNo b1 b2 b3 b4 init k).2.1 (ix2 0 l) = atDraw b1 (before b1 b2 b3 b4 init l)
    ∧ (draws laneNo b1 b2 b3 b4 init k).2.2.1 (ix2 0 l) = atDraw b2 (before b1 b2 b3 b4 init l)
    ∧ (draws laneNo b1 b2 b3 b4 init k).2.2.2.1 (ix2 0 l) = atDraw b3 (before b1 b2 b3 b4 init l)
    ∧ (draws laneNo b1 b2 b3 b4 init k).2.2.2.2.1 (ix2 0 l) = atDraw b4 (before b1 b2 b3 b4 init l)
    ∧ (draws laneNo b1 b2 b3 b4 init k).2.2.2.2.2.1 (ix2 0 l) = (if 0 < k0_pay17 (F := Ideal) (before b1 b2 b3 b4 init l) (ix2 0 0)
        then k0_pay17 (F := Ideal) (before b1 b2 b3 b4 init l) (ix2 0 0) else 0)
    ∧ (draws laneNo b1 b2 b3 b4 init k).2.2.2.2.2.2 (ix2 0 l) = atDraw (k0_pay258 (F := Ideal)) (before b1 b2 b3 b4 init l) := by
  induction k with
  | zero => omega
  | succ k ih =>
    rw [draws_next b1 b2 b3 b4 init (by omega)]
    obtain ⟨-, h1, h2, h3, h4, h5, h6⟩ := step_words b1 b2 b3 b4 ⟨k, by rw [trips_t2]; omega⟩ (draws laneNo b1 b2 b3 b4 init k) l (0, 0)
    rw [h1, h2, h3, h4, h5, h6]
    by_cases e : l.val = k
    · simp only [before, e, if_true, and_self]
    · obtain ⟨i1, i2, i3, i4, i5, i6⟩ := ih (by omega) (by omega)
      simp only [e, if_false]
      exact ⟨i1, i2, i3, i4, i5, i6⟩

/-- What an out-of-play score counts as in the grid. -/
def inGrid (x : EReal) : EReal := if x = ⊥ then low else x

/-- The second loop draws from the grid of the picks. -/
theorem drawing (v : Fin 2000 → EReal) (hv : ∀ p, v p ≠ ⊥ → 0 < v p) (hcell : ∀ p, init.1 (ix2 (cell p).1 (cell p).2) = inGrid (v p))
    (hpad : ∀ j : Fin 20 × Fin 128, 100 ≤ j.2.val → init.1 (ix2 j.1 j.2) = pad) :
    Drawing v inGrid dead pad (fun t j => before b1 b2 b3 b4 init t (ix2 j.1 j.2))
      (fun t => k0_pay17 (F := Ideal) (before b1 b2 b3 b4 init t) (ix2 0 0)) (fun t => drawOf (before b1 b2 b3 b4 init t)) := by
  have hge : ∀ p, low ≤ inGrid (v p) := fun p => by
    unfold inGrid; split
    · exact le_refl _
    · rename_i h; exact (low_neg.trans (hv p h)).le
  refine ⟨fun p q h => ?_, fun p => dead_lt_low.trans_le (hge p), fun p => pad_lt_low.trans_le (hge p), hcell, hpad,
    fun t _ j => (drawOf_spec _).1 j, fun t _ => (drawOf_spec _).2.1, fun t _ j => (drawOf_spec _).2.2.1 j, fun t ht j => ?_⟩
  · have hq : v q ≠ ⊥ := (bot_le.trans_lt h).ne'
    unfold inGrid; rw [if_neg hq]
    split
    · exact low_neg.trans (hv q hq)
    · exact h
  · classical
    show (draws laneNo b1 b2 b3 b4 init (t + 1)).1 (ix2 j.1 j.2) = _
    rw [draws_next b1 b2 b3 b4 init ht, (step_words b1 b2 b3 b4 _ _ 0 j).1]

/-- Every draw is the cell of an entry of the sorted picks, with that entry's score. -/
theorem draw_sorted (v : Fin 2000 → EReal) (hv : ∀ p, v p ≠ ⊥ → 0 < v p) (hcell : ∀ p, init.1 (ix2 (cell p).1 (cell p).2) = inGrid (v p))
    (hpad : ∀ j : Fin 20 × Fin 128, 100 ≤ j.2.val → init.1 (ix2 j.1 j.2) = pad) {B : Fin 2000 → Fin 2000 → Bool} (hK : ByKey v B)
    (t : ℕ) (ht : t < 100) : drawOf (before b1 b2 b3 b4 init t) = cell (sortedFrom B ⟨t, by omega⟩)
      ∧ k0_pay17 (F := Ideal) (before b1 b2 b3 b4 init t) (ix2 0 0) = inGrid (v (sortedFrom B ⟨t, by omega⟩)) :=
  (drawing b1 b2 b3 b4 init v hv hcell hpad).eq_sorted hK t ht

end Draws

end Cert.KernelIdeal.Body

end
-- ==== Proof.KernelResult.lean ====
/- The kernel's rows of results are the answer to the posed problem. -/
module

public import proofs.«01_k».proof.Proof.Answer
public import proofs.«01_k».proof.Proof.KernelOut
public import proofs.«01_k».proof.Proof.KernelInputs
public import proofs.«01_k».proof.Proof.KernelDraws

@[expose] public section

set_option maxRecDepth 16384

noncomputable section

namespace Cert.KernelIdeal.Body

open Cert.KernelIdeal Cert.KernelIdeal.Gen Idealize.ShloMosaic Nms

/-- The first loop makes 100 trips. -/
theorem trips_list : Scf.trips 0#32 (Scalar.addi 0#32 100#32) 1#32 = 100 := rfl

/-- A cell's label is its class. -/
theorem label_apply (j : Fin 20 × Fin 128) : k0_pay258 (F := Ideal) (ix2 j.1 j.2) = ((j.1.val : ℕ) : EReal) := by
  pointwise [k0_pay258]
  show (((BitVec.ofNat 32 j.1.val).toInt : ℝ) : EReal) = _
  have h := j.1.isLt
  rw [toInt_small (n := j.1.val) (by rw [BitVec.toNat_ofNat]; omega) (by omega)]
  rfl

section Result
variable (m : (ℓ : Loc nD τ sig) → Buf (Elt Ideal) ℓ) (c : Dev nD) (t : Fin cfg0.N)

/-- Every class's picks are held. -/
def AllShortlisted (P : Problem) : Prop := ∀ i, AllHeld P.boxes.sup (P.scores i)

variable (hall : AllShortlisted (posed m c))
include hall

/-- The picks' rows. -/
theorem picked_apply (p : Fin 2000) :
    (picked m c t).1 (ix2 (cell p).1 (cell p).2) = inGrid ((posed m c).best p)
    ∧ (picked m c t).2.1 (ix2 (cell p).1 (cell p).2) = coordOf (posed m c).boxes.x1 ((posed m c).stage p)
    ∧ (picked m c t).2.2.1 (ix2 (cell p).1 (cell p).2) = coordOf (posed m c).boxes.y1 ((posed m c).stage p)
    ∧ (picked m c t).2.2.2.1 (ix2 (cell p).1 (cell p).2) = coordOf (posed m c).boxes.x2 ((posed m c).stage p)
    ∧ (picked m c t).2.2.2.2 (ix2 (cell p).1 (cell p).2) = coordOf (posed m c).boxes.y2 ((posed m c).stage p) := by
  have hl : (cell p).2.val < 100 := Nat.mod_lt _ (by decide)
  have h := ((inputs m c t (cell p).1 (hall _)).picks 100 (le_refl _)).2 (cell p).2
  have h' := h.1 hl
  unfold picked
  rw [trips_list]
  exact ⟨h'.1.trans (scoreOf_eq _ _), h'.2⟩

/-- The lanes past the hundredth hold the filling value. -/
theorem picked_pad (j : Fin 20 × Fin 128) (hj : 100 ≤ j.2.val) : (picked m c t).1 (ix2 j.1 j.2) = pad := by
  have h := ((inputs m c t j.1 (hall _)).picks 100 (le_refl _)).2 j.2
  unfold picked
  rw [trips_list]
  exact h.2 hj

/-- The output rows. -/
theorem outs (l : Fin 100) :
    out3 m c t (ix2 0 ⟨l.val, by omega⟩) = (posed m c).answer l 0 ∧ out4 m c t (ix2 0 ⟨l.val, by omega⟩) = (posed m c).answer l 1
    ∧ out5 m c t (ix2 0 ⟨l.val, by omega⟩) = (posed m c).answer l 2 ∧ out6 m c t (ix2 0 ⟨l.val, by omega⟩) = (posed m c).answer l 3
    ∧ out7 m c t (ix2 0 ⟨l.val, by omega⟩) = (posed m c).answer l 4 ∧ out8 m c t (ix2 0 ⟨l.val, by omega⟩) = (posed m c).answer l 5 := by
  rw [out3_eq, out4_eq, out5_eq, out6_eq, out7_eq, out8_eq]
  have hp := picked_apply m c t hall
  have hpad := picked_pad m c t hall
  revert hp hpad
  generalize picked m c t = S
  obtain ⟨S0, S1, S2, S3, S4⟩ := S
  intro hp hpad
  unfold drawn
  rw [trips_list]
  dsimp only at hp hpad ⊢
  have hr := rows S1 S2 S3 S4 (S0, k0_pay259 (F := Ideal), k0_pay259 (F := Ideal), k0_pay259 (F := Ideal), k0_pay259 (F := Ideal), k0_pay259 (F := Ideal),
    k0_pay259 (F := Ideal)) 100 (le_refl _) ⟨l.val, by omega⟩ l.isLt
  have hd := draw_sorted S1 S2 S3 S4 (S0, k0_pay259 (F := Ideal), k0_pay259 (F := Ideal), k0_pay259 (F := Ideal), k0_pay259 (F := Ideal), k0_pay259 (F := Ideal),
    k0_pay259 (F := Ideal)) (posed m c).best (posed m c).best_pos (fun p => (hp p).1) hpad (posed m c).byBest_key l.val l.isLt
  obtain ⟨r1, r2, r3, r4, r5, r6⟩ := hr
  rw [r1, r2, r3, r4, r5, r6]
  dsimp only [atDraw]
  rw [hd.1, hd.2]
  have hq := hp (sortedFrom (posed m c).byBest ⟨l.val, by omega⟩)
  refine ⟨hq.2.1, hq.2.2.1, hq.2.2.2.1, hq.2.2.2.2, ?_, label_apply _⟩
  show _ = if 0 < (posed m c).best ((posed m c).chosen l) then (posed m c).best ((posed m c).chosen l) else 0
  rw [show sortedFrom (posed m c).byBest ⟨l.val, by omega⟩ = (posed m c).chosen l from rfl]
  generalize (posed m c).best ((posed m c).chosen l) = v
  unfold inGrid
  by_cases hv : v = ⊥
  · rw [if_pos hv, hv, if_neg (not_lt.2 low_neg.le), if_neg (by simp)]
  · rw [if_neg hv]

end Result

end Cert.KernelIdeal.Body

end
-- ==== Proof.KernelTail.lean ====
/- The operations after the region stack the six rows of results, and the kernel's run ends with the answer. -/
module

public import proofs.«01_k».proof.Proof.KernelResult

@[expose] public section

set_option maxRecDepth 16384

noncomputable section

namespace Cert.KernelIdeal.Body

open Cert.KernelIdeal Cert.KernelIdeal.Gen Idealize.ShloMosaic Idealize.ShloMosaic.Pipeline Nms

/-- The region has one point. -/
theorem points_eq (t t' : Fin cfg0.N) : t = t' := Fin.ext (by have h1 : t.val < 1 := t.isLt; have h2 : t'.val < 1 := t'.isLt; omega)

/-- The region's point. -/
abbrev point : Fin cfg0.N := ⟨0, by decide⟩

section Arrays
variable (m : (ℓ : Loc nD τ sig) → Buf (Elt Ideal) ℓ) (c : Dev nD)

/-- The array of result 1 after the call. -/
theorem array3 : ((dats m 0 c).arrAt 3 cfg0.N : FVec Ideal S1x128 .f32) = out3 m c point := by
  have h := (dats m 0 c).read_blk_arrAt_eq_flushed 3 (fun t t' _ _ h => absurd (points_eq t t') h) cfg0.N point (by decide) rfl
  rw [← after_3 m c point]
  refine Eq.trans ?_ h
  generalize (dats m 0 c).arrAt 3 cfg0.N = X
  funext y
  exact congrArg X (funext fun a => Fin.ext (by
    show (y a).val = _ + 1 * (y a).val
    match a with
    | ⟨0, _⟩ => show _ = 0 * 1 + 1 * _; omega
    | ⟨1, _⟩ => show _ = 0 * 128 + 1 * _; omega))

/-- The array of result 2 after the call. -/
theorem array4 : ((dats m 0 c).arrAt 4 cfg0.N : FVec Ideal S1x128 .f32) = out4 m c point := by
  have h := (dats m 0 c).read_blk_arrAt_eq_flushed 4 (fun t t' _ _ h => absurd (points_eq t t') h) cfg0.N point (by decide) rfl
  rw [← after_4 m c point]
  refine Eq.trans ?_ h
  generalize (dats m 0 c).arrAt 4 cfg0.N = X
  funext y
  exact congrArg X (funext fun a => Fin.ext (by
    show (y a).val = _ + 1 * (y a).val
    match a with
    | ⟨0, _⟩ => show _ = 0 * 1 + 1 * _; omega
    | ⟨1, _⟩ => show _ = 0 * 128 + 1 * _; omega))

/-- The array of result 3 after the call. -/
theorem array5 : ((dats m 0 c).arrAt 5 cfg0.N : FVec Ideal S1x128 .f32) = out5 m c point := by
  have h := (dats m 0 c).read_blk_arrAt_eq_flushed 5 (fun t t' _ _ h => absurd (points_eq t t') h) cfg0.N point (by decide) rfl
  rw [← after_5 m c point]
  refine Eq.trans ?_ h
  generalize (dats m 0 c).arrAt 5 cfg0.N = X
  funext y
  exact congrArg X (funext fun a => Fin.ext (by
    show (y a).val = _ + 1 * (y a).val
    match a with
    | ⟨0, _⟩ => show _ = 0 * 1 + 1 * _; omega
    | ⟨1, _⟩ => show _ = 0 * 128 + 1 * _; omega))

/-- The array of result 4 after the call. -/
theorem array6 : ((dats m 0 c).arrAt 6 cfg0.N : FVec Ideal S1x128 .f32) = out6 m c point := by
  have h := (dats m 0 c).read_blk_arrAt_eq_flushed 6 (fun t t' _ _ h => absurd (points_eq t t') h) cfg0.N point (by decide) rfl
  rw [← after_6 m c point]
  refine Eq.trans ?_ h
  generalize (dats m 0 c).arrAt 6 cfg0.N = X
  funext y
  exact congrArg X (funext fun a => Fin.ext (by
    show (y a).val = _ + 1 * (y a).val
    match a with
    | ⟨0, _⟩ => show _ = 0 * 1 + 1 * _; omega
    | ⟨1, _⟩ => show _ = 0 * 128 + 1 * _; omega))

/-- The array of result 5 after the call. -/
theorem array7 : ((dats m 0 c).arrAt 7 cfg0.N : FVec Ideal S1x128 .f32) = out7 m c point := by
  have h := (dats m 0 c).read_blk_arrAt_eq_flushed 7 (fun t t' _ _ h => absurd (points_eq t t') h) cfg0.N point (by decide) rfl
  rw [← after_7 m c point]
  refine Eq.trans ?_ h
  generalize (dats m 0 c).arrAt 7 cfg0.N = X
  funext y
  exact congrArg X (funext fun a => Fin.ext (by
    show (y a).val = _ + 1 * (y a).val
    match a with
    | ⟨0, _⟩ => show _ = 0 * 1 + 1 * _; omega
    | ⟨1, _⟩ => show _ = 0 * 128 + 1 * _; omega))

/-- The array of result 6 after the call. -/
theorem array8 : ((dats m 0 c).arrAt 8 cfg0.N : FVec Ideal S1x128 .f32) = out8 m c point := by
  have h := (dats m 0 c).read_blk_arrAt_eq_flushed 8 (fun t t' _ _ h => absurd (points_eq t t') h) cfg0.N point (by decide) rfl
  rw [← after_8 m c point]
  refine Eq.trans ?_ h
  generalize (dats m 0 c).arrAt 8 cfg0.N = X
  funext y
  exact congrArg X (funext fun a => Fin.ext (by
    show (y a).val = _ + 1 * (y a).val
    match a with
    | ⟨0, _⟩ => show _ = 0 * 1 + 1 * _; omega
    | ⟨1, _⟩ => show _ = 0 * 128 + 1 * _; omega))

end Arrays

/-- A row's first hundred entries, as a column. -/
def column (x : FVec Ideal S1x128 .f32) : FVec Ideal S100x1 .f32 :=
  broadcastInDim S100x1 ![0] bcast_S100_S100x1_0 (shapeCast S100 (extractStridedSlice S1x100 ![0, 0] x slices_S1x128_S1x100_0_0) shapeCasts_S1x100_S100)

/-- A result row as a column of its first 100 lanes. -/
theorem column_apply (x : FVec Ideal S1x128 .f32) (l : Fin 100) : column x (ix2 l 0) = x (ix2 0 ⟨l.val, by omega⟩) := by
  pointwise [column]

/-- The last operations' result, from what the six rows hold. -/
theorem stacked (W : Valuation τ sig (Elt Ideal)) : (StableHlo.after (hostOps1 (F := Ideal)) W (Proc.devRef .tc main_v0) : FVec Ideal S1x100x6 .f32)
    = broadcastInDim S1x100x6 ![1, 2] bcast_S100x6_S1x100x6_1_2 (concatenate S100x6 1
      [⟨S100x1, column (W (Proc.devRef .tc main_call0_v14_0))⟩, ⟨S100x1, column (W (Proc.devRef .tc main_call0_v14_1))⟩,
       ⟨S100x1, column (W (Proc.devRef .tc main_call0_v14_2))⟩, ⟨S100x1, column (W (Proc.devRef .tc main_call0_v14_3))⟩,
       ⟨S100x1, column (W (Proc.devRef .tc main_call0_v14_4))⟩, ⟨S100x1, column (W (Proc.devRef .tc main_call0_v14_5))⟩]
      concatenates_S100x1_S100x1_S100x1_S100x1_S100x1_S100x1_S100x6_d1) := rfl

/-- Six columns side by side. -/
theorem stack_apply (x : Fin 6 → FVec Ideal S100x1 .f32) (l : Fin 100) (k : Fin 6) :
    broadcastInDim S1x100x6 ![1, 2] bcast_S100x6_S1x100x6_1_2 (concatenate S100x6 1
      [⟨S100x1, x 0⟩, ⟨S100x1, x 1⟩, ⟨S100x1, x 2⟩, ⟨S100x1, x 3⟩, ⟨S100x1, x 4⟩, ⟨S100x1, x 5⟩]
      concatenates_S100x1_S100x1_S100x1_S100x1_S100x1_S100x1_S100x6_d1) (ix3 0 l k) = x k (ix2 l 0) := by
  match k with
  | ⟨0, _⟩ => pointwise []
  | ⟨1, _⟩ => pointwise []
  | ⟨2, _⟩ => pointwise []
  | ⟨3, _⟩ => pointwise []
  | ⟨4, _⟩ => pointwise []
  | ⟨5, _⟩ => pointwise []

section Run
variable (m : (ℓ : Loc nD τ sig) → Buf (Elt Ideal) ℓ)

/-- The answer to the problem that the arguments pose, as the result's buffer holds it. -/
def answered (P : Problem) : FVec Ideal S1x100x6 .f32 := fun y => P.answer (y 1) (y 2)

/-- The kernel's result is the answer. -/
theorem result_eq (c : Dev nD) (hall : AllShortlisted (posed m c)) :
    (Pipeline.afterTail₀ cfgs (dats m) 0 (V0 m) [hostOps1] c main_v0 : FVec Ideal S1x100x6 .f32) = answered (posed m c) := by
  have e : (Pipeline.afterTail₀ cfgs (dats m) 0 (V0 m) [hostOps1] c main_v0 : FVec Ideal S1x100x6 .f32)
      = StableHlo.after (hostOps1 (F := Ideal)) (withArrays spec0 c (V0 m c) fun w => (dats m 0 c).arrAt w cfg0.N) (Proc.devRef .tc main_v0) := rfl
  have hinj : Function.Injective (arrRef spec0) := by decide
  have hw := withArrays_arr spec0 hinj c (V0 m c) fun w => (dats m 0 c).arrAt w cfg0.N
  have w3 := (hw 3).trans (array3 m c)
  have w4 := (hw 4).trans (array4 m c)
  have w5 := (hw 5).trans (array5 m c)
  have w6 := (hw 6).trans (array6 m c)
  have w7 := (hw 7).trans (array7 m c)
  have w8 := (hw 8).trans (array8 m c)
  rw [e, stacked]
  generalize withArrays spec0 c (V0 m c) (fun w => (dats m 0 c).arrAt w cfg0.N) = W at w3 w4 w5 w6 w7 w8 ⊢
  obtain ⟨h1, h2, h3, h4, h5, h6⟩ : _ ∧ _ ∧ _ ∧ _ ∧ _ ∧ _ := ⟨w3, w4, w5, w6, w7, w8⟩
  funext y
  have ho := outs m c point hall (y 1)
  rw [show y = ix3 0 (y 1) (y 2) from by funext a; match a with | ⟨0, _⟩ => exact Subsingleton.elim (α := Fin 1) _ _ | ⟨1, _⟩ => rfl | ⟨2, _⟩ => rfl]
  refine (stack_apply ![column (W (Proc.devRef .tc main_call0_v14_0)), column (W (Proc.devRef .tc main_call0_v14_1)), column (W (Proc.devRef .tc main_call0_v14_2)),
    column (W (Proc.devRef .tc main_call0_v14_3)), column (W (Proc.devRef .tc main_call0_v14_4)), column (W (Proc.devRef .tc main_call0_v14_5))] (y 1) (y 2)).trans ?_
  show _ = (posed m c).answer (y 1) (y 2)
  generalize y 1 = l, y 2 = k at ho ⊢
  match k with
  | ⟨0, _⟩ => exact (column_apply _ l).trans ((congrFun w3 _).trans ho.1)
  | ⟨1, _⟩ => exact (column_apply _ l).trans ((congrFun w4 _).trans ho.2.1)
  | ⟨2, _⟩ => exact (column_apply _ l).trans ((congrFun w5 _).trans ho.2.2.1)
  | ⟨3, _⟩ => exact (column_apply _ l).trans ((congrFun w6 _).trans ho.2.2.2.1)
  | ⟨4, _⟩ => exact (column_apply _ l).trans ((congrFun w7 _).trans ho.2.2.2.2.1)
  | ⟨5, _⟩ => exact (column_apply _ l).trans ((congrFun w8 _).trans ho.2.2.2.2.2)

/-- The kernel's run ends with the answer, its arguments as they were. -/
theorem run_answer (g : Dev nD → PrngReg) (hall : ∀ c, AllShortlisted (posed m c)) : θ_run defs (onTc (τ := τ) (main (F := Ideal))) ⟨m, fun _ => 0, g⟩ fun r =>
    ∀ c : Dev nD, r.2.mem ((c.tc : Thread nD τ).loc main_v0) = answered (posed m c) := by
  refine (θ_run defs _ _).mono (fun r h c => ?_) (run_main m g)
  exact ((h c).2 main_v0 (Pipeline.mem_restRefs_of main_v0 (by decide) (by decide))).trans (result_eq m c (hall c))

end Run

end Cert.KernelIdeal.Body

end
-- ==== Proof.PreCount.lean ====
/- Counting the marks of the precondition, and its first best anchor. -/
module

public import proofs.«01_k».proof.Proof.Best
public import proofs.«01_k».proof.Proof.Greedy
public import Idealize.ShloMosaic.Lib.IdealHost

@[expose] public section

noncomputable section

namespace Nms

open Idealize.ShloMosaic

/-- The word of infinity. -/
theorem posInf : Ideal.ofBits .f32 0x7F800000#32 = ⊤ := by simp [Ideal.ofBits, Ideal.ieee]

/-- The word of 5000. -/
theorem word_5000 : Ideal.ofBits .f32 0x459C4000#32 = ((5000 : ℕ) : EReal) := by
  rw [← EReal.coe_coe_eq_natCast]
  simp [Ideal.ofBits, Ideal.ieee]
  rw [← EReal.coe_mul]; norm_num
/-- The word of 16. -/
theorem word_16 : Ideal.ofBits .f32 0x41800000#32 = ((16 : ℕ) : EReal) := by
  rw [← EReal.coe_coe_eq_natCast]
  simp [Ideal.ofBits, Ideal.ieee]
  rw [← EReal.coe_mul]; norm_num
/-- The word of 15. -/
theorem word_15 : Ideal.ofBits .f32 0x41700000#32 = ((15 : ℕ) : EReal) := by
  rw [← EReal.coe_coe_eq_natCast]
  simp [Ideal.ofBits, Ideal.ieee]
  rw [← EReal.coe_mul]; norm_num

/-- Natural numbers compare as extended reals do. -/
theorem natCast_lt (a b : ℕ) : (a : EReal) < (b : EReal) ↔ a < b := EReal.natCast_lt_iff

/-- The remainder of a small number. -/
theorem remsi_small (n : ℕ) (h : n < 20000) : IntOp.remsi .host (BitVec.ofNat 32 n) 128#32 = BitVec.ofNat 32 (n % 128) := by
  unfold IntOp.remsi
  have hm : (BitVec.ofNat 32 n).msb = false := by
    rw [BitVec.msb_eq_decide]; simp; omega
  rw [if_neg (by rintro (h | ⟨-, h⟩) <;> exact absurd h (by decide)), BitVec.srem_eq, hm]
  have h2 : (128#32 : BitVec 32).msb = false := by decide
  rw [h2]
  apply BitVec.eq_of_toNat_eq
  simp [BitVec.toNat_umod]
  omega

/-- A list of distinct members of a predicate is no longer than its count. -/
theorem count_lt {N k : ℕ} (P : ℕ → Prop) [DecidablePred fun x : Fin N => P x.val] (hP : ∀ n, P n → n < N)
    (h : (Finset.univ.filter fun x : Fin N => P x.val).card < k) (f : Fin k → ℕ) (hf : Function.Injective f) : ¬ ∀ i, P (f i) := by
  intro hall
  have := Finset.card_le_card_of_injOn (s := (Finset.univ : Finset (Fin k))) (t := Finset.univ.filter fun x : Fin N => P x.val)
    (fun i => ⟨f i, hP _ (hall i)⟩) (fun i _ => by simpa using hall i) (fun i _ j _ e => hf (Fin.mk.inj e))
  rw [Finset.card_univ, Fintype.card_fin] at this
  omega

/-- A count gives a list of distinct members. -/
theorem list_of_count {N k : ℕ} (P : ℕ → Prop) [DecidablePred fun x : Fin N => P x.val]
    (h : k ≤ (Finset.univ.filter fun x : Fin N => P x.val).card) : ∃ f : Fin k → ℕ, Function.Injective f ∧ ∀ i, P (f i) := by
  obtain ⟨t, ht, hc⟩ := Finset.exists_subset_card_eq h
  refine ⟨fun i => (t.equivFinOfCardEq hc).symm i |>.val.val, fun i j e => ?_, fun i => ?_⟩
  · exact (t.equivFinOfCardEq hc).symm.injective (Subtype.ext (Fin.ext e))
  · have := ht ((t.equivFinOfCardEq hc).symm i).property
    simpa using this

/-- The ranks and the counts of the precondition. -/
theorem held_of_counts {S : ℕ → EReal} {p : ℕ} (big : ∀ n, 20000 ≤ n → S n = ⊥) (hp : S p ≠ ⊥) (hfin : S p < ⊤)
    [DecidablePred fun x : Fin 20000 => Ahead S p x.val] [DecidablePred fun x : Fin 20000 => Ahead S p x.val ∧ x.val % 128 = p % 128]
    [DecidablePred fun x : Fin 20000 => S x.val ≠ ⊥ ∧ x.val % 128 = p % 128]
    (h1 : (Finset.univ.filter fun x : Fin 20000 => Ahead S p x.val).card < 5000)
    (h2 : (Finset.univ.filter fun x : Fin 20000 => Ahead S p x.val ∧ x.val % 128 = p % 128).card < 16)
    (h3 : 15 < (Finset.univ.filter fun x : Fin 20000 => S x.val ≠ ⊥ ∧ x.val % 128 = p % 128).card) : Held S p := by
  have hlt : ∀ n, Ahead S p n → n < 20000 := fun n hn => by
    by_contra hge
    rcases hn with hn | ⟨hn, -⟩
    · rw [big n (not_lt.1 hge)] at hn; exact absurd hn not_lt_bot
    · rw [big n (not_lt.1 hge)] at hn; exact hp hn.symm
  exact ⟨hfin, fun f hf => count_lt (N := 20000) _ hlt h1 f hf,
    fun f hf => count_lt (N := 20000) (fun n => Ahead S p n ∧ n % 128 = p % 128) (fun n hn => hlt n hn.1) h2 f hf,
    list_of_count (N := 20000) (fun n => S n ≠ ⊥ ∧ n % 128 = p % 128) h3⟩

section First
variable {W : ℕ → EReal} {p : ℕ} (hp : IsPick W p) (hlt : p < 20000) (w : Fin 20000 → EReal) (hw : ∀ x, w x = W x.val)
include hp hlt hw

/-- The greatest score is the pick's. -/
theorem top_pick : Finset.fold max (Ideal.ofBits .f32 0xFF800000#32) w Finset.univ = W p := by
  obtain ⟨h1, j, h2⟩ := @max_spec (Fin 20000) _ ⟨⟨p, hlt⟩⟩ w
  refine le_antisymm ?_ ?_
  · rw [← h2, hw]; exact hp.le _
  · rw [show W p = w ⟨p, hlt⟩ from (hw ⟨p, hlt⟩).symm]; exact h1 _

/-- The first anchor with the greatest score is the pick. -/
theorem first_pick : Finset.fold IntOp.minsi (2147483647#32) (fun x : Fin 20000 => if w x = W p then BitVec.ofNat 32 x.val else 20000#32) Finset.univ
    = BitVec.ofNat 32 p := by
  obtain ⟨h1, h2⟩ := min_spec (fun x : Fin 20000 => if w x = W p then BitVec.ofNat 32 x.val else 20000#32) Finset.univ
  have small : ∀ n, n ≤ 20000 → (BitVec.ofNat 32 n).toInt = n := fun n hn => toInt_small (by simp; omega) (by omega)
  have hle := h1 ⟨p, hlt⟩ (Finset.mem_univ _)
  have e : (if w ⟨p, hlt⟩ = W p then BitVec.ofNat 32 p else 20000#32) = BitVec.ofNat 32 p := if_pos (hw _)
  simp only [e] at hle
  rw [small p hlt.le] at hle
  rcases h2 with h2 | ⟨j, -, h2⟩
  · rw [h2] at hle
    have : (2147483647#32 : BitVec 32).toInt = 2147483647 := by decide
    omega
  · by_cases hj : w j = W p
    · have h3 : (if w j = W p then BitVec.ofNat 32 j.val else 20000#32) = BitVec.ofNat 32 j.val := if_pos hj
      simp only [h3] at h2
      rw [h2, small j.val j.isLt.le] at hle
      have := hp.first ((hw j).symm.trans hj)
      rw [h2, show j.val = p by omega]
    · have h3 : (if w j = W p then BitVec.ofNat 32 j.val else 20000#32) = 20000#32 := if_neg hj
      simp only [h3] at h2
      rw [h2, show (20000#32 : BitVec 32) = BitVec.ofNat 32 20000 from rfl, small 20000 le_rfl] at hle
      omega

end First

/-- Scores all out of play have no greatest one. -/
theorem top_dead (w : Fin 20000 → EReal) (hw : ∀ x, w x = ⊥) : Finset.fold max (Ideal.ofBits .f32 0xFF800000#32) w Finset.univ = ⊥ := by
  obtain ⟨-, j, h2⟩ := @max_spec (Fin 20000) _ ⟨⟨0, by decide⟩⟩ w
  rw [← h2, hw]

/-- The greatest of a nonnegative number at one place and zeros elsewhere. -/
theorem read_one (x : Fin 20000 → EReal) (k : Fin 20000 → BitVec 1) (q : Fin 20000) (hk : ∀ n, k n = 1#1 ↔ n = q) (hx : 0 ≤ x q) :
    Finset.fold max (Ideal.ofBits .f32 0xFF800000#32) (fun n => Scalar.select (k n) (x n) (0 : EReal)) Finset.univ = x q := by
  have e : ∀ n, Scalar.select (k n) (x n) (0 : EReal) = if n = q then x n else 0 := fun n => by
    unfold Scalar.select
    by_cases h : n = q
    · exact (if_pos ((hk n).2 h)).trans (if_pos h).symm
    · exact (if_neg fun h' => h ((hk n).1 h')).trans (if_neg h).symm
  obtain ⟨h1, j, h2⟩ := @max_spec (Fin 20000) _ ⟨q⟩ (fun n => Scalar.select (k n) (x n) (0 : EReal))
  refine le_antisymm ?_ ?_
  · rw [← h2, e]; split
    · rename_i h; rw [h]
    · exact hx
  · have := h1 q
    rw [e, if_pos rfl] at this
    exact this

end Nms

end
-- ==== Proof.ReferenceWords.lean ====
/- One round of the reference's suppression, as functions of plain arrays, and what they hold at each index. -/
module

public import proofs.«01_k».proof.Proof.ReferenceRun
public import proofs.«01_k».proof.Proof.Best
public import proofs.«01_k».proof.Proof.Problem
public import proofs.«01_k».proof.Proof.PreCount
public import Idealize.ShloMosaic.Lib.Pointwise
public import Idealize.ShloMosaic.Lib.WordCmp
public import Idealize.ShloMosaic.Lib.IdealHost

@[expose] public section

set_option maxRecDepth 10000

noncomputable section

namespace Cert.ReferenceIdeal.Value

open Cert.ReferenceIdeal Cert.ReferenceIdeal.Gen Idealize.ShloMosaic Nms

/-- Every class's best score. -/
def topOf (w : FVec Ideal S20x5000 .f32) : FVec Ideal S20 .f32 :=
  Host.reduce FloatOps.maximumf w (constant S_ .f32 0xFF800000#32) reducesTo_S20x5000_S20_d1 h_S_

/-- Where every class's best score first stands. -/
def bestOf (w : FVec Ideal S20x5000 .f32) : IVec S20 32 := fun j =>
  (Host.argReduce reducer_argmax_f32_i32 w (iotaInDim S20x5000 32 1) (constant S_ .f32 0xFF800000#32) (constantI S_ 32 0#32)
    reducesTo_S20x5000_S20_d1 h_S_ j).2

/-- A position as the reference looks it up: a negative one counts from the end. -/
def place (n : BitVec 32) (p : IVec S20 32) : IVec S20x1 32 :=
  broadcastInDim S20x1 ![0] bcast_S20_S20x1_0 (select (cmpi .slt p (broadcastInDim S20 ![] bcast_S_S20 (constantI S_ 32 0#32)))
    (addi p (broadcastInDim S20 ![] bcast_S_S20 (constantI S_ 32 n))) p)

/-- Class and position of the pick, as a table of two columns. -/
def places (p : IVec S20 32) : IVec S20x2 32 :=
  concatenate S20x2 1 [⟨S20x1, place 20#32 (iotaInDim S20 32 0)⟩, ⟨S20x1, place 5000#32 p⟩] concatenates_S20x1_S20x1_S20x2_d1

/-- The boxes that the classes pick. -/
def boxOf (l : FVec Ideal S20x5000x4 .f32) (p : IVec S20 32) : FVec Ideal S20x4 .f32 :=
  Host.gather gather_S20x5000x4_S20x2_S20x4_1_01_n_n_01_1_114 l (places p)

/-- Whether a class has a score left. -/
def liveOf (t : FVec Ideal S20 .f32) : IVec S20 1 :=
  cmpf .olt (Host.absf t) (broadcastInDim S20 ![] bcast_S_S20 (constant S_ .f32 0x7F800000#32))

/-- One coordinate of the picked boxes. -/
def pickX1 (a : FVec Ideal S20x4 .f32) : FVec Ideal S20x1 .f32 := shapeCast S20x1 (extractStridedSlice S20x1x1 ![0, 0, 0] (broadcastInDim S20x1x4 ![0, 2] bcast_S20x4_S20x1x4_0_2 a) slices_S20x1x4_S20x1x1_0_0_0) shapeCasts_S20x1x1_S20x1
/-- The picks' upper edges. -/
def pickY1 (a : FVec Ideal S20x4 .f32) : FVec Ideal S20x1 .f32 := shapeCast S20x1 (extractStridedSlice S20x1x1 ![0, 0, 1] (broadcastInDim S20x1x4 ![0, 2] bcast_S20x4_S20x1x4_0_2 a) slices_S20x1x4_S20x1x1_0_0_1) shapeCasts_S20x1x1_S20x1
/-- The picks' right edges. -/
def pickX2 (a : FVec Ideal S20x4 .f32) : FVec Ideal S20x1 .f32 := shapeCast S20x1 (extractStridedSlice S20x1x1 ![0, 0, 2] (broadcastInDim S20x1x4 ![0, 2] bcast_S20x4_S20x1x4_0_2 a) slices_S20x1x4_S20x1x1_0_0_2) shapeCasts_S20x1x1_S20x1
/-- The picks' lower edges. -/
def pickY2 (a : FVec Ideal S20x4 .f32) : FVec Ideal S20x1 .f32 := shapeCast S20x1 (extractStridedSlice S20x1x1 ![0, 0, 3] (broadcastInDim S20x1x4 ![0, 2] bcast_S20x4_S20x1x4_0_2 a) slices_S20x1x4_S20x1x1_0_0_3) shapeCasts_S20x1x1_S20x1
/-- One coordinate of all boxes. -/
def listX1 (l : FVec Ideal S20x5000x4 .f32) : FVec Ideal S20x5000 .f32 := shapeCast S20x5000 (extractStridedSlice S20x5000x1 ![0, 0, 0] l slices_S20x5000x4_S20x5000x1_0_0_0) shapeCasts_S20x5000x1_S20x5000
/-- The lists' upper edges. -/
def listY1 (l : FVec Ideal S20x5000x4 .f32) : FVec Ideal S20x5000 .f32 := shapeCast S20x5000 (extractStridedSlice S20x5000x1 ![0, 0, 1] l slices_S20x5000x4_S20x5000x1_0_0_1) shapeCasts_S20x5000x1_S20x5000
/-- The lists' right edges. -/
def listX2 (l : FVec Ideal S20x5000x4 .f32) : FVec Ideal S20x5000 .f32 := shapeCast S20x5000 (extractStridedSlice S20x5000x1 ![0, 0, 2] l slices_S20x5000x4_S20x5000x1_0_0_2) shapeCasts_S20x5000x1_S20x5000
/-- The lists' lower edges. -/
def listY2 (l : FVec Ideal S20x5000x4 .f32) : FVec Ideal S20x5000 .f32 := shapeCast S20x5000 (extractStridedSlice S20x5000x1 ![0, 0, 3] l slices_S20x5000x4_S20x5000x1_0_0_3) shapeCasts_S20x5000x1_S20x5000

/-- Widths, from zero. -/
def zeroAll : FVec Ideal S20x5000 .f32 := broadcastInDim S20x5000 ![] bcast_S_S20x5000 (constant S_ .f32 0x00000000#32)
/-- A zero for each class. -/
def zeroCol : FVec Ideal S20x1 .f32 := broadcastInDim S20x1 ![] bcast_S_S20x1 (constant S_ .f32 0x00000000#32)
/-- A pick's number along its class's row. -/
def spread (a : FVec Ideal S20x1 .f32) : FVec Ideal S20x5000 .f32 := broadcastInDim S20x5000 ![0, 1] bcast_S20x1_S20x5000_0_1 a

/-- What each box shares with its class's pick. -/
def sharedArr (l : FVec Ideal S20x5000x4 .f32) (a : FVec Ideal S20x4 .f32) : FVec Ideal S20x5000 .f32 :=
  mulf (maximumf (subf (minimumf (spread (pickX2 a)) (listX2 l)) (maximumf (spread (pickX1 a)) (listX1 l))) zeroAll)
    (maximumf (subf (minimumf (spread (pickY2 a)) (listY2 l)) (maximumf (spread (pickY1 a)) (listY1 l))) zeroAll)

/-- The union of each box with its class's pick, from 1e-8. -/
def unionArr (l : FVec Ideal S20x5000x4 .f32) (a : FVec Ideal S20x4 .f32) : FVec Ideal S20x5000 .f32 :=
  maximumf (subf (addf
    (spread (mulf (maximumf (subf (pickX2 a) (pickX1 a)) zeroCol) (maximumf (subf (pickY2 a) (pickY1 a)) zeroCol)))
    (mulf (maximumf (subf (listX2 l) (listX1 l)) zeroAll) (maximumf (subf (listY2 l) (listY1 l)) zeroAll)))
    (sharedArr l a)) (broadcastInDim S20x5000 ![] bcast_S_S20x5000 (constant S_ .f32 0x322BCC77#32))

/-- A score out of play. -/
def outAll : FVec Ideal S20x5000 .f32 := broadcastInDim S20x5000 ![] bcast_S_S20x5000 (id (constant S_ .f32 0xFF800000#32))

/-- The scores after a pick at `p` of the boxes `a`. -/
def workOf (l : FVec Ideal S20x5000x4 .f32) (a : FVec Ideal S20x4 .f32) (p : IVec S20 32) (w : FVec Ideal S20x5000 .f32) :
    FVec Ideal S20x5000 .f32 :=
  select (cmpi .eq (broadcastInDim S20x5000 ![0, 1] bcast_S1x5000_S20x5000_0_1 (broadcastInDim S1x5000 ![1] bcast_S5000_S1x5000_1 (iotaInDim S5000 32 0)))
      (broadcastInDim S20x5000 ![0, 1] bcast_S20x1_S20x5000_0_1 (broadcastInDim S20x1 ![0] bcast_S20_S20x1_0 p))) outAll
    (select (cmpf .ogt (Host.divf (sharedArr l a) (unionArr l a)) (broadcastInDim S20x5000 ![] bcast_S_S20x5000 (constant S_ .f32 0x3F000000#32)))
      outAll w)

/-- The boxes given out: zero where no score is left. -/
def boxRow (f : IVec S20 1) (a : FVec Ideal S20x4 .f32) : FVec Ideal S1x20x4 .f32 :=
  broadcastInDim S1x20x4 ![1, 2] bcast_S20x4_S1x20x4_1_2 (select (broadcastInDim S20x4 ![0, 1] bcast_S20x1_S20x4_0_1 (broadcastInDim S20x1 ![0] bcast_S20_S20x1_0 f)) a
    (broadcastInDim S20x4 ![] bcast_S_S20x4 (id (constant S_ .f32 0x00000000#32))))

/-- The scores given out. -/
def scoreRow (f : IVec S20 1) (t : FVec Ideal S20 .f32) : FVec Ideal S1x20 .f32 :=
  broadcastInDim S1x20 ![1] bcast_S20_S1x20_1 (select f t (broadcastInDim S20 ![] bcast_S_S20 (id (constant S_ .f32 0xFF800000#32))))

section
variable (V : Valuation τ sig (Elt Ideal))

/-- The loop's boxes of each list. -/
abbrev listBoxes : FVec Ideal S20x5000x4 .f32 := V (Proc.devRef .tc main_v73_0)
/-- The loop's trip count. -/
abbrev trip : IVec S_ 32 := V (Proc.devRef .tc main_v73_1)
/-- The loop's scores of each list. -/
abbrev work : FVec Ideal S20x5000 .f32 := V (Proc.devRef .tc main_v73_2)
/-- The boxes of the picks so far. -/
abbrev keptBoxes : FVec Ideal S100x20x4 .f32 := V (Proc.devRef .tc main_v73_3)
/-- The scores of the picks so far. -/
abbrev keptScores : FVec Ideal S100x20 .f32 := V (Proc.devRef .tc main_v73_4)

/-- The body's highest scores. -/
theorem top_eq : res_main_while0b_v104 V = topOf (work V) := rfl
/-- The body's places of the highest scores. -/
theorem best_eq : res_main_while0b_v103 V = bestOf (work V) := rfl
/-- The body's picked boxes. -/
theorem box_eq : res_main_while0b_v119 V = boxOf (listBoxes V) (bestOf (work V)) := rfl
/-- The body's test whether there is a pick. -/
theorem live_eq : res_main_while0b_v122 V = liveOf (topOf (work V)) := rfl
/-- The scores after one trip. -/
theorem work_step : work (STEP V) = workOf (listBoxes V) (boxOf (listBoxes V) (bestOf (work V))) (bestOf (work V)) (work V) := by
  rw [← box_eq, ← best_eq]
  refine (STEP_main_v73_2 V).trans ?_
  unfold step_main_v73_2 res_main_while0b_v154 res_main_while0b_v123
  generalize res_main_while0b_v119 V = a
  generalize res_main_while0b_v103 V = p
  rfl
/-- The picks' boxes after one trip. -/
theorem boxes_step : keptBoxes (STEP V) = Host.dynamicUpdateSlice (keptBoxes V) (boxRow (liveOf (topOf (work V))) (boxOf (listBoxes V) (bestOf (work V))))
    (fun k => ((![trip V, constantI S_ 32 0#32, constantI S_ 32 0#32] : Fin 3 → IVec S_ 32) k (Shape.Idx.first h_S_)).toInt) updateFits_S100x20x4_S1x20x4 := by
  rw [← box_eq, ← live_eq]
  exact (STEP_main_v73_3 V).trans rfl
/-- The picks' scores after one trip. -/
theorem scores_step : keptScores (STEP V) = Host.dynamicUpdateSlice (keptScores V) (scoreRow (liveOf (topOf (work V))) (topOf (work V)))
    (fun k => ((![trip V, constantI S_ 32 0#32] : Fin 2 → IVec S_ 32) k (Shape.Idx.first h_S_)).toInt) updateFits_S100x20_S1x20 := by
  rw [← live_eq, ← top_eq]
  exact (STEP_main_v73_4 V).trans rfl
end

section
variable (l : FVec Ideal S20x5000x4 .f32) (a : FVec Ideal S20x4 .f32) (p : IVec S20 32) (w : FVec Ideal S20x5000 .f32)
  (f : IVec S20 1) (t : FVec Ideal S20 .f32) (c : Fin 20) (j : Fin 5000)

/-- The highest score of a class. -/
theorem topOf_apply : topOf w (ix1 c) = Finset.fold max (Ideal.ofBits .f32 0xFF800000#32) (fun x => w (ix2 c x)) Finset.univ := by
  pointwise [topOf]

/-- The number of a pick's box at class `c`, and of box `j` of the list, as the overlap takes them. -/
theorem workOf_apply : workOf l a p w (ix2 c j) = if BitVec.ofNat 32 j.val = p (ix1 c)
      ∨ Ideal.ofBits .f32 0x3F000000#32 < Ideal.div
          (sharedOf (a (ix2 c 0)) (a (ix2 c 1)) (a (ix2 c 2)) (a (ix2 c 3)) (l (ix3 c j 0)) (l (ix3 c j 1)) (l (ix3 c j 2)) (l (ix3 c j 3)))
          (unionOf (a (ix2 c 0)) (a (ix2 c 1)) (a (ix2 c 2)) (a (ix2 c 3)) (l (ix3 c j 0)) (l (ix3 c j 1)) (l (ix3 c j 2)) (l (ix3 c j 3)))
    then ⊥ else w (ix2 c j) := by
  have hout : ∀ x : S20x5000.Idx, outAll x = ⊥ := fun _ => negInf
  pointwise [workOf, sharedArr, unionArr, zeroAll, zeroCol, spread, pickX1, pickX2, pickY1, pickY2, listX1, listX2, listY1, listY2]
  rw [hout]
  unfold sharedOf unionOf areaOf sharedOf
  by_cases h : BitVec.ofNat 32 j.val = p (ix1 c)
  · exact (if_pos ((cmpi_eq_one _ _).2 h)).trans (if_pos (Or.inl h)).symm
  · refine (if_neg (fun h' => h ((cmpi_eq_one _ _).1 h'))).trans ?_
    simp only [h, false_or]

/-- The row of boxes that a trip writes. -/
theorem boxRow_apply (k : Fin 4) : boxRow f a (ix3 0 c k) = if f (ix1 c) = 1#1 then a (ix2 c k) else 0 := by
  have hz : ∀ x : S20x4.Idx, (broadcastInDim S20x4 ![] bcast_S_S20x4 (id (constant S_ .f32 0x00000000#32)) : FVec Ideal S20x4 .f32) x = 0 :=
    fun _ => by show Ideal.ofBits .f32 0x00000000#32 = 0; simp [Ideal.ofBits, Ideal.ieee]
  unfold boxRow
  generalize (broadcastInDim S20x4 ![] bcast_S_S20x4 (id (constant S_ .f32 0x00000000#32)) : FVec Ideal S20x4 .f32) = z at hz
  pointwise []
  rw [hz]; rfl
/-- The row of scores that a trip writes. -/
theorem scoreRow_apply : scoreRow f t (ix2 0 c) = if f (ix1 c) = 1#1 then t (ix1 c) else ⊥ := by
  have hz : ∀ x : S20.Idx, (broadcastInDim S20 ![] bcast_S_S20 (id (constant S_ .f32 0xFF800000#32)) : FVec Ideal S20 .f32) x = ⊥ :=
    fun _ => negInf
  unfold scoreRow
  generalize (broadcastInDim S20 ![] bcast_S_S20 (id (constant S_ .f32 0xFF800000#32)) : FVec Ideal S20 .f32) = z at hz
  pointwise []
  rw [hz]; rfl

/-- There is a pick when the highest score is finite. -/
theorem liveOf_apply : liveOf t (ix1 c) = 1#1 ↔ t (ix1 c) ≠ ⊥ ∧ t (ix1 c) ≠ ⊤ := by
  have h : liveOf t (ix1 c) = BitVec.ofBool (decide (FloatOps.absf (t (ix1 c)) < Ideal.ofBits .f32 0x7F800000#32)) := by
    pointwise [liveOf]
  rw [h, Ideal.absf_def, posInf]
  by_cases hb : max (t (ix1 c)) (-t (ix1 c)) < ⊤
  · rw [decide_eq_true hb]
    refine ⟨fun _ => ⟨fun e => ?_, fun e => ?_⟩, fun _ => rfl⟩
    · rw [e] at hb; simp at hb
    · rw [e] at hb; simp at hb
  · rw [decide_eq_false hb]
    refine ⟨fun e => absurd e (by decide), fun e => absurd (max_lt (lt_top_iff_ne_top.2 e.2) (lt_top_iff_ne_top.2 fun e' => e.1 ?_)) hb⟩
    rwa [EReal.neg_eq_top_iff] at e'

/-- A position from zero is looked up as it is. -/
theorem lookup (x n : BitVec 32) (h : 0 ≤ x.toInt) : Scalar.select (IntOp.cmpi .slt x 0#32) (IntOp.addi x n) x = x := by
  have e : x.slt 0#32 = false := by
    rw [BitVec.slt_eq_decide, decide_eq_false_iff_not]
    simpa using h
  unfold IntOp.cmpi
  rw [e]; rfl

/-- The class half of a lookup's place. -/
theorem places_class : places p (ix2 c 0) = BitVec.ofNat 32 c.val := by
  pointwise [places, place]
  exact lookup _ _ (by rw [toInt_small (n := c.val) (by simp; omega) (by omega)]; omega)
/-- The entry half of a lookup's place. -/
theorem places_best (h : 0 ≤ (p (ix1 c)).toInt) : places p (ix2 c 1) = p (ix1 c) := by
  pointwise [places, place]
  exact lookup _ _ h

/-- A row of scores is written at the trip's number. -/
theorem row_scores (x : FVec Ideal S100x20 .f32) (r : FVec Ideal S1x20 .f32) (n : IVec S_ 32) (q : Fin 100) (m : ℕ) (hm : m < 100)
    (hn : n (Shape.Idx.first h_S_) = BitVec.ofNat 32 m) :
    Host.dynamicUpdateSlice x r (fun k => ((![n, constantI S_ 32 0#32] : Fin 2 → IVec S_ 32) k (Shape.Idx.first h_S_)).toInt)
      updateFits_S100x20_S1x20 (ix2 q c) = if q.val = m then r (ix2 0 c) else x (ix2 q c) := by
  have hk : (S100x20).Slices ![m, 0] S1x20 := ⟨rfl, fun a => by
    match a with
    | ⟨0, _⟩ => show m + 1 ≤ 100; omega
    | ⟨1, _⟩ => show 0 + 20 ≤ 20; omega⟩
  rw [WordCmp.dynamicUpdateSlice_eq_update x r _ _ ![m, 0] hk fun a => by
    match a with
    | ⟨0, _⟩ => show (n (Shape.Idx.first h_S_)).toInt = _; rw [hn, toInt_small (n := m) (by simp; omega) (by omega)]; rfl
    | ⟨1, _⟩ => rfl]
  pointwise []
  by_cases e : q.val = m
  · rw [dif_pos (by omega), if_pos e]
    exact congrArg r (congrArg (fun z => ix2 z c) (Fin.ext (by show q.val - m = 0; omega)))
  · rw [dif_neg (by omega), if_neg e]
/-- A row of boxes is written at the trip's number. -/
theorem row_boxes (x : FVec Ideal S100x20x4 .f32) (r : FVec Ideal S1x20x4 .f32) (n : IVec S_ 32) (q : Fin 100) (k : Fin 4) (m : ℕ) (hm : m < 100)
    (hn : n (Shape.Idx.first h_S_) = BitVec.ofNat 32 m) :
    Host.dynamicUpdateSlice x r (fun k => ((![n, constantI S_ 32 0#32, constantI S_ 32 0#32] : Fin 3 → IVec S_ 32) k (Shape.Idx.first h_S_)).toInt)
      updateFits_S100x20x4_S1x20x4 (ix3 q c k) = if q.val = m then r (ix3 0 c k) else x (ix3 q c k) := by
  have hk : (S100x20x4).Slices ![m, 0, 0] S1x20x4 := ⟨rfl, fun a => by
    match a with
    | ⟨0, _⟩ => show m + 1 ≤ 100; omega
    | ⟨1, _⟩ => show 0 + 20 ≤ 20; omega
    | ⟨2, _⟩ => show 0 + 4 ≤ 4; omega⟩
  rw [WordCmp.dynamicUpdateSlice_eq_update x r _ _ ![m, 0, 0] hk fun a => by
    match a with
    | ⟨0, _⟩ => show (n (Shape.Idx.first h_S_)).toInt = _; rw [hn, toInt_small (n := m) (by simp; omega) (by omega)]; rfl
    | ⟨1, _⟩ => rfl
    | ⟨2, _⟩ => rfl]
  pointwise []
  by_cases e : q.val = m
  · rw [dif_pos (by omega), if_pos e]
    exact congrArg r (congrArg (fun z => ix3 z c k) (Fin.ext (by show q.val - m = 0; omega)))
  · rw [dif_neg (by omega), if_neg e]
end

end Cert.ReferenceIdeal.Value

end
-- ==== Proof.Listing.lean ====
/- A list of the 5000 best anchors of a class, best first: it holds every pick that is held, and its first best entry is
the pick. -/
module

public import proofs.«01_k».proof.Proof.Ranking

@[expose] public section

noncomputable section

namespace Nms

open Idealize.ShloMosaic

/-- Entry `i` of the list that the comparison `B` makes of the anchors. -/
def listed {N : ℕ} (hN : 5000 ≤ N) (B : Fin N → Fin N → Bool) (i : Fin 5000) : ℕ := (sortedFrom B (Fin.castLE hN i)).val

/-- Entry `j` is the first of the greatest. -/
def FirstMax (u : Fin 5000 → EReal) (j : Fin 5000) : Prop := (∀ k, u k ≤ u j) ∧ ∀ k, u k = u j → j ≤ k

variable {s : ℕ → EReal} {N : ℕ} {hN : 5000 ≤ N} {B : Fin N → Fin N → Bool} {sup : ℕ → ℕ → Prop} {k : ℕ} {u u' : Fin 5000 → EReal} {j : Fin 5000}

/-- Two entries of the list are two anchors. -/
theorem listed_inj {i i' : Fin 5000} (h : listed hN B i = listed hN B i') : i = i' :=
  Fin.castLE_injective hN (sortedFrom_injective B (Fin.ext h))

/-- An earlier entry of the list has the higher score, or the same and the smaller anchor. -/
theorem listed_lt (hB : ByKey (fun n => s n.val) B) {i i' : Fin 5000} (h : i < i') :
    Ahead s (listed hN B i') (listed hN B i) := by
  rcases sortedFrom_lt hB (i := Fin.castLE hN i) (j := Fin.castLE hN i') h with h' | ⟨h', h''⟩
  · exact Or.inl h'
  · exact Or.inr ⟨h', h''⟩

/-- An anchor that is held is on the list. -/
theorem on_list (hB : ByKey (fun n => s n.val) B) {p : ℕ} (hp : p < N) (hh : Held s p) : ∃ i, listed hN B i = p := by
  obtain ⟨q, hq⟩ := (Finite.injective_iff_surjective.1 (sortedFrom_injective B)) ⟨p, hp⟩
  by_cases h : q.val < 5000
  · exact ⟨⟨q.val, h⟩, by exact congrArg Fin.val hq⟩
  · refine absurd (fun i => ?_) (hh.rank (listed hN B) fun i i' e => listed_inj e)
    rcases sortedFrom_lt hB (i := Fin.castLE hN i) (j := q) (Fin.lt_def.2 (by rw [Fin.val_castLE]; omega)) with h' | ⟨h', h''⟩
    · rw [hq] at h'; exact Or.inl h'
    · rw [hq] at h' h''; exact Or.inr ⟨h', h''⟩

/-- The first greatest entry is the pick. -/
theorem pick_listed (hB : ByKey (fun n => s n.val) B) (hbig : ∀ n, N ≤ n → s n = ⊥)
    (hu : Tracks (listed hN B) (fun _ => True) ⊥ (left sup s k) u) (hj : FirstMax u j) {p : ℕ} (hp : IsPick (left sup s k) p)
    (hh : Held s p) : listed hN B j = p ∧ u j = left sup s k p := by
  have hd : ∀ n, left sup s k n ≠ ⊥ → ⊥ < left sup s k n := fun n h => bot_lt_iff_ne_bot.2 h
  have hlt : p < N := by
    by_contra h
    exact hp.1 (left_bot (hbig p (by omega)) k)
  obtain ⟨i, rfl⟩ := on_list (hN := hN) hB hlt hh
  have hi : u i = left sup s k (listed hN B i) := hu.of_pos trivial hp.1
  have e : u j = left sup s k (listed hN B i) := le_antisymm (hu.le_pick hd hp j) (hi ▸ hj.1 i)
  obtain ⟨-, h1, h2⟩ := hu.of_max hd hp e
  have hji := hj.2 i (hi.trans e.symm)
  refine ⟨?_, e⟩
  rcases hji.lt_or_eq with h | h
  · have e1 := left_eq k (listed hN B i) hp.1
    have e2 := left_eq k (listed hN B j) (by rw [h1]; exact hp.1)
    rcases listed_lt hB h with h' | ⟨-, h'⟩
    · rw [← e1, ← e2, h1] at h'; exact absurd h' (lt_irrefl _)
    · omega
  · rw [h]

open Classical in
/-- One round on the list: what is given out, and the scores that stay in step. -/
theorem round_listed (hB : ByKey (fun n => s n.val) B) (hbig : ∀ n, N ≤ n → s n = ⊥)
    (hu : Tracks (listed hN B) (fun _ => True) ⊥ (left sup s k) u) (hj : FirstMax u j)
    (hall : ∀ p, IsPick (left sup s k) p → Held s p)
    (hu' : ∀ x, u' x = if x = j ∨ sup (listed hN B j) (listed hN B x) then ⊥ else u x) :
    Tracks (listed hN B) (fun _ => True) ⊥ (left sup s (k + 1)) u' ∧ scoreOf ⊥ (left sup s k) = u j ∧ u j < ⊤
      ∧ ∀ b, coordOf b (left sup s k) = if u j = ⊥ then 0 else b (listed hN B j) := by
  by_cases hp : ∃ p, IsPick (left sup s k) p
  · obtain ⟨p, hp⟩ := hp
    obtain ⟨e1, e2⟩ := pick_listed hB hbig hu hj hp (hall p hp)
    refine ⟨hu.next hp fun x => ?_, ?_, ?_, fun b => ?_⟩
    · rw [hu' x, e1]
      have : (x = j ∨ sup p (listed hN B x)) ↔ (sup p (listed hN B x) ∨ listed hN B x = p) := by
        rw [or_comm]
        refine or_congr Iff.rfl ⟨fun h => by rw [h, e1], fun h => listed_inj (h.trans e1.symm)⟩
      simp only [this]
    · unfold scoreOf; rw [pickOf_eq_some hp, e2]; rfl
    · rw [e2, left_eq k p hp.1]; exact (hall p hp).fin
    · unfold coordOf; rw [pickOf_eq_some hp, if_neg (by rw [e2]; exact hp.1), e1]; rfl
  · have hn : ∀ p, ¬ IsPick (left sup s k) p := fun p h => hp ⟨p, h⟩
    have hz := dead_of_none (N := N) (fun n h => left_bot (hbig n h) k) hn
    have e := hu.dead hz j
    refine ⟨hu.next_dead hn hz fun x => ?_, ?_, ?_, fun b => ?_⟩
    · rw [hu' x]; split
      · exact Or.inl rfl
      · exact Or.inr rfl
    · unfold scoreOf; rw [pickOf_eq_none hn, e]; rfl
    · rw [e]; exact bot_lt_top
    · unfold coordOf; rw [pickOf_eq_none hn, if_pos e]; rfl

end Nms

end
-- ==== Proof.ReferenceReads.lean ====
/- The reference's look-ups read at an index, and the position of a first greatest score. -/
module

public import proofs.«01_k».proof.Proof.ReferenceWords
public import proofs.«01_k».proof.Proof.Listing

@[expose] public section

set_option maxRecDepth 10000

noncomputable section

namespace Nms

open Idealize.ShloMosaic

/-- Which element a look-up reads, axis by axis. -/
theorem gather_read {α : Type} {s si t : Shape} {w : ℕ} (d : GatherDims s si t) (x : s.Idx → α) (idx : IVec si w) (j : t.Idx)
    (i : s.Idx) (h : ∀ a, d.start j idx a + d.batchCoord j a + d.offCoord j a = (i a).val) : Host.gather d x idx j = x i :=
  congrArg x (funext fun a => Fin.ext (h a))

/-- An axis looked up in the table at `m`, where the table's number is in range. -/
theorem start_read {s si t : Shape} {w : ℕ} (d : GatherDims s si t) (idx : IVec si w) (j : t.Idx) (a : Fin s.rank)
    (ha : a ∈ d.startIndexMap) (m : si.Idx) (hm : d.siIdx j ⟨d.startIndexMap.idxOf a, List.idxOf_lt_length_iff.2 ha⟩ = m)
    (n : ℕ) (hn : (idx m).toInt = n) (hlt : n ≤ s.size a - d.sliceSizes a) : d.start j idx a = n := by
  unfold GatherDims.start
  rw [dif_pos ha, hm, hn, Int.toNat_natCast, min_eq_left hlt]

/-- An axis not looked up starts at zero. -/
theorem start_none {s si t : Shape} {w : ℕ} (d : GatherDims s si t) (idx : IVec si w) (j : t.Idx) (a : Fin s.rank)
    (ha : a ∉ d.startIndexMap) : d.start j idx a = 0 := by
  unfold GatherDims.start
  rw [dif_neg ha]

end Nms

namespace Cert.ReferenceIdeal.Value

open Cert.ReferenceIdeal Cert.ReferenceIdeal.Gen Idealize.ShloMosaic Nms

/-- The box looked up at a place of a class's list. -/
theorem boxOf_apply (l : FVec Ideal S20x5000x4 .f32) (p : IVec S20 32) (c : Fin 20) (j : Fin 5000) (k : Fin 4)
    (hp : p (ix1 c) = BitVec.ofNat 32 j.val) : boxOf l p (ix2 c k) = l (ix3 c j k) := by
  have hj : (p (ix1 c)).toInt = j.val := by rw [hp, toInt_small (n := j.val) (by simp; omega) (by omega)]
  have h0 : (places p (ix2 c 0)).toInt = c.val := by rw [places_class, toInt_small (n := c.val) (by simp; omega) (by omega)]
  have h1 : (places p (ix2 c 1)).toInt = j.val := by rw [places_best p c (by omega), hj]
  refine gather_read _ _ _ _ (ix3 c j k) fun a => ?_
  match a with
  | ⟨0, _⟩ =>
    rw [start_read _ _ _ _ (show (0 : Fin 3) ∈ ([0, 1] : List (Fin 3)) by decide) (ix2 c 0) (funext fun b => by
      match b with
      | ⟨0, _⟩ => rfl
      | ⟨1, _⟩ => rfl) c.val h0 (by show c.val ≤ 20 - 1; omega)]
    rfl
  | ⟨1, _⟩ =>
    rw [start_read _ _ _ _ (show (1 : Fin 3) ∈ ([0, 1] : List (Fin 3)) by decide) (ix2 c 1) (funext fun b => by
      match b with
      | ⟨0, _⟩ => rfl
      | ⟨1, _⟩ => rfl) j.val h1 (by show j.val ≤ 5000 - 1; omega)]
    rfl
  | ⟨2, _⟩ =>
    rw [start_none _ _ _ _ (show (2 : Fin 3) ∉ ([0, 1] : List (Fin 3)) by decide)]
    exact Nat.zero_add _

/-- The box looked up for an entry of a class's list. -/
theorem lineBoxes_apply (x : FVec Ideal S20000x4 .f32) (idx : IVec S20x5000x1 32) (c : Fin 20) (j : Fin 5000) (k : Fin 4) (n : Fin 20000)
    (hn : (idx (ix3 c j 0)).toInt = n.val) :
    Host.gather gather_S20000x4_S20x5000x1_S20x5000x4_2_0_n_n_0_2_14 x idx (ix3 c j k) = x (ix2 n k) := by
  refine gather_read _ _ _ _ (ix2 n k) fun a => ?_
  match a with
  | ⟨0, _⟩ =>
    rw [start_read _ _ _ _ (show (0 : Fin 2) ∈ ([0] : List (Fin 2)) by decide) (ix3 c j 0) (funext fun b => by
      match b with
      | ⟨0, _⟩ => rfl
      | ⟨1, _⟩ => rfl
      | ⟨2, _⟩ => rfl) n.val hn (by show n.val ≤ 20000 - 1; omega)]
    rfl
  | ⟨1, _⟩ =>
    rw [start_none _ _ _ _ (show (1 : Fin 2) ∉ ([0] : List (Fin 2)) by decide)]
    exact Nat.zero_add _

/-- The box looked up for one of the hundred best. -/
theorem lastBoxes_apply (x : FVec Ideal S2000x4 .f32) (idx : IVec S100x1 32) (t : Fin 100) (k : Fin 4) (n : Fin 2000)
    (hn : (idx (ix2 t 0)).toInt = n.val) :
    Host.gather gather_S2000x4_S100x1_S100x4_1_0_n_n_0_1_14 x idx (ix2 t k) = x (ix2 n k) := by
  refine gather_read _ _ _ _ (ix2 n k) fun a => ?_
  match a with
  | ⟨0, _⟩ =>
    rw [start_read _ _ _ _ (show (0 : Fin 2) ∈ ([0] : List (Fin 2)) by decide) (ix2 t 0) (funext fun b => by
      match b with
      | ⟨0, _⟩ => rfl
      | ⟨1, _⟩ => rfl) n.val hn (by show n.val ≤ 2000 - 1; omega)]
    rfl
  | ⟨1, _⟩ =>
    rw [start_none _ _ _ _ (show (1 : Fin 2) ∉ ([0] : List (Fin 2)) by decide)]
    exact Nat.zero_add _

/-- The label looked up for one of the hundred best. -/
theorem lastLabels_apply (x : FVec Ideal S2000 .f32) (idx : IVec S100x1 32) (t : Fin 100) (n : Fin 2000)
    (hn : (idx (ix2 t 0)).toInt = n.val) : Host.gather gather_S2000_S100x1_S100_n_0_n_n_0_1_1 x idx (ix1 t) = x (ix1 n) := by
  refine gather_read _ _ _ _ (ix1 n) fun a => ?_
  match a with
  | ⟨0, _⟩ =>
    rw [start_read _ _ _ _ (show (0 : Fin 1) ∈ ([0] : List (Fin 1)) by decide) (ix2 t 0) (funext fun b => by
      match b with
      | ⟨0, _⟩ => rfl
      | ⟨1, _⟩ => rfl) n.val hn (by show n.val ≤ 2000 - 1; omega)]
    rfl

/-- Of two pairs of score and position the better: the greater score, of equal scores the smaller position. -/
theorem better_spec (a b : Ideal .f32 × BitVec 32) :
    (reducer_argmax_f32_i32 (F := Ideal) a b = a ∧ (b.1 : EReal) ≤ a.1 ∧ ((b.1 : EReal) = a.1 → a.2.toInt ≤ b.2.toInt))
      ∨ (reducer_argmax_f32_i32 (F := Ideal) a b = b ∧ (a.1 : EReal) ≤ b.1 ∧ ((a.1 : EReal) = b.1 → b.2.toInt ≤ a.2.toInt)) := by
  obtain ⟨a, n⟩ := a
  obtain ⟨b, m⟩ := b
  have e : reducer_argmax_f32_i32 (F := Ideal) (a, n) (b, m)
      = (Scalar.select (IntOp.ori (Ideal.cmp .ogt a b) (Ideal.cmp .une a a)) a b,
        Scalar.select (IntOp.ori (IntOp.ori (Ideal.cmp .ogt a b) (Ideal.cmp .une a a)) (IntOp.andi (Ideal.cmp .oeq a b) (IntOp.cmpi .slt n m))) n m) := rfl
  have hne : Ideal.cmp .une a a = 0#1 := by simp [Ideal.cmp]
  rw [e, hne]
  rcases lt_trichotomy (a : EReal) b with h | h | h
  · right
    have h1 : Ideal.cmp .ogt a b = 0#1 := by
      show BitVec.ofBool (decide ((b : EReal) < a)) = 0#1
      rw [decide_eq_false (not_lt.2 h.le)]; rfl
    have h2 : Ideal.cmp .oeq a b = 0#1 := by simp [Ideal.cmp, h.ne]
    rw [h1, h2]
    refine ⟨?_, h.le, fun e => absurd e h.ne⟩
    have h3 : IntOp.ori (IntOp.ori 0#1 0#1) (IntOp.andi 0#1 (IntOp.cmpi .slt n m)) = 0#1 := by
      simp [IntOp.ori, IntOp.andi]
    rw [h3]; rfl
  · subst h
    have h1 : Ideal.cmp .ogt a a = 0#1 := by simp [Ideal.cmp]
    have h2 : Ideal.cmp .oeq a a = 1#1 := by simp [Ideal.cmp]
    rw [h1, h2]
    by_cases hl : n.toInt < m.toInt
    · left
      have h3 : IntOp.cmpi .slt n m = 1#1 := by unfold IntOp.cmpi; rw [BitVec.slt_eq_decide, decide_eq_true hl]; rfl
      rw [h3]
      exact ⟨rfl, le_rfl, fun _ => hl.le⟩
    · right
      have h3 : IntOp.cmpi .slt n m = 0#1 := by unfold IntOp.cmpi; rw [BitVec.slt_eq_decide, decide_eq_false hl]; rfl
      rw [h3]
      exact ⟨rfl, le_rfl, fun _ => not_lt.1 hl⟩
  · left
    have h1 : Ideal.cmp .ogt a b = 1#1 := by simp [Ideal.cmp, h]
    rw [h1]
    refine ⟨?_, h.le, fun e => absurd e h.ne⟩
    have h3 : ∀ x : BitVec 1, IntOp.ori (IntOp.ori 1#1 0#1) x = 1#1 := by decide
    rw [h3]; rfl

/-- The best of a list of pairs. -/
theorem fold_better (L : List (Ideal .f32 × BitVec 32)) (a : Ideal .f32 × BitVec 32) :
    L.foldl (reducer_argmax_f32_i32 (F := Ideal)) a ∈ a :: L ∧ ∀ b ∈ a :: L, (b.1 : EReal) ≤ (L.foldl (reducer_argmax_f32_i32 (F := Ideal)) a).1
      ∧ ((b.1 : EReal) = (L.foldl (reducer_argmax_f32_i32 (F := Ideal)) a).1 → (L.foldl (reducer_argmax_f32_i32 (F := Ideal)) a).2.toInt ≤ b.2.toInt) := by
  induction L generalizing a with
  | nil => exact ⟨by simp, fun b hb => by rw [List.mem_singleton.1 hb]; exact ⟨le_rfl, fun _ => le_rfl⟩⟩
  | cons c L ih =>
    rw [List.foldl_cons]
    obtain ⟨h1, h2⟩ := ih (reducer_argmax_f32_i32 (F := Ideal) a c)
    generalize List.foldl (reducer_argmax_f32_i32 (F := Ideal)) (reducer_argmax_f32_i32 (F := Ideal) a c) L = r at h1 h2
    have hs := better_spec a c
    generalize reducer_argmax_f32_i32 (F := Ideal) a c = d at h1 h2 hs
    have hd := h2 d (by simp)
    have chain : ∀ b : Ideal .f32 × BitVec 32, (b.1 : EReal) ≤ d.1 → ((b.1 : EReal) = d.1 → d.2.toInt ≤ b.2.toInt) →
        (b.1 : EReal) ≤ r.1 ∧ ((b.1 : EReal) = r.1 → r.2.toInt ≤ b.2.toInt) := fun b e1 e2 =>
      ⟨e1.trans hd.1, fun e => by
        have e3 : (d.1 : EReal) = r.1 := le_antisymm hd.1 (e ▸ e1)
        exact (hd.2 e3).trans (e2 (e.trans e3.symm))⟩
    have hmem : d = a ∨ d = c := hs.imp (·.1) (·.1)
    refine ⟨?_, fun b hb => ?_⟩
    · rcases List.mem_cons.1 h1 with h | h
      · rcases hmem with e | e <;> rw [h, e] <;> simp
      · exact List.mem_cons_of_mem _ (List.mem_cons_of_mem _ h)
    · rcases List.mem_cons.1 hb with e | hb
      · subst e
        rcases hs with ⟨e, e1, e2⟩ | ⟨e, e1, e2⟩
        · exact chain b (by rw [e]) (by rw [e]; exact fun _ => le_rfl)
        · exact chain b (by rw [e]; exact e1) (by rw [e]; exact e2)
      · rcases List.mem_cons.1 hb with e | hb
        · subst e
          rcases hs with ⟨e, e1, e2⟩ | ⟨e, e1, e2⟩
          · exact chain b (by rw [e]; exact e1) (by rw [e]; exact e2)
          · exact chain b (by rw [e]) (by rw [e]; exact fun _ => le_rfl)
        · exact h2 b (List.mem_cons_of_mem _ hb)

/-- The pairs of class `c`. -/
theorem mem_row (w : FVec Ideal S20x5000 .f32) (c : Fin 20) (b : Ideal .f32 × BitVec 32) :
    b ∈ Host.argReduceFiber w (iotaInDim S20x5000 32 1) reducesTo_S20x5000_S20_d1 (ix1 c) ↔ ∃ j : Fin 5000, b = (w (ix2 c j), BitVec.ofNat 32 j.val) := by
  unfold Host.argReduceFiber
  rw [List.mem_map]
  constructor
  · rintro ⟨n, hn, rfl⟩
    have h := (List.mem_filter.1 hn).2
    generalize S20x5000.rowMajor.symm n = i at h
    have h' : reducesTo_S20x5000_S20_d1.drop i = ix1 c := by simpa using h
    have h0 : i 0 = c := Fin.ext (by
      have := reducesTo_S20x5000_S20_d1.drop_apply_val_of_eq i 0 0
      rw [← this, h']; rfl)
    refine ⟨i 1, ?_⟩
    have e : i = ix2 c (i 1) := by
      funext a
      match a with
      | ⟨0, _⟩ => exact h0
      | ⟨1, _⟩ => rfl
    exact congrArg (fun z => ((w z, BitVec.ofNat 32 (i 1).val) : Ideal .f32 × BitVec 32)) e
  · rintro ⟨j, rfl⟩
    refine ⟨S20x5000.rowMajor (ix2 c j), List.mem_filter.2 ⟨List.mem_finRange _, ?_⟩, ?_⟩
    · rw [Equiv.symm_apply_apply]
      have e : reducesTo_S20x5000_S20_d1.drop (ix2 c j) = ix1 c := by
        funext a
        match a with
        | ⟨0, _⟩ => exact Fin.ext (reducesTo_S20x5000_S20_d1.drop_apply_val_of_eq (ix2 c j) 0 0)
      simpa using e
    · rw [Equiv.symm_apply_apply]; rfl

/-- The reference's best position of class `c` is the first greatest score's. -/
theorem bestOf_spec (w : FVec Ideal S20x5000 .f32) (c : Fin 20) :
    ∃ j, bestOf w (ix1 c) = BitVec.ofNat 32 j.val ∧ FirstMax (fun j => w (ix2 c j)) j := by
  have e : bestOf w (ix1 c) = ((Host.argReduceFiber w (iotaInDim S20x5000 32 1) reducesTo_S20x5000_S20_d1 (ix1 c)).foldl
      (reducer_argmax_f32_i32 (F := Ideal)) (Ideal.ofBits .f32 0xFF800000#32, 0#32)).2 := by
    unfold bestOf
    rw [Ideal.argReduce_eq_reduce2, Host.reduce2_eq_foldl_fiber]; rfl
  obtain ⟨h1, h2⟩ := fold_better (Host.argReduceFiber w (iotaInDim S20x5000 32 1) reducesTo_S20x5000_S20_d1 (ix1 c)) (Ideal.ofBits .f32 0xFF800000#32, 0#32)
  rw [e]
  generalize List.foldl (reducer_argmax_f32_i32 (F := Ideal)) (Ideal.ofBits .f32 0xFF800000#32, 0#32)
    (Host.argReduceFiber w (iotaInDim S20x5000 32 1) reducesTo_S20x5000_S20_d1 (ix1 c)) = r at h1 h2
  have hint : ∀ j : Fin 5000, (BitVec.ofNat 32 j.val).toInt = j.val := fun j => toInt_small (n := j.val) (by simp; omega) (by omega)
  have hrow : ∀ j : Fin 5000, ((w (ix2 c j) : EReal) ≤ r.1) ∧ ((w (ix2 c j) : EReal) = r.1 → r.2.toInt ≤ j.val) := fun j => by
    have h := h2 (w (ix2 c j), BitVec.ofNat 32 j.val) (List.mem_cons_of_mem _ ((mem_row w c _).2 ⟨j, rfl⟩))
    rw [← hint j]; exact h
  have key : ∃ j : Fin 5000, r = (w (ix2 c j), BitVec.ofNat 32 j.val) := by
    rcases List.mem_cons.1 h1 with h | h
    · refine ⟨0, ?_⟩
      have h0 := (hrow 0).1
      rw [h] at h0 ⊢
      have : (w (ix2 c 0) : EReal) = ⊥ := le_bot_iff.1 (h0.trans negInf.le)
      exact Prod.ext (negInf.trans this.symm) rfl
    · exact (mem_row w c r).1 h
  obtain ⟨j, rfl⟩ := key
  refine ⟨j, rfl, fun k => (hrow k).1, fun k hk => ?_⟩
  have := (hrow k).2 hk
  rw [hint j] at this
  exact Fin.le_def.2 (by omega)

/-- The best score is the score at the best position. -/
theorem topOf_spec (w : FVec Ideal S20x5000 .f32) (c : Fin 20) (j : Fin 5000) (hj : FirstMax (fun j => w (ix2 c j)) j) :
    topOf w (ix1 c) = w (ix2 c j) := by
  haveI : Nonempty (Fin 5000) := ⟨j⟩
  obtain ⟨h1, k, h2⟩ := max_spec fun x : Fin 5000 => (w (ix2 c x) : EReal)
  rw [topOf_apply]
  exact le_antisymm (h2 ▸ hj.1 k) (h1 j)

end Cert.ReferenceIdeal.Value

end
-- ==== Proof.ReferenceRounds.lean ====
/- The reference's rounds make the problem's picks, on lists that hold the best anchors. -/
module

public import proofs.«01_k».proof.Proof.ReferenceReads

@[expose] public section

set_option maxRecDepth 10000

noncomputable section

namespace Nms

open Idealize.ShloMosaic

/-- The four coordinates of the boxes. -/
def edge (b : Boxes) : Fin 4 → ℕ → EReal := ![b.x1, b.y1, b.x2, b.y2]

/-- There are at least 5000 anchors. -/
theorem enough : 5000 ≤ 20000 := by omega

end Nms

namespace Cert.ReferenceIdeal.Value

open Cert.ReferenceIdeal Cert.ReferenceIdeal.Gen Idealize.ShloMosaic Nms

/-- The lists after `k` rounds. -/
structure Rounds (P : Problem) (B : Fin 20 → Fin 20000 → Fin 20000 → Bool) (k : ℕ) (V : Valuation τ sig (Elt Ideal)) : Prop where
  boxes : ∀ c j e, listBoxes V (ix3 c j e) = edge P.boxes e (listed enough (B c) j)
  scores : ∀ c, Tracks (listed enough (B c)) (fun _ => True) ⊥ (left P.boxes.sup (P.scores c) k) fun j => work V (ix2 c j)
  count : trip V (Shape.Idx.first h_S_) = BitVec.ofNat 32 k
  score : ∀ c (q : Fin 100), q.val < k → keptScores V (ix2 q c) = scoreOf ⊥ (left P.boxes.sup (P.scores c) q.val)
  box : ∀ c (q : Fin 100) e, q.val < k → keptBoxes V (ix3 q c e) = coordOf (edge P.boxes e) (left P.boxes.sup (P.scores c) q.val)

variable {P : Problem} {B : Fin 20 → Fin 20000 → Fin 20000 → Bool} {k : ℕ} {V : Valuation τ sig (Elt Ideal)}

open Classical in
/-- The scores of class `c` after a round that picks position `j`. -/
theorem Rounds.work_apply (h : Rounds P B k V) (c : Fin 20) (j x : Fin 5000) (hj : bestOf (work V) (ix1 c) = BitVec.ofNat 32 j.val) :
    work (STEP V) (ix2 c x) = if x = j ∨ P.boxes.sup (listed enough (B c) j) (listed enough (B c) x) then ⊥ else work V (ix2 c x) := by
  rw [work_step, workOf_apply, hj]
  simp only [boxOf_apply _ _ c j _ hj, h.boxes]
  have hs := half_lt_div (unitClip_unit _ : Unit01 (P.boxes.x1 (listed enough (B c) j))) (unitClip_unit _ : Unit01 (P.boxes.y1 (listed enough (B c) j)))
    (unitClip_unit _ : Unit01 (P.boxes.x2 (listed enough (B c) j))) (unitClip_unit _ : Unit01 (P.boxes.y2 (listed enough (B c) j)))
    (unitClip_unit _ : Unit01 (P.boxes.x1 (listed enough (B c) x))) (unitClip_unit _ : Unit01 (P.boxes.y1 (listed enough (B c) x)))
    (unitClip_unit _ : Unit01 (P.boxes.x2 (listed enough (B c) x))) (unitClip_unit _ : Unit01 (P.boxes.y2 (listed enough (B c) x)))
  have hw : BitVec.ofNat 32 x.val = BitVec.ofNat 32 j.val ↔ x = j := ⟨fun e => Fin.ext (by
    have := congrArg BitVec.toNat e
    simp only [BitVec.toNat_ofNat] at this
    omega), fun e => by rw [e]⟩
  exact if_congr (or_congr hw hs) rfl rfl

/-- The count after one more round. -/
theorem Rounds.count_step (h : Rounds P B k V) : trip (STEP V) (Shape.Idx.first h_S_) = BitVec.ofNat 32 (k + 1) := by
  have e : trip (STEP V) = addi (trip V) (constantI S_ 32 1#32) := (STEP_main_v73_1 V).trans rfl
  rw [e]
  show IntOp.addi (trip V (Shape.Idx.first h_S_)) 1#32 = _
  rw [h.count]
  unfold IntOp.addi
  rw [← BitVec.ofNat_add]

/-- One round. -/
theorem Rounds.step (h : Rounds P B k V) (hk : k < 100) (hB : ∀ c, ByKey (fun n : Fin 20000 => P.scores c n.val) (B c))
    (hall : ∀ c, AllHeld P.boxes.sup (P.scores c)) : Rounds P B (k + 1) (STEP V) := by
  have hr : ∀ c, ∃ j, bestOf (work V) (ix1 c) = BitVec.ofNat 32 j.val ∧ topOf (work V) (ix1 c) = work V (ix2 c j)
      ∧ Tracks (listed enough (B c)) (fun _ => True) ⊥ (left P.boxes.sup (P.scores c) (k + 1)) (fun j => work (STEP V) (ix2 c j))
      ∧ scoreOf ⊥ (left P.boxes.sup (P.scores c) k) = work V (ix2 c j) ∧ work V (ix2 c j) < (⊤ : EReal)
      ∧ ∀ b, coordOf b (left P.boxes.sup (P.scores c) k) = if work V (ix2 c j) = (⊥ : EReal) then 0 else b (listed enough (B c) j) := fun c => by
    obtain ⟨j, hj, hf⟩ := bestOf_spec (work V) c
    exact ⟨j, hj, topOf_spec _ c j hf, round_listed (hB c) (P.big c) (h.scores c) hf (hall c k hk) fun x => h.work_apply c j x hj⟩
  have hlive : ∀ c j, topOf (work V) (ix1 c) = work V (ix2 c j) → work V (ix2 c j) < (⊤ : EReal) →
      (liveOf (topOf (work V)) (ix1 c) = 1#1 ↔ work V (ix2 c j) ≠ (⊥ : EReal)) := fun c j e e' => by
    rw [liveOf_apply, e]
    exact ⟨fun h => h.1, fun h => ⟨h, e'.ne⟩⟩
  refine ⟨fun c j e => ?_, fun c => ?_, h.count_step, fun c q hq => ?_, fun c q e hq => ?_⟩
  · have : listBoxes (STEP V) = listBoxes V := STEP_main_v73_0 V
    rw [this]; exact h.boxes c j e
  · obtain ⟨j, -, -, ht, -⟩ := hr c
    exact ht
  · rw [scores_step, row_scores c _ _ _ q k hk h.count]
    by_cases e : q.val = k
    · obtain ⟨j, -, htop, -, hs, ht, -⟩ := hr c
      rw [if_pos e, scoreRow_apply, e, hs, htop]
      split
      · rfl
      · rename_i hn
        rw [hlive c j htop ht] at hn
        exact (not_not.1 hn).symm
    · rw [if_neg e]; exact h.score c q (by omega)
  · rw [boxes_step, row_boxes c _ _ _ q e k hk h.count]
    by_cases eq : q.val = k
    · obtain ⟨j, hj, htop, -, hs, ht, hc⟩ := hr c
      rw [if_pos eq, boxRow_apply, eq, hc, boxOf_apply _ _ c j _ hj, h.boxes]
      have hl := hlive c j htop ht
      by_cases hb : work V (ix2 c j) = (⊥ : EReal)
      · rw [if_pos hb, if_neg fun h' => hl.1 h' hb]
      · rw [if_neg hb, if_pos (hl.2 hb)]
    · rw [if_neg eq]; exact h.box c q e (by omega)

/-- All rounds. -/
theorem Rounds.all (h : Rounds P B 0 V) (hB : ∀ c, ByKey (fun n : Fin 20000 => P.scores c n.val) (B c))
    (hall : ∀ c, AllHeld P.boxes.sup (P.scores c)) (k : ℕ) (hk : k ≤ 100) : Rounds P B k (STEP^[k] V) := by
  induction k with
  | zero => exact h
  | succ k ih =>
    rw [Function.iterate_succ_apply']
    exact (ih (by omega)).step (by omega) hB hall

end Cert.ReferenceIdeal.Value

end
-- ==== Proof.PrePick.lean ====
/- One pick of the precondition: its words name the best anchor of each class, what that pick suppresses, and how the
pick ranks in its class and in its lane. -/
module

public import proofs.«01_k».proof.Pre_picks_are_shortlisted
public import proofs.«01_k».proof.Proof.Best
public import proofs.«01_k».proof.Proof.Overlap
public import proofs.«01_k».proof.Proof.Problem
public import Idealize.ShloMosaic.Lib.Pointwise
public import Idealize.ShloMosaic.Lib.IdealHost

@[expose] public section

set_option maxRecDepth 10000

noncomputable section

namespace Cert.Pre_picks_are_shortlisted

open Idealize.ShloMosaic Nms

variable [Facts]
open Facts

/-- The greatest score of each class. -/
def topOf (work : FVec Ideal S20x20000 .f32) : FVec Ideal S20x1 .f32 :=
  broadcastInDim S20x1 ![0] bcast_S20_S20x1_0 (Host.reduce FloatOps.maximumf work (constant S_ .f32 0xFF800000#32) reducesTo_S20x20000_S20_d1 h_S_)

/-- The first anchor with that score. -/
def numberOf (work : FVec Ideal S20x20000 .f32) : IVec S20x1 32 :=
  broadcastInDim S20x1 ![0] bcast_S20_S20x1_0 (Host.reduce IntOp.minsi (fn_where_1 (F := Ideal)
    (cmpf .oeq work (broadcastInDim S20x20000 ![0, 1] bcast_S20x1_S20x20000_0_1 (topOf work))) (iotaInDim S20x20000 32 1) (constantI S_ 32 20000#32))
    (constantI S_ 32 2147483647#32) reducesTo_S20x20000_S20_d1 h_S_)

/-- The mark of an anchor. -/
def atOf (p : IVec S20x1 32) : IVec S20x20000 1 :=
  cmpi .eq (iotaInDim S20x20000 32 1) (broadcastInDim S20x20000 ![0, 1] bcast_S20x1_S20x20000_0_1 p)

/-- The coordinate of the marked anchor. -/
def readOf (at' : IVec S20x20000 1) (x : FVec Ideal S20000 .f32) : FVec Ideal S20x1 .f32 :=
  broadcastInDim S20x1 ![0] bcast_S20_S20x1_0 (Host.reduce FloatOps.maximumf (fn_where_2 (F := Ideal) at'
    (broadcastInDim S1x20000 ![1] bcast_S20000_S1x20000_1 x) (constant S_ .f32 0x00000000#32)) (constant S_ .f32 0xFF800000#32) reducesTo_S20x20000_S20_d1 h_S_)

/-- The rest of one pick, from the best anchor and its box. -/
def rest (work : FVec Ideal S20x20000 .f32) (ok : IVec S20x1 1) (s : FVec Ideal S20x20000 .f32) (x1 y1 x2 y2 : FVec Ideal S20000 .f32)
    (m : FVec Ideal S20x1 .f32) (p : IVec S20x1 32) (at' : IVec S20x20000 1) (a1 b1 a2 b2 : FVec Ideal S20x1 .f32) : FVec Ideal S20x20000 .f32 × IVec S20x1 1 :=
  fn_picks1_part2 (F := Ideal) work ok s x1 y1 x2 y2 (iotaInDim S20x20000 32 1) m p at' a1 b1 a2 b2
    (subf (minimumf (broadcastInDim S20x20000 ![0, 1] bcast_S20x1_S20x20000_0_1 a2)
        (broadcastInDim S20x20000 ![0, 1] bcast_S1x20000_S20x20000_0_1 (broadcastInDim S1x20000 ![1] bcast_S20000_S1x20000_1 x2)))
      (maximumf (broadcastInDim S20x20000 ![0, 1] bcast_S20x1_S20x20000_0_1 a1)
        (broadcastInDim S20x20000 ![0, 1] bcast_S1x20000_S20x20000_0_1 (broadcastInDim S1x20000 ![1] bcast_S20000_S1x20000_1 x1))))
    (broadcastInDim S20x20000 ![] bcast_S_S20x20000 (constant S_ .f32 0x00000000#32))

/-- One pick, by its named parts. -/
theorem pick_eq (work : FVec Ideal S20x20000 .f32) (ok : IVec S20x1 1) (s : FVec Ideal S20x20000 .f32) (x1 y1 x2 y2 : FVec Ideal S20000 .f32) :
    fn_picks1 (F := Ideal) work ok s x1 y1 x2 y2 = rest work ok s x1 y1 x2 y2 (topOf work) (numberOf work) (atOf (numberOf work))
      (readOf (atOf (numberOf work)) x1) (readOf (atOf (numberOf work)) y1) (readOf (atOf (numberOf work)) x2) (readOf (atOf (numberOf work)) y2) := rfl

section Words
variable (work : FVec Ideal S20x20000 .f32) (ok : IVec S20x1 1) (s : FVec Ideal S20x20000 .f32) (x1 y1 x2 y2 : FVec Ideal S20000 .f32)
  (m : FVec Ideal S20x1 .f32) (p : IVec S20x1 32) (at' : IVec S20x20000 1) (a1 b1 a2 b2 : FVec Ideal S20x1 .f32) (c : Fin 20) (n : Fin 20000)

/-- What a pick leaves of a score. -/
theorem left_word : (rest work ok s x1 y1 x2 y2 m p at' a1 b1 a2 b2).1 (ix2 c n)
    = Scalar.select (IntOp.ori (BitVec.ofBool (decide (Ideal.ofBits .f32 0x3F000000#32
        < Ideal.div (sharedOf (a1 (ix2 c 0)) (b1 (ix2 c 0)) (a2 (ix2 c 0)) (b2 (ix2 c 0)) (x1 (ix1 n)) (y1 (ix1 n)) (x2 (ix1 n)) (y2 (ix1 n)))
          (unionOf (a1 (ix2 c 0)) (b1 (ix2 c 0)) (a2 (ix2 c 0)) (b2 (ix2 c 0)) (x1 (ix1 n)) (y1 (ix1 n)) (x2 (ix1 n)) (y2 (ix1 n))))))
        (at' (ix2 c n))) (Ideal.ofBits .f32 0xFF800000#32) (work (ix2 c n)) := by
  unfold sharedOf unionOf areaOf sharedOf
  pointwise [rest, fn_picks1_part2, fn_picks1_part3, fn_picks1_part4, fn_picks1_part5, fn_picks1_part6, fn_where_3, fn_where_4]
  rfl

/-- The marks of the anchors ahead of a score and number. -/
def aheadOf : IVec S20x20000 1 :=
  ori (cmpf .ogt s (broadcastInDim S20x20000 ![0, 1] bcast_S20x1_S20x20000_0_1 m))
    (andi (cmpf .oeq s (broadcastInDim S20x20000 ![0, 1] bcast_S20x1_S20x20000_0_1 m))
      (cmpi .slt (iotaInDim S20x20000 32 1) (broadcastInDim S20x20000 ![0, 1] bcast_S20x1_S20x20000_0_1 p)))

/-- The marks of the anchors in the lane of an anchor. -/
def laneOf : IVec S20x20000 1 :=
  cmpi .eq (Host.remsi (iotaInDim S20x20000 32 1) (broadcastInDim S20x20000 ![] bcast_S_S20x20000 (constantI S_ 32 128#32)))
    (broadcastInDim S20x20000 ![0, 1] bcast_S20x1_S20x20000_0_1 (Host.remsi p (broadcastInDim S20x1 ![] bcast_S_S20x1 (constantI S_ 32 128#32))))

/-- The number of marks in each class. -/
def countOf (k : IVec S20x20000 1) : FVec Ideal S20x1 .f32 :=
  broadcastInDim S20x1 ![0] bcast_S20_S20x1_0 (Host.reduceAdd (id (fn_where_4 (F := Ideal) k (constant S_ .f32 0x3F800000#32) (constant S_ .f32 0x00000000#32)))
    (constant S_ .f32 0x00000000#32) reducesTo_S20x20000_S20_d1 h_S_)

/-- A word for every class. -/
def eachOf (w : BitVec 32) : FVec Ideal S20x1 .f32 := broadcastInDim S20x1 ![] bcast_S_S20x1 (constant S_ .f32 w)

/-- A constant for each class. -/
theorem eachOf_apply (w : BitVec 32) : eachOf w (ix2 c 0) = Ideal.ofBits .f32 w := by
  pointwise [eachOf]

/-- The answer of a pick, as its tests. -/
theorem rest_ok : (rest work ok s x1 y1 x2 y2 m p at' a1 b1 a2 b2).2 = andi ok (ori (cmpf .oeq m (eachOf 0xFF800000#32))
    (andi (andi (andi (cmpf .olt m (eachOf 0x7F800000#32)) (cmpf .olt (countOf (aheadOf s m p)) (eachOf 0x459C4000#32)))
        (cmpf .olt (countOf (andi (aheadOf s m p) (laneOf p))) (eachOf 0x41800000#32)))
      (cmpf .ogt (countOf (andi (cmpf .ogt s (broadcastInDim S20x20000 ![] bcast_S_S20x20000 (constant S_ .f32 0xFF800000#32))) (laneOf p))) (eachOf 0x41700000#32)))) := rfl

/-- A conjunction of bits. -/
theorem bit_and (a b : BitVec 1) : a &&& b = 1#1 ↔ a = 1#1 ∧ b = 1#1 := by revert a b; decide
/-- A disjunction of bits. -/
theorem bit_or (a b : BitVec 1) : a ||| b = 1#1 ↔ a = 1#1 ∨ b = 1#1 := by revert a b; decide

/-- The bit of a proposition. -/
theorem bit_of (P : Prop) [Decidable P] : BitVec.ofBool (decide P) = 1#1 ↔ P := by
  by_cases h : P <;> simp [h]

/-- The tests of a pick, as inequalities. -/
theorem tests_word (e f g h n₁ n₂ n₃ x : FVec Ideal S20x1 .f32) :
    (andi ok (ori (cmpf .oeq m e)
    (andi (andi (andi (cmpf .olt m f) (cmpf .olt n₁ g)) (cmpf .olt n₂ h)) (cmpf .ogt n₃ x))) : IVec S20x1 1) (ix2 c 0) = 1#1
      ↔ ok (ix2 c 0) = 1#1 ∧ (m (ix2 c 0) = e (ix2 c 0) ∨ ((m (ix2 c 0) < f (ix2 c 0) ∧ n₁ (ix2 c 0) < g (ix2 c 0)) ∧ n₂ (ix2 c 0) < h (ix2 c 0))
        ∧ x (ix2 c 0) < n₃ (ix2 c 0)) := by
  show ok (ix2 c 0) &&& (BitVec.ofBool (decide (m (ix2 c 0) = e (ix2 c 0))) |||
    (((BitVec.ofBool (decide (m (ix2 c 0) < f (ix2 c 0))) &&& BitVec.ofBool (decide (n₁ (ix2 c 0) < g (ix2 c 0)))) &&&
      BitVec.ofBool (decide (n₂ (ix2 c 0) < h (ix2 c 0)))) &&& BitVec.ofBool (decide (x (ix2 c 0) < n₃ (ix2 c 0))))) = 1#1 ↔ _
  simp only [bit_and, bit_or, bit_of]

/-- When the answer of a pick is one. -/
theorem ok_word : (rest work ok s x1 y1 x2 y2 m p at' a1 b1 a2 b2).2 (ix2 c 0) = 1#1 ↔ ok (ix2 c 0) = 1#1 ∧ (m (ix2 c 0) = Ideal.ofBits .f32 0xFF800000#32
    ∨ ((m (ix2 c 0) < Ideal.ofBits .f32 0x7F800000#32 ∧ countOf (aheadOf s m p) (ix2 c 0) < Ideal.ofBits .f32 0x459C4000#32)
        ∧ countOf (andi (aheadOf s m p) (laneOf p)) (ix2 c 0) < Ideal.ofBits .f32 0x41800000#32)
      ∧ Ideal.ofBits .f32 0x41700000#32
        < countOf (andi (cmpf .ogt s (broadcastInDim S20x20000 ![] bcast_S_S20x20000 (constant S_ .f32 0xFF800000#32))) (laneOf p)) (ix2 c 0)) := by
  rw [rest_ok, tests_word]
  simp only [eachOf_apply]

open Classical in
/-- A count is the number of marked anchors. -/
theorem countOf_apply (k : IVec S20x20000 1) : countOf k (ix2 c 0) = ((Finset.univ.filter fun x : Fin 20000 => k (ix2 c x) = 1#1).card : EReal) := by
  have e : countOf k (ix2 c 0) = ∑ x : Fin 20000, if k (ix2 c x) = 1#1 then (1 : EReal) else 0 := by
    pointwise [countOf, fn_where_4]
    refine Finset.sum_congr rfl fun x _ => ?_
    show Scalar.select (k (ix2 c x)) (Ideal.ofBits .f32 0x3F800000#32) (Ideal.ofBits .f32 0#32) = _
    rw [one_eq, Ideal.ofBits_zero_f32]
    rfl
  rw [e, ← Finset.sum_filter, Finset.sum_const, EReal.nsmul_eq_mul, mul_one]

/-- The anchors ahead of the pick: a higher score, or the same and a smaller number. -/
theorem aheadOf_apply : aheadOf s m p (ix2 c n) = 1#1 ↔ m (ix2 c 0) < s (ix2 c n) ∨ (s (ix2 c n) = m (ix2 c 0) ∧ (BitVec.ofNat 32 n.val).slt (p (ix2 c 0)) = true) := by
  have e : aheadOf s m p (ix2 c n) = BitVec.ofBool (decide (m (ix2 c 0) < s (ix2 c n))) ||| (BitVec.ofBool (decide (s (ix2 c n) = m (ix2 c 0)))
      &&& BitVec.ofBool ((BitVec.ofNat 32 n.val).slt (p (ix2 c 0)))) := by
    pointwise [aheadOf]
    rfl
  rw [e, bit_or, bit_and, bit_of, bit_of]
  have h : ∀ b : Bool, BitVec.ofBool b = 1#1 ↔ b = true := by decide
  rw [h]

/-- The anchors of the pick's lane. -/
theorem laneOf_apply : laneOf p (ix2 c n) = 1#1 ↔ IntOp.remsi .host (BitVec.ofNat 32 n.val) 128#32 = IntOp.remsi .host (p (ix2 c 0)) 128#32 := by
  have e : laneOf p (ix2 c n) = IntOp.cmpi .eq (IntOp.remsi .host (BitVec.ofNat 32 n.val) 128#32) (IntOp.remsi .host (p (ix2 c 0)) 128#32) := by
    pointwise [laneOf]
  rw [e, cmpi_eq_one]

/-- The highest score of a class. -/
theorem topOf_apply : topOf work (ix2 c 0) = Finset.fold max (Ideal.ofBits .f32 0xFF800000#32) (fun x => work (ix2 c x)) Finset.univ := by
  pointwise [topOf]

/-- The first anchor with the highest score. -/
theorem numberOf_apply : numberOf work (ix2 c 0) = Finset.fold IntOp.minsi (2147483647#32)
    (fun x : Fin 20000 => if work (ix2 c x) = topOf work (ix2 c 0) then BitVec.ofNat 32 x.val else 20000#32) Finset.univ := by
  pointwise [numberOf, fn_where_1]
  rfl

/-- What is read at the pick. -/
theorem readOf_apply (x : FVec Ideal S20000 .f32) : readOf at' x (ix2 c 0) = Finset.fold max (Ideal.ofBits .f32 0xFF800000#32)
    (fun y : Fin 20000 => Scalar.select (at' (ix2 c y)) (x (ix1 y)) (0 : EReal)) Finset.univ := by
  pointwise [readOf, fn_where_2]
  rw [show id (constant (F := Ideal) S_ .f32 0#32) ix0 = (0 : EReal) from Ideal.ofBits_zero_f32]

/-- The anchor that is the pick. -/
theorem atOf_apply : atOf p (ix2 c n) = 1#1 ↔ BitVec.ofNat 32 n.val = p (ix2 c 0) := by
  have e : atOf p (ix2 c n) = IntOp.cmpi .eq (BitVec.ofNat 32 n.val) (p (ix2 c 0)) := by
    pointwise [atOf]
  rw [e, cmpi_eq_one]

end Words

end Cert.Pre_picks_are_shortlisted

end
-- ==== Proof.PreStep.lean ====
/- A pick of the precondition: the scores left after it, and what its word grants. -/
module

public import proofs.«01_k».proof.Proof.PrePick
public import proofs.«01_k».proof.Proof.PreCount

@[expose] public section

set_option maxRecDepth 10000

noncomputable section

namespace Cert.Pre_picks_are_shortlisted

open Idealize.ShloMosaic Nms

variable [Facts]
open Facts

/-- Equal small words have equal numbers. -/
theorem ofNat_inj {a b : ℕ} (ha : a < 20000) (hb : b < 20000) : BitVec.ofNat 32 a = BitVec.ofNat 32 b ↔ a = b := by
  constructor
  · intro h
    have := congrArg BitVec.toNat h
    simp at this; omega
  · rintro rfl; rfl

/-- Anchor numbers compare as words do. -/
theorem slt_ofNat {a b : ℕ} (ha : a < 20000) (hb : b < 20000) : (BitVec.ofNat 32 a).slt (BitVec.ofNat 32 b) = true ↔ a < b := by
  rw [BitVec.slt_iff_toInt_lt, toInt_small (n := a) (by simp; omega) (by omega), toInt_small (n := b) (by simp; omega) (by omega)]
  omega

/-- The arrays hold the scores and boxes that the four lists and the class give. -/
structure Holds (B : Boxes) (S : ℕ → EReal) (c : Fin 20) (s : FVec Ideal S20x20000 .f32) (x1 y1 x2 y2 : FVec Ideal S20000 .f32) : Prop where
  big : ∀ n, 20000 ≤ n → S n = ⊥
  score : ∀ n : Fin 20000, s (ix2 c n) = S n.val
  hx1 : ∀ n : Fin 20000, x1 (ix1 n) = B.x1 n.val
  hy1 : ∀ n : Fin 20000, y1 (ix1 n) = B.y1 n.val
  hx2 : ∀ n : Fin 20000, x2 (ix1 n) = B.x2 n.val
  hy2 : ∀ n : Fin 20000, y2 (ix1 n) = B.y2 n.val
  u1 : ∀ n, Unit01 (B.x1 n)
  v1 : ∀ n, Unit01 (B.y1 n)
  u2 : ∀ n, Unit01 (B.x2 n)
  v2 : ∀ n, Unit01 (B.y2 n)

variable {B : Boxes} {S : ℕ → EReal} {c : Fin 20} {s : FVec Ideal S20x20000 .f32} {x1 y1 x2 y2 : FVec Ideal S20000 .f32}
  {W : ℕ → EReal} {work : FVec Ideal S20x20000 .f32} {ok : IVec S20x1 1}

section Pick
variable (H : Holds B S c s x1 y1 x2 y2) {p : ℕ} (hp : IsPick W p) (hlt : p < 20000) (hw : ∀ n : Fin 20000, work (ix2 c n) = W n.val)
include H hp hlt hw

/-- The highest score is the pick's. -/
theorem top_eq : topOf work (ix2 c 0) = W p := (topOf_apply work c).trans (top_pick hp hlt _ hw)

/-- The first anchor with the highest score is the pick. -/
theorem number_eq : numberOf work (ix2 c 0) = BitVec.ofNat 32 p := by
  rw [numberOf_apply, top_eq H hp hlt hw]; exact first_pick hp hlt _ hw

/-- The pick is the one anchor that is marked. -/
theorem at_iff (n : Fin 20000) : atOf (numberOf work) (ix2 c n) = 1#1 ↔ n = ⟨p, hlt⟩ := by
  rw [atOf_apply, number_eq H hp hlt hw, ofNat_inj n.isLt hlt]
  exact ⟨fun h => Fin.ext h, fun h => congrArg Fin.val h⟩

/-- What is read at the pick is the pick's. -/
theorem read_eq (x : FVec Ideal S20000 .f32) (b : ℕ → EReal) (hx : ∀ n : Fin 20000, x (ix1 n) = b n.val) (hu : ∀ n, Unit01 (b n)) :
    readOf (atOf (numberOf work)) x (ix2 c 0) = b p := by
  rw [readOf_apply, read_one (fun y => x (ix1 y)) _ ⟨p, hlt⟩ (at_iff H hp hlt hw) (by rw [hx]; exact (hu p).1), hx]

/-- The scores after a pick are those of greedy suppression. -/
theorem left_pick (n : Fin 20000) : (fn_picks1 (F := Ideal) work ok s x1 y1 x2 y2).1 (ix2 c n) = next B.sup W n.val := by
  have e1 := read_eq H hp hlt hw x1 B.x1 H.hx1 H.u1
  have e2 := read_eq H hp hlt hw y1 B.y1 H.hy1 H.v1
  have e3 := read_eq H hp hlt hw x2 B.x2 H.hx2 H.u2
  have e4 := read_eq H hp hlt hw y2 B.y2 H.hy2 H.v2
  have eat := at_iff H hp hlt hw n
  rw [pick_eq, left_word, e1, e2, e3, e4, H.hx1, H.hy1, H.hx2, H.hy2, hw, negInf, next_of_pick hp]
  have e : IntOp.ori (BitVec.ofBool (decide (Ideal.ofBits .f32 0x3F000000#32
        < Ideal.div (sharedOf (B.x1 p) (B.y1 p) (B.x2 p) (B.y2 p) (B.x1 n.val) (B.y1 n.val) (B.x2 n.val) (B.y2 n.val))
          (unionOf (B.x1 p) (B.y1 p) (B.x2 p) (B.y2 p) (B.x1 n.val) (B.y1 n.val) (B.x2 n.val) (B.y2 n.val)))))
        (atOf (numberOf work) (ix2 c n)) = 1#1 ↔ (n.val = p ∨ B.sup p n.val) := by
    show _ ||| _ = 1#1 ↔ _
    rw [bit_or, bit_of, eat, half_lt_div (H.u1 p) (H.v1 p) (H.u2 p) (H.v2 p) (H.u1 _) (H.v1 _) (H.u2 _) (H.v2 _), or_comm, Fin.ext_iff]
    rfl
  unfold Scalar.select
  by_cases h : n.val = p ∨ B.sup p n.val
  · exact (if_pos (e.2 h)).trans (if_pos h).symm
  · exact (if_neg fun h' => h (e.1 h')).trans (if_neg h).symm

/-- A pick that passes is held by both lists. -/
theorem ok_pick (hWS : W p = S p) (h : (fn_picks1 (F := Ideal) work ok s x1 y1 x2 y2).2 (ix2 c 0) = 1#1) : ok (ix2 c 0) = 1#1 ∧ Held S p := by
  classical
  have et := top_eq H hp hlt hw
  have en := number_eq H hp hlt hw
  rw [pick_eq, ok_word, negInf, posInf, word_5000, word_16, word_15, countOf_apply, countOf_apply, countOf_apply, natCast_lt, natCast_lt, natCast_lt, et] at h
  obtain ⟨hok, h | ⟨⟨⟨h0, h1⟩, h2⟩, h3⟩⟩ := h
  · exact absurd h hp.1
  have ea : ∀ x : Fin 20000, aheadOf s (topOf work) (numberOf work) (ix2 c x) = 1#1 ↔ Ahead S p x.val := fun x => by
    rw [aheadOf_apply, et, en, slt_ofNat x.isLt hlt, H.score, hWS]; rfl
  have el : ∀ x : Fin 20000, laneOf (numberOf work) (ix2 c x) = 1#1 ↔ x.val % 128 = p % 128 := fun x => by
    rw [laneOf_apply, en, remsi_small _ x.isLt, remsi_small _ hlt, ofNat_inj (by omega) (by omega)]
  have eal : ∀ x : Fin 20000, (andi (aheadOf s (topOf work) (numberOf work)) (laneOf (numberOf work)) : IVec S20x20000 1) (ix2 c x) = 1#1
      ↔ (Ahead S p x.val ∧ x.val % 128 = p % 128) := fun x => (bit_and _ _).trans (and_congr (ea x) (el x))
  have elive : ∀ x : Fin 20000, (andi (cmpf .ogt s (broadcastInDim S20x20000 ![] bcast_S_S20x20000 (constant S_ .f32 0xFF800000#32)))
      (laneOf (numberOf work)) : IVec S20x20000 1) (ix2 c x) = 1#1 ↔ (S x.val ≠ ⊥ ∧ x.val % 128 = p % 128) := fun x => by
    refine (bit_and _ _).trans (and_congr ?_ (el x))
    have e : (cmpf .ogt s (broadcastInDim S20x20000 ![] bcast_S_S20x20000 (constant S_ .f32 0xFF800000#32)) : IVec S20x20000 1) (ix2 c x)
        = BitVec.ofBool (decide (Ideal.ofBits .f32 0xFF800000#32 < s (ix2 c x))) := by
      pointwise []
    rw [e, bit_of, negInf, H.score, bot_lt_iff_ne_bot]
  simp only [ea] at h1
  simp only [eal] at h2
  simp only [elive] at h3
  exact ⟨hok, held_of_counts H.big (hWS ▸ hp.1) (hWS ▸ h0) h1 h2 h3⟩

end Pick

/-- With no score in play a pick changes nothing. -/
theorem left_none (hd : ∀ n, W n = ⊥) (hw : ∀ n : Fin 20000, work (ix2 c n) = W n.val) (n : Fin 20000) :
    (fn_picks1 (F := Ideal) work ok s x1 y1 x2 y2).1 (ix2 c n) = ⊥ := by
  rw [pick_eq, left_word, hw, hd, negInf]
  unfold Scalar.select; split <;> rfl

/-- The answer stays zero once it is zero. -/
theorem ok_keeps (h : (fn_picks1 (F := Ideal) work ok s x1 y1 x2 y2).2 (ix2 c 0) = 1#1) : ok (ix2 c 0) = 1#1 := by
  rw [pick_eq, ok_word] at h; exact h.1

/-- One pick, on the pair of scores and grants. -/
def pick (s : FVec Ideal S20x20000 .f32) (x1 y1 x2 y2 : FVec Ideal S20000 .f32) (st : FVec Ideal S20x20000 .f32 × IVec S20x1 1) :
    FVec Ideal S20x20000 .f32 × IVec S20x1 1 := fn_picks1 (F := Ideal) st.1 st.2 s x1 y1 x2 y2

/-- After `k` picks the scores are the ones left, and a grant means that the picks so far are held. -/
theorem picks_spec (H : Holds B S c s x1 y1 x2 y2) (ok0 : IVec S20x1 1) (k : ℕ) :
    (∀ n : Fin 20000, ((pick s x1 y1 x2 y2)^[k] (s, ok0)).1 (ix2 c n) = left B.sup S k n.val)
      ∧ (((pick s x1 y1 x2 y2)^[k] (s, ok0)).2 (ix2 c 0) = 1#1 → ∀ q < k, ∀ p, IsPick (left B.sup S q) p → Held S p) := by
  induction k with
  | zero => exact ⟨H.score, fun _ q hq => absurd hq (Nat.not_lt_zero q)⟩
  | succ k ih =>
    obtain ⟨h1, h2⟩ := ih
    have hbig : ∀ n, 20000 ≤ n → left B.sup S k n = ⊥ := fun n hn => left_bot (H.big n hn) k
    rw [Function.iterate_succ_apply']
    unfold pick
    by_cases hx : ∃ p, IsPick (left B.sup S k) p
    · obtain ⟨p, hp⟩ := hx
      have hlt : p < 20000 := by by_contra h; exact hp.1 (hbig p (not_lt.1 h))
      refine ⟨fun n => left_pick H hp hlt h1 n, fun hok q hq r hr => ?_⟩
      obtain ⟨hok', hheld⟩ := ok_pick H hp hlt h1 (left_eq k p hp.1) hok
      rcases Nat.lt_succ_iff_lt_or_eq.1 hq with hq | rfl
      · exact h2 hok' q hq r hr
      · rw [hr.unique hp]; exact hheld
    · have hn : ∀ p, ¬ IsPick (left B.sup S k) p := fun p hp => hx ⟨p, hp⟩
      have hd := dead_of_none hbig hn
      refine ⟨fun n => ?_, fun hok q hq r hr => ?_⟩
      · exact (left_none hd h1 n).trans (by rw [left, next_of_none hn, hd])
      · rcases Nat.lt_succ_iff_lt_or_eq.1 hq with hq | rfl
        · exact h2 (ok_keeps hok) q hq r hr
        · exact absurd hr (hn r)

section Twice
variable (st : FVec Ideal S20x20000 .f32 × IVec S20x1 1)

/-- Two picks. -/
theorem picks2_eq : fn_picks2 (F := Ideal) st.1 st.2 s x1 y1 x2 y2 = (pick s x1 y1 x2 y2)^[2] st := rfl
/-- Four picks. -/
theorem picks4_eq : fn_picks4 (F := Ideal) st.1 st.2 s x1 y1 x2 y2 = (pick s x1 y1 x2 y2)^[4] st := by
  rw [show 4 = 2 + 2 from rfl, Function.iterate_add_apply, ← picks2_eq, ← picks2_eq]; rfl
/-- Eight picks. -/
theorem picks8_eq : fn_picks8 (F := Ideal) st.1 st.2 s x1 y1 x2 y2 = (pick s x1 y1 x2 y2)^[8] st := by
  rw [show 8 = 4 + 4 from rfl, Function.iterate_add_apply, ← picks4_eq, ← picks4_eq]; rfl
/-- Sixteen picks. -/
theorem picks16_eq : fn_picks16 (F := Ideal) st.1 st.2 s x1 y1 x2 y2 = (pick s x1 y1 x2 y2)^[16] st := by
  rw [show 16 = 8 + 8 from rfl, Function.iterate_add_apply, ← picks8_eq, ← picks8_eq]; rfl
/-- Thirty-two picks. -/
theorem picks32_eq : fn_picks32 (F := Ideal) st.1 st.2 s x1 y1 x2 y2 = (pick s x1 y1 x2 y2)^[32] st := by
  rw [show 32 = 16 + 16 from rfl, Function.iterate_add_apply, ← picks16_eq, ← picks16_eq]; rfl
/-- Sixty-four picks. -/
theorem picks64_eq : fn_picks64 (F := Ideal) st.1 st.2 s x1 y1 x2 y2 = (pick s x1 y1 x2 y2)^[64] st := by
  rw [show 64 = 32 + 32 from rfl, Function.iterate_add_apply, ← picks32_eq, ← picks32_eq]; rfl

/-- The three calls of the function are a hundred picks. -/
theorem picks100_eq : fn_picks4 (F := Ideal)
      (fn_picks32 (F := Ideal) (fn_picks64 (F := Ideal) st.1 st.2 s x1 y1 x2 y2).1 (fn_picks64 (F := Ideal) st.1 st.2 s x1 y1 x2 y2).2 s x1 y1 x2 y2).1
      (fn_picks32 (F := Ideal) (fn_picks64 (F := Ideal) st.1 st.2 s x1 y1 x2 y2).1 (fn_picks64 (F := Ideal) st.1 st.2 s x1 y1 x2 y2).2 s x1 y1 x2 y2).2
      s x1 y1 x2 y2 = (pick s x1 y1 x2 y2)^[100] st := by
  rw [show 100 = 4 + (32 + 64) from rfl, Function.iterate_add_apply, Function.iterate_add_apply, ← picks64_eq, ← picks32_eq, ← picks4_eq]

end Twice

end Cert.Pre_picks_are_shortlisted

end
-- ==== Proof.PreRead.lean ====
/- The precondition's arrays: the scores and the corners of the boxes, from the inputs. -/
module

public import proofs.«01_k».proof.Proof.PreStep

@[expose] public section

set_option maxRecDepth 10000

noncomputable section

namespace Cert.Pre_picks_are_shortlisted

open Idealize.ShloMosaic Nms

variable [Facts]
open Facts

/-- The pick function's arrays, from the boxes and the scores. -/
theorem part3_eq (b : FVec Ideal S20000x4 .f32) (l g : FVec Ideal S20000x20 .f32) : ∃ s x1 y1 x2 y2,
    fn_part3 (F := Ideal) b l g = ((pick s x1 y1 x2 y2)^[100] (s, broadcastInDim S20x1 ![] bcast_S_S20x1 (constantI S_ 1 1#1))).2
      ∧ (∀ (c : Fin 20) (n : Fin 20000), s (ix2 c n) = if threshold < l (ix2 n c) * g (ix2 n c) then l (ix2 n c) * g (ix2 n c) else ⊥)
      ∧ (∀ n : Fin 20000, x1 (ix1 n) = b (ix2 n 0)) ∧ (∀ n : Fin 20000, y1 (ix1 n) = b (ix2 n 1))
      ∧ (∀ n : Fin 20000, x2 (ix1 n) = b (ix2 n 2)) ∧ (∀ n : Fin 20000, y2 (ix1 n) = b (ix2 n 3)) := by
  refine ⟨_, _, _, _, _, congrArg Prod.snd (picks100_eq (_, _)), ?_, ?_, ?_, ?_, ?_⟩
  · intro c n
    pointwise [fn_where]
    rw [show id (constant (F := Ideal) S_ .f32 0xFF800000#32) ix0 = (⊥ : EReal) from negInf]
  all_goals intro n; pointwise []

omit [Facts] in
/-- The bound of the size factors' logarithms. -/
theorem size_word : (FloatOps.absf (Ideal.log (Ideal.ofBits .f32 0x3C83126F#32) : Ideal .f32) : Ideal .f32) = maxLog := by
  have hw : Ideal.ofBits .f32 0x3C83126F#32 = ((8589935 / 536870912 : ℝ) : EReal) := by
    simp [Ideal.ofBits, Ideal.ieee]
    rw [← EReal.coe_mul]; norm_num
  have hl : Ideal.log ((8589935 / 536870912 : ℝ) : EReal) = ((Real.log (8589935 / 536870912) : ℝ) : EReal) :=
    if_neg (by norm_num)
  have hneg : Real.log (8589935 / 536870912) ≤ 0 := Real.log_nonpos (by norm_num) (by norm_num)
  rw [hw, hl, Ideal.absf_def, ← EReal.coe_neg]
  exact max_eq_right (EReal.coe_le_coe_iff.2 (by linarith))

omit [Facts] in
/-- The negative of the upper clip bound is the lower one. -/
theorem neg_neg_log : -maxLog = minLog := by
  unfold maxLog minLog
  rw [← EReal.coe_neg, neg_neg]

/-- The scores, the objectness and the boxes that the precondition starts its picks from. -/
theorem fn_eq (a0 : FVec Ideal S1x20000x1 .f32) (a1 : FVec Ideal S1x20000x20 .f32) (a2 : FVec Ideal S1x20000x4 .f32) (a3 : FVec Ideal S20000x4 .f32) : ∃ b l g,
    fn (F := Ideal) a0 a1 a2 a3 = fn_part3 (F := Ideal) b l g
      ∧ (∀ (n : Fin 20000) (c : Fin 20), l (ix2 n c) = a1 (ix3 0 n c)) ∧ (∀ (n : Fin 20000) (c : Fin 20), g (ix2 n c) = a0 (ix3 0 n 0))
      ∧ (∀ n : Fin 20000, b (ix2 n 0) = lowCorner (a3 (ix2 n 0)) (a2 (ix3 0 n 0)) (a3 (ix2 n 2)) (a2 (ix3 0 n 2)))
      ∧ (∀ n : Fin 20000, b (ix2 n 1) = lowCorner (a3 (ix2 n 1)) (a2 (ix3 0 n 1)) (a3 (ix2 n 3)) (a2 (ix3 0 n 3)))
      ∧ (∀ n : Fin 20000, b (ix2 n 2) = highCorner (a3 (ix2 n 0)) (a2 (ix3 0 n 0)) (a3 (ix2 n 2)) (a2 (ix3 0 n 2)))
      ∧ (∀ n : Fin 20000, b (ix2 n 3) = highCorner (a3 (ix2 n 1)) (a2 (ix3 0 n 1)) (a3 (ix2 n 3)) (a2 (ix3 0 n 3))) := by
  refine ⟨_, _, _, rfl, ?_, ?_, ?_, ?_, ?_, ?_⟩
  · intro n c; pointwise []
  · intro n c; pointwise []
  all_goals
    intro n
    pointwise [fn_clip, fn_clip_0]
    rw [size_word, neg_neg_log, show id (constant (F := Ideal) S_ .f32 0#32) ix0 = (0 : EReal) from Ideal.ofBits_zero_f32]
    rfl

/-- All ones: each of the first hundred picks is held. -/
theorem held_of_ones (P : Problem) (a0 : FVec Ideal S1x20000x1 .f32) (a1 : FVec Ideal S1x20000x20 .f32) (a2 : FVec Ideal S1x20000x4 .f32)
    (a3 : FVec Ideal S20000x4 .f32) (h0 : ∀ n, P.score n = a0 (ix3 0 n 0)) (h1 : ∀ n i, P.logit n i = a1 (ix3 0 n i))
    (h2 : ∀ n k, P.shift n k = a2 (ix3 0 n k)) (h3 : ∀ n k, P.frame n k = a3 (ix2 n k)) (i : Fin 20)
    (h : fn (F := Ideal) a0 a1 a2 a3 (ix2 i 0) = 1#1) : AllHeld P.boxes.sup (P.scores i) := by
  obtain ⟨b, l, g, e, hl, hg, b0, b1, b2, b3⟩ := fn_eq a0 a1 a2 a3
  obtain ⟨s, x1, y1, x2, y2, e', hs, c1, c2, c3, c4⟩ := part3_eq b l g
  rw [e, e'] at h
  have f : ∀ (k : Fin 4) (n : Fin 20000), P.frameAt k n.val = a3 (ix2 n k) := fun k n => by
    unfold Problem.frameAt; rw [dif_pos n.isLt, h3]
  have d : ∀ (k : Fin 4) (n : Fin 20000), P.shiftAt k n.val = a2 (ix3 0 n k) := fun k n => by
    unfold Problem.shiftAt; rw [dif_pos n.isLt, h2]
  have H : Holds P.boxes (P.scores i) i s x1 y1 x2 y2 :=
    { big := P.big i
      score := fun n => by unfold Problem.scores; rw [dif_pos n.isLt, hs, hl, hg, h0, h1]
      hx1 := fun n => by rw [c1, b0]; rw [← f, ← f, ← d, ← d]; rfl
      hy1 := fun n => by rw [c2, b1]; rw [← f, ← f, ← d, ← d]; rfl
      hx2 := fun n => by rw [c3, b2]; rw [← f, ← f, ← d, ← d]; rfl
      hy2 := fun n => by rw [c4, b3]; rw [← f, ← f, ← d, ← d]; rfl
      u1 := fun n => unitClip_unit _
      v1 := fun n => unitClip_unit _
      u2 := fun n => unitClip_unit _
      v2 := fun n => unitClip_unit _ }
  exact (picks_spec H _ 100).2 h

end Cert.Pre_picks_are_shortlisted

end
-- ==== Proof.ReferenceEntry.lean ====
/- The reference's loop as it is entered: the boxes it decodes, the scores it sorts, and the list of each class. -/
module

public import proofs.«01_k».proof.Proof.ReferenceRounds
public import proofs.«01_k».proof.Proof.PreRead

@[expose] public section

set_option maxRecDepth 100000

noncomputable section

namespace Nms
open Idealize.ShloMosaic

/-- The leading values along an axis, and the places they come from: the sort's own order read at the
    index. -/
theorem topK_at {α : Type} {s t : Shape} (a : Fin s.rank) (gt : α → α → BitVec 1) (x : s.Idx → α) (h : s.Slices (fun _ => 0) t)
    (j : t.Idx) (i : s.Idx) (hi : ∀ b, (i b).val = (j (b.cast h.1.symm)).val) :
    (Host.topK t a.val gt x h).1 j = x (i.along a (sortedFrom (fun k k' => gt (x (i.along a k)) (x (i.along a k')) == 1#1) (i a)))
      ∧ (Host.topK t a.val gt x h).2 j = BitVec.ofNat 32 (sortedFrom (fun k k' => gt (x (i.along a k)) (x (i.along a k')) == 1#1) (i a)).val := by
  have e : i = fun b => ⟨0 + (j (b.cast h.1.symm)).val, Nat.lt_of_lt_of_le (Nat.add_lt_add_left (j _).isLt _) (h.2 b)⟩ :=
    funext fun b => Fin.ext ((hi b).trans (Nat.zero_add _).symm)
  subst e
  unfold Host.topK Host.sort2 extractStridedSlice
  simp only [dif_pos a.isLt, true_and]
  unfold iotaInDim Shape.Idx.along
  exact congrArg (fun k : Fin (s.size a) => BitVec.ofNat 32 k.val) (Function.update_self (β := fun b => Fin (s.size b)) a _ _)

/-- The comparison the sort is made by, as a relation between keys. -/
theorem greater_key {N : ℕ} (w : Fin N → EReal) :
    ByKey w fun k k' => FloatOps.cmpfTotal (F := Ideal) (φ := .f32) .gt (w k) (w k') == 1#1 := by
  intro n n'
  show (FloatOps.cmpfTotal (F := Ideal) (φ := .f32) .gt (w n) (w n') == 1#1) = true ↔ w n' < w n
  rw [Ideal.cmpfTotal_def]
  by_cases h : w n' < w n
  · simp [Ideal.cmp, h, CmpDirection.ordered]
  · simp [Ideal.cmp, h, CmpDirection.ordered]

/-- Scores that are the listed ones: an entry out of play is at the bottom. -/
theorem tracks_of {ι : Type} {g : ι → ℕ} {w : ℕ → EReal} {u : ι → EReal} (h : ∀ j, u j = w (g j)) : Tracks g (fun _ => True) ⊥ w u := by
  intro j
  rw [h j]
  by_cases e : w (g j) = ⊥
  · rw [if_neg (fun k => k.2 e), e]
  · rw [if_pos ⟨trivial, e⟩]

/-- Before the first pick the scores are as given. -/
theorem left_start (sup : ℕ → ℕ → Prop) (s : ℕ → EReal) : left sup s 0 = s := rfl
end Nms

namespace Cert.ReferenceIdeal.Value
open Cert.ReferenceIdeal Cert.ReferenceIdeal.Gen Idealize.ShloMosaic Nms Cert.Pre_picks_are_shortlisted
open Idealize.ShloMosaic.StableHlo Idealize.ShloMosaic.Tactic Idealize.ShloMosaic.TcCoe

/-- An index moved along its row. -/
theorem along_row (c : Fin 20) (n : Fin 20000) (k : Fin 20000) : (ix2 c n : S20x20000.Idx).along 1 k = ix2 c k := by
  funext a
  match a with
  | ⟨0, _⟩ => rfl
  | ⟨1, _⟩ => rfl

/-- The order a class's scores are sorted in. -/
def byScore (x : FVec Ideal S20x20000 .f32) (c : Fin 20) (n n' : Fin 20000) : Bool :=
  FloatOps.cmpfTotal (F := Ideal) (φ := .f32) .gt (x (ix2 c n)) (x (ix2 c n')) == 1#1

/-- The j-th of a class's sorted scores, and the anchor it comes from. -/
theorem topK_row (x : FVec Ideal S20x20000 .f32) (c : Fin 20) (j : Fin 5000) :
    (Host.topK S20x5000 1 (FloatOps.cmpfTotal (F := Ideal) (φ := .f32) .gt) x sliceFits_S20x20000_S20x5000).1 (ix2 c j) = x (ix2 c (sortedFrom (byScore x c) (Fin.castLE enough j)))
      ∧ (Host.topK S20x5000 1 (FloatOps.cmpfTotal (F := Ideal) (φ := .f32) .gt) x sliceFits_S20x20000_S20x5000).2 (ix2 c j) = BitVec.ofNat 32 (listed enough (byScore x c) j) := by
  have h := topK_at (s := S20x20000) (t := S20x5000) 1 (FloatOps.cmpfTotal (F := Ideal) (φ := .f32) .gt) x sliceFits_S20x20000_S20x5000 (ix2 c j) (ix2 c (Fin.castLE enough j))
    (fun b => match b with | ⟨0, _⟩ => rfl | ⟨1, _⟩ => rfl)
  have hp : (fun k k' : Fin 20000 => FloatOps.cmpfTotal (F := Ideal) (φ := .f32) .gt (x ((ix2 c (Fin.castLE enough j) : S20x20000.Idx).along 1 k)) (x ((ix2 c (Fin.castLE enough j) : S20x20000.Idx).along 1 k')) == 1#1)
      = byScore x c := funext fun k => funext fun k' => by
    show _ = (FloatOps.cmpfTotal (F := Ideal) (φ := .f32) .gt (x (ix2 c k)) (x (ix2 c k')) == 1#1)
    exact congrArg₂ (fun p q => FloatOps.cmpfTotal (F := Ideal) (φ := .f32) .gt (x p) (x q) == 1#1) (along_row c _ k) (along_row c _ k')
  constructor
  · refine h.1.trans ((congrArg x (along_row c _ _)).trans ?_)
    exact congrArg (fun B => x (ix2 c (sortedFrom B (Fin.castLE enough j)))) hp
  · exact h.2.trans (congrArg (fun B => BitVec.ofNat 32 (sortedFrom B (Fin.castLE enough j)).val) hp)

/-- One of the four numbers of every anchor. -/
def column (x : FVec Ideal S20000x4 .f32) (k : ℕ) (h : S20000x4.Slices ![0, k] S20000x1) : FVec Ideal S20000 .f32 :=
  shapeCast S20000 (extractStridedSlice S20000x1 ![0, k] x h) shapeCasts_S20000x1_S20000

/-- The same number for every anchor. -/
def everywhere (x : FVec Ideal S_ .f32) : FVec Ideal S20000 .f32 := broadcastInDim S20000 ![] bcast_S_S20000 x

/-- The upper clip bound of a delta of size. -/
def widest : FVec Ideal S_ .f32 := Host.absf (Host.log (constant S_ .f32 0x3C83126F#32))

/-- The deltas of size, clipped. -/
def clipSize (x : FVec Ideal S20000 .f32) : FVec Ideal S20000 .f32 :=
  minimumf (everywhere widest) (maximumf (everywhere (Host.negf widest)) x)

/-- Coordinates, clipped to [0, 1]. -/
def clipUnit (x : FVec Ideal S20000 .f32) : FVec Ideal S20000 .f32 :=
  minimumf (everywhere (constant S_ .f32 0x3F800000#32)) (maximumf (everywhere (constant S_ .f32 0x00000000#32)) x)

/-- The middles of the boxes along one axis. -/
def middle (a d s : FVec Ideal S20000 .f32) : FVec Ideal S20000 .f32 := addf a (mulf d s)

/-- The sizes of the boxes along one axis. -/
def side (s e : FVec Ideal S20000 .f32) : FVec Ideal S20000 .f32 := mulf s (Host.exp (clipSize e))
/-- The half of every number. -/
def half (x : FVec Ideal S20000 .f32) : FVec Ideal S20000 .f32 := mulf x (everywhere (constant S_ .f32 0x3F000000#32))

/-- The lower edges along one axis. -/
def lowOf (m s : FVec Ideal S20000 .f32) : FVec Ideal S20000 .f32 := clipUnit (subf m (half s))
/-- The higher edges along one axis. -/
def highOf (m s : FVec Ideal S20000 .f32) : FVec Ideal S20000 .f32 := clipUnit (addf m (half s))

/-- A list as a column. -/
def upright (x : FVec Ideal S20000 .f32) : FVec Ideal S20000x1 .f32 := broadcastInDim S20000x1 ![0] bcast_S20000_S20000x1_0 x

/-- Four lists as the columns of one array. -/
def joined (a b c d : FVec Ideal S20000 .f32) : FVec Ideal S20000x4 .f32 :=
  concatenate S20000x4 1 [⟨S20000x1, upright a⟩, ⟨S20000x1, upright b⟩, ⟨S20000x1, upright c⟩, ⟨S20000x1, upright d⟩]
    concatenates_S20000x1_S20000x1_S20000x1_S20000x1_S20000x4_d1

/-- The class scores times the objectness, by class. -/
def weighted (a0 : FVec Ideal S1x20000x1 .f32) (a1 : FVec Ideal S1x20000x20 .f32) : FVec Ideal S20x20000 .f32 :=
  transpose S20x20000 [1, 0] (mulf (shapeCast S20000x20 a1 shapeCasts_S1x20000x20_S20000x20)
    (broadcastInDim S20000x20 ![0, 1] bcast_S20000x1_S20000x20_0_1 (shapeCast S20000x1 a0 shapeCasts_S1x20000x1_S20000x1)))
    transposes_S20000x20_S20x20000_1_0

/-- The scores above the threshold, minus infinity for the others. -/
def entered (l : FVec Ideal S20x20000 .f32) : FVec Ideal S20x20000 .f32 :=
  select (cmpf .ogt l (broadcastInDim S20x20000 ![] bcast_S_S20x20000 (constant S_ .f32 0x3D4CCCCD#32))) l
    (broadcastInDim S20x20000 ![] bcast_S_S20x20000 (constant S_ .f32 0xFF800000#32))

/-- The places that a lookup is made at: a negative one counts from the end. -/
def wrapped (p : IVec S20x5000 32) : IVec S20x5000x1 32 :=
  broadcastInDim S20x5000x1 ![0, 1] bcast_S20x5000_S20x5000x1_0_1
    (select (cmpi .slt p (broadcastInDim S20x5000 ![] bcast_S_S20x5000 (constantI S_ 32 0#32)))
      (addi p (broadcastInDim S20x5000 ![] bcast_S_S20x5000 (constantI S_ 32 20000#32))) p)

/-- The first stretch of the entry: the decoded deltas, the middles and the sizes of the boxes. -/
abbrev firstI : List (List (HloOp τ sig (Elt Ideal))) := [hostOps0, hostOps0_1, hostOps0_2, hostOps0_3, hostOps0_4]
/-- The second stretch of the entry: the four edges of the boxes. -/
abbrev secondI : List (List (HloOp τ sig (Elt Ideal))) := [hostOps0_5, hostOps0_6, hostOps0_7, hostOps0_8, hostOps0_9, hostOps0_10, hostOps0_11]
/-- The third stretch of the entry: the sorted scores and their boxes. -/
abbrev thirdI : List (List (HloOp τ sig (Elt Ideal))) := [hostOps0_12, hostOps0_13, hostOps0_14]

/-- The entry is its three stretches, one after the other. -/
theorem entry_split (V : Valuation τ sig (Elt Ideal)) : afterL preI V = afterL thirdI (afterL secondI (afterL firstI V)) := rfl

/-- The deltas. -/
abbrev shifts (V : Valuation τ sig (Elt Ideal)) : FVec Ideal S20000x4 .f32 :=
  shapeCast S20000x4 (V (Proc.devRef .tc main_arg2) : FVec Ideal S1x20000x4 .f32) shapeCasts_S1x20000x4_S20000x4
/-- The anchors. -/
abbrev frames (V : Valuation τ sig (Elt Ideal)) : FVec Ideal S20000x4 .f32 := V (Proc.devRef .tc main_arg3)

/-- The first stretch leaves the middles along x. -/
theorem first_v20 (V : Valuation τ sig (Elt Ideal)) : afterL firstI V (Proc.devRef .tc main_v20) = middle (column (frames V) 0 slices_S20000x4_S20000x1_0_0) (column (shifts V) 0 slices_S20000x4_S20000x1_0_0) (column (frames V) 2 slices_S20000x4_S20000x1_0_2) := rfl
/-- The first stretch leaves the middles along y. -/
theorem first_v26 (V : Valuation τ sig (Elt Ideal)) : afterL firstI V (Proc.devRef .tc main_v26) = middle (column (frames V) 1 slices_S20000x4_S20000x1_0_1) (column (shifts V) 1 slices_S20000x4_S20000x1_0_1) (column (frames V) 3 slices_S20000x4_S20000x1_0_3) := rfl
/-- The first stretch leaves the sizes along x. -/
theorem first_v30 (V : Valuation τ sig (Elt Ideal)) : afterL firstI V (Proc.devRef .tc main_v30) = side (column (frames V) 2 slices_S20000x4_S20000x1_0_2) (column (shifts V) 2 slices_S20000x4_S20000x1_0_2) := rfl
/-- The first stretch leaves the sizes along y. -/
theorem first_v34 (V : Valuation τ sig (Elt Ideal)) : afterL firstI V (Proc.devRef .tc main_v34) = side (column (frames V) 3 slices_S20000x4_S20000x1_0_3) (column (shifts V) 3 slices_S20000x4_S20000x1_0_3) := rfl
/-- The first stretch leaves the left edges, not yet clipped. -/
theorem first_v37 (V : Valuation τ sig (Elt Ideal)) : afterL firstI V (Proc.devRef .tc main_v37) = subf (middle (column (frames V) 0 slices_S20000x4_S20000x1_0_0) (column (shifts V) 0 slices_S20000x4_S20000x1_0_0) (column (frames V) 2 slices_S20000x4_S20000x1_0_2)) (half (side (column (frames V) 2 slices_S20000x4_S20000x1_0_2) (column (shifts V) 2 slices_S20000x4_S20000x1_0_2))) := rfl
/-- The first stretch leaves the constant zero. -/
theorem first_cst_1 (V : Valuation τ sig (Elt Ideal)) : afterL firstI V (Proc.devRef .tc main_cst_1) = constant (F := Ideal) S_ .f32 0x00000000#32 := rfl
/-- The first stretch leaves the constant one. -/
theorem first_cst_2 (V : Valuation τ sig (Elt Ideal)) : afterL firstI V (Proc.devRef .tc main_cst_2) = constant (F := Ideal) S_ .f32 0x3F800000#32 := rfl
/-- The first stretch keeps the objectness. -/
theorem first_arg0 (V : Valuation τ sig (Elt Ideal)) : afterL firstI V (Proc.devRef .tc main_arg0) = V (Proc.devRef .tc main_arg0) := rfl
/-- The first stretch keeps the class scores. -/
theorem first_arg1 (V : Valuation τ sig (Elt Ideal)) : afterL firstI V (Proc.devRef .tc main_arg1) = V (Proc.devRef .tc main_arg1) := rfl
/-- The second stretch leaves the left edges. -/
theorem second_v38 (V : Valuation τ sig (Elt Ideal)) : afterL secondI V (Proc.devRef .tc main_v38) = minimumf (everywhere (V (Proc.devRef .tc main_cst_2))) (maximumf (everywhere (V (Proc.devRef .tc main_cst_1))) (V (Proc.devRef .tc main_v37))) := rfl
/-- The second stretch leaves the upper edges. -/
theorem second_v42 (V : Valuation τ sig (Elt Ideal)) : afterL secondI V (Proc.devRef .tc main_v42) = lowOf (V (Proc.devRef .tc main_v26)) (V (Proc.devRef .tc main_v34)) := rfl
/-- The second stretch leaves the right edges. -/
theorem second_v46 (V : Valuation τ sig (Elt Ideal)) : afterL secondI V (Proc.devRef .tc main_v46) = highOf (V (Proc.devRef .tc main_v20)) (V (Proc.devRef .tc main_v30)) := rfl
/-- The second stretch leaves the lower edges. -/
theorem second_v50 (V : Valuation τ sig (Elt Ideal)) : afterL secondI V (Proc.devRef .tc main_v50) = highOf (V (Proc.devRef .tc main_v26)) (V (Proc.devRef .tc main_v34)) := rfl
/-- The second stretch keeps the objectness. -/
theorem second_arg0 (V : Valuation τ sig (Elt Ideal)) : afterL secondI V (Proc.devRef .tc main_arg0) = V (Proc.devRef .tc main_arg0) := rfl
/-- The second stretch keeps the class scores. -/
theorem second_arg1 (V : Valuation τ sig (Elt Ideal)) : afterL secondI V (Proc.devRef .tc main_arg1) = V (Proc.devRef .tc main_arg1) := rfl
/-- The third stretch leaves the sorted scores. -/
theorem third_work (V : Valuation τ sig (Elt Ideal)) : afterL thirdI V (Proc.devRef .tc main_v73_2) = (Host.topK S20x5000 1 (FloatOps.cmpfTotal (F := Ideal) (φ := .f32) .gt) (entered (weighted (V (Proc.devRef .tc main_arg0)) (V (Proc.devRef .tc main_arg1)))) sliceFits_S20x20000_S20x5000).1 := rfl

/-- The third stretch up to the sort. -/
abbrev topI : List (List (HloOp τ sig (Elt Ideal))) := [hostOps0_12, hostOps0_13]
/-- Before the sort the four edges stand side by side. -/
theorem top_v55 (V : Valuation τ sig (Elt Ideal)) : afterL topI V (Proc.devRef .tc main_v55) = joined (V (Proc.devRef .tc main_v38)) (V (Proc.devRef .tc main_v42)) (V (Proc.devRef .tc main_v46)) (V (Proc.devRef .tc main_v50)) := rfl
/-- Before the sort the scores are masked. -/
theorem top_v63 (V : Valuation τ sig (Elt Ideal)) : afterL topI V (Proc.devRef .tc main_v63) = entered (weighted (V (Proc.devRef .tc main_arg0)) (V (Proc.devRef .tc main_arg1))) := rfl
/-- The third stretch leaves the boxes of the sorted scores. -/
theorem last_boxes (V : Valuation τ sig (Elt Ideal)) : after hostOps0_14 V (Proc.devRef .tc main_v73_0) = Host.gather gather_S20000x4_S20x5000x1_S20x5000x4_2_0_n_n_0_2_14 (V (Proc.devRef .tc main_v55)) (wrapped (Host.topK S20x5000 1 (FloatOps.cmpfTotal (F := Ideal) (φ := .f32) .gt) (V (Proc.devRef .tc main_v63)) sliceFits_S20x20000_S20x5000).2) := by
  after_results
  exact congrArg (Host.gather (w := 32) gather_S20000x4_S20x5000x1_S20x5000x4_2_0_n_n_0_2_14 (V (Proc.devRef .tc main_v55) : FVec Ideal S20000x4 .f32)) rfl
/-- The boxes the entry decodes. -/
def decoded (a2 : FVec Ideal S1x20000x4 .f32) (a3 : FVec Ideal S20000x4 .f32) : FVec Ideal S20000x4 .f32 :=
  let d : FVec Ideal S20000x4 .f32 := shapeCast S20000x4 a2 shapeCasts_S1x20000x4_S20000x4
  joined
    (lowOf (middle (column a3 0 slices_S20000x4_S20000x1_0_0) (column d 0 slices_S20000x4_S20000x1_0_0) (column a3 2 slices_S20000x4_S20000x1_0_2)) (side (column a3 2 slices_S20000x4_S20000x1_0_2) (column d 2 slices_S20000x4_S20000x1_0_2)))
    (lowOf (middle (column a3 1 slices_S20000x4_S20000x1_0_1) (column d 1 slices_S20000x4_S20000x1_0_1) (column a3 3 slices_S20000x4_S20000x1_0_3)) (side (column a3 3 slices_S20000x4_S20000x1_0_3) (column d 3 slices_S20000x4_S20000x1_0_3)))
    (highOf (middle (column a3 0 slices_S20000x4_S20000x1_0_0) (column d 0 slices_S20000x4_S20000x1_0_0) (column a3 2 slices_S20000x4_S20000x1_0_2)) (side (column a3 2 slices_S20000x4_S20000x1_0_2) (column d 2 slices_S20000x4_S20000x1_0_2)))
    (highOf (middle (column a3 1 slices_S20000x4_S20000x1_0_1) (column d 1 slices_S20000x4_S20000x1_0_1) (column a3 3 slices_S20000x4_S20000x1_0_3)) (side (column a3 3 slices_S20000x4_S20000x1_0_3) (column d 3 slices_S20000x4_S20000x1_0_3)))

/-- The masked scores the entry sorts. -/
def masked (a0 : FVec Ideal S1x20000x1 .f32) (a1 : FVec Ideal S1x20000x20 .f32) : FVec Ideal S20x20000 .f32 := entered (weighted a0 a1)

/-- The loop is entered with the sorted scores. -/
theorem entry_work (V : Valuation τ sig (Elt Ideal)) : work (afterL preI V) =
    (Host.topK S20x5000 1 (FloatOps.cmpfTotal (F := Ideal) (φ := .f32) .gt) (masked (V (Proc.devRef .tc main_arg0)) (V (Proc.devRef .tc main_arg1))) sliceFits_S20x20000_S20x5000).1 := by
  rw [entry_split]
  exact (third_work _).trans (by rw [second_arg0, second_arg1, first_arg0, first_arg1]; rfl)

/-- The boxes of the list, each one looked up at the place its score came from. -/
theorem entry_boxes (V : Valuation τ sig (Elt Ideal)) : listBoxes (afterL preI V) =
    Host.gather gather_S20000x4_S20x5000x1_S20x5000x4_2_0_n_n_0_2_14 (decoded (V (Proc.devRef .tc main_arg2)) (V (Proc.devRef .tc main_arg3)))
      (wrapped (Host.topK S20x5000 1 (FloatOps.cmpfTotal (F := Ideal) (φ := .f32) .gt) (masked (V (Proc.devRef .tc main_arg0)) (V (Proc.devRef .tc main_arg1))) sliceFits_S20x20000_S20x5000).2) := by
  rw [entry_split]
  refine (last_boxes (afterL topI (afterL secondI (afterL firstI V)))).trans ?_
  rw [top_v55, top_v63, second_v38, second_v42, second_v46, second_v50, second_arg0, second_arg1, first_v37, first_v20, first_v26, first_v30, first_v34, first_cst_1, first_cst_2, first_arg0, first_arg1]
  unfold decoded masked lowOf clipUnit
  rfl

section
variable (P : Problem) (a0 : FVec Ideal S1x20000x1 .f32) (a1 : FVec Ideal S1x20000x20 .f32) (a2 : FVec Ideal S1x20000x4 .f32) (a3 : FVec Ideal S20000x4 .f32)

/-- A masked score is the problem's. -/
theorem masked_apply (h0 : ∀ n, P.score n = a0 (ix3 0 n 0)) (h1 : ∀ n i, P.logit n i = a1 (ix3 0 n i)) (c : Fin 20) (n : Fin 20000) :
    masked a0 a1 (ix2 c n) = P.scores c n.val := by
  unfold Problem.scores
  rw [dif_pos n.isLt, h0, h1]
  pointwise [masked, entered, weighted]
  rw [negInf]

/-- A decoded edge is the problem's. -/
theorem decoded_apply (h2 : ∀ n k, P.shift n k = a2 (ix3 0 n k)) (h3 : ∀ n k, P.frame n k = a3 (ix2 n k)) (n : Fin 20000) (k : Fin 4) :
    decoded a2 a3 (ix2 n k) = edge P.boxes k n.val := by
  have f : ∀ (k : Fin 4) (n : Fin 20000), P.frameAt k n.val = a3 (ix2 n k) := fun k n => by
    unfold Problem.frameAt; rw [dif_pos n.isLt, h3]
  have d : ∀ (k : Fin 4) (n : Fin 20000), P.shiftAt k n.val = a2 (ix3 0 n k) := fun k n => by
    unfold Problem.shiftAt; rw [dif_pos n.isLt, h2]
  match k with
  | 0 =>
    refine Eq.trans (b := lowCorner (a3 (ix2 n 0)) (a2 (ix3 0 n 0)) (a3 (ix2 n 2)) (a2 (ix3 0 n 2))) ?_ (by rw [← f, ← f, ← d, ← d]; rfl)
    pointwise [decoded, joined, upright, lowOf, clipUnit, everywhere, middle, side, half, clipSize, widest, column]
    rw [size_word, neg_neg_log, ← EReal.coe_one, ← one_eq]
    rfl
  | 1 =>
    refine Eq.trans (b := lowCorner (a3 (ix2 n 1)) (a2 (ix3 0 n 1)) (a3 (ix2 n 3)) (a2 (ix3 0 n 3))) ?_ (by rw [← f, ← f, ← d, ← d]; rfl)
    pointwise [decoded, joined, upright, lowOf, clipUnit, everywhere, middle, side, half, clipSize, widest, column]
    rw [size_word, neg_neg_log, ← EReal.coe_one, ← one_eq]
    rfl
  | 2 =>
    refine Eq.trans (b := highCorner (a3 (ix2 n 0)) (a2 (ix3 0 n 0)) (a3 (ix2 n 2)) (a2 (ix3 0 n 2))) ?_ (by rw [← f, ← f, ← d, ← d]; rfl)
    pointwise [decoded, joined, upright, highOf, clipUnit, everywhere, middle, side, half, clipSize, widest, column]
    rw [size_word, neg_neg_log, ← EReal.coe_one, ← one_eq]
    rfl
  | 3 =>
    refine Eq.trans (b := highCorner (a3 (ix2 n 1)) (a2 (ix3 0 n 1)) (a3 (ix2 n 3)) (a2 (ix3 0 n 3))) ?_ (by rw [← f, ← f, ← d, ← d]; rfl)
    pointwise [decoded, joined, upright, highOf, clipUnit, everywhere, middle, side, half, clipSize, widest, column]
    rw [size_word, neg_neg_log, ← EReal.coe_one, ← one_eq]
    rfl
end

/-- The word of a listed anchor is its number. -/
theorem listed_word (B : Fin 20000 → Fin 20000 → Bool) (j : Fin 5000) : (BitVec.ofNat 32 (listed enough B j)).toInt = (listed enough B j : ℕ) := by
  have h : listed enough B j < 20000 := (sortedFrom B (Fin.castLE enough j)).isLt
  exact toInt_small (by rw [BitVec.toNat_ofNat, Nat.mod_eq_of_lt (by omega)]) (by omega)

/-- A place that is not negative is looked up as it is. -/
theorem wrapped_apply (p : IVec S20x5000 32) (c : Fin 20) (j : Fin 5000) (h : 0 ≤ (p (ix2 c j)).toInt) : wrapped p (ix3 c j 0) = p (ix2 c j) := by
  refine Eq.trans ?_ (lookup (p (ix2 c j)) 20000#32 h)
  pointwise [wrapped]

/-- The box of a list's entry is the box at the place its score came from. -/
theorem lists_apply (s : FVec Ideal S20x20000 .f32) (b : FVec Ideal S20000x4 .f32) (c : Fin 20) (j : Fin 5000) (e : Fin 4) :
    Host.gather gather_S20000x4_S20x5000x1_S20x5000x4_2_0_n_n_0_2_14 b
      (wrapped (Host.topK S20x5000 1 (FloatOps.cmpfTotal (F := Ideal) (φ := .f32) .gt) s sliceFits_S20x20000_S20x5000).2) (ix3 c j e)
      = b (ix2 (sortedFrom (byScore s c) (Fin.castLE enough j)) e) := by
  have hw := (topK_row s c j).2
  generalize (Host.topK S20x5000 1 (FloatOps.cmpfTotal (F := Ideal) (φ := .f32) .gt) s sliceFits_S20x20000_S20x5000).2 = p at hw ⊢
  refine lineBoxes_apply _ _ c j e _ ?_
  rw [wrapped_apply p c j (by rw [hw, listed_word]; exact Int.natCast_nonneg _), hw, listed_word]
  rfl

/-- The loop is entered with the classes' lists, no pick made: a loop state of these arrays. -/
theorem rounds_of (P : Problem) (V : Valuation τ sig (Elt Ideal)) (s : FVec Ideal S20x20000 .f32) (b : FVec Ideal S20000x4 .f32)
    (hs : ∀ c (n : Fin 20000), s (ix2 c n) = P.scores c n.val) (hb : ∀ (n : Fin 20000) e, b (ix2 n e) = edge P.boxes e n.val)
    (hw : work V = (Host.topK S20x5000 1 (FloatOps.cmpfTotal (F := Ideal) (φ := .f32) .gt) s sliceFits_S20x20000_S20x5000).1)
    (hl : listBoxes V = Host.gather gather_S20000x4_S20x5000x1_S20x5000x4_2_0_n_n_0_2_14 b
      (wrapped (Host.topK S20x5000 1 (FloatOps.cmpfTotal (F := Ideal) (φ := .f32) .gt) s sliceFits_S20x20000_S20x5000).2))
    (hc : trip V = fun _ => 0#32) :
    ∃ B, (∀ c, ByKey (fun n : Fin 20000 => P.scores c n.val) (B c)) ∧ Rounds P B 0 V := by
  refine ⟨byScore s, fun c => ?_, ?_, ?_, ?_, ?_, ?_⟩
  · have h := greater_key (fun n : Fin 20000 => (s (ix2 c n) : EReal))
    have e : (fun n : Fin 20000 => (s (ix2 c n) : EReal)) = fun n => P.scores c n.val := funext fun n => hs c n
    rw [e] at h
    exact h
  · intro c j e
    rw [hl, lists_apply, hb]
    rfl
  · intro c
    refine tracks_of fun j => ?_
    rw [hw, (topK_row s c j).1, hs]
    exact congrFun (left_start _ _).symm _
  · rw [hc]
  · intro c q h; exact absurd h (Nat.not_lt_zero _)
  · intro c q e h; exact absurd h (Nat.not_lt_zero _)

/-- The loop is entered with the classes' lists, no pick made. -/
theorem rounds_entry (P : Problem) (m : (ℓ : Loc nD τ sig) → Buf (Elt Ideal) ℓ) (d : Dev nD)
    (h0 : ∀ n, P.score n = (m ((d.tc : Thread nD τ).loc main_arg0) : FVec Ideal S1x20000x1 .f32) (ix3 0 n 0))
    (h1 : ∀ n i, P.logit n i = (m ((d.tc : Thread nD τ).loc main_arg1) : FVec Ideal S1x20000x20 .f32) (ix3 0 n i))
    (h2 : ∀ n k, P.shift n k = (m ((d.tc : Thread nD τ).loc main_arg2) : FVec Ideal S1x20000x4 .f32) (ix3 0 n k))
    (h3 : ∀ n k, P.frame n k = (m ((d.tc : Thread nD τ).loc main_arg3) : FVec Ideal S20000x4 .f32) (ix2 n k)) :
    ∃ B, (∀ c, ByKey (fun n : Fin 20000 => P.scores c n.val) (B c)) ∧ Rounds P B 0 (entryContents preI m d) :=
  rounds_of P _ _ _ (masked_apply P _ _ h0 h1) (decoded_apply P _ _ h2 h3) (entry_work _) (entry_boxes _) (ctr_entry m d)

end Cert.ReferenceIdeal.Value

end
-- ==== Proof.ReferenceOut.lean ====
/- The reference's last stretch: the hundred best picks of all classes, and the six numbers given of each. -/
module

public import proofs.«01_k».proof.Proof.ReferenceEntry
public import proofs.«01_k».proof.Proof.Answer

@[expose] public section

set_option maxRecDepth 100000

noncomputable section

namespace Cert.ReferenceIdeal.Value

open Cert.ReferenceIdeal Cert.ReferenceIdeal.Gen Idealize.ShloMosaic Nms
open Idealize.ShloMosaic.StableHlo Idealize.ShloMosaic.Tactic Idealize.ShloMosaic.TcCoe Idealize.SL.Sem

/-- The picks' scores in one row, class by class. -/
def bestList (s : FVec Ideal S100x20 .f32) : FVec Ideal S2000 .f32 :=
  shapeCast S2000 (transpose S20x100 [1, 0] s transposes_S100x20_S20x100_1_0) shapeCasts_S20x100_S2000

/-- The picks' boxes in one row, class by class. -/
def boxList (b : FVec Ideal S100x20x4 .f32) : FVec Ideal S2000x4 .f32 :=
  shapeCast S2000x4 (transpose S20x100x4 [1, 0, 2] b transposes_S100x20x4_S20x100x4_1_0_2) shapeCasts_S20x100x4_S2000x4

/-- The picks' classes in one row. -/
def labelList : FVec Ideal S2000 .f32 :=
  shapeCast S2000 (broadcastInDim S20x100 ![0] bcast_S20_S20x100_0 (sitofp .f32 (iotaInDim S20 32 0))) shapeCasts_S20x100_S2000

/-- The hundred greatest of a row, and their places. -/
abbrev topList (s : FVec Ideal S2000 .f32) := Host.topK S100 0 (FloatOps.cmpfTotal (F := Ideal) (φ := .f32) .gt) s sliceFits_S2000_S100

/-- Places as a column of look-up words. -/
def lastPlaces (p : IVec S100 32) : IVec S100x1 32 :=
  broadcastInDim S100x1 ![0] bcast_S100_S100x1_0
    (select (cmpi .slt p (broadcastInDim S100 ![] bcast_S_S100 (constantI S_ 32 0#32)))
      (addi p (broadcastInDim S100 ![] bcast_S_S100 (constantI S_ 32 2000#32))) p)

/-- Where a row is finite. -/
def finiteAt (v : FVec Ideal S100 .f32) : IVec S100 1 :=
  cmpf .olt (Host.absf v) (broadcastInDim S100 ![] bcast_S_S100 (constant S_ .f32 0x7F800000#32))

/-- A column of the answer. -/
def lastColumn (v : FVec Ideal S100 .f32) : FVec Ideal S100x1 .f32 := broadcastInDim S100x1 ![0] bcast_S100_S100x1_0 v

/-- The answer's rows: the box, the score, the class. -/
def sheet (b : FVec Ideal S100x4 .f32) (s l : FVec Ideal S100 .f32) : FVec Ideal S1x100x6 .f32 :=
  broadcastInDim S1x100x6 ![1, 2] bcast_S100x6_S1x100x6_1_2
    (concatenate S100x6 1 [⟨S100x4, b⟩, ⟨S100x1, lastColumn s⟩, ⟨S100x1, lastColumn l⟩] concatenates_S100x4_S100x1_S100x1_S100x6_d1)

/-- The hundred best of the picks' scores. -/
theorem rank_best (V : Valuation τ sig (Elt Ideal)) : after hostOps0_15 V (Proc.devRef .tc main_values_18) = (topList (bestList (keptScores V))).1 := by
  after_results; rfl
/-- Which of the hundred best are finite. -/
theorem rank_finite (V : Valuation τ sig (Elt Ideal)) : after hostOps0_15 V (Proc.devRef .tc main_v97) = finiteAt (topList (bestList (keptScores V))).1 := by
  after_results; rfl
/-- The score of no detection is zero. -/
theorem rank_zero (V : Valuation τ sig (Elt Ideal)) : after hostOps0_15 V (Proc.devRef .tc main_cst_25) = constant (F := Ideal) S_ .f32 0x00000000#32 := by
  after_results
/-- The boxes of the hundred best. -/
theorem rank_boxes (V : Valuation τ sig (Elt Ideal)) : after hostOps0_15 V (Proc.devRef .tc main_v87) =
    Host.gather gather_S2000x4_S100x1_S100x4_1_0_n_n_0_1_14 (boxList (keptBoxes V)) (lastPlaces (topList (bestList (keptScores V))).2) := by
  after_results
  exact congrArg₂ (fun (x : FVec Ideal S2000x4 .f32) (i : IVec S100x1 32) => Host.gather gather_S2000x4_S100x1_S100x4_1_0_n_n_0_1_14 x i) rfl rfl
/-- The labels of the hundred best. -/
theorem rank_labels (V : Valuation τ sig (Elt Ideal)) : after hostOps0_15 V (Proc.devRef .tc main_v94) =
    Host.gather gather_S2000_S100x1_S100_n_0_n_n_0_1_1 labelList (lastPlaces (topList (bestList (keptScores V))).2) := by
  after_results
  exact congrArg₂ (fun (x : FVec Ideal S2000 .f32) (i : IVec S100x1 32) => Host.gather gather_S2000_S100x1_S100_n_0_n_n_0_1_1 x i) rfl rfl

/-- The result is put together from boxes, scores and labels. -/
theorem sheet_of (V : Valuation τ sig (Elt Ideal)) : after hostOps0_17 (after hostOps0_16 V) (Proc.devRef .tc main_v102) =
    sheet (V (Proc.devRef .tc main_v87)) (select (V (Proc.devRef .tc main_v97) : IVec S100 1) (V (Proc.devRef .tc main_values_18) : FVec Ideal S100 .f32)
      (broadcastInDim S100 ![] bcast_S_S100 (V (Proc.devRef .tc main_cst_25) : FVec Ideal S_ .f32))) (V (Proc.devRef .tc main_v94)) := by
  rfl

/-- The p-th score in the list of all the picks. -/
theorem bestList_apply (s : FVec Ideal S100x20 .f32) (p : Fin 2000) :
    bestList s (ix1 p) = s (ix2 ⟨p.val % 100, Nat.mod_lt _ (by decide)⟩ (Problem.classOf p)) := by
  pointwise [bestList]
  rfl

/-- The p-th box in the list of all the picks. -/
theorem boxList_apply (b : FVec Ideal S100x20x4 .f32) (p : Fin 2000) (e : Fin 4) :
    boxList b (ix2 p e) = b (ix3 ⟨p.val % 100, Nat.mod_lt _ (by decide)⟩ (Problem.classOf p) e) := by
  pointwise [boxList]
  rfl

/-- The p-th label in the list of all the picks is its class. -/
theorem labelList_apply (p : Fin 2000) : labelList (ix1 p) = (((p.val / 100 : ℕ) : EReal)) := by
  pointwise [labelList]
  show (((BitVec.ofNat 32 (p.val / 100)).toInt : ℝ) : EReal) = _
  have h := p.isLt
  rw [toInt_small (n := p.val / 100) (by rw [BitVec.toNat_ofNat]; omega) (by omega)]
  rfl

/-- The six numbers of a detection. -/
theorem sheet_apply (b : FVec Ideal S100x4 .f32) (s l : FVec Ideal S100 .f32) (t : Fin 100) :
    sheet b s l (ix3 0 t 0) = b (ix2 t 0) ∧ sheet b s l (ix3 0 t 1) = b (ix2 t 1) ∧ sheet b s l (ix3 0 t 2) = b (ix2 t 2)
    ∧ sheet b s l (ix3 0 t 3) = b (ix2 t 3) ∧ sheet b s l (ix3 0 t 4) = s (ix1 t) ∧ sheet b s l (ix3 0 t 5) = l (ix1 t) := by
  refine ⟨?_, ?_, ?_, ?_, ?_, ?_⟩ <;> pointwise [sheet, lastColumn]

/-- One place of a row's leading values. -/
theorem topList_at (s : FVec Ideal S2000 .f32) (w : Fin 2000 → EReal) (hs : ∀ p, s (ix1 p) = w p) (B : Fin 2000 → Fin 2000 → Bool) (hB : ByKey w B) (t : Fin 100) :
    (topList s).1 (ix1 t) = w (sortedFrom B ⟨t.val, by omega⟩) ∧ (topList s).2 (ix1 t) = BitVec.ofNat 32 (sortedFrom B ⟨t.val, by omega⟩).val := by
  have h := topK_at (s := S2000) (t := S100) 0 (FloatOps.cmpfTotal (F := Ideal) (φ := .f32) .gt) s sliceFits_S2000_S100 (ix1 t) (ix1 ⟨t.val, by omega⟩)
    (fun b => match b with | ⟨0, _⟩ => rfl)
  have ha : ∀ k : Fin 2000, (ix1 (⟨t.val, by omega⟩ : Fin 2000) : S2000.Idx).along 0 k = ix1 k := fun k => by
    funext a
    match a with
    | ⟨0, _⟩ => rfl
  have hp : (fun k k' : Fin 2000 => FloatOps.cmpfTotal (F := Ideal) (φ := .f32) .gt (s ((ix1 (⟨t.val, by omega⟩ : Fin 2000) : S2000.Idx).along 0 k)) (s ((ix1 (⟨t.val, by omega⟩ : Fin 2000) : S2000.Idx).along 0 k')) == 1#1)
      = fun k k' => FloatOps.cmpfTotal (F := Ideal) (φ := .f32) .gt (w k) (w k') == 1#1 := funext fun k => funext fun k' =>
    congrArg₂ (fun p q : Ideal .f32 => FloatOps.cmpfTotal (F := Ideal) (φ := .f32) .gt p q == 1#1) ((congrArg s (ha k)).trans (hs k)) ((congrArg s (ha k')).trans (hs k'))
  have e := sortedFrom_agree (greater_key w) hB
  constructor
  · refine h.1.trans (((congrArg s (ha _)).trans (hs _)).trans ?_)
    exact (congrArg (fun B => w (sortedFrom B (⟨t.val, by omega⟩ : Fin 2000))) hp).trans (congrArg (fun f => w (f (⟨t.val, by omega⟩ : Fin 2000))) e)
  · exact h.2.trans ((congrArg (fun B => BitVec.ofNat 32 (sortedFrom B (⟨t.val, by omega⟩ : Fin 2000)).val) hp).trans
      (congrArg (fun f : Fin 2000 → Fin 2000 => BitVec.ofNat 32 (f (⟨t.val, by omega⟩ : Fin 2000)).val) e))

/-- The word of a place in the list is its number. -/
theorem chosen_word (p : Fin 2000) : (BitVec.ofNat 32 p.val).toInt = (p.val : ℕ) :=
  toInt_small (by rw [BitVec.toNat_ofNat, Nat.mod_eq_of_lt (by omega)]) (by omega)

/-- A place that is not negative is looked up as it is. -/
theorem lastPlaces_apply (w : IVec S100 32) (t : Fin 100) (h : 0 ≤ (w (ix1 t)).toInt) : lastPlaces w (ix2 t 0) = w (ix1 t) := by
  refine Eq.trans ?_ (lookup (w (ix1 t)) 2000#32 h)
  pointwise [lastPlaces]

open Classical in
/-- A score that is not the top is given as it is where it is positive, as zero where there is none. -/
theorem shown_apply (v : FVec Ideal S100 .f32) (t : Fin 100) (h : (v (ix1 t) : EReal) < ⊤) (h' : (v (ix1 t) : EReal) ≠ ⊥ → 0 < (v (ix1 t) : EReal)) :
    select (finiteAt v) v (broadcastInDim S100 ![] bcast_S_S100 (constant (F := Ideal) S_ .f32 0x00000000#32)) (ix1 t)
      = if 0 < (v (ix1 t) : EReal) then v (ix1 t) else 0 := by
  pointwise [finiteAt]
  rw [Ideal.absf_def, posInf]
  generalize (v (ix1 t) : EReal) = x at h h' ⊢
  by_cases hx : x = ⊥
  · subst hx
    exact (if_neg (by simp)).trans (if_neg (by simp)).symm
  · have h0 := h' hx
    have hm : max x (-x) = x := max_eq_left ((EReal.neg_le_neg_iff.2 h0.le).trans (by simpa using h0.le))
    rw [hm]
    exact (if_pos h).trans (if_pos h0).symm

/-- A pick's score is not infinite. -/
theorem best_top (P : Problem) (hall : ∀ c, AllHeld P.boxes.sup (P.scores c)) (p : Fin 2000) : P.best p < ⊤ := by
  by_cases h : P.best p = ⊥
  · rw [h]; exact bot_lt_top
  · obtain ⟨n, hn, e⟩ := scoreOf_spec h
    have hb : P.best p = P.stage p n := e
    rw [hb, Problem.stage, left_eq _ _ hn.1]
    exact (hall _ _ (Nat.mod_lt _ (by decide)) n hn).fin

open Classical in
/-- What the last stretches make of the loop's result is the answer. -/
theorem sheet_eq (P : Problem) (hall : ∀ c, AllHeld P.boxes.sup (P.scores c)) (s : FVec Ideal S100x20 .f32) (b : FVec Ideal S100x20x4 .f32)
    (hs : ∀ c (q : Fin 100), s (ix2 q c) = scoreOf ⊥ (left P.boxes.sup (P.scores c) q.val))
    (hb : ∀ c (q : Fin 100) e, b (ix3 q c e) = coordOf (edge P.boxes e) (left P.boxes.sup (P.scores c) q.val)) :
    sheet (Host.gather gather_S2000x4_S100x1_S100x4_1_0_n_n_0_1_14 (boxList b) (lastPlaces (topList (bestList s)).2))
      (select (finiteAt (topList (bestList s)).1) (topList (bestList s)).1 (broadcastInDim S100 ![] bcast_S_S100 (constant (F := Ideal) S_ .f32 0x00000000#32)))
      (Host.gather gather_S2000_S100x1_S100_n_0_n_n_0_1_1 labelList (lastPlaces (topList (bestList s)).2))
      = fun y => P.answer (y 1) (y 2) := by
  have hbest : ∀ p, bestList s (ix1 p) = P.best p := fun p => (bestList_apply s p).trans (hs _ _)
  have hbox : ∀ p e, boxList b (ix2 p e) = coordOf (edge P.boxes e) (P.stage p) := fun p e => (boxList_apply b p e).trans (hb _ _ _)
  have ht := fun t => topList_at (bestList s) P.best hbest P.byBest P.byBest_key t
  generalize boxList b = bl at hbox ⊢
  generalize topList (bestList s) = tl at ht ⊢
  obtain ⟨v, w⟩ := tl
  have hv : ∀ t, v (ix1 t) = P.best (P.chosen t) := fun t => (ht t).1
  have hw : ∀ t, w (ix1 t) = BitVec.ofNat 32 (P.chosen t).val := fun t => (ht t).2
  have hp : ∀ t, (lastPlaces w (ix2 t 0)).toInt = (P.chosen t).val := fun t => by
    rw [lastPlaces_apply w t (by rw [hw, chosen_word]; exact Int.natCast_nonneg _), hw, chosen_word]
  have hbx : ∀ t e, Host.gather gather_S2000x4_S100x1_S100x4_1_0_n_n_0_1_14 bl (lastPlaces w) (ix2 t e) = coordOf (edge P.boxes e) (P.stage (P.chosen t)) :=
    fun t e => (lastBoxes_apply bl _ t e _ (hp t)).trans (hbox _ e)
  have hl : ∀ t, Host.gather gather_S2000_S100x1_S100_n_0_n_n_0_1_1 labelList (lastPlaces w) (ix1 t) = (((P.chosen t).val / 100 : ℕ) : EReal) :=
    fun t => (lastLabels_apply labelList _ t _ (hp t)).trans (labelList_apply _)
  have hz : ∀ t, select (finiteAt v) v (broadcastInDim S100 ![] bcast_S_S100 (constant (F := Ideal) S_ .f32 0x00000000#32)) (ix1 t)
      = if 0 < P.best (P.chosen t) then P.best (P.chosen t) else 0 := fun t => by
    rw [shown_apply v t (by rw [hv]; exact best_top P hall _) (by rw [hv]; exact P.best_pos _), hv]
  funext y
  have hy : y = ix3 0 (y 1) (y 2) := by
    funext a
    match a with
    | ⟨0, _⟩ => exact Subsingleton.elim (α := Fin 1) _ _
    | ⟨1, _⟩ => rfl
    | ⟨2, _⟩ => rfl
  have key : ∀ (t : Fin 100) (k : Fin 6), sheet (Host.gather gather_S2000x4_S100x1_S100x4_1_0_n_n_0_1_14 bl (lastPlaces w))
      (select (finiteAt v) v (broadcastInDim S100 ![] bcast_S_S100 (constant (F := Ideal) S_ .f32 0x00000000#32)))
      (Host.gather gather_S2000_S100x1_S100_n_0_n_n_0_1_1 labelList (lastPlaces w)) (ix3 0 t k) = P.answer t k := fun t k => by
    obtain ⟨e0, e1, e2, e3, e4, e5⟩ := sheet_apply (Host.gather gather_S2000x4_S100x1_S100x4_1_0_n_n_0_1_14 bl (lastPlaces w))
      (select (finiteAt v) v (broadcastInDim S100 ![] bcast_S_S100 (constant (F := Ideal) S_ .f32 0x00000000#32)))
      (Host.gather gather_S2000_S100x1_S100_n_0_n_n_0_1_1 labelList (lastPlaces w)) t
    match k with
    | 0 => exact e0.trans (hbx t 0)
    | 1 => exact e1.trans (hbx t 1)
    | 2 => exact e2.trans (hbx t 2)
    | 3 => exact e3.trans (hbx t 3)
    | 4 => exact e4.trans (hz t)
    | 5 => exact e5.trans (hl t)
  exact (congrArg _ hy).trans (key (y 1) (y 2))

/-- The result read of the loop's last state. -/
theorem out_eq (V : Valuation τ sig (Elt Ideal)) : afterL postI V (Proc.devRef .tc main_v102) =
    sheet (Host.gather gather_S2000x4_S100x1_S100x4_1_0_n_n_0_1_14 (boxList (keptBoxes V)) (lastPlaces (topList (bestList (keptScores V))).2))
      (select (finiteAt (topList (bestList (keptScores V))).1) (topList (bestList (keptScores V))).1 (broadcastInDim S100 ![] bcast_S_S100 (constant (F := Ideal) S_ .f32 0x00000000#32)))
      (Host.gather gather_S2000_S100x1_S100_n_0_n_n_0_1_1 labelList (lastPlaces (topList (bestList (keptScores V))).2)) := by
  refine (sheet_of (after hostOps0_15 V)).trans ?_
  rw [rank_boxes, rank_labels, rank_best, rank_finite, rank_zero]

variable (m : (ℓ : Loc nD τ sig) → Buf (Elt Ideal) ℓ) (ρ : Dev nD → PrngReg)

/-- The result at the end: the answer to the problem the arguments pose. -/
theorem final_answer (P : Problem) (d : Dev nD)
    (h0 : ∀ n, P.score n = (m ((d.tc : Thread nD τ).loc main_arg0) : FVec Ideal S1x20000x1 .f32) (ix3 0 n 0))
    (h1 : ∀ n i, P.logit n i = (m ((d.tc : Thread nD τ).loc main_arg1) : FVec Ideal S1x20000x20 .f32) (ix3 0 n i))
    (h2 : ∀ n k, P.shift n k = (m ((d.tc : Thread nD τ).loc main_arg2) : FVec Ideal S1x20000x4 .f32) (ix3 0 n k))
    (h3 : ∀ n k, P.frame n k = (m ((d.tc : Thread nD τ).loc main_arg3) : FVec Ideal S20000x4 .f32) (ix2 n k))
    (hall : ∀ c, AllHeld P.boxes.sup (P.scores c)) :
    finalContents condOps preI bodyI postI 100 m d (Proc.devRef .tc main_v102) = fun y => P.answer (y 1) (y 2) := by
  obtain ⟨B, hB, hr⟩ := rounds_entry P m d h0 h1 h2 h3
  have h := hr.all hB hall 100 (le_refl _)
  have e : Agree (after condOps (atK m 100 d)) (STEP^[100] (entryContents preI m d)) := fun j hj => (cond_keeps _ j hj).trans (atK_agree m d 100 j hj)
  have es : keptScores (after condOps (atK m 100 d)) = keptScores (STEP^[100] (entryContents preI m d)) := e main_v73_4 (by decide)
  have eb : keptBoxes (after condOps (atK m 100 d)) = keptBoxes (STEP^[100] (entryContents preI m d)) := e main_v73_3 (by decide)
  refine (out_eq (after condOps (atK m 100 d))).trans ?_
  rw [es, eb]
  exact sheet_eq P hall _ _ (fun c q => h.score c q q.isLt) (fun c q e => h.box c q e q.isLt)

/-- The reference's run ends with the answer, its arguments as they were. -/
theorem run_answer (P : Dev nD → Problem)
    (h0 : ∀ d n, (P d).score n = (m ((d.tc : Thread nD τ).loc main_arg0) : FVec Ideal S1x20000x1 .f32) (ix3 0 n 0))
    (h1 : ∀ d n i, (P d).logit n i = (m ((d.tc : Thread nD τ).loc main_arg1) : FVec Ideal S1x20000x20 .f32) (ix3 0 n i))
    (h2 : ∀ d n k, (P d).shift n k = (m ((d.tc : Thread nD τ).loc main_arg2) : FVec Ideal S1x20000x4 .f32) (ix3 0 n k))
    (h3 : ∀ d n k, (P d).frame n k = (m ((d.tc : Thread nD τ).loc main_arg3) : FVec Ideal S20000x4 .f32) (ix2 n k))
    (hall : ∀ d c, AllHeld (P d).boxes.sup ((P d).scores c)) :
    θ_run (defs (F := Ideal)) (onTc (τ := τ) (main (F := Ideal))) ⟨m, fun _ => 0, ρ⟩ fun r => ∀ c : Dev nD,
      r.2.mem ((c.tc : Thread nD τ).loc main_v102) = (fun y => (P c).answer (y 1) (y 2) : FVec Ideal S1x100x6 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨
      (h c main_v102 rfl).trans (final_answer m (P c) c (h0 c) (h1 c) (h2 c) (h3 c) (hall c)),
      (h c main_arg0 rfl).trans (final_args m c main_arg0 (by decide)),
      (h c main_arg1 rfl).trans (final_args m c main_arg1 (by decide)),
      (h c main_arg2 rfl).trans (final_args m c main_arg2 (by decide)),
      (h c main_arg3 rfl).trans (final_args m c main_arg3 (by decide))⟩) (run_fold m ρ)

end Cert.ReferenceIdeal.Value

end
-- ==== Proof.Join.lean ====
/- The two halves put together: where every pick is held, the kernel and the reference give the same answer. -/
module

public import proofs.«01_k».proof.Defs
public import proofs.«01_k».proof.Proof.KernelTail
public import proofs.«01_k».proof.Proof.ReferenceOut
public import proofs.«01_k».proof.Proof.PreRead

@[expose] public section

noncomputable section

namespace Cert.Join

open Idealize.ShloMosaic Idealize.SL.Sem Nms

/-- The shape facts that the precondition's predicate states. -/
theorem preFacts : Cert.Pre_picks_are_shortlisted.Facts := by
  constructor <;> decide

/-- Under the precondition every pick of every class is held. -/
theorem all_shortlisted [Cert.Pre_picks_are_shortlisted.Facts] (m : (ℓ : Loc Cert.KernelIdeal.nD Cert.KernelIdeal.τ Cert.KernelIdeal.sig) → Buf (Elt Ideal) ℓ)
    (h : Cert.Pre_KernelIdeal_picks_are_shortlisted m) (c : Dev Cert.KernelIdeal.nD) :
    Cert.KernelIdeal.Body.AllShortlisted (Cert.KernelIdeal.Body.posed m c) := fun i =>
  Cert.Pre_picks_are_shortlisted.held_of_ones (Cert.KernelIdeal.Body.posed m c) _ _ _ _ (fun _ => rfl) (fun _ _ => rfl) (fun _ _ => rfl) (fun _ _ => rfl) i
    (congrFun (h c) _)

/-- The kernel and the reference give the same answer. -/
theorem algebraic [Cert.Pre_picks_are_shortlisted.Facts] : Cert.algebraic_KernelIdeal_ReferenceIdeal_pre_picks_are_shortlisted
    (hKernelIdeal := Cert.KernelIdeal.Gen.facts) (hReferenceIdeal := Cert.ReferenceIdeal.Gen.facts) := by
  intro m g m' g' hpre hargs
  have hall := all_shortlisted m hpre
  refine ⟨fun c => Cert.KernelIdeal.Body.answered (Cert.KernelIdeal.Body.posed m c), ?_, ?_⟩
  · refine (θ_run _ _ _).mono (fun r h c => ?_) (θ_run_and (Cert.KernelIdeal.Body.run_answer m g hall) (Cert.KernelIdeal.Body.frame_run m g))
    exact ⟨h.1 c, h.2.1 c⟩
  · exact Cert.ReferenceIdeal.Value.run_answer m' g' (fun c => Cert.KernelIdeal.Body.posed m c)
      (fun d n => congrFun (hargs d).1.symm _) (fun d n i => congrFun (hargs d).2.1.symm _)
      (fun d n k => congrFun (hargs d).2.2.1.symm _) (fun d n k => congrFun (hargs d).2.2.2.symm _) hall

end Cert.Join

end
-- ==== Proof.lean ====
module

public import proofs.«01_k».proof.Defs
public import proofs.«01_k».proof.Proof.KernelFrame
public import proofs.«01_k».proof.Proof.KernelIdealFrame
public import proofs.«01_k».proof.Proof.ReferenceRun
public import proofs.«01_k».proof.Proof.Gen.ReferenceIdeal
public import proofs.«01_k».proof.Proof.Join

@[expose] public section

open Idealize.ShloMosaic

theorem Cert.Proof.claim : Cert.Claim :=
  ⟨Cert.Kernel.Gen.facts, Cert.KernelIdeal.Gen.facts, Cert.ReferenceIdeal.Gen.facts, Cert.Join.preFacts,
    fun m g _ => Cert.Kernel.Body.frame_run m g,
    fun m g _ => Cert.KernelIdeal.Body.frame_run m g,
    fun m g _ => Cert.KernelIdeal.Body.frame_run m g,
    fun m g _ => Cert.ReferenceIdeal.Value.frame_run m g,
    fun m g _ => Cert.ReferenceIdeal.Value.frame_run m g,
    ⟨IdealRules.named_const.statement Cert.KernelIdeal.κ "min_ratio" .f32 0xC0845349#32
      ((Real.log (8589935 / 536870912) : ℝ) : EReal) rfl,
    IdealRules.named_const.statement Cert.KernelIdeal.κ "max_ratio" .f32 0x40845349#32
      ((-(Real.log (8589935 / 536870912)) : ℝ) : EReal) rfl⟩,
    @Cert.Join.algebraic Cert.Join.preFacts⟩
end
